-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v58) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S16384x4096 : Shape := ⟨2, ![16384, 4096]⟩
abbrev S4096x11008 : Shape := ⟨2, ![4096, 11008]⟩
abbrev S11008x4096 : Shape := ⟨2, ![11008, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S16384x4096, .bf16⟩
  | .hbm, ⟨5, _⟩ => ⟨S4096x11008, .bf16⟩
  | .hbm, ⟨6, _⟩ => ⟨S4096x11008, .bf16⟩
  | .hbm, ⟨7, _⟩ => ⟨S11008x4096, .bf16⟩
  | .hbm, ⟨8, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 22], ![false, false]⟩

def k0_cond2 (i : grid0.Coords) : BitVec 1 :=
  let arg1 : BitVec 32 := BitVec.ofNat 32 (i 1).val
  let c21_i32_19 : BitVec 32 := 21#32
  let v36 : BitVec 1 := Scalar.cmpi .eq arg1 c21_i32_19
  let v37 : BitVec 32 := Scalar.extui v36
  let c0_i32_20 : BitVec 32 := 0#32
  let v38 : BitVec 1 := Scalar.cmpi .ne v37 c0_i32_20
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c82_i32 : BitVec 32 := 82#32
  let v1 : BitVec 32 := Scalar.minsi v0 c82_i32
  let c128_i32 : BitVec 32 := 128#32
  let v2 : BitVec 32 := Scalar.muli v1 c128_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c82_i32 : BitVec 32 := 82#32
  let v1 : BitVec 32 := Scalar.minsi v0 c82_i32
  let c128_i32 : BitVec 32 := 128#32
  let v2 : BitVec 32 := Scalar.muli v1 c128_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c82_i32 : BitVec 32 := 82#32
  let v1 : BitVec 32 := Scalar.minsi v0 c82_i32
  let c128_i32 : BitVec 32 := 128#32
  let v2 : BitVec 32 := Scalar.muli v1 c128_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16384x4096 : Shape := ⟨2, ![16384, 4096]⟩
abbrev S4096x11008 : Shape := ⟨2, ![4096, 11008]⟩
abbrev S11008x4096 : Shape := ⟨2, ![11008, 4096]⟩
abbrev S16384x11008 : Shape := ⟨2, ![16384, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S16384x11008, .f32⟩
  | .hbm, ⟨5, _⟩ => ⟨S16384x11008, .f32⟩
  | .hbm, ⟨6, _⟩ => ⟨S16384x11008, .f32⟩
  | .hbm, ⟨7, _⟩ => ⟨S_, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x4096, .f32⟩
  | .hbm, ⟨17, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel2.lean ====
abbrev S2x8192x4096 : Shape := ⟨3, ![2, 8192, 4096]⟩
abbrev S1x4096 : Shape := ⟨2, ![1, 4096]⟩
abbrev S2x1x4096 : Shape := ⟨3, ![2, 1, 4096]⟩
abbrev S3x256x4096 : Shape := ⟨3, ![3, 256, 4096]⟩
abbrev S3 : Shape := ⟨1, ![3]⟩
abbrev S2 : Shape := ⟨1, ![2]⟩
abbrev S2x256x4096 : Shape := ⟨3, ![2, 256, 4096]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S1x1x4096 : Shape := ⟨3, ![1, 1, 4096]⟩
abbrev S16x4096 : Shape := ⟨2, ![16, 4096]⟩
abbrev S16 : Shape := ⟨1, ![16]⟩
abbrev S16x1 : Shape := ⟨2, ![16, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S1x4096, .f32⟩
  | .hbm, ⟨3, _⟩ => ⟨S2x1x4096, .f32⟩
  | .hbm, ⟨4, _⟩ => ⟨S2x8192x4096, .bf16⟩
  | .hbm, ⟨5, _⟩ => ⟨S1x4096, .f32⟩
  | .hbm, ⟨6, _⟩ => ⟨S2x1x4096, .f32⟩
  | .hbm, ⟨7, _⟩ => ⟨S2x8192x4096, .f32⟩
  | .local _ .vmem, ⟨0, _⟩ => ⟨S3x256x4096, .f32⟩
  | .local _ .vmem, ⟨1, _⟩ => ⟨S3x256x4096, .bf16⟩
  | .local _ .vmem, ⟨2, _⟩ => ⟨S1x4096, .f32⟩
  | .local _ .vmem, ⟨3, _⟩ => ⟨S2x1x4096, .f32⟩
  | .local _ .vmem, ⟨4, _⟩ => ⟨S3x256x4096, .bf16⟩
  | .local _ .vmem, ⟨5, _⟩ => ⟨S1x4096, .f32⟩
  | .local _ .vmem, ⟨6, _⟩ => ⟨S2x1x4096, .f32⟩
  | .local _ .vmem, ⟨7, _⟩ => ⟨S2x256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped5 : Ref sig .tc := ⟨.vmem, 3, rfl⟩
abbrev cc0_scoped7 : Ref sig .tc := ⟨.vmem, 4, rfl⟩
abbrev cc0_scoped9 : Ref sig .tc := ⟨.vmem, 5, rfl⟩
abbrev cc0_scoped10 : Ref sig .tc := ⟨.vmem, 6, rfl⟩
abbrev cc0_scoped12 : Ref sig .tc := ⟨.vmem, 7, rfl⟩

abbrev nD : Nat := 1
abbrev τ : Topo := Topo.v7x

variable {F : FTy → Type} [FloatOps F]

abbrev grid0 : Pipeline.Grid := .none

def k0_off1 : Fin 1 → Nat :=
  let c0_i32_40_r0 : BitVec 32 := 0#32
  let c3_i32_r0 : BitVec 32 := 3#32
  let v42_r0 : BitVec 32 := Scalar.remui c0_i32_40_r0 c3_i32_r0
  ![v42_r0.toNat]
def k0_off2 : Fin 3 → Nat :=
  let c0_i32_40_r0 : BitVec 32 := 0#32
  let c3_i32_r0 : BitVec 32 := 3#32
  let v42_r0 : BitVec 32 := Scalar.remui c0_i32_40_r0 c3_i32_r0
  let c0_i32_42_r0 : BitVec 32 := 0#32
  let c0_i32_43_r0 : BitVec 32 := 0#32
  ![v42_r0.toNat, 0, 0]
def k0_off3 : Fin 1 → Nat :=
  let c0_i32_57_r0 : BitVec 32 := 0#32
  let c2_i32_58_r0 : BitVec 32 := 2#32
  let v58_r0 : BitVec 32 := Scalar.remui c0_i32_57_r0 c2_i32_58_r0
  ![v58_r0.toNat]
def k0_off4 : Fin 3 → Nat :=
  let c0_i32_57_r0 : BitVec 32 := 0#32
  let c2_i32_58_r0 : BitVec 32 := 2#32
  let v58_r0 : BitVec 32 := Scalar.remui c0_i32_57_r0 c2_i32_58_r0
  let c0_i32_60_r0 : BitVec 32 := 0#32
  let c0_i32_61_r0 : BitVec 32 := 0#32
  ![v58_r0.toNat, 0, 0]
def k0_cond1 : BitVec 1 :=
  let true_86_r0 : BitVec 1 := 1#1
  let true_13_r0 : BitVec 1 := 1#1
  let c1_i32_15_r0 : BitVec 32 := 1#32
  let c0_i32_14_r0 : BitVec 32 := 0#32
  let v14_r0 : BitVec 32 := Scalar.select true_13_r0 c1_i32_15_r0 c0_i32_14_r0
  let c32_i32_r0 : BitVec 32 := 32#32
  let v15_r0 : BitVec 1 := Scalar.cmpi .eq v14_r0 c32_i32_r0
  let c1_i32_18_r0 : BitVec 32 := 1#32
  let c0_i32_17_r0 : BitVec 32 := 0#32
  let v17_r0 : BitVec 32 := Scalar.select v15_r0 c1_i32_18_r0 c0_i32_17_r0
  let c2_i32_r0 : BitVec 32 := 2#32
  let v18_r0 : BitVec 1 := Scalar.cmpi .eq v17_r0 c2_i32_r0
  let c0_i32_19_r0 : BitVec 32 := 0#32
  let v19_r0 : BitVec 32 := Scalar.select v18_r0 c0_i32_19_r0 v17_r0
  let c0_i32_20_r0 : BitVec 32 := 0#32
  let v20_r0 : BitVec 32 := Scalar.addi v19_r0 c0_i32_20_r0
  let c0_i32_84_r0 : BitVec 32 := 0#32
  let v82_r0 : BitVec 1 := Scalar.cmpi .ne v20_r0 c0_i32_84_r0
  let c0_i32_16_r0 : BitVec 32 := 0#32
  let v16_r0 : BitVec 32 := Scalar.select v15_r0 c0_i32_16_r0 v14_r0
  let c0_i32_21_r0 : BitVec 32 := 0#32
  let v21_r0 : BitVec 32 := Scalar.addi v16_r0 c0_i32_21_r0
  let c0_i32_85_r0 : BitVec 32 := 0#32
  let v83_r0 : BitVec 1 := Scalar.cmpi .ne v21_r0 c0_i32_85_r0
  let v84_r0 : BitVec 1 := Scalar.ori v82_r0 v83_r0
  let v85_r0 : BitVec 1 := Scalar.andi true_86_r0 v84_r0
  let true_87_r0 : BitVec 1 := 1#1
  let v86_r0 : BitVec 1 := Scalar.andi v85_r0 true_87_r0
  let v87_r0 : BitVec 32 := Scalar.extui v86_r0
  let c0_i32_88_r0 : BitVec 32 := 0#32
  let v88_r0 : BitVec 1 := Scalar.cmpi .ne v87_r0 c0_i32_88_r0
  v88_r0

def k0_off5 : Fin 1 → Nat :=
  let c0_i32_46_r0 : BitVec 32 := 0#32
  let c1_i32_47_r0 : BitVec 32 := 1#32
  let v49_r0 : BitVec 32 := Scalar.addi c0_i32_46_r0 c1_i32_47_r0
  let c3_i32_167_r0 : BitVec 32 := 3#32
  let v169_r0 : BitVec 32 := Scalar.remui v49_r0 c3_i32_167_r0
  ![v169_r0.toNat]
def k0_off6 : Fin 3 → Nat :=
  let c0_i32_46_r0 : BitVec 32 := 0#32
  let c1_i32_47_r0 : BitVec 32 := 1#32
  let v49_r0 : BitVec 32 := Scalar.addi c0_i32_46_r0 c1_i32_47_r0
  let c3_i32_167_r0 : BitVec 32 := 3#32
  let v169_r0 : BitVec 32 := Scalar.remui v49_r0 c3_i32_167_r0
  let c0_i32_169_r0 : BitVec 32 := 0#32
  let c0_i32_170_r0 : BitVec 32 := 0#32
  ![v169_r0.toNat, 0, 0]
def k0_off7 : Fin 3 → Nat :=
  let true_13_r0 : BitVec 1 := 1#1
  let c1_i32_15_r0 : BitVec 32 := 1#32
  let c0_i32_14_r0 : BitVec 32 := 0#32
  let v14_r0 : BitVec 32 := Scalar.select true_13_r0 c1_i32_15_r0 c0_i32_14_r0
  let c32_i32_r0 : BitVec 32 := 32#32
  let v15_r0 : BitVec 1 := Scalar.cmpi .eq v14_r0 c32_i32_r0
  let c1_i32_18_r0 : BitVec 32 := 1#32
  let c0_i32_17_r0 : BitVec 32 := 0#32
  let v17_r0 : BitVec 32 := Scalar.select v15_r0 c1_i32_18_r0 c0_i32_17_r0
  let c2_i32_r0 : BitVec 32 := 2#32
  let v18_r0 : BitVec 1 := Scalar.cmpi .eq v17_r0 c2_i32_r0
  let c0_i32_19_r0 : BitVec 32 := 0#32
  let v19_r0 : BitVec 32 := Scalar.select v18_r0 c0_i32_19_r0 v17_r0
  let c0_i32_20_r0 : BitVec 32 := 0#32
  let v20_r0 : BitVec 32 := Scalar.addi v19_r0 c0_i32_20_r0
  let c256_i32_168_r0 : BitVec 32 := 256#32
  let c0_i32_16_r0 : BitVec 32 := 0#32
  let v16_r0 : BitVec 32 := Scalar.select v15_r0 c0_i32_16_r0 v14_r0
  let c0_i32_21_r0 : BitVec 32 := 0#32
  let v21_r0 : BitVec 32 := Scalar.addi v16_r0 c0_i32_21_r0
  let v170_r0 : BitVec 32 := Scalar.muli c256_i32_168_r0 v21_r0
  let c0_i32_171_r0 : BitVec 32 := 0#32
  ![v20_r0.toNat, v170_r0.toNat, 0]
def k0_cond2 : BitVec 1 :=
  let true_92_r0 : BitVec 1 := 1#1
  let true_13_r0 : BitVec 1 := 1#1
  let c1_i32_15_r0 : BitVec 32 := 1#32
  let c0_i32_14_r0 : BitVec 32 := 0#32
  let v14_r0 : BitVec 32 := Scalar.select true_13_r0 c1_i32_15_r0 c0_i32_14_r0
  let c32_i32_r0 : BitVec 32 := 32#32
  let v15_r0 : BitVec 1 := Scalar.cmpi .eq v14_r0 c32_i32_r0
  let c1_i32_18_r0 : BitVec 32 := 1#32
  let c0_i32_17_r0 : BitVec 32 := 0#32
  let v17_r0 : BitVec 32 := Scalar.select v15_r0 c1_i32_18_r0 c0_i32_17_r0
  let c2_i32_r0 : BitVec 32 := 2#32
  let v18_r0 : BitVec 1 := Scalar.cmpi .eq v17_r0 c2_i32_r0
  let c0_i32_19_r0 : BitVec 32 := 0#32
  let v19_r0 : BitVec 32 := Scalar.select v18_r0 c0_i32_19_r0 v17_r0
  let c0_i32_20_r0 : BitVec 32 := 0#32
  let v20_r0 : BitVec 32 := Scalar.addi v19_r0 c0_i32_20_r0
  let c0_i32_90_r0 : BitVec 32 := 0#32
  let v91_r0 : BitVec 1 := Scalar.cmpi .ne v20_r0 c0_i32_90_r0
  let c0_i32_16_r0 : BitVec 32 := 0#32
  let v16_r0 : BitVec 32 := Scalar.select v15_r0 c0_i32_16_r0 v14_r0
  let c0_i32_21_r0 : BitVec 32 := 0#32
  let v21_r0 : BitVec 32 := Scalar.addi v16_r0 c0_i32_21_r0
  let c0_i32_91_r0 : BitVec 32 := 0#32
  let v92_r0 : BitVec 1 := Scalar.cmpi .ne v21_r0 c0_i32_91_r0
  let v93_r0 : BitVec 1 := Scalar.ori v91_r0 v92_r0
  let v94_r0 : BitVec 1 := Scalar.andi true_92_r0 v93_r0
  let true_93_r0 : BitVec 1 := 1#1
  let v95_r0 : BitVec 1 := Scalar.andi v94_r0 true_93_r0
  let v96_r0 : BitVec 32 := Scalar.extui v95_r0
  let c0_i32_94_r0 : BitVec 32 := 0#32
  let v97_r0 : BitVec 1 := Scalar.cmpi .ne v96_r0 c0_i32_94_r0
  v97_r0

def k0_off8 : Fin 1 → Nat :=
  let c0_i32_55_r0 : BitVec 32 := 0#32
  let c1_i32_56_r0 : BitVec 32 := 1#32
  let v57_r0 : BitVec 32 := Scalar.addi c0_i32_55_r0 c1_i32_56_r0
  let c3_i32_167_r0 : BitVec 32 := 3#32
  let v169_r0 : BitVec 32 := Scalar.remui v57_r0 c3_i32_167_r0
  ![v169_r0.toNat]
def k0_off9 : Fin 3 → Nat :=
  let c0_i32_55_r0 : BitVec 32 := 0#32
  let c1_i32_56_r0 : BitVec 32 := 1#32
  let v57_r0 : BitVec 32 := Scalar.addi c0_i32_55_r0 c1_i32_56_r0
  let c3_i32_167_r0 : BitVec 32 := 3#32
  let v169_r0 : BitVec 32 := Scalar.remui v57_r0 c3_i32_167_r0
  let c0_i32_169_r0 : BitVec 32 := 0#32
  let c0_i32_170_r0 : BitVec 32 := 0#32
  ![v169_r0.toNat, 0, 0]
def k0_off10 : Fin 3 → Nat :=
  let true_13_r0 : BitVec 1 := 1#1
  let c1_i32_15_r0 : BitVec 32 := 1#32
  let c0_i32_14_r0 : BitVec 32 := 0#32
  let v14_r0 : BitVec 32 := Scalar.select true_13_r0 c1_i32_15_r0 c0_i32_14_r0
  let c32_i32_r0 : BitVec 32 := 32#32
  let v15_r0 : BitVec 1 := Scalar.cmpi .eq v14_r0 c32_i32_r0
  let c1_i32_18_r0 : BitVec 32 := 1#32
  let c0_i32_17_r0 : BitVec 32 := 0#32
  let v17_r0 : BitVec 32 := Scalar.select v15_r0 c1_i32_18_r0 c0_i32_17_r0
  let c2_i32_r0 : BitVec 32 := 2#32
  let v18_r0 : BitVec 1 := Scalar.cmpi .eq v17_r0 c2_i32_r0
  let c0_i32_19_r0 : BitVec 32 := 0#32
  let v19_r0 : BitVec 32 := Scalar.select v18_r0 c0_i32_19_r0 v17_r0
  let c0_i32_20_r0 : BitVec 32 := 0#32
  let v20_r0 : BitVec 32 := Scalar.addi v19_r0 c0_i32_20_r0
  let c256_i32_168_r0 : BitVec 32 := 256#32
  let c0_i32_16_r0 : BitVec 32 := 0#32
  let v16_r0 : BitVec 32 := Scalar.select v15_r0 c0_i32_16_r0 v14_r0
  let c0_i32_21_r0 : BitVec 32 := 0#32
  let v21_r0 : BitVec 32 := Scalar.addi v16_r0 c0_i32_21_r0
  let v170_r0 : BitVec 32 := Scalar.muli c256_i32_168_r0 v21_r0
  let c0_i32_171_r0 : BitVec 32 := 0#32
  ![v20_r0.toNat, v170_r0.toNat, 0]
def k0_cond3 : BitVec 1 :=
  let true_98_r0 : BitVec 1 := 1#1
  let true_13_r0 : BitVec 1 := 1#1
  let c1_i32_15_r0 : BitVec 32 := 1#32
  let c0_i32_14_r0 : BitVec 32 := 0#32
  let v14_r0 : BitVec 32 := Scalar.select true_13_r0 c1_i32_15_r0 c0_i32_14_r0
  let c32_i32_r0 : BitVec 32 := 32#32
  let v15_r0 : BitVec 1 := Scalar.cmpi .eq v14_r0 c32_i32_r0
  let c1_i32_18_r0 : BitVec 32 := 1#32
  let c0_i32_17_r0 : BitVec 32 := 0#32
  let v17_r0 : BitVec 32 := Scalar.select v15_r0 c1_i32_18_r0 c0_i32_17_r0
  let c2_i32_r0 : BitVec 32 := 2#32
  let v18_r0 : BitVec 1 := Scalar.cmpi .eq v17_r0 c2_i32_r0
  let c0_i32_19_r0 : BitVec 32 := 0#32
  let v19_r0 : BitVec 32 := Scalar.select v18_r0 c0_i32_19_r0 v17_r0
  let c0_i32_20_r0 : BitVec 32 := 0#32
  let v20_r0 : BitVec 32 := Scalar.addi v19_r0 c0_i32_20_r0
  let c0_i32_96_r0 : BitVec 32 := 0#32
  let v100_r0 : BitVec 1 := Scalar.cmpi .ne v20_r0 c0_i32_96_r0
  let c0_i32_16_r0 : BitVec 32 := 0#32
  let v16_r0 : BitVec 32 := Scalar.select v15_r0 c0_i32_16_r0 v14_r0
  let c0_i32_21_r0 : BitVec 32 := 0#32
  let v21_r0 : BitVec 32 := Scalar.addi v16_r0 c0_i32_21_r0
  let c0_i32_97_r0 : BitVec 32 := 0#32
  let v101_r0 : BitVec 1 := Scalar.cmpi .ne v21_r0 c0_i32_97_r0
  let v102_r0 : BitVec 1 := Scalar.ori v100_r0 v101_r0
  let v103_r0 : BitVec 1 := Scalar.andi true_98_r0 v102_r0
  let true_99_r0 : BitVec 1 := 1#1
  let v104_r0 : BitVec 1 := Scalar.andi v103_r0 true_99_r0
  let v105_r0 : BitVec 32 := Scalar.extui v104_r0
  let c0_i32_100_r0 : BitVec 32 := 0#32
  let v106_r0 : BitVec 1 := Scalar.cmpi .ne v105_r0 c0_i32_100_r0
  v106_r0

def k0_off11 : Fin 1 → Nat :=
  let c0_i32_73_r0 : BitVec 32 := 0#32
  let c1_i32_74_r0 : BitVec 32 := 1#32
  let v73_r0 : BitVec 32 := Scalar.addi c0_i32_73_r0 c1_i32_74_r0
  let c3_i32_167_r0 : BitVec 32 := 3#32
  let v169_r0 : BitVec 32 := Scalar.remui v73_r0 c3_i32_167_r0
  ![v169_r0.toNat]
def k0_off12 : Fin 3 → Nat :=
  let c0_i32_73_r0 : BitVec 32 := 0#32
  let c1_i32_74_r0 : BitVec 32 := 1#32
  let v73_r0 : BitVec 32 := Scalar.addi c0_i32_73_r0 c1_i32_74_r0
  let c3_i32_167_r0 : BitVec 32 := 3#32
  let v169_r0 : BitVec 32 := Scalar.remui v73_r0 c3_i32_167_r0
  let c0_i32_169_r0 : BitVec 32 := 0#32
  let c0_i32_170_r0 : BitVec 32 := 0#32
  ![v169_r0.toNat, 0, 0]
def k0_off13 : Fin 3 → Nat :=
  let true_13_r0 : BitVec 1 := 1#1
  let c1_i32_15_r0 : BitVec 32 := 1#32
  let c0_i32_14_r0 : BitVec 32 := 0#32
  let v14_r0 : BitVec 32 := Scalar.select true_13_r0 c1_i32_15_r0 c0_i32_14_r0
  let c32_i32_r0 : BitVec 32 := 32#32
  let v15_r0 : BitVec 1 := Scalar.cmpi .eq v14_r0 c32_i32_r0
  let c1_i32_18_r0 : BitVec 32 := 1#32
  let c0_i32_17_r0 : BitVec 32 := 0#32
  let v17_r0 : BitVec 32 := Scalar.select v15_r0 c1_i32_18_r0 c0_i32_17_r0
  let c2_i32_r0 : BitVec 32 := 2#32
  let v18_r0 : BitVec 1 := Scalar.cmpi .eq v17_r0 c2_i32_r0
  let c0_i32_19_r0 : BitVec 32 := 0#32
  let v19_r0 : BitVec 32 := Scalar.select v18_r0 c0_i32_19_r0 v17_r0
  let c0_i32_20_r0 : BitVec 32 := 0#32
  let v20_r0 : BitVec 32 := Scalar.addi v19_r0 c0_i32_20_r0
  let c256_i32_168_r0 : BitVec 32 := 256#32
  let c0_i32_16_r0 : BitVec 32 := 0#32
  let v16_r0 : BitVec 32 := Scalar.select v15_r0 c0_i32_16_r0 v14_r0
  let c0_i32_21_r0 : BitVec 32 := 0#32
  let v21_r0 : BitVec 32 := Scalar.addi v16_r0 c0_i32_21_r0
  let v170_r0 : BitVec 32 := Scalar.muli c256_i32_168_r0 v21_r0
  let c0_i32_171_r0 : BitVec 32 := 0#32
  ![v20_r0.toNat, v170_r0.toNat, 0]
@[reducible] def k0_t1_loop : Scf.Loop 32 :=
  let c0_i32_115_r0 : BitVec 32 := 0#32
  let c64_i32_r0 : BitVec 32 := 64#32
  let v109_r0 : BitVec 32 := Scalar.addi c0_i32_115_r0 c64_i32_r0
  let c1_i32_116_r0 : BitVec 32 := 1#32
  ⟨c0_i32_115_r0, v109_r0, c1_i32_116_r0⟩
def k0_off14 (arg9_r0 : BitVec 32) : Fin 1 → Nat :=
  let c3_i32_313_r0 : BitVec 32 := 3#32
  let v462_r0 : BitVec 32 := Scalar.remui arg9_r0 c3_i32_313_r0
  ![v462_r0.toNat]
def k0_cond4 (k0_t1 : Fin k0_t1_loop.trips) (arg23_r0 : BitVec 32) (arg24_r0 : BitVec 32) : BitVec 1 :=
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let true_189_r0 : BitVec 1 := 1#1
  let c0_i32_182_r0 : BitVec 32 := 0#32
  let v186_r0 : BitVec 32 := Scalar.select v185_r0 c0_i32_182_r0 v184_r0
  let c1_i32_188_r0 : BitVec 32 := 1#32
  let v193_r0 : BitVec 32 := Scalar.addi v186_r0 c1_i32_188_r0
  let v194_r0 : BitVec 32 := Scalar.select true_189_r0 v193_r0 v186_r0
  let c32_i32_190_r0 : BitVec 32 := 32#32
  let v195_r0 : BitVec 1 := Scalar.cmpi .eq v194_r0 c32_i32_190_r0
  let c1_i32_192_r0 : BitVec 32 := 1#32
  let v197_r0 : BitVec 32 := Scalar.addi v190_r0 c1_i32_192_r0
  let v198_r0 : BitVec 32 := Scalar.select v195_r0 v197_r0 v190_r0
  let c2_i32_193_r0 : BitVec 32 := 2#32
  let v199_r0 : BitVec 1 := Scalar.cmpi .eq v198_r0 c2_i32_193_r0
  let c0_i32_194_r0 : BitVec 32 := 0#32
  let v200_r0 : BitVec 32 := Scalar.select v199_r0 c0_i32_194_r0 v198_r0
  let c0_i32_195_r0 : BitVec 32 := 0#32
  let v201_r0 : BitVec 32 := Scalar.addi v200_r0 c0_i32_195_r0
  let v213_r0 : BitVec 1 := Scalar.cmpi .ne v191_r0 v201_r0
  let c0_i32_187_r0 : BitVec 32 := 0#32
  let v192_r0 : BitVec 32 := Scalar.addi v186_r0 c0_i32_187_r0
  let c0_i32_191_r0 : BitVec 32 := 0#32
  let v196_r0 : BitVec 32 := Scalar.select v195_r0 c0_i32_191_r0 v194_r0
  let c0_i32_196_r0 : BitVec 32 := 0#32
  let v202_r0 : BitVec 32 := Scalar.addi v196_r0 c0_i32_196_r0
  let v214_r0 : BitVec 1 := Scalar.cmpi .ne v192_r0 v202_r0
  let v215_r0 : BitVec 1 := Scalar.ori v213_r0 v214_r0
  let c0_i32_115_r0 : BitVec 32 := 0#32
  let c1_i32_116_r0 : BitVec 32 := 1#32
  let arg8_r0 : BitVec 32 := Scf.iv c0_i32_115_r0 c1_i32_116_r0 k0_t1
  let c62_i32_r0 : BitVec 32 := 62#32
  let v216_r0 : BitVec 1 := Scalar.cmpi .sge arg8_r0 c62_i32_r0
  let true_206_r0 : BitVec 1 := 1#1
  let v217_r0 : BitVec 1 := Scalar.xori v216_r0 true_206_r0
  let v218_r0 : BitVec 1 := Scalar.andi v215_r0 v217_r0
  let true_207_r0 : BitVec 1 := 1#1
  let v219_r0 : BitVec 1 := Scalar.andi v218_r0 true_207_r0
  let v220_r0 : BitVec 32 := Scalar.extui v219_r0
  let c0_i32_208_r0 : BitVec 32 := 0#32
  let v221_r0 : BitVec 1 := Scalar.cmpi .ne v220_r0 c0_i32_208_r0
  v221_r0

def k0_off15 (arg9_r0 : BitVec 32) : Fin 3 → Nat :=
  let c3_i32_313_r0 : BitVec 32 := 3#32
  let v462_r0 : BitVec 32 := Scalar.remui arg9_r0 c3_i32_313_r0
  let c0_i32_315_r0 : BitVec 32 := 0#32
  let c0_i32_316_r0 : BitVec 32 := 0#32
  ![v462_r0.toNat, 0, 0]
def k0_off16 (arg23_r0 : BitVec 32) (arg24_r0 : BitVec 32) : Fin 3 → Nat :=
  let true_189_r0 : BitVec 1 := 1#1
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c0_i32_182_r0 : BitVec 32 := 0#32
  let v186_r0 : BitVec 32 := Scalar.select v185_r0 c0_i32_182_r0 v184_r0
  let c1_i32_188_r0 : BitVec 32 := 1#32
  let v193_r0 : BitVec 32 := Scalar.addi v186_r0 c1_i32_188_r0
  let v194_r0 : BitVec 32 := Scalar.select true_189_r0 v193_r0 v186_r0
  let c32_i32_190_r0 : BitVec 32 := 32#32
  let v195_r0 : BitVec 1 := Scalar.cmpi .eq v194_r0 c32_i32_190_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c1_i32_192_r0 : BitVec 32 := 1#32
  let v197_r0 : BitVec 32 := Scalar.addi v190_r0 c1_i32_192_r0
  let v198_r0 : BitVec 32 := Scalar.select v195_r0 v197_r0 v190_r0
  let c2_i32_193_r0 : BitVec 32 := 2#32
  let v199_r0 : BitVec 1 := Scalar.cmpi .eq v198_r0 c2_i32_193_r0
  let c0_i32_194_r0 : BitVec 32 := 0#32
  let v200_r0 : BitVec 32 := Scalar.select v199_r0 c0_i32_194_r0 v198_r0
  let c0_i32_195_r0 : BitVec 32 := 0#32
  let v201_r0 : BitVec 32 := Scalar.addi v200_r0 c0_i32_195_r0
  let c256_i32_314_r0 : BitVec 32 := 256#32
  let c0_i32_191_r0 : BitVec 32 := 0#32
  let v196_r0 : BitVec 32 := Scalar.select v195_r0 c0_i32_191_r0 v194_r0
  let c0_i32_196_r0 : BitVec 32 := 0#32
  let v202_r0 : BitVec 32 := Scalar.addi v196_r0 c0_i32_196_r0
  let v463_r0 : BitVec 32 := Scalar.muli c256_i32_314_r0 v202_r0
  let c0_i32_317_r0 : BitVec 32 := 0#32
  ![v201_r0.toNat, v463_r0.toNat, 0]
def k0_off17 (arg11_r0 : BitVec 32) : Fin 1 → Nat :=
  let c3_i32_313_r0 : BitVec 32 := 3#32
  let v462_r0 : BitVec 32 := Scalar.remui arg11_r0 c3_i32_313_r0
  ![v462_r0.toNat]
def k0_cond5 (k0_t1 : Fin k0_t1_loop.trips) (arg23_r0 : BitVec 32) (arg24_r0 : BitVec 32) : BitVec 1 :=
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let true_189_r0 : BitVec 1 := 1#1
  let c0_i32_182_r0 : BitVec 32 := 0#32
  let v186_r0 : BitVec 32 := Scalar.select v185_r0 c0_i32_182_r0 v184_r0
  let c1_i32_188_r0 : BitVec 32 := 1#32
  let v193_r0 : BitVec 32 := Scalar.addi v186_r0 c1_i32_188_r0
  let v194_r0 : BitVec 32 := Scalar.select true_189_r0 v193_r0 v186_r0
  let c32_i32_190_r0 : BitVec 32 := 32#32
  let v195_r0 : BitVec 1 := Scalar.cmpi .eq v194_r0 c32_i32_190_r0
  let c1_i32_192_r0 : BitVec 32 := 1#32
  let v197_r0 : BitVec 32 := Scalar.addi v190_r0 c1_i32_192_r0
  let v198_r0 : BitVec 32 := Scalar.select v195_r0 v197_r0 v190_r0
  let c2_i32_193_r0 : BitVec 32 := 2#32
  let v199_r0 : BitVec 1 := Scalar.cmpi .eq v198_r0 c2_i32_193_r0
  let c0_i32_194_r0 : BitVec 32 := 0#32
  let v200_r0 : BitVec 32 := Scalar.select v199_r0 c0_i32_194_r0 v198_r0
  let c0_i32_195_r0 : BitVec 32 := 0#32
  let v201_r0 : BitVec 32 := Scalar.addi v200_r0 c0_i32_195_r0
  let v225_r0 : BitVec 1 := Scalar.cmpi .ne v191_r0 v201_r0
  let c0_i32_187_r0 : BitVec 32 := 0#32
  let v192_r0 : BitVec 32 := Scalar.addi v186_r0 c0_i32_187_r0
  let c0_i32_191_r0 : BitVec 32 := 0#32
  let v196_r0 : BitVec 32 := Scalar.select v195_r0 c0_i32_191_r0 v194_r0
  let c0_i32_196_r0 : BitVec 32 := 0#32
  let v202_r0 : BitVec 32 := Scalar.addi v196_r0 c0_i32_196_r0
  let v226_r0 : BitVec 1 := Scalar.cmpi .ne v192_r0 v202_r0
  let v227_r0 : BitVec 1 := Scalar.ori v225_r0 v226_r0
  let c0_i32_115_r0 : BitVec 32 := 0#32
  let c1_i32_116_r0 : BitVec 32 := 1#32
  let arg8_r0 : BitVec 32 := Scf.iv c0_i32_115_r0 c1_i32_116_r0 k0_t1
  let c62_i32_211_r0 : BitVec 32 := 62#32
  let v228_r0 : BitVec 1 := Scalar.cmpi .sge arg8_r0 c62_i32_211_r0
  let true_212_r0 : BitVec 1 := 1#1
  let v229_r0 : BitVec 1 := Scalar.xori v228_r0 true_212_r0
  let v230_r0 : BitVec 1 := Scalar.andi v227_r0 v229_r0
  let true_213_r0 : BitVec 1 := 1#1
  let v231_r0 : BitVec 1 := Scalar.andi v230_r0 true_213_r0
  let v232_r0 : BitVec 32 := Scalar.extui v231_r0
  let c0_i32_214_r0 : BitVec 32 := 0#32
  let v233_r0 : BitVec 1 := Scalar.cmpi .ne v232_r0 c0_i32_214_r0
  v233_r0

def k0_off18 (arg11_r0 : BitVec 32) : Fin 3 → Nat :=
  let c3_i32_313_r0 : BitVec 32 := 3#32
  let v462_r0 : BitVec 32 := Scalar.remui arg11_r0 c3_i32_313_r0
  let c0_i32_315_r0 : BitVec 32 := 0#32
  let c0_i32_316_r0 : BitVec 32 := 0#32
  ![v462_r0.toNat, 0, 0]
def k0_off19 (arg23_r0 : BitVec 32) (arg24_r0 : BitVec 32) : Fin 3 → Nat :=
  let true_189_r0 : BitVec 1 := 1#1
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c0_i32_182_r0 : BitVec 32 := 0#32
  let v186_r0 : BitVec 32 := Scalar.select v185_r0 c0_i32_182_r0 v184_r0
  let c1_i32_188_r0 : BitVec 32 := 1#32
  let v193_r0 : BitVec 32 := Scalar.addi v186_r0 c1_i32_188_r0
  let v194_r0 : BitVec 32 := Scalar.select true_189_r0 v193_r0 v186_r0
  let c32_i32_190_r0 : BitVec 32 := 32#32
  let v195_r0 : BitVec 1 := Scalar.cmpi .eq v194_r0 c32_i32_190_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c1_i32_192_r0 : BitVec 32 := 1#32
  let v197_r0 : BitVec 32 := Scalar.addi v190_r0 c1_i32_192_r0
  let v198_r0 : BitVec 32 := Scalar.select v195_r0 v197_r0 v190_r0
  let c2_i32_193_r0 : BitVec 32 := 2#32
  let v199_r0 : BitVec 1 := Scalar.cmpi .eq v198_r0 c2_i32_193_r0
  let c0_i32_194_r0 : BitVec 32 := 0#32
  let v200_r0 : BitVec 32 := Scalar.select v199_r0 c0_i32_194_r0 v198_r0
  let c0_i32_195_r0 : BitVec 32 := 0#32
  let v201_r0 : BitVec 32 := Scalar.addi v200_r0 c0_i32_195_r0
  let c256_i32_314_r0 : BitVec 32 := 256#32
  let c0_i32_191_r0 : BitVec 32 := 0#32
  let v196_r0 : BitVec 32 := Scalar.select v195_r0 c0_i32_191_r0 v194_r0
  let c0_i32_196_r0 : BitVec 32 := 0#32
  let v202_r0 : BitVec 32 := Scalar.addi v196_r0 c0_i32_196_r0
  let v463_r0 : BitVec 32 := Scalar.muli c256_i32_314_r0 v202_r0
  let c0_i32_317_r0 : BitVec 32 := 0#32
  ![v201_r0.toNat, v463_r0.toNat, 0]
def k0_off20 (arg14_r0 : BitVec 32) : Fin 1 → Nat :=
  let c2_i32_313_r0 : BitVec 32 := 2#32
  let v462_r0 : BitVec 32 := Scalar.remui arg14_r0 c2_i32_313_r0
  ![v462_r0.toNat]
def k0_cond6 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let v237_r0 : BitVec 1 := Scalar.cmpi .ne v171_r0 v191_r0
  let c0_i32_115_r0 : BitVec 32 := 0#32
  let c1_i32_116_r0 : BitVec 32 := 1#32
  let arg8_r0 : BitVec 32 := Scf.iv c0_i32_115_r0 c1_i32_116_r0 k0_t1
  let c63_i32_217_r0 : BitVec 32 := 63#32
  let v238_r0 : BitVec 1 := Scalar.cmpi .sge arg8_r0 c63_i32_217_r0
  let true_218_r0 : BitVec 1 := 1#1
  let v239_r0 : BitVec 1 := Scalar.xori v238_r0 true_218_r0
  let v240_r0 : BitVec 1 := Scalar.andi v237_r0 v239_r0
  let true_219_r0 : BitVec 1 := 1#1
  let v241_r0 : BitVec 1 := Scalar.andi v240_r0 true_219_r0
  let v242_r0 : BitVec 32 := Scalar.extui v241_r0
  let c0_i32_220_r0 : BitVec 32 := 0#32
  let v243_r0 : BitVec 1 := Scalar.cmpi .ne v242_r0 c0_i32_220_r0
  v243_r0

def k0_off21 (arg14_r0 : BitVec 32) : Fin 3 → Nat :=
  let c2_i32_313_r0 : BitVec 32 := 2#32
  let v462_r0 : BitVec 32 := Scalar.remui arg14_r0 c2_i32_313_r0
  let c0_i32_314_r0 : BitVec 32 := 0#32
  let c0_i32_315_r0 : BitVec 32 := 0#32
  ![v462_r0.toNat, 0, 0]
def k0_off22 (arg23_r0 : BitVec 32) (arg24_r0 : BitVec 32) : Fin 3 → Nat :=
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let c0_i32_316_r0 : BitVec 32 := 0#32
  let c0_i32_317_r0 : BitVec 32 := 0#32
  ![v191_r0.toNat, 0, 0]
def k0_off23 (arg16_r0 : BitVec 32) : Fin 1 → Nat :=
  let c3_i32_313_r0 : BitVec 32 := 3#32
  let v462_r0 : BitVec 32 := Scalar.remui arg16_r0 c3_i32_313_r0
  ![v462_r0.toNat]
def k0_cond7 (k0_t1 : Fin k0_t1_loop.trips) (arg23_r0 : BitVec 32) (arg24_r0 : BitVec 32) : BitVec 1 :=
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let true_189_r0 : BitVec 1 := 1#1
  let c0_i32_182_r0 : BitVec 32 := 0#32
  let v186_r0 : BitVec 32 := Scalar.select v185_r0 c0_i32_182_r0 v184_r0
  let c1_i32_188_r0 : BitVec 32 := 1#32
  let v193_r0 : BitVec 32 := Scalar.addi v186_r0 c1_i32_188_r0
  let v194_r0 : BitVec 32 := Scalar.select true_189_r0 v193_r0 v186_r0
  let c32_i32_190_r0 : BitVec 32 := 32#32
  let v195_r0 : BitVec 1 := Scalar.cmpi .eq v194_r0 c32_i32_190_r0
  let c1_i32_192_r0 : BitVec 32 := 1#32
  let v197_r0 : BitVec 32 := Scalar.addi v190_r0 c1_i32_192_r0
  let v198_r0 : BitVec 32 := Scalar.select v195_r0 v197_r0 v190_r0
  let c2_i32_193_r0 : BitVec 32 := 2#32
  let v199_r0 : BitVec 1 := Scalar.cmpi .eq v198_r0 c2_i32_193_r0
  let c0_i32_194_r0 : BitVec 32 := 0#32
  let v200_r0 : BitVec 32 := Scalar.select v199_r0 c0_i32_194_r0 v198_r0
  let c0_i32_195_r0 : BitVec 32 := 0#32
  let v201_r0 : BitVec 32 := Scalar.addi v200_r0 c0_i32_195_r0
  let v247_r0 : BitVec 1 := Scalar.cmpi .ne v191_r0 v201_r0
  let c0_i32_187_r0 : BitVec 32 := 0#32
  let v192_r0 : BitVec 32 := Scalar.addi v186_r0 c0_i32_187_r0
  let c0_i32_191_r0 : BitVec 32 := 0#32
  let v196_r0 : BitVec 32 := Scalar.select v195_r0 c0_i32_191_r0 v194_r0
  let c0_i32_196_r0 : BitVec 32 := 0#32
  let v202_r0 : BitVec 32 := Scalar.addi v196_r0 c0_i32_196_r0
  let v248_r0 : BitVec 1 := Scalar.cmpi .ne v192_r0 v202_r0
  let v249_r0 : BitVec 1 := Scalar.ori v247_r0 v248_r0
  let c0_i32_115_r0 : BitVec 32 := 0#32
  let c1_i32_116_r0 : BitVec 32 := 1#32
  let arg8_r0 : BitVec 32 := Scf.iv c0_i32_115_r0 c1_i32_116_r0 k0_t1
  let c62_i32_223_r0 : BitVec 32 := 62#32
  let v250_r0 : BitVec 1 := Scalar.cmpi .sge arg8_r0 c62_i32_223_r0
  let true_224_r0 : BitVec 1 := 1#1
  let v251_r0 : BitVec 1 := Scalar.xori v250_r0 true_224_r0
  let v252_r0 : BitVec 1 := Scalar.andi v249_r0 v251_r0
  let true_225_r0 : BitVec 1 := 1#1
  let v253_r0 : BitVec 1 := Scalar.andi v252_r0 true_225_r0
  let v254_r0 : BitVec 32 := Scalar.extui v253_r0
  let c0_i32_226_r0 : BitVec 32 := 0#32
  let v255_r0 : BitVec 1 := Scalar.cmpi .ne v254_r0 c0_i32_226_r0
  v255_r0

def k0_off24 (arg16_r0 : BitVec 32) : Fin 3 → Nat :=
  let c3_i32_313_r0 : BitVec 32 := 3#32
  let v462_r0 : BitVec 32 := Scalar.remui arg16_r0 c3_i32_313_r0
  let c0_i32_315_r0 : BitVec 32 := 0#32
  let c0_i32_316_r0 : BitVec 32 := 0#32
  ![v462_r0.toNat, 0, 0]
def k0_off25 (arg23_r0 : BitVec 32) (arg24_r0 : BitVec 32) : Fin 3 → Nat :=
  let true_189_r0 : BitVec 1 := 1#1
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c0_i32_182_r0 : BitVec 32 := 0#32
  let v186_r0 : BitVec 32 := Scalar.select v185_r0 c0_i32_182_r0 v184_r0
  let c1_i32_188_r0 : BitVec 32 := 1#32
  let v193_r0 : BitVec 32 := Scalar.addi v186_r0 c1_i32_188_r0
  let v194_r0 : BitVec 32 := Scalar.select true_189_r0 v193_r0 v186_r0
  let c32_i32_190_r0 : BitVec 32 := 32#32
  let v195_r0 : BitVec 1 := Scalar.cmpi .eq v194_r0 c32_i32_190_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c1_i32_192_r0 : BitVec 32 := 1#32
  let v197_r0 : BitVec 32 := Scalar.addi v190_r0 c1_i32_192_r0
  let v198_r0 : BitVec 32 := Scalar.select v195_r0 v197_r0 v190_r0
  let c2_i32_193_r0 : BitVec 32 := 2#32
  let v199_r0 : BitVec 1 := Scalar.cmpi .eq v198_r0 c2_i32_193_r0
  let c0_i32_194_r0 : BitVec 32 := 0#32
  let v200_r0 : BitVec 32 := Scalar.select v199_r0 c0_i32_194_r0 v198_r0
  let c0_i32_195_r0 : BitVec 32 := 0#32
  let v201_r0 : BitVec 32 := Scalar.addi v200_r0 c0_i32_195_r0
  let c256_i32_314_r0 : BitVec 32 := 256#32
  let c0_i32_191_r0 : BitVec 32 := 0#32
  let v196_r0 : BitVec 32 := Scalar.select v195_r0 c0_i32_191_r0 v194_r0
  let c0_i32_196_r0 : BitVec 32 := 0#32
  let v202_r0 : BitVec 32 := Scalar.addi v196_r0 c0_i32_196_r0
  let v463_r0 : BitVec 32 := Scalar.muli c256_i32_314_r0 v202_r0
  let c0_i32_317_r0 : BitVec 32 := 0#32
  ![v201_r0.toNat, v463_r0.toNat, 0]
def k0_off26 (arg19_r0 : BitVec 32) : Fin 1 → Nat :=
  let c2_i32_313_r0 : BitVec 32 := 2#32
  let v462_r0 : BitVec 32 := Scalar.remui arg19_r0 c2_i32_313_r0
  ![v462_r0.toNat]
def k0_cond8 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let v259_r0 : BitVec 1 := Scalar.cmpi .ne v171_r0 v191_r0
  let c0_i32_115_r0 : BitVec 32 := 0#32
  let c1_i32_116_r0 : BitVec 32 := 1#32
  let arg8_r0 : BitVec 32 := Scf.iv c0_i32_115_r0 c1_i32_116_r0 k0_t1
  let c63_i32_229_r0 : BitVec 32 := 63#32
  let v260_r0 : BitVec 1 := Scalar.cmpi .sge arg8_r0 c63_i32_229_r0
  let true_230_r0 : BitVec 1 := 1#1
  let v261_r0 : BitVec 1 := Scalar.xori v260_r0 true_230_r0
  let v262_r0 : BitVec 1 := Scalar.andi v259_r0 v261_r0
  let true_231_r0 : BitVec 1 := 1#1
  let v263_r0 : BitVec 1 := Scalar.andi v262_r0 true_231_r0
  let v264_r0 : BitVec 32 := Scalar.extui v263_r0
  let c0_i32_232_r0 : BitVec 32 := 0#32
  let v265_r0 : BitVec 1 := Scalar.cmpi .ne v264_r0 c0_i32_232_r0
  v265_r0

def k0_off27 (arg19_r0 : BitVec 32) : Fin 3 → Nat :=
  let c2_i32_313_r0 : BitVec 32 := 2#32
  let v462_r0 : BitVec 32 := Scalar.remui arg19_r0 c2_i32_313_r0
  let c0_i32_314_r0 : BitVec 32 := 0#32
  let c0_i32_315_r0 : BitVec 32 := 0#32
  ![v462_r0.toNat, 0, 0]
def k0_off28 (arg23_r0 : BitVec 32) (arg24_r0 : BitVec 32) : Fin 3 → Nat :=
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let c0_i32_316_r0 : BitVec 32 := 0#32
  let c0_i32_317_r0 : BitVec 32 := 0#32
  ![v191_r0.toNat, 0, 0]
def k0_off29 (arg10_r0 : BitVec 32) : Fin 1 → Nat :=
  let c3_i32_314_r0 : BitVec 32 := 3#32
  let v463_r0 : BitVec 32 := Scalar.remui arg10_r0 c3_i32_314_r0
  ![v463_r0.toNat]
def k0_cond9 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_171_r0 : BitVec 1 := 1#1
  let c1_i32_170_r0 : BitVec 32 := 1#32
  let v173_r0 : BitVec 32 := Scalar.subi arg24_r0 c1_i32_170_r0
  let v174_r0 : BitVec 32 := Scalar.select true_171_r0 v173_r0 arg24_r0
  let c_m1_i32_172_r0 : BitVec 32 := 4294967295#32
  let v175_r0 : BitVec 1 := Scalar.cmpi .eq v174_r0 c_m1_i32_172_r0
  let c1_i32_174_r0 : BitVec 32 := 1#32
  let v177_r0 : BitVec 32 := Scalar.subi arg23_r0 c1_i32_174_r0
  let v178_r0 : BitVec 32 := Scalar.select v175_r0 v177_r0 arg23_r0
  let c_m1_i32_175_r0 : BitVec 32 := 4294967295#32
  let v179_r0 : BitVec 1 := Scalar.cmpi .eq v178_r0 c_m1_i32_175_r0
  let c1_i32_176_r0 : BitVec 32 := 1#32
  let v180_r0 : BitVec 32 := Scalar.select v179_r0 c1_i32_176_r0 v178_r0
  let c0_i32_177_r0 : BitVec 32 := 0#32
  let v181_r0 : BitVec 32 := Scalar.addi v180_r0 c0_i32_177_r0
  let v275_r0 : BitVec 1 := Scalar.cmpi .ne v171_r0 v181_r0
  let c0_i32_169_r0 : BitVec 32 := 0#32
  let v172_r0 : BitVec 32 := Scalar.addi arg24_r0 c0_i32_169_r0
  let c31_i32_173_r0 : BitVec 32 := 31#32
  let v176_r0 : BitVec 32 := Scalar.select v175_r0 c31_i32_173_r0 v174_r0
  let c0_i32_178_r0 : BitVec 32 := 0#32
  let v182_r0 : BitVec 32 := Scalar.addi v176_r0 c0_i32_178_r0
  let v276_r0 : BitVec 1 := Scalar.cmpi .ne v172_r0 v182_r0
  let v277_r0 : BitVec 1 := Scalar.ori v275_r0 v276_r0
  let c0_i32_115_r0 : BitVec 32 := 0#32
  let c1_i32_116_r0 : BitVec 32 := 1#32
  let arg8_r0 : BitVec 32 := Scf.iv c0_i32_115_r0 c1_i32_116_r0 k0_t1
  let c0_i32_167_r0 : BitVec 32 := 0#32
  let v169_r0 : BitVec 1 := Scalar.cmpi .eq arg8_r0 c0_i32_167_r0
  let v278_r0 : BitVec 1 := Scalar.ori v277_r0 v169_r0
  let c0_i32_237_r0 : BitVec 32 := 0#32
  let v279_r0 : BitVec 1 := Scalar.cmpi .sge arg8_r0 c0_i32_237_r0
  let v280_r0 : BitVec 1 := Scalar.andi v278_r0 v279_r0
  let v281_r0 : BitVec 32 := Scalar.extui v280_r0
  let c0_i32_238_r0 : BitVec 32 := 0#32
  let v282_r0 : BitVec 1 := Scalar.cmpi .ne v281_r0 c0_i32_238_r0
  v282_r0

def k0_off30 (arg10_r0 : BitVec 32) : Fin 3 → Nat :=
  let c3_i32_314_r0 : BitVec 32 := 3#32
  let v463_r0 : BitVec 32 := Scalar.remui arg10_r0 c3_i32_314_r0
  let c0_i32_315_r0 : BitVec 32 := 0#32
  let c0_i32_316_r0 : BitVec 32 := 0#32
  ![v463_r0.toNat, 0, 0]
def k0_off31 (arg23_r0 : BitVec 32) (arg24_r0 : BitVec 32) : Fin 3 → Nat :=
  let c0_i32_168_r0 : BitVec 32 := 0#32
  let v171_r0 : BitVec 32 := Scalar.addi arg23_r0 c0_i32_168_r0
  let c256_i32_313_r0 : BitVec 32 := 256#32
  let c0_i32_169_r0 : BitVec 32 := 0#32
  let v172_r0 : BitVec 32 := Scalar.addi arg24_r0 c0_i32_169_r0
  let v462_r0 : BitVec 32 := Scalar.muli c256_i32_313_r0 v172_r0
  let c0_i32_317_r0 : BitVec 32 := 0#32
  ![v171_r0.toNat, v462_r0.toNat, 0]
def k0_off32 (arg12_r0 : BitVec 32) : Fin 1 → Nat :=
  let c3_i32_314_r0 : BitVec 32 := 3#32
  let v463_r0 : BitVec 32 := Scalar.remui arg12_r0 c3_i32_314_r0
  ![v463_r0.toNat]
def k0_cond10 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_171_r0 : BitVec 1 := 1#1
  let c1_i32_170_r0 : BitVec 32 := 1#32
  let v173_r0 : BitVec 32 := Scalar.subi arg24_r0 c1_i32_170_r0
  let v174_r0 : BitVec 32 := Scalar.select true_171_r0 v173_r0 arg24_r0
  let c_m1_i32_172_r0 : BitVec 32 := 4294967295#32
  let v175_r0 : BitVec 1 := Scalar.cmpi .eq v174_r0 c_m1_i32_172_r0
  let c1_i32_174_r0 : BitVec 32 := 1#32
  let v177_r0 : BitVec 32 := Scalar.subi arg23_r0 c1_i32_174_r0
  let v178_r0 : BitVec 32 := Scalar.select v175_r0 v177_r0 arg23_r0
  let c_m1_i32_175_r0 : BitVec 32 := 4294967295#32
  let v179_r0 : BitVec 1 := Scalar.cmpi .eq v178_r0 c_m1_i32_175_r0
  let c1_i32_176_r0 : BitVec 32 := 1#32
  let v180_r0 : BitVec 32 := Scalar.select v179_r0 c1_i32_176_r0 v178_r0
  let c0_i32_177_r0 : BitVec 32 := 0#32
  let v181_r0 : BitVec 32 := Scalar.addi v180_r0 c0_i32_177_r0
  let v283_r0 : BitVec 1 := Scalar.cmpi .ne v171_r0 v181_r0
  let c0_i32_169_r0 : BitVec 32 := 0#32
  let v172_r0 : BitVec 32 := Scalar.addi arg24_r0 c0_i32_169_r0
  let c31_i32_173_r0 : BitVec 32 := 31#32
  let v176_r0 : BitVec 32 := Scalar.select v175_r0 c31_i32_173_r0 v174_r0
  let c0_i32_178_r0 : BitVec 32 := 0#32
  let v182_r0 : BitVec 32 := Scalar.addi v176_r0 c0_i32_178_r0
  let v284_r0 : BitVec 1 := Scalar.cmpi .ne v172_r0 v182_r0
  let v285_r0 : BitVec 1 := Scalar.ori v283_r0 v284_r0
  let c0_i32_115_r0 : BitVec 32 := 0#32
  let c1_i32_116_r0 : BitVec 32 := 1#32
  let arg8_r0 : BitVec 32 := Scf.iv c0_i32_115_r0 c1_i32_116_r0 k0_t1
  let c0_i32_167_r0 : BitVec 32 := 0#32
  let v169_r0 : BitVec 1 := Scalar.cmpi .eq arg8_r0 c0_i32_167_r0
  let v286_r0 : BitVec 1 := Scalar.ori v285_r0 v169_r0
  let c0_i32_239_r0 : BitVec 32 := 0#32
  let v287_r0 : BitVec 1 := Scalar.cmpi .sge arg8_r0 c0_i32_239_r0
  let v288_r0 : BitVec 1 := Scalar.andi v286_r0 v287_r0
  let v289_r0 : BitVec 32 := Scalar.extui v288_r0
  let c0_i32_240_r0 : BitVec 32 := 0#32
  let v290_r0 : BitVec 1 := Scalar.cmpi .ne v289_r0 c0_i32_240_r0
  v290_r0

def k0_off33 (arg12_r0 : BitVec 32) : Fin 3 → Nat :=
  let c3_i32_314_r0 : BitVec 32 := 3#32
  let v463_r0 : BitVec 32 := Scalar.remui arg12_r0 c3_i32_314_r0
  let c0_i32_315_r0 : BitVec 32 := 0#32
  let c0_i32_316_r0 : BitVec 32 := 0#32
  ![v463_r0.toNat, 0, 0]
def k0_off34 (arg23_r0 : BitVec 32) (arg24_r0 : BitVec 32) : Fin 3 → Nat :=
  let c0_i32_168_r0 : BitVec 32 := 0#32
  let v171_r0 : BitVec 32 := Scalar.addi arg23_r0 c0_i32_168_r0
  let c256_i32_313_r0 : BitVec 32 := 256#32
  let c0_i32_169_r0 : BitVec 32 := 0#32
  let v172_r0 : BitVec 32 := Scalar.addi arg24_r0 c0_i32_169_r0
  let v462_r0 : BitVec 32 := Scalar.muli c256_i32_313_r0 v172_r0
  let c0_i32_317_r0 : BitVec 32 := 0#32
  ![v171_r0.toNat, v462_r0.toNat, 0]
def k0_off35 (arg15_r0 : BitVec 32) : Fin 1 → Nat :=
  let c2_i32_313_r0 : BitVec 32 := 2#32
  let v462_r0 : BitVec 32 := Scalar.remui arg15_r0 c2_i32_313_r0
  ![v462_r0.toNat]
def k0_cond11 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_171_r0 : BitVec 1 := 1#1
  let c1_i32_170_r0 : BitVec 32 := 1#32
  let v173_r0 : BitVec 32 := Scalar.subi arg24_r0 c1_i32_170_r0
  let v174_r0 : BitVec 32 := Scalar.select true_171_r0 v173_r0 arg24_r0
  let c_m1_i32_172_r0 : BitVec 32 := 4294967295#32
  let v175_r0 : BitVec 1 := Scalar.cmpi .eq v174_r0 c_m1_i32_172_r0
  let c1_i32_174_r0 : BitVec 32 := 1#32
  let v177_r0 : BitVec 32 := Scalar.subi arg23_r0 c1_i32_174_r0
  let v178_r0 : BitVec 32 := Scalar.select v175_r0 v177_r0 arg23_r0
  let c_m1_i32_175_r0 : BitVec 32 := 4294967295#32
  let v179_r0 : BitVec 1 := Scalar.cmpi .eq v178_r0 c_m1_i32_175_r0
  let c1_i32_176_r0 : BitVec 32 := 1#32
  let v180_r0 : BitVec 32 := Scalar.select v179_r0 c1_i32_176_r0 v178_r0
  let c0_i32_177_r0 : BitVec 32 := 0#32
  let v181_r0 : BitVec 32 := Scalar.addi v180_r0 c0_i32_177_r0
  let v291_r0 : BitVec 1 := Scalar.cmpi .ne v171_r0 v181_r0
  let c0_i32_115_r0 : BitVec 32 := 0#32
  let c1_i32_116_r0 : BitVec 32 := 1#32
  let arg8_r0 : BitVec 32 := Scf.iv c0_i32_115_r0 c1_i32_116_r0 k0_t1
  let c0_i32_167_r0 : BitVec 32 := 0#32
  let v169_r0 : BitVec 1 := Scalar.cmpi .eq arg8_r0 c0_i32_167_r0
  let v292_r0 : BitVec 1 := Scalar.ori v291_r0 v169_r0
  let c0_i32_241_r0 : BitVec 32 := 0#32
  let v293_r0 : BitVec 1 := Scalar.cmpi .sge arg8_r0 c0_i32_241_r0
  let v294_r0 : BitVec 1 := Scalar.andi v292_r0 v293_r0
  let v295_r0 : BitVec 32 := Scalar.extui v294_r0
  let c0_i32_242_r0 : BitVec 32 := 0#32
  let v296_r0 : BitVec 1 := Scalar.cmpi .ne v295_r0 c0_i32_242_r0
  v296_r0

def k0_off36 (arg15_r0 : BitVec 32) : Fin 3 → Nat :=
  let c2_i32_313_r0 : BitVec 32 := 2#32
  let v462_r0 : BitVec 32 := Scalar.remui arg15_r0 c2_i32_313_r0
  let c0_i32_314_r0 : BitVec 32 := 0#32
  let c0_i32_315_r0 : BitVec 32 := 0#32
  ![v462_r0.toNat, 0, 0]
def k0_off37 (arg23_r0 : BitVec 32) : Fin 3 → Nat :=
  let c0_i32_168_r0 : BitVec 32 := 0#32
  let v171_r0 : BitVec 32 := Scalar.addi arg23_r0 c0_i32_168_r0
  let c0_i32_316_r0 : BitVec 32 := 0#32
  let c0_i32_317_r0 : BitVec 32 := 0#32
  ![v171_r0.toNat, 0, 0]
def k0_off38 (arg17_r0 : BitVec 32) : Fin 1 → Nat :=
  let c3_i32_314_r0 : BitVec 32 := 3#32
  let v463_r0 : BitVec 32 := Scalar.remui arg17_r0 c3_i32_314_r0
  ![v463_r0.toNat]
def k0_cond12 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_171_r0 : BitVec 1 := 1#1
  let c1_i32_170_r0 : BitVec 32 := 1#32
  let v173_r0 : BitVec 32 := Scalar.subi arg24_r0 c1_i32_170_r0
  let v174_r0 : BitVec 32 := Scalar.select true_171_r0 v173_r0 arg24_r0
  let c_m1_i32_172_r0 : BitVec 32 := 4294967295#32
  let v175_r0 : BitVec 1 := Scalar.cmpi .eq v174_r0 c_m1_i32_172_r0
  let c1_i32_174_r0 : BitVec 32 := 1#32
  let v177_r0 : BitVec 32 := Scalar.subi arg23_r0 c1_i32_174_r0
  let v178_r0 : BitVec 32 := Scalar.select v175_r0 v177_r0 arg23_r0
  let c_m1_i32_175_r0 : BitVec 32 := 4294967295#32
  let v179_r0 : BitVec 1 := Scalar.cmpi .eq v178_r0 c_m1_i32_175_r0
  let c1_i32_176_r0 : BitVec 32 := 1#32
  let v180_r0 : BitVec 32 := Scalar.select v179_r0 c1_i32_176_r0 v178_r0
  let c0_i32_177_r0 : BitVec 32 := 0#32
  let v181_r0 : BitVec 32 := Scalar.addi v180_r0 c0_i32_177_r0
  let v297_r0 : BitVec 1 := Scalar.cmpi .ne v171_r0 v181_r0
  let c0_i32_169_r0 : BitVec 32 := 0#32
  let v172_r0 : BitVec 32 := Scalar.addi arg24_r0 c0_i32_169_r0
  let c31_i32_173_r0 : BitVec 32 := 31#32
  let v176_r0 : BitVec 32 := Scalar.select v175_r0 c31_i32_173_r0 v174_r0
  let c0_i32_178_r0 : BitVec 32 := 0#32
  let v182_r0 : BitVec 32 := Scalar.addi v176_r0 c0_i32_178_r0
  let v298_r0 : BitVec 1 := Scalar.cmpi .ne v172_r0 v182_r0
  let v299_r0 : BitVec 1 := Scalar.ori v297_r0 v298_r0
  let c0_i32_115_r0 : BitVec 32 := 0#32
  let c1_i32_116_r0 : BitVec 32 := 1#32
  let arg8_r0 : BitVec 32 := Scf.iv c0_i32_115_r0 c1_i32_116_r0 k0_t1
  let c0_i32_167_r0 : BitVec 32 := 0#32
  let v169_r0 : BitVec 1 := Scalar.cmpi .eq arg8_r0 c0_i32_167_r0
  let v300_r0 : BitVec 1 := Scalar.ori v299_r0 v169_r0
  let c0_i32_243_r0 : BitVec 32 := 0#32
  let v301_r0 : BitVec 1 := Scalar.cmpi .sge arg8_r0 c0_i32_243_r0
  let v302_r0 : BitVec 1 := Scalar.andi v300_r0 v301_r0
  let v303_r0 : BitVec 32 := Scalar.extui v302_r0
  let c0_i32_244_r0 : BitVec 32 := 0#32
  let v304_r0 : BitVec 1 := Scalar.cmpi .ne v303_r0 c0_i32_244_r0
  v304_r0

def k0_off39 (arg17_r0 : BitVec 32) : Fin 3 → Nat :=
  let c3_i32_314_r0 : BitVec 32 := 3#32
  let v463_r0 : BitVec 32 := Scalar.remui arg17_r0 c3_i32_314_r0
  let c0_i32_315_r0 : BitVec 32 := 0#32
  let c0_i32_316_r0 : BitVec 32 := 0#32
  ![v463_r0.toNat, 0, 0]
def k0_off40 (arg23_r0 : BitVec 32) (arg24_r0 : BitVec 32) : Fin 3 → Nat :=
  let c0_i32_168_r0 : BitVec 32 := 0#32
  let v171_r0 : BitVec 32 := Scalar.addi arg23_r0 c0_i32_168_r0
  let c256_i32_313_r0 : BitVec 32 := 256#32
  let c0_i32_169_r0 : BitVec 32 := 0#32
  let v172_r0 : BitVec 32 := Scalar.addi arg24_r0 c0_i32_169_r0
  let v462_r0 : BitVec 32 := Scalar.muli c256_i32_313_r0 v172_r0
  let c0_i32_317_r0 : BitVec 32 := 0#32
  ![v171_r0.toNat, v462_r0.toNat, 0]
def k0_off41 (arg20_r0 : BitVec 32) : Fin 1 → Nat :=
  let c2_i32_313_r0 : BitVec 32 := 2#32
  let v462_r0 : BitVec 32 := Scalar.remui arg20_r0 c2_i32_313_r0
  ![v462_r0.toNat]
def k0_cond13 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_171_r0 : BitVec 1 := 1#1
  let c1_i32_170_r0 : BitVec 32 := 1#32
  let v173_r0 : BitVec 32 := Scalar.subi arg24_r0 c1_i32_170_r0
  let v174_r0 : BitVec 32 := Scalar.select true_171_r0 v173_r0 arg24_r0
  let c_m1_i32_172_r0 : BitVec 32 := 4294967295#32
  let v175_r0 : BitVec 1 := Scalar.cmpi .eq v174_r0 c_m1_i32_172_r0
  let c1_i32_174_r0 : BitVec 32 := 1#32
  let v177_r0 : BitVec 32 := Scalar.subi arg23_r0 c1_i32_174_r0
  let v178_r0 : BitVec 32 := Scalar.select v175_r0 v177_r0 arg23_r0
  let c_m1_i32_175_r0 : BitVec 32 := 4294967295#32
  let v179_r0 : BitVec 1 := Scalar.cmpi .eq v178_r0 c_m1_i32_175_r0
  let c1_i32_176_r0 : BitVec 32 := 1#32
  let v180_r0 : BitVec 32 := Scalar.select v179_r0 c1_i32_176_r0 v178_r0
  let c0_i32_177_r0 : BitVec 32 := 0#32
  let v181_r0 : BitVec 32 := Scalar.addi v180_r0 c0_i32_177_r0
  let v305_r0 : BitVec 1 := Scalar.cmpi .ne v171_r0 v181_r0
  let c0_i32_115_r0 : BitVec 32 := 0#32
  let c1_i32_116_r0 : BitVec 32 := 1#32
  let arg8_r0 : BitVec 32 := Scf.iv c0_i32_115_r0 c1_i32_116_r0 k0_t1
  let c0_i32_167_r0 : BitVec 32 := 0#32
  let v169_r0 : BitVec 1 := Scalar.cmpi .eq arg8_r0 c0_i32_167_r0
  let v306_r0 : BitVec 1 := Scalar.ori v305_r0 v169_r0
  let c0_i32_245_r0 : BitVec 32 := 0#32
  let v307_r0 : BitVec 1 := Scalar.cmpi .sge arg8_r0 c0_i32_245_r0
  let v308_r0 : BitVec 1 := Scalar.andi v306_r0 v307_r0
  let v309_r0 : BitVec 32 := Scalar.extui v308_r0
  let c0_i32_246_r0 : BitVec 32 := 0#32
  let v310_r0 : BitVec 1 := Scalar.cmpi .ne v309_r0 c0_i32_246_r0
  v310_r0

def k0_off42 (arg20_r0 : BitVec 32) : Fin 3 → Nat :=
  let c2_i32_313_r0 : BitVec 32 := 2#32
  let v462_r0 : BitVec 32 := Scalar.remui arg20_r0 c2_i32_313_r0
  let c0_i32_314_r0 : BitVec 32 := 0#32
  let c0_i32_315_r0 : BitVec 32 := 0#32
  ![v462_r0.toNat, 0, 0]
def k0_off43 (arg23_r0 : BitVec 32) : Fin 3 → Nat :=
  let c0_i32_168_r0 : BitVec 32 := 0#32
  let v171_r0 : BitVec 32 := Scalar.addi arg23_r0 c0_i32_168_r0
  let c0_i32_316_r0 : BitVec 32 := 0#32
  let c0_i32_317_r0 : BitVec 32 := 0#32
  ![v171_r0.toNat, 0, 0]
def k0_off44 (arg20_r0 : BitVec 32) : Fin 3 → Nat :=
  let c2_i32_253_r0 : BitVec 32 := 2#32
  let v323_r0 : BitVec 32 := Scalar.remui arg20_r0 c2_i32_253_r0
  let v326_r0 : Index := Scalar.indexCast v323_r0
  let c0_256_r0 : Index := 0#32
  let c0_257_r0 : Index := 0#32
  ![v326_r0.toNat, 0, 0]

def k0_chk2 (arg20_r0 : BitVec 32) : Prop :=
  (∀ a, (k0_off44 arg20_r0) a + S1x1x4096.size a ≤ S2x1x4096.size a)
theorem k0_off44_inb : ∀ (arg20_r0 : BitVec 32) (k0_hw2 : k0_chk2 arg20_r0), ∀ a, (k0_off44 arg20_r0) a + S1x1x4096.size a ≤ S2x1x4096.size a := fun arg20_r0 k0_hw2 => k0_hw2

def k0_off45 (arg15_r0 : BitVec 32) : Fin 3 → Nat :=
  let c2_i32_251_r0 : BitVec 32 := 2#32
  let v321_r0 : BitVec 32 := Scalar.remui arg15_r0 c2_i32_251_r0
  let v331_r0 : Index := Scalar.indexCast v321_r0
  let c0_260_r0 : Index := 0#32
  let c0_261_r0 : Index := 0#32
  ![v331_r0.toNat, 0, 0]

def k0_chk3 (arg15_r0 : BitVec 32) : Prop :=
  (∀ a, (k0_off45 arg15_r0) a + S1x1x4096.size a ≤ S2x1x4096.size a)
theorem k0_off45_inb : ∀ (arg15_r0 : BitVec 32) (k0_hw3 : k0_chk3 arg15_r0), ∀ a, (k0_off45 arg15_r0) a + S1x1x4096.size a ≤ S2x1x4096.size a := fun arg15_r0 k0_hw3 => k0_hw3

@[reducible] def k0_t2_loop : Scf.Loop 32 :=
  let c0_i32_263_r0 : BitVec 32 := 0#32
  let c16_i32_r0 : BitVec 32 := 16#32
  let v335_r0 : BitVec 32 := Scalar.addi c0_i32_263_r0 c16_i32_r0
  let c1_i32_264_r0 : BitVec 32 := 1#32
  ⟨c0_i32_263_r0, v335_r0, c1_i32_264_r0⟩
def k0_mult1 (k0_t2 : Fin k0_t2_loop.trips) : BitVec 32 :=
  let c0_i32_263_r0 : BitVec 32 := 0#32
  let c1_i32_264_r0 : BitVec 32 := 1#32
  let arg25_r0 : BitVec 32 := Scf.iv c0_i32_263_r0 c1_i32_264_r0 k0_t2
  let c16_i32_313_r0 : BitVec 32 := 16#32
  let v462_r0 : BitVec 32 := Scalar.muli arg25_r0 c16_i32_313_r0
  v462_r0
def k0_off46 (arg10_r0 : BitVec 32) : Fin 3 → Nat :=
  let c3_i32_249_r0 : BitVec 32 := 3#32
  let v319_r0 : BitVec 32 := Scalar.remui arg10_r0 c3_i32_249_r0
  let c0_i32_314_r0 : BitVec 32 := 0#32
  let c0_i32_315_r0 : BitVec 32 := 0#32
  ![v319_r0.toNat, 0, 0]

def k0_chk4 (arg10_r0 : BitVec 32) : Prop :=
  (∀ a, (k0_off46 arg10_r0) a + S1x256x4096.size a ≤ S3x256x4096.size a)
theorem k0_off46_inb : ∀ (arg10_r0 : BitVec 32) (k0_hw4 : k0_chk4 arg10_r0), ∀ a, (k0_off46 arg10_r0) a + S1x256x4096.size a ≤ S3x256x4096.size a := fun arg10_r0 k0_hw4 => k0_hw4

def k0_off47 (k0_t2 : Fin k0_t2_loop.trips) : Fin 2 → Nat :=
  let c0_i32_263_r0 : BitVec 32 := 0#32
  let c1_i32_264_r0 : BitVec 32 := 1#32
  let arg25_r0 : BitVec 32 := Scf.iv c0_i32_263_r0 c1_i32_264_r0 k0_t2
  let c16_i32_313_r0 : BitVec 32 := 16#32
  let v462_r0 : BitVec 32 := Scalar.muli arg25_r0 c16_i32_313_r0
  let v463_r0 : BitVec 32 := v462_r0
  let v466_r0 : Index := Scalar.indexCast v463_r0
  let c0_316_r0 : Index := 0#32
  ![v466_r0.toNat, 0]
def k0_off48 (arg12_r0 : BitVec 32) : Fin 3 → Nat :=
  let c3_i32_250_r0 : BitVec 32 := 3#32
  let v320_r0 : BitVec 32 := Scalar.remui arg12_r0 c3_i32_250_r0
  let c0_i32_317_r0 : BitVec 32 := 0#32
  let c0_i32_318_r0 : BitVec 32 := 0#32
  ![v320_r0.toNat, 0, 0]

def k0_chk5 (arg12_r0 : BitVec 32) : Prop :=
  (∀ a, (k0_off48 arg12_r0) a + S1x256x4096.size a ≤ S3x256x4096.size a)
theorem k0_off48_inb : ∀ (arg12_r0 : BitVec 32) (k0_hw5 : k0_chk5 arg12_r0), ∀ a, (k0_off48 arg12_r0) a + S1x256x4096.size a ≤ S3x256x4096.size a := fun arg12_r0 k0_hw5 => k0_hw5

def k0_off49 (arg17_r0 : BitVec 32) : Fin 3 → Nat :=
  let c3_i32_252_r0 : BitVec 32 := 3#32
  let v322_r0 : BitVec 32 := Scalar.remui arg17_r0 c3_i32_252_r0
  let c0_i32_322_r0 : BitVec 32 := 0#32
  let c0_i32_323_r0 : BitVec 32 := 0#32
  ![v322_r0.toNat, 0, 0]

def k0_chk6 (arg17_r0 : BitVec 32) : Prop :=
  (∀ a, (k0_off49 arg17_r0) a + S1x256x4096.size a ≤ S3x256x4096.size a)
theorem k0_off49_inb : ∀ (arg17_r0 : BitVec 32) (k0_hw6 : k0_chk6 arg17_r0), ∀ a, (k0_off49 arg17_r0) a + S1x256x4096.size a ≤ S3x256x4096.size a := fun arg17_r0 k0_hw6 => k0_hw6

def k0_off50 (arg21_r0 : BitVec 32) : Fin 3 → Nat :=
  let c2_i32_254_r0 : BitVec 32 := 2#32
  let v324_r0 : BitVec 32 := Scalar.remui arg21_r0 c2_i32_254_r0
  let c0_i32_328_r0 : BitVec 32 := 0#32
  let c0_i32_329_r0 : BitVec 32 := 0#32
  ![v324_r0.toNat, 0, 0]

def k0_chk7 (arg21_r0 : BitVec 32) : Prop :=
  (∀ a, (k0_off50 arg21_r0) a + S1x256x4096.size a ≤ S2x256x4096.size a)
theorem k0_off50_inb : ∀ (arg21_r0 : BitVec 32) (k0_hw7 : k0_chk7 arg21_r0), ∀ a, (k0_off50 arg21_r0) a + S1x256x4096.size a ≤ S2x256x4096.size a := fun arg21_r0 k0_hw7 => k0_hw7

def k0_off51 (k0_t2 : Fin k0_t2_loop.trips) : Fin 2 → Nat :=
  let c0_i32_263_r0 : BitVec 32 := 0#32
  let c1_i32_264_r0 : BitVec 32 := 1#32
  let arg25_r0 : BitVec 32 := Scf.iv c0_i32_263_r0 c1_i32_264_r0 k0_t2
  let c16_i32_313_r0 : BitVec 32 := 16#32
  let v462_r0 : BitVec 32 := Scalar.muli arg25_r0 c16_i32_313_r0
  let v463_r0 : BitVec 32 := v462_r0
  let v506_r0 : Index := Scalar.indexCast v463_r0
  let c0_330_r0 : Index := 0#32
  ![v506_r0.toNat, 0]
def k0_off52 (arg21_r0 : BitVec 32) : Fin 1 → Nat :=
  let c2_i32_313_r0 : BitVec 32 := 2#32
  let v462_r0 : BitVec 32 := Scalar.remui arg21_r0 c2_i32_313_r0
  ![v462_r0.toNat]
def k0_cond20 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_180_r0 : BitVec 1 := 1#1
  let c1_i32_179_r0 : BitVec 32 := 1#32
  let v183_r0 : BitVec 32 := Scalar.addi arg24_r0 c1_i32_179_r0
  let v184_r0 : BitVec 32 := Scalar.select true_180_r0 v183_r0 arg24_r0
  let c32_i32_181_r0 : BitVec 32 := 32#32
  let v185_r0 : BitVec 1 := Scalar.cmpi .eq v184_r0 c32_i32_181_r0
  let c1_i32_183_r0 : BitVec 32 := 1#32
  let v187_r0 : BitVec 32 := Scalar.addi arg23_r0 c1_i32_183_r0
  let v188_r0 : BitVec 32 := Scalar.select v185_r0 v187_r0 arg23_r0
  let c2_i32_184_r0 : BitVec 32 := 2#32
  let v189_r0 : BitVec 1 := Scalar.cmpi .eq v188_r0 c2_i32_184_r0
  let c0_i32_185_r0 : BitVec 32 := 0#32
  let v190_r0 : BitVec 32 := Scalar.select v189_r0 c0_i32_185_r0 v188_r0
  let c0_i32_186_r0 : BitVec 32 := 0#32
  let v191_r0 : BitVec 32 := Scalar.addi v190_r0 c0_i32_186_r0
  let v367_r0 : BitVec 1 := Scalar.cmpi .ne v171_r0 v191_r0
  let c0_i32_169_r0 : BitVec 32 := 0#32
  let v172_r0 : BitVec 32 := Scalar.addi arg24_r0 c0_i32_169_r0
  let c0_i32_182_r0 : BitVec 32 := 0#32
  let v186_r0 : BitVec 32 := Scalar.select v185_r0 c0_i32_182_r0 v184_r0
  let c0_i32_187_r0 : BitVec 32 := 0#32
  let v192_r0 : BitVec 32 := Scalar.addi v186_r0 c0_i32_187_r0
  let v368_r0 : BitVec 1 := Scalar.cmpi .ne v172_r0 v192_r0
  let v369_r0 : BitVec 1 := Scalar.ori v367_r0 v368_r0
  let c0_i32_115_r0 : BitVec 32 := 0#32
  let c1_i32_116_r0 : BitVec 32 := 1#32
  let arg8_r0 : BitVec 32 := Scf.iv c0_i32_115_r0 c1_i32_116_r0 k0_t1
  let c63_i32_r0 : BitVec 32 := 63#32
  let v170_r0 : BitVec 1 := Scalar.cmpi .eq arg8_r0 c63_i32_r0
  let v370_r0 : BitVec 1 := Scalar.ori v369_r0 v170_r0
  let v371_r0 : BitVec 32 := Scalar.extui v370_r0
  let c0_i32_275_r0 : BitVec 32 := 0#32
  let v372_r0 : BitVec 1 := Scalar.cmpi .ne v371_r0 c0_i32_275_r0
  v372_r0

def k0_off53 (arg23_r0 : BitVec 32) (arg24_r0 : BitVec 32) : Fin 3 → Nat :=
  let c0_i32_168_r0 : BitVec 32 := 0#32
  let v171_r0 : BitVec 32 := Scalar.addi arg23_r0 c0_i32_168_r0
  let c256_i32_314_r0 : BitVec 32 := 256#32
  let c0_i32_169_r0 : BitVec 32 := 0#32
  let v172_r0 : BitVec 32 := Scalar.addi arg24_r0 c0_i32_169_r0
  let v463_r0 : BitVec 32 := Scalar.muli c256_i32_314_r0 v172_r0
  let c0_i32_315_r0 : BitVec 32 := 0#32
  ![v171_r0.toNat, v463_r0.toNat, 0]
def k0_off54 (arg21_r0 : BitVec 32) : Fin 3 → Nat :=
  let c2_i32_313_r0 : BitVec 32 := 2#32
  let v462_r0 : BitVec 32 := Scalar.remui arg21_r0 c2_i32_313_r0
  let c0_i32_316_r0 : BitVec 32 := 0#32
  let c0_i32_317_r0 : BitVec 32 := 0#32
  ![v462_r0.toNat, 0, 0]
def k0_off55 (arg22_r0 : BitVec 32) : Fin 1 → Nat :=
  let c2_i32_313_r0 : BitVec 32 := 2#32
  let v462_r0 : BitVec 32 := Scalar.remui arg22_r0 c2_i32_313_r0
  ![v462_r0.toNat]
def k0_cond26 (k0_t1 : Fin k0_t1_loop.trips) (arg23_r0 : BitVec 32) (arg24_r0 : BitVec 32) : BitVec 1 :=
  let c0_i32_168_r0 : BitVec 32 := 0#32
  let v171_r0 : BitVec 32 := Scalar.addi arg23_r0 c0_i32_168_r0
  let true_171_r0 : BitVec 1 := 1#1
  let c1_i32_170_r0 : BitVec 32 := 1#32
  let v173_r0 : BitVec 32 := Scalar.subi arg24_r0 c1_i32_170_r0
  let v174_r0 : BitVec 32 := Scalar.select true_171_r0 v173_r0 arg24_r0
  let c_m1_i32_172_r0 : BitVec 32 := 4294967295#32
  let v175_r0 : BitVec 1 := Scalar.cmpi .eq v174_r0 c_m1_i32_172_r0
  let c1_i32_174_r0 : BitVec 32 := 1#32
  let v177_r0 : BitVec 32 := Scalar.subi arg23_r0 c1_i32_174_r0
  let v178_r0 : BitVec 32 := Scalar.select v175_r0 v177_r0 arg23_r0
  let c_m1_i32_175_r0 : BitVec 32 := 4294967295#32
  let v179_r0 : BitVec 1 := Scalar.cmpi .eq v178_r0 c_m1_i32_175_r0
  let c1_i32_176_r0 : BitVec 32 := 1#32
  let v180_r0 : BitVec 32 := Scalar.select v179_r0 c1_i32_176_r0 v178_r0
  let c0_i32_177_r0 : BitVec 32 := 0#32
  let v181_r0 : BitVec 32 := Scalar.addi v180_r0 c0_i32_177_r0
  let v412_r0 : BitVec 1 := Scalar.cmpi .ne v171_r0 v181_r0
  let c0_i32_169_r0 : BitVec 32 := 0#32
  let v172_r0 : BitVec 32 := Scalar.addi arg24_r0 c0_i32_169_r0
  let c31_i32_173_r0 : BitVec 32 := 31#32
  let v176_r0 : BitVec 32 := Scalar.select v175_r0 c31_i32_173_r0 v174_r0
  let c0_i32_178_r0 : BitVec 32 := 0#32
  let v182_r0 : BitVec 32 := Scalar.addi v176_r0 c0_i32_178_r0
  let v413_r0 : BitVec 1 := Scalar.cmpi .ne v172_r0 v182_r0
  let v414_r0 : BitVec 1 := Scalar.ori v412_r0 v413_r0
  let c0_i32_115_r0 : BitVec 32 := 0#32
  let c1_i32_116_r0 : BitVec 32 := 1#32
  let arg8_r0 : BitVec 32 := Scf.iv c0_i32_115_r0 c1_i32_116_r0 k0_t1
  let c0_i32_167_r0 : BitVec 32 := 0#32
  let v169_r0 : BitVec 1 := Scalar.cmpi .eq arg8_r0 c0_i32_167_r0
  let true_293_r0 : BitVec 1 := 1#1
  let v415_r0 : BitVec 1 := Scalar.xori v169_r0 true_293_r0
  let v416_r0 : BitVec 1 := Scalar.andi v414_r0 v415_r0
  let v417_r0 : BitVec 32 := Scalar.extui v416_r0
  let c0_i32_294_r0 : BitVec 32 := 0#32
  let v418_r0 : BitVec 1 := Scalar.cmpi .ne v417_r0 c0_i32_294_r0
  v418_r0

def k0_off56 (arg23_r0 : BitVec 32) (arg24_r0 : BitVec 32) : Fin 3 → Nat :=
  let true_171_r0 : BitVec 1 := 1#1
  let c1_i32_170_r0 : BitVec 32 := 1#32
  let v173_r0 : BitVec 32 := Scalar.subi arg24_r0 c1_i32_170_r0
  let v174_r0 : BitVec 32 := Scalar.select true_171_r0 v173_r0 arg24_r0
  let c_m1_i32_172_r0 : BitVec 32 := 4294967295#32
  let v175_r0 : BitVec 1 := Scalar.cmpi .eq v174_r0 c_m1_i32_172_r0
  let c1_i32_174_r0 : BitVec 32 := 1#32
  let v177_r0 : BitVec 32 := Scalar.subi arg23_r0 c1_i32_174_r0
  let v178_r0 : BitVec 32 := Scalar.select v175_r0 v177_r0 arg23_r0
  let c_m1_i32_175_r0 : BitVec 32 := 4294967295#32
  let v179_r0 : BitVec 1 := Scalar.cmpi .eq v178_r0 c_m1_i32_175_r0
  let c1_i32_176_r0 : BitVec 32 := 1#32
  let v180_r0 : BitVec 32 := Scalar.select v179_r0 c1_i32_176_r0 v178_r0
  let c0_i32_177_r0 : BitVec 32 := 0#32
  let v181_r0 : BitVec 32 := Scalar.addi v180_r0 c0_i32_177_r0
  let c256_i32_314_r0 : BitVec 32 := 256#32
  let c31_i32_173_r0 : BitVec 32 := 31#32
  let v176_r0 : BitVec 32 := Scalar.select v175_r0 c31_i32_173_r0 v174_r0
  let c0_i32_178_r0 : BitVec 32 := 0#32
  let v182_r0 : BitVec 32 := Scalar.addi v176_r0 c0_i32_178_r0
  let v463_r0 : BitVec 32 := Scalar.muli c256_i32_314_r0 v182_r0
  let c0_i32_315_r0 : BitVec 32 := 0#32
  ![v181_r0.toNat, v463_r0.toNat, 0]
def k0_off57 (arg22_r0 : BitVec 32) : Fin 3 → Nat :=
  let c2_i32_313_r0 : BitVec 32 := 2#32
  let v462_r0 : BitVec 32 := Scalar.remui arg22_r0 c2_i32_313_r0
  let c0_i32_316_r0 : BitVec 32 := 0#32
  let c0_i32_317_r0 : BitVec 32 := 0#32
  ![v462_r0.toNat, 0, 0]

def k0_chk1_0 (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h4 : k0_cond4 k0_t1 arg23_r0 arg24_r0 = 1#1), ∀ a, (k0_off14 arg9_r0) a + S1.size a ≤ S3.size a) ∧
  (∀ (k0_h4 : k0_cond4 k0_t1 arg23_r0 arg24_r0 = 1#1), ∀ a, (k0_off15 arg9_r0) a + S1x256x4096.size a ≤ S3x256x4096.size a) ∧
  (∀ (k0_h4 : k0_cond4 k0_t1 arg23_r0 arg24_r0 = 1#1), ∀ a, (k0_off16 arg23_r0 arg24_r0) a + S1x256x4096.size a ≤ S2x8192x4096.size a) ∧
  (∀ (k0_h5 : k0_cond5 k0_t1 arg23_r0 arg24_r0 = 1#1), ∀ a, (k0_off17 arg11_r0) a + S1.size a ≤ S3.size a) ∧
  (∀ (k0_h5 : k0_cond5 k0_t1 arg23_r0 arg24_r0 = 1#1), ∀ a, (k0_off18 arg11_r0) a + S1x256x4096.size a ≤ S3x256x4096.size a) ∧
  (∀ (k0_h5 : k0_cond5 k0_t1 arg23_r0 arg24_r0 = 1#1), ∀ a, (k0_off19 arg23_r0 arg24_r0) a + S1x256x4096.size a ≤ S2x8192x4096.size a) ∧
  (∀ (k0_h5 : k0_cond5 k0_t1 arg23_r0 arg24_r0 = 1#1), ∀ (hinb : ∀ a, (k0_off19 arg23_r0 arg24_r0) a + S1x256x4096.size a ≤ S2x8192x4096.size a), (Rect.unit (s := S2x8192x4096) (k0_off19 arg23_r0 arg24_r0) S1x256x4096.size hinb).WholeWords (EltTy.packing .bf16)) ∧
  (∀ (k0_h5 : k0_cond5 k0_t1 arg23_r0 arg24_r0 = 1#1), ∀ (hinb : ∀ a, (k0_off18 arg11_r0) a + S1x256x4096.size a ≤ S3x256x4096.size a), (Rect.unit (s := S3x256x4096) (k0_off18 arg11_r0) S1x256x4096.size hinb).WholeWords (EltTy.packing .bf16)) ∧
  (∀ (k0_h6 : k0_cond6 k0_t1 arg23_r0 arg24_r0 = 1#1), ∀ a, (k0_off20 arg14_r0) a + S1.size a ≤ S2.size a) ∧
  (∀ (k0_h6 : k0_cond6 k0_t1 arg23_r0 arg24_r0 = 1#1), ∀ a, (k0_off21 arg14_r0) a + S1x1x4096.size a ≤ S2x1x4096.size a) ∧
  (∀ (k0_h6 : k0_cond6 k0_t1 arg23_r0 arg24_r0 = 1#1), ∀ a, (k0_off22 arg23_r0 arg24_r0) a + S1x1x4096.size a ≤ S2x1x4096.size a) ∧
  (∀ (k0_h7 : k0_cond7 k0_t1 arg23_r0 arg24_r0 = 1#1), ∀ a, (k0_off23 arg16_r0) a + S1.size a ≤ S3.size a) ∧
  (∀ (k0_h7 : k0_cond7 k0_t1 arg23_r0 arg24_r0 = 1#1), ∀ a, (k0_off24 arg16_r0) a + S1x256x4096.size a ≤ S3x256x4096.size a) ∧
  (∀ (k0_h7 : k0_cond7 k0_t1 arg23_r0 arg24_r0 = 1#1), ∀ a, (k0_off25 arg23_r0 arg24_r0) a + S1x256x4096.size a ≤ S2x8192x4096.size a) ∧
  (∀ (k0_h7 : k0_cond7 k0_t1 arg23_r0 arg24_r0 = 1#1), ∀ (hinb : ∀ a, (k0_off25 arg23_r0 arg24_r0) a + S1x256x4096.size a ≤ S2x8192x4096.size a), (Rect.unit (s := S2x8192x4096) (k0_off25 arg23_r0 arg24_r0) S1x256x4096.size hinb).WholeWords (EltTy.packing .bf16)) ∧
  (∀ (k0_h7 : k0_cond7 k0_t1 arg23_r0 arg24_r0 = 1#1), ∀ (hinb : ∀ a, (k0_off24 arg16_r0) a + S1x256x4096.size a ≤ S3x256x4096.size a), (Rect.unit (s := S3x256x4096) (k0_off24 arg16_r0) S1x256x4096.size hinb).WholeWords (EltTy.packing .bf16)) ∧
  (∀ (k0_h8 : k0_cond8 k0_t1 arg23_r0 arg24_r0 = 1#1), ∀ a, (k0_off26 arg19_r0) a + S1.size a ≤ S2.size a) ∧
  (∀ (k0_h8 : k0_cond8 k0_t1 arg23_r0 arg24_r0 = 1#1), ∀ a, (k0_off27 arg19_r0) a + S1x1x4096.size a ≤ S2x1x4096.size a) ∧
  (∀ (k0_h8 : k0_cond8 k0_t1 arg23_r0 arg24_r0 = 1#1), ∀ a, (k0_off28 arg23_r0 arg24_r0) a + S1x1x4096.size a ≤ S2x1x4096.size a) ∧
  (∀ (k0_h9 : k0_cond9 k0_t1 arg23_r0 arg24_r0 = 1#1), ∀ a, (k0_off29 arg10_r0) a + S1.size a ≤ S3.size a) ∧
  (∀ (k0_h9 : k0_cond9 k0_t1 arg23_r0 arg24_r0 = 1#1), ∀ a, (k0_off30 arg10_r0) a + S1x256x4096.size a ≤ S3x256x4096.size a) ∧
  (∀ (k0_h9 : k0_cond9 k0_t1 arg23_r0 arg24_r0 = 1#1), ∀ a, (k0_off31 arg23_r0 arg24_r0) a + S1x256x4096.size a ≤ S2x8192x4096.size a) ∧
  (∀ (k0_h10 : k0_cond10 k0_t1 arg23_r0 arg24_r0 = 1#1), ∀ a, (k0_off32 arg12_r0) a + S1.size a ≤ S3.size a) ∧
  (∀ (k0_h10 : k0_cond10 k0_t1 arg23_r0 arg24_r0 = 1#1), ∀ a, (k0_off33 arg12_r0) a + S1x256x4096.size a ≤ S3x256x4096.size a) ∧
  (∀ (k0_h10 : k0_cond10 k0_t1 arg23_r0 arg24_r0 = 1#1), ∀ a, (k0_off34 arg23_r0 arg24_r0) a + S1x256x4096.size a ≤ S2x8192x4096.size a) ∧
  (∀ (k0_h10 : k0_cond10 k0_t1 arg23_r0 arg24_r0 = 1#1), ∀ (hinb : ∀ a, (k0_off34 arg23_r0 arg24_r0) a + S1x256x4096.size a ≤ S2x8192x4096.size a), (Rect.unit (s := S2x8192x4096) (k0_off34 arg23_r0 arg24_r0) S1x256x4096.size hinb).WholeWords (EltTy.packing .bf16)) ∧
  (∀ (k0_h10 : k0_cond10 k0_t1 arg23_r0 arg24_r0 = 1#1), ∀ (hinb : ∀ a, (k0_off33 arg12_r0) a + S1x256x4096.size a ≤ S3x256x4096.size a), (Rect.unit (s := S3x256x4096) (k0_off33 arg12_r0) S1x256x4096.size hinb).WholeWords (EltTy.packing .bf16)) ∧
  (∀ (k0_h11 : k0_cond11 k0_t1 arg23_r0 arg24_r0 = 1#1), ∀ a, (k0_off35 arg15_r0) a + S1.size a ≤ S2.size a) ∧
  (∀ (k0_h11 : k0_cond11 k0_t1 arg23_r0 arg24_r0 = 1#1), ∀ a, (k0_off36 arg15_r0) a + S1x1x4096.size a ≤ S2x1x4096.size a) ∧
  (∀ (k0_h11 : k0_cond11 k0_t1 arg23_r0 arg24_r0 = 1#1), ∀ a, (k0_off37 arg23_r0) a + S1x1x4096.size a ≤ S2x1x4096.size a) ∧
  (∀ (k0_h12 : k0_cond12 k0_t1 arg23_r0 arg24_r0 = 1#1), ∀ a, (k0_off38 arg17_r0) a + S1.size a ≤ S3.size a) ∧
  (∀ (k0_h12 : k0_cond12 k0_t1 arg23_r0 arg24_r0 = 1#1), ∀ a, (k0_off39 arg17_r0) a + S1x256x4096.size a ≤ S3x256x4096.size a)
def k0_chk1_1 (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h12 : k0_cond12 k0_t1 arg23_r0 arg24_r0 = 1#1), ∀ a, (k0_off40 arg23_r0 arg24_r0) a + S1x256x4096.size a ≤ S2x8192x4096.size a) ∧
  (∀ (k0_h12 : k0_cond12 k0_t1 arg23_r0 arg24_r0 = 1#1), ∀ (hinb : ∀ a, (k0_off40 arg23_r0 arg24_r0) a + S1x256x4096.size a ≤ S2x8192x4096.size a), (Rect.unit (s := S2x8192x4096) (k0_off40 arg23_r0 arg24_r0) S1x256x4096.size hinb).WholeWords (EltTy.packing .bf16)) ∧
  (∀ (k0_h12 : k0_cond12 k0_t1 arg23_r0 arg24_r0 = 1#1), ∀ (hinb : ∀ a, (k0_off39 arg17_r0) a + S1x256x4096.size a ≤ S3x256x4096.size a), (Rect.unit (s := S3x256x4096) (k0_off39 arg17_r0) S1x256x4096.size hinb).WholeWords (EltTy.packing .bf16)) ∧
  (∀ (k0_h13 : k0_cond13 k0_t1 arg23_r0 arg24_r0 = 1#1), ∀ a, (k0_off41 arg20_r0) a + S1.size a ≤ S2.size a) ∧
  (∀ (k0_h13 : k0_cond13 k0_t1 arg23_r0 arg24_r0 = 1#1), ∀ a, (k0_off42 arg20_r0) a + S1x1x4096.size a ≤ S2x1x4096.size a) ∧
  (∀ (k0_h13 : k0_cond13 k0_t1 arg23_r0 arg24_r0 = 1#1), ∀ a, (k0_off43 arg23_r0) a + S1x1x4096.size a ≤ S2x1x4096.size a) ∧
  (∀ (k0_h20 : k0_cond20 k0_t1 arg23_r0 arg24_r0 = 1#1), ∀ a, (k0_off52 arg21_r0) a + S1.size a ≤ S2.size a) ∧
  (∀ (k0_h20 : k0_cond20 k0_t1 arg23_r0 arg24_r0 = 1#1), ∀ a, (k0_off53 arg23_r0 arg24_r0) a + S1x256x4096.size a ≤ S2x8192x4096.size a) ∧
  (∀ (k0_h20 : k0_cond20 k0_t1 arg23_r0 arg24_r0 = 1#1), ∀ a, (k0_off54 arg21_r0) a + S1x256x4096.size a ≤ S2x256x4096.size a) ∧
  (∀ (k0_h26 : k0_cond26 k0_t1 arg23_r0 arg24_r0 = 1#1), ∀ a, (k0_off55 arg22_r0) a + S1.size a ≤ S2.size a) ∧
  (∀ (k0_h26 : k0_cond26 k0_t1 arg23_r0 arg24_r0 = 1#1), ∀ a, (k0_off56 arg23_r0 arg24_r0) a + S1x256x4096.size a ≤ S2x8192x4096.size a) ∧
  (∀ (k0_h26 : k0_cond26 k0_t1 arg23_r0 arg24_r0 = 1#1), ∀ a, (k0_off57 arg22_r0) a + S1x256x4096.size a ≤ S2x256x4096.size a)
def k0_chk1 (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) : Prop :=
  k0_chk1_0 k0_t1 arg9_r0 arg10_r0 arg11_r0 arg12_r0 arg14_r0 arg15_r0 arg16_r0 arg17_r0 arg19_r0 arg20_r0 arg21_r0 arg22_r0 arg23_r0 arg24_r0 ∧
  k0_chk1_1 k0_t1 arg9_r0 arg10_r0 arg11_r0 arg12_r0 arg14_r0 arg15_r0 arg16_r0 arg17_r0 arg19_r0 arg20_r0 arg21_r0 arg22_r0 arg23_r0 arg24_r0
theorem k0_off14_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h4 : k0_cond4 k0_t1 arg23_r0 arg24_r0 = 1#1), ∀ a, (k0_off14 arg9_r0) a + S1.size a ≤ S3.size a := fun k0_t1 arg9_r0 arg10_r0 arg11_r0 arg12_r0 arg14_r0 arg15_r0 arg16_r0 arg17_r0 arg19_r0 arg20_r0 arg21_r0 arg22_r0 arg23_r0 arg24_r0 k0_hw1 k0_h4 => k0_hw1.1.1 k0_h4
theorem k0_off15_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h4 : k0_cond4 k0_t1 arg23_r0 arg24_r0 = 1#1), ∀ a, (k0_off15 arg9_r0) a + S1x256x4096.size a ≤ S3x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h4 => k0_hw1.1.2.1 k0_h4
theorem k0_off16_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h4 : k0_cond4 k0_t1 arg23_r0 arg24_r0 = 1#1), ∀ a, (k0_off16 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h4 => k0_hw1.1.2.2.1 k0_h4
theorem k0_off17_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h5 : k0_cond5 k0_t1 arg23_r0 arg24_r0 = 1#1), ∀ a, (k0_off17 arg11_r0) a + S1.size a ≤ S3.size a := fun k0_t1 arg9_r0 arg10_r0 arg11_r0 arg12_r0 arg14_r0 arg15_r0 arg16_r0 arg17_r0 arg19_r0 arg20_r0 arg21_r0 arg22_r0 arg23_r0 arg24_r0 k0_hw1 k0_h5 => k0_hw1.1.2.2.2.1 k0_h5
theorem k0_off18_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h5 : k0_cond5 k0_t1 arg23_r0 arg24_r0 = 1#1), ∀ a, (k0_off18 arg11_r0) a + S1x256x4096.size a ≤ S3x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h5 => k0_hw1.1.2.2.2.2.1 k0_h5
theorem k0_off19_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h5 : k0_cond5 k0_t1 arg23_r0 arg24_r0 = 1#1), ∀ a, (k0_off19 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h5 => k0_hw1.1.2.2.2.2.2.1 k0_h5
theorem k0_off19_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h5 : k0_cond5 k0_t1 arg23_r0 arg24_r0 = 1#1), (Rect.unit (s := S2x8192x4096) (k0_off19 arg23_r0 arg24_r0) S1x256x4096.size (k0_off19_inb k0_t1 arg9_r0 arg10_r0 arg11_r0 arg12_r0 arg14_r0 arg15_r0 arg16_r0 arg17_r0 arg19_r0 arg20_r0 arg21_r0 arg22_r0 arg23_r0 arg24_r0 k0_hw1 k0_h5)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h5 => k0_hw1.1.2.2.2.2.2.2.1 k0_h5 (k0_off19_inb k0_t1 arg9_r0 arg10_r0 arg11_r0 arg12_r0 arg14_r0 arg15_r0 arg16_r0 arg17_r0 arg19_r0 arg20_r0 arg21_r0 arg22_r0 arg23_r0 arg24_r0 k0_hw1 k0_h5)
theorem k0_off18_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h5 : k0_cond5 k0_t1 arg23_r0 arg24_r0 = 1#1), (Rect.unit (s := S3x256x4096) (k0_off18 arg11_r0) S1x256x4096.size (k0_off18_inb k0_t1 arg9_r0 arg10_r0 arg11_r0 arg12_r0 arg14_r0 arg15_r0 arg16_r0 arg17_r0 arg19_r0 arg20_r0 arg21_r0 arg22_r0 arg23_r0 arg24_r0 k0_hw1 k0_h5)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h5 => k0_hw1.1.2.2.2.2.2.2.2.1 k0_h5 (k0_off18_inb k0_t1 arg9_r0 arg10_r0 arg11_r0 arg12_r0 arg14_r0 arg15_r0 arg16_r0 arg17_r0 arg19_r0 arg20_r0 arg21_r0 arg22_r0 arg23_r0 arg24_r0 k0_hw1 k0_h5)
theorem k0_off20_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h6 : k0_cond6 k0_t1 arg23_r0 arg24_r0 = 1#1), ∀ a, (k0_off20 arg14_r0) a + S1.size a ≤ S2.size a := fun k0_t1 arg9_r0 arg10_r0 arg11_r0 arg12_r0 arg14_r0 arg15_r0 arg16_r0 arg17_r0 arg19_r0 arg20_r0 arg21_r0 arg22_r0 arg23_r0 arg24_r0 k0_hw1 k0_h6 => k0_hw1.1.2.2.2.2.2.2.2.2.1 k0_h6
theorem k0_off21_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h6 : k0_cond6 k0_t1 arg23_r0 arg24_r0 = 1#1), ∀ a, (k0_off21 arg14_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h6 => k0_hw1.1.2.2.2.2.2.2.2.2.2.1 k0_h6
theorem k0_off22_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h6 : k0_cond6 k0_t1 arg23_r0 arg24_r0 = 1#1), ∀ a, (k0_off22 arg23_r0 arg24_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h6 => k0_hw1.1.2.2.2.2.2.2.2.2.2.2.1 k0_h6
theorem k0_off23_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h7 : k0_cond7 k0_t1 arg23_r0 arg24_r0 = 1#1), ∀ a, (k0_off23 arg16_r0) a + S1.size a ≤ S3.size a := fun k0_t1 arg9_r0 arg10_r0 arg11_r0 arg12_r0 arg14_r0 arg15_r0 arg16_r0 arg17_r0 arg19_r0 arg20_r0 arg21_r0 arg22_r0 arg23_r0 arg24_r0 k0_hw1 k0_h7 => k0_hw1.1.2.2.2.2.2.2.2.2.2.2.2.1 k0_h7
theorem k0_off24_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h7 : k0_cond7 k0_t1 arg23_r0 arg24_r0 = 1#1), ∀ a, (k0_off24 arg16_r0) a + S1x256x4096.size a ≤ S3x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h7 => k0_hw1.1.2.2.2.2.2.2.2.2.2.2.2.2.1 k0_h7
theorem k0_off25_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h7 : k0_cond7 k0_t1 arg23_r0 arg24_r0 = 1#1), ∀ a, (k0_off25 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h7 => k0_hw1.1.2.2.2.2.2.2.2.2.2.2.2.2.2.1 k0_h7
theorem k0_off25_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h7 : k0_cond7 k0_t1 arg23_r0 arg24_r0 = 1#1), (Rect.unit (s := S2x8192x4096) (k0_off25 arg23_r0 arg24_r0) S1x256x4096.size (k0_off25_inb k0_t1 arg9_r0 arg10_r0 arg11_r0 arg12_r0 arg14_r0 arg15_r0 arg16_r0 arg17_r0 arg19_r0 arg20_r0 arg21_r0 arg22_r0 arg23_r0 arg24_r0 k0_hw1 k0_h7)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h7 => k0_hw1.1.2.2.2.2.2.2.2.2.2.2.2.2.2.2.1 k0_h7 (k0_off25_inb k0_t1 arg9_r0 arg10_r0 arg11_r0 arg12_r0 arg14_r0 arg15_r0 arg16_r0 arg17_r0 arg19_r0 arg20_r0 arg21_r0 arg22_r0 arg23_r0 arg24_r0 k0_hw1 k0_h7)
theorem k0_off24_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h7 : k0_cond7 k0_t1 arg23_r0 arg24_r0 = 1#1), (Rect.unit (s := S3x256x4096) (k0_off24 arg16_r0) S1x256x4096.size (k0_off24_inb k0_t1 arg9_r0 arg10_r0 arg11_r0 arg12_r0 arg14_r0 arg15_r0 arg16_r0 arg17_r0 arg19_r0 arg20_r0 arg21_r0 arg22_r0 arg23_r0 arg24_r0 k0_hw1 k0_h7)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h7 => k0_hw1.1.2.2.2.2.2.2.2.2.2.2.2.2.2.2.2.1 k0_h7 (k0_off24_inb k0_t1 arg9_r0 arg10_r0 arg11_r0 arg12_r0 arg14_r0 arg15_r0 arg16_r0 arg17_r0 arg19_r0 arg20_r0 arg21_r0 arg22_r0 arg23_r0 arg24_r0 k0_hw1 k0_h7)
theorem k0_off26_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h8 : k0_cond8 k0_t1 arg23_r0 arg24_r0 = 1#1), ∀ a, (k0_off26 arg19_r0) a + S1.size a ≤ S2.size a := fun k0_t1 arg9_r0 arg10_r0 arg11_r0 arg12_r0 arg14_r0 arg15_r0 arg16_r0 arg17_r0 arg19_r0 arg20_r0 arg21_r0 arg22_r0 arg23_r0 arg24_r0 k0_hw1 k0_h8 => k0_hw1.1.2.2.2.2.2.2.2.2.2.2.2.2.2.2.2.2.1 k0_h8
theorem k0_off27_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h8 : k0_cond8 k0_t1 arg23_r0 arg24_r0 = 1#1), ∀ a, (k0_off27 arg19_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h8 => k0_hw1.1.2.2.2.2.2.2.2.2.2.2.2.2.2.2.2.2.2.1 k0_h8
theorem k0_off28_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h8 : k0_cond8 k0_t1 arg23_r0 arg24_r0 = 1#1), ∀ a, (k0_off28 arg23_r0 arg24_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h8 => k0_hw1.1.2.2.2.2.2.2.2.2.2.2.2.2.2.2.2.2.2.2.1 k0_h8
theorem k0_off29_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h9 : k0_cond9 k0_t1 arg23_r0 arg24_r0 = 1#1), ∀ a, (k0_off29 arg10_r0) a + S1.size a ≤ S3.size a := fun k0_t1 arg9_r0 arg10_r0 arg11_r0 arg12_r0 arg14_r0 arg15_r0 arg16_r0 arg17_r0 arg19_r0 arg20_r0 arg21_r0 arg22_r0 arg23_r0 arg24_r0 k0_hw1 k0_h9 => k0_hw1.1.2.2.2.2.2.2.2.2.2.2.2.2.2.2.2.2.2.2.2.1 k0_h9
theorem k0_off30_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h9 : k0_cond9 k0_t1 arg23_r0 arg24_r0 = 1#1), ∀ a, (k0_off30 arg10_r0) a + S1x256x4096.size a ≤ S3x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h9 => k0_hw1.1.2.2.2.2.2.2.2.2.2.2.2.2.2.2.2.2.2.2.2.2.1 k0_h9
theorem k0_off31_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h9 : k0_cond9 k0_t1 arg23_r0 arg24_r0 = 1#1), ∀ a, (k0_off31 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h9 => k0_hw1.1.2.2.2.2.2.2.2.2.2.2.2.2.2.2.2.2.2.2.2.2.2.1 k0_h9
theorem k0_off32_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h10 : k0_cond10 k0_t1 arg23_r0 arg24_r0 = 1#1), ∀ a, (k0_off32 arg12_r0) a + S1.size a ≤ S3.size a := fun k0_t1 arg9_r0 arg10_r0 arg11_r0 arg12_r0 arg14_r0 arg15_r0 arg16_r0 arg17_r0 arg19_r0 arg20_r0 arg21_r0 arg22_r0 arg23_r0 arg24_r0 k0_hw1 k0_h10 => k0_hw1.1.2.2.2.2.2.2.2.2.2.2.2.2.2.2.2.2.2.2.2.2.2.2.1 k0_h10
theorem k0_off33_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h10 : k0_cond10 k0_t1 arg23_r0 arg24_r0 = 1#1), ∀ a, (k0_off33 arg12_r0) a + S1x256x4096.size a ≤ S3x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h10 => k0_hw1.1.2.2.2.2.2.2.2.2.2.2.2.2.2.2.2.2.2.2.2.2.2.2.2.1 k0_h10
theorem k0_off34_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h10 : k0_cond10 k0_t1 arg23_r0 arg24_r0 = 1#1), ∀ a, (k0_off34 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h10 => k0_hw1.1.2.2.2.2.2.2.2.2.2.2.2.2.2.2.2.2.2.2.2.2.2.2.2.2.1 k0_h10
theorem k0_off34_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h10 : k0_cond10 k0_t1 arg23_r0 arg24_r0 = 1#1), (Rect.unit (s := S2x8192x4096) (k0_off34 arg23_r0 arg24_r0) S1x256x4096.size (k0_off34_inb k0_t1 arg9_r0 arg10_r0 arg11_r0 arg12_r0 arg14_r0 arg15_r0 arg16_r0 arg17_r0 arg19_r0 arg20_r0 arg21_r0 arg22_r0 arg23_r0 arg24_r0 k0_hw1 k0_h10)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h10 => k0_hw1.1.2.2.2.2.2.2.2.2.2.2.2.2.2.2.2.2.2.2.2.2.2.2.2.2.2.1 k0_h10 (k0_off34_inb k0_t1 arg9_r0 arg10_r0 arg11_r0 arg12_r0 arg14_r0 arg15_r0 arg16_r0 arg17_r0 arg19_r0 arg20_r0 arg21_r0 arg22_r0 arg23_r0 arg24_r0 k0_hw1 k0_h10)
theorem k0_off33_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h10 : k0_cond10 k0_t1 arg23_r0 arg24_r0 = 1#1), (Rect.unit (s := S3x256x4096) (k0_off33 arg12_r0) S1x256x4096.size (k0_off33_inb k0_t1 arg9_r0 arg10_r0 arg11_r0 arg12_r0 arg14_r0 arg15_r0 arg16_r0 arg17_r0 arg19_r0 arg20_r0 arg21_r0 arg22_r0 arg23_r0 arg24_r0 k0_hw1 k0_h10)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h10 => k0_hw1.1.2.2.2.2.2.2.2.2.2.2.2.2.2.2.2.2.2.2.2.2.2.2.2.2.2.2.1 k0_h10 (k0_off33_inb k0_t1 arg9_r0 arg10_r0 arg11_r0 arg12_r0 arg14_r0 arg15_r0 arg16_r0 arg17_r0 arg19_r0 arg20_r0 arg21_r0 arg22_r0 arg23_r0 arg24_r0 k0_hw1 k0_h10)
theorem k0_off35_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h11 : k0_cond11 k0_t1 arg23_r0 arg24_r0 = 1#1), ∀ a, (k0_off35 arg15_r0) a + S1.size a ≤ S2.size a := fun k0_t1 arg9_r0 arg10_r0 arg11_r0 arg12_r0 arg14_r0 arg15_r0 arg16_r0 arg17_r0 arg19_r0 arg20_r0 arg21_r0 arg22_r0 arg23_r0 arg24_r0 k0_hw1 k0_h11 => k0_hw1.1.2.2.2.2.2.2.2.2.2.2.2.2.2.2.2.2.2.2.2.2.2.2.2.2.2.2.2.1 k0_h11
theorem k0_off36_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h11 : k0_cond11 k0_t1 arg23_r0 arg24_r0 = 1#1), ∀ a, (k0_off36 arg15_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h11 => k0_hw1.1.2.2.2.2.2.2.2.2.2.2.2.2.2.2.2.2.2.2.2.2.2.2.2.2.2.2.2.2.1 k0_h11
theorem k0_off37_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h11 : k0_cond11 k0_t1 arg23_r0 arg24_r0 = 1#1), ∀ a, (k0_off37 arg23_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h11 => k0_hw1.1.2.2.2.2.2.2.2.2.2.2.2.2.2.2.2.2.2.2.2.2.2.2.2.2.2.2.2.2.2.1 k0_h11
theorem k0_off38_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h12 : k0_cond12 k0_t1 arg23_r0 arg24_r0 = 1#1), ∀ a, (k0_off38 arg17_r0) a + S1.size a ≤ S3.size a := fun k0_t1 arg9_r0 arg10_r0 arg11_r0 arg12_r0 arg14_r0 arg15_r0 arg16_r0 arg17_r0 arg19_r0 arg20_r0 arg21_r0 arg22_r0 arg23_r0 arg24_r0 k0_hw1 k0_h12 => k0_hw1.1.2.2.2.2.2.2.2.2.2.2.2.2.2.2.2.2.2.2.2.2.2.2.2.2.2.2.2.2.2.2.1 k0_h12
theorem k0_off39_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h12 : k0_cond12 k0_t1 arg23_r0 arg24_r0 = 1#1), ∀ a, (k0_off39 arg17_r0) a + S1x256x4096.size a ≤ S3x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h12 => k0_hw1.1.2.2.2.2.2.2.2.2.2.2.2.2.2.2.2.2.2.2.2.2.2.2.2.2.2.2.2.2.2.2.2 k0_h12
theorem k0_off40_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h12 : k0_cond12 k0_t1 arg23_r0 arg24_r0 = 1#1), ∀ a, (k0_off40 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h12 => k0_hw1.2.1 k0_h12
theorem k0_off40_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h12 : k0_cond12 k0_t1 arg23_r0 arg24_r0 = 1#1), (Rect.unit (s := S2x8192x4096) (k0_off40 arg23_r0 arg24_r0) S1x256x4096.size (k0_off40_inb k0_t1 arg9_r0 arg10_r0 arg11_r0 arg12_r0 arg14_r0 arg15_r0 arg16_r0 arg17_r0 arg19_r0 arg20_r0 arg21_r0 arg22_r0 arg23_r0 arg24_r0 k0_hw1 k0_h12)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h12 => k0_hw1.2.2.1 k0_h12 (k0_off40_inb k0_t1 arg9_r0 arg10_r0 arg11_r0 arg12_r0 arg14_r0 arg15_r0 arg16_r0 arg17_r0 arg19_r0 arg20_r0 arg21_r0 arg22_r0 arg23_r0 arg24_r0 k0_hw1 k0_h12)
theorem k0_off39_wordsbf16 : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h12 : k0_cond12 k0_t1 arg23_r0 arg24_r0 = 1#1), (Rect.unit (s := S3x256x4096) (k0_off39 arg17_r0) S1x256x4096.size (k0_off39_inb k0_t1 arg9_r0 arg10_r0 arg11_r0 arg12_r0 arg14_r0 arg15_r0 arg16_r0 arg17_r0 arg19_r0 arg20_r0 arg21_r0 arg22_r0 arg23_r0 arg24_r0 k0_hw1 k0_h12)).WholeWords (EltTy.packing .bf16) := fun k0_t1 arg9_r0 arg10_r0 arg11_r0 arg12_r0 arg14_r0 arg15_r0 arg16_r0 arg17_r0 arg19_r0 arg20_r0 arg21_r0 arg22_r0 arg23_r0 arg24_r0 k0_hw1 k0_h12 => k0_hw1.2.2.2.1 k0_h12 (k0_off39_inb k0_t1 arg9_r0 arg10_r0 arg11_r0 arg12_r0 arg14_r0 arg15_r0 arg16_r0 arg17_r0 arg19_r0 arg20_r0 arg21_r0 arg22_r0 arg23_r0 arg24_r0 k0_hw1 k0_h12)
theorem k0_off41_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h13 : k0_cond13 k0_t1 arg23_r0 arg24_r0 = 1#1), ∀ a, (k0_off41 arg20_r0) a + S1.size a ≤ S2.size a := fun k0_t1 arg9_r0 arg10_r0 arg11_r0 arg12_r0 arg14_r0 arg15_r0 arg16_r0 arg17_r0 arg19_r0 arg20_r0 arg21_r0 arg22_r0 arg23_r0 arg24_r0 k0_hw1 k0_h13 => k0_hw1.2.2.2.2.1 k0_h13
theorem k0_off42_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h13 : k0_cond13 k0_t1 arg23_r0 arg24_r0 = 1#1), ∀ a, (k0_off42 arg20_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h13 => k0_hw1.2.2.2.2.2.1 k0_h13
theorem k0_off43_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h13 : k0_cond13 k0_t1 arg23_r0 arg24_r0 = 1#1), ∀ a, (k0_off43 arg23_r0) a + S1x1x4096.size a ≤ S2x1x4096.size a := fun k0_t1 arg9_r0 arg10_r0 arg11_r0 arg12_r0 arg14_r0 arg15_r0 arg16_r0 arg17_r0 arg19_r0 arg20_r0 arg21_r0 arg22_r0 arg23_r0 arg24_r0 k0_hw1 k0_h13 => k0_hw1.2.2.2.2.2.2.1 k0_h13
theorem k0_off52_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h20 : k0_cond20 k0_t1 arg23_r0 arg24_r0 = 1#1), ∀ a, (k0_off52 arg21_r0) a + S1.size a ≤ S2.size a := fun k0_t1 arg9_r0 arg10_r0 arg11_r0 arg12_r0 arg14_r0 arg15_r0 arg16_r0 arg17_r0 arg19_r0 arg20_r0 arg21_r0 arg22_r0 arg23_r0 arg24_r0 k0_hw1 k0_h20 => k0_hw1.2.2.2.2.2.2.2.1 k0_h20
theorem k0_off53_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h20 : k0_cond20 k0_t1 arg23_r0 arg24_r0 = 1#1), ∀ a, (k0_off53 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h20 => k0_hw1.2.2.2.2.2.2.2.2.1 k0_h20
theorem k0_off54_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h20 : k0_cond20 k0_t1 arg23_r0 arg24_r0 = 1#1), ∀ a, (k0_off54 arg21_r0) a + S1x256x4096.size a ≤ S2x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h20 => k0_hw1.2.2.2.2.2.2.2.2.2.1 k0_h20
theorem k0_off55_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h26 : k0_cond26 k0_t1 arg23_r0 arg24_r0 = 1#1), ∀ a, (k0_off55 arg22_r0) a + S1.size a ≤ S2.size a := fun k0_t1 arg9_r0 arg10_r0 arg11_r0 arg12_r0 arg14_r0 arg15_r0 arg16_r0 arg17_r0 arg19_r0 arg20_r0 arg21_r0 arg22_r0 arg23_r0 arg24_r0 k0_hw1 k0_h26 => k0_hw1.2.2.2.2.2.2.2.2.2.2.1 k0_h26
theorem k0_off56_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h26 : k0_cond26 k0_t1 arg23_r0 arg24_r0 = 1#1), ∀ a, (k0_off56 arg23_r0 arg24_r0) a + S1x256x4096.size a ≤ S2x8192x4096.size a := fun k0_t1 arg9_r0 arg10_r0 arg11_r0 arg12_r0 arg14_r0 arg15_r0 arg16_r0 arg17_r0 arg19_r0 arg20_r0 arg21_r0 arg22_r0 arg23_r0 arg24_r0 k0_hw1 k0_h26 => k0_hw1.2.2.2.2.2.2.2.2.2.2.2.1 k0_h26
theorem k0_off57_inb : ∀ (k0_t1 : Fin k0_t1_loop.trips) (arg9_r0 : BitVec 32) (arg10_r0 : BitVec 32) (arg11_r0 : BitVec 32) (arg12_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg14_r0 arg15_r0 arg16_r0 arg17_r0 arg19_r0 arg20_r0 arg21_r0 arg22_r0 arg23_r0 arg24_r0), ∀ (k0_h26 : k0_cond26 k0_t1 arg23_r0 arg24_r0 = 1#1), ∀ a, (k0_off57 arg22_r0) a + S1x256x4096.size a ≤ S2x256x4096.size a := fun k0_t1 arg9_r0 arg10_r0 arg11_r0 arg12_r0 arg14_r0 arg15_r0 arg16_r0 arg17_r0 arg19_r0 arg20_r0 arg21_r0 arg22_r0 arg23_r0 arg24_r0 k0_hw1 k0_h26 => k0_hw1.2.2.2.2.2.2.2.2.2.2.2.2 k0_h26

def k0_off58 (v110_13_r0 : BitVec 32) : Fin 1 → Nat :=
  let c2_i32_163_r0 : BitVec 32 := 2#32
  let v161_r0 : BitVec 32 := Scalar.remui v110_13_r0 c2_i32_163_r0
  ![v161_r0.toNat]

def k0_off59 (v110_15_r0 : BitVec 32) (v110_14_r0 : BitVec 32) : Fin 3 → Nat :=
  let true_119_r0 : BitVec 1 := 1#1
  let c1_i32_118_r0 : BitVec 32 := 1#32
  let v111_r0 : BitVec 32 := Scalar.subi v110_15_r0 c1_i32_118_r0
  let v112_r0 : BitVec 32 := Scalar.select true_119_r0 v111_r0 v110_15_r0
  let c_m1_i32_120_r0 : BitVec 32 := 4294967295#32
  let v113_r0 : BitVec 1 := Scalar.cmpi .eq v112_r0 c_m1_i32_120_r0
  let c1_i32_122_r0 : BitVec 32 := 1#32
  let v115_r0 : BitVec 32 := Scalar.subi v110_14_r0 c1_i32_122_r0
  let v116_r0 : BitVec 32 := Scalar.select v113_r0 v115_r0 v110_14_r0
  let c_m1_i32_123_r0 : BitVec 32 := 4294967295#32
  let v117_r0 : BitVec 1 := Scalar.cmpi .eq v116_r0 c_m1_i32_123_r0
  let c1_i32_124_r0 : BitVec 32 := 1#32
  let v118_r0 : BitVec 32 := Scalar.select v117_r0 c1_i32_124_r0 v116_r0
  let c0_i32_125_r0 : BitVec 32 := 0#32
  let v119_r0 : BitVec 32 := Scalar.addi v118_r0 c0_i32_125_r0
  let c256_i32_r0 : BitVec 32 := 256#32
  let c31_i32_121_r0 : BitVec 32 := 31#32
  let v114_r0 : BitVec 32 := Scalar.select v113_r0 c31_i32_121_r0 v112_r0
  let c0_i32_126_r0 : BitVec 32 := 0#32
  let v120_r0 : BitVec 32 := Scalar.addi v114_r0 c0_i32_126_r0
  let v162_r0 : BitVec 32 := Scalar.muli c256_i32_r0 v120_r0
  let c0_i32_164_r0 : BitVec 32 := 0#32
  ![v119_r0.toNat, v162_r0.toNat, 0]

def k0_chk9 (v110_15_r0 : BitVec 32) (v110_14_r0 : BitVec 32) : Prop :=
  (∀ a, (k0_off59 v110_15_r0 v110_14_r0) a + S1x256x4096.size a ≤ S2x8192x4096.size a)
theorem k0_off59_inb : ∀ (v110_15_r0 : BitVec 32) (v110_14_r0 : BitVec 32) (k0_hw9 : k0_chk9 v110_15_r0 v110_14_r0), ∀ a, (k0_off59 v110_15_r0 v110_14_r0) a + S1x256x4096.size a ≤ S2x8192x4096.size a := fun v110_15_r0 v110_14_r0 k0_hw9 => k0_hw9

def k0_off60 (v110_13_r0 : BitVec 32) : Fin 3 → Nat :=
  let c2_i32_163_r0 : BitVec 32 := 2#32
  let v161_r0 : BitVec 32 := Scalar.remui v110_13_r0 c2_i32_163_r0
  let c0_i32_165_r0 : BitVec 32 := 0#32
  let c0_i32_166_r0 : BitVec 32 := 0#32
  ![v161_r0.toNat, 0, 0]

def k0_chk8 (v110_13_r0 : BitVec 32) : Prop :=
  (∀ a, (k0_off58 v110_13_r0) a + S1.size a ≤ S2.size a) ∧
  (∀ a, (k0_off60 v110_13_r0) a + S1x256x4096.size a ≤ S2x256x4096.size a)
theorem k0_off58_inb : ∀ (v110_13_r0 : BitVec 32) (k0_hw8 : k0_chk8 v110_13_r0), ∀ a, (k0_off58 v110_13_r0) a + S1.size a ≤ S2.size a := fun v110_13_r0 k0_hw8 => k0_hw8.1
theorem k0_off60_inb : ∀ (v110_13_r0 : BitVec 32) (k0_hw8 : k0_chk8 v110_13_r0), ∀ a, (k0_off60 v110_13_r0) a + S1x256x4096.size a ≤ S2x256x4096.size a := fun v110_13_r0 k0_hw8 => k0_hw8.2
-- ==== Reference2Ideal.lean ====
abbrev S2x8192x4096 : Shape := ⟨3, ![2, 8192, 4096]⟩
abbrev S1x4096 : Shape := ⟨2, ![1, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S1x4096, .f32⟩
  | .hbm, ⟨3, _⟩ => ⟨S2x1x4096, .f32⟩
  | .hbm, ⟨4, _⟩ => ⟨S2x8192x4096, .bf16⟩
  | .hbm, ⟨5, _⟩ => ⟨S1x4096, .f32⟩
  | .hbm, ⟨6, _⟩ => ⟨S2x1x4096, .f32⟩
  | .hbm, ⟨7, _⟩ => ⟨S2x8192x4096, .f32⟩
  | .hbm, ⟨8, _⟩ => ⟨S2x8192x4096, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x4096, .f32⟩
  | .hbm, ⟨20, _⟩ => ⟨S2x8192x4096, .f32⟩
  | .hbm, ⟨21, _⟩ => ⟨S1x1x4096, .f32⟩
  | .hbm, ⟨22, _⟩ => ⟨S2x8192x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S2x8192x4096, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x4096, .f32⟩
  | .hbm, ⟨40, _⟩ => ⟨S2x8192x4096, .f32⟩
  | .hbm, ⟨41, _⟩ => ⟨S1x1x4096, .f32⟩
  | .hbm, ⟨42, _⟩ => ⟨S2x8192x4096, .f32⟩
  | .hbm, ⟨43, _⟩ => ⟨S2x8192x4096, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel3.lean ====
abbrev S2x8192x4096 : Shape := ⟨3, ![2, 8192, 4096]⟩
abbrev S4096x12352 : Shape := ⟨2, ![4096, 12352]⟩
abbrev S4096x64 : Shape := ⟨2, ![4096, 64]⟩
abbrev S_ : Shape := ⟨0, ![]⟩
abbrev S4096x128 : Shape := ⟨2, ![4096, 128]⟩
abbrev S2x8192x12288 : Shape := ⟨3, ![2, 8192, 12288]⟩
abbrev S2x8192x128 : Shape := ⟨3, ![2, 8192, 128]⟩
abbrev S1x1024x4096 : Shape := ⟨3, ![1, 1024, 4096]⟩
abbrev S4096x768 : Shape := ⟨2, ![4096, 768]⟩
abbrev S1x1024x768 : Shape := ⟨3, ![1, 1024, 768]⟩
abbrev S1x1024x128 : Shape := ⟨3, ![1, 1024, 128]⟩
abbrev S1024x4096 : Shape := ⟨2, ![1024, 4096]⟩
abbrev S1024x128 : Shape := ⟨2, ![1024, 128]⟩
abbrev S1024x768 : Shape := ⟨2, ![1024, 768]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S4096x12352, .f32⟩
  | .hbm, ⟨2, _⟩ => ⟨S4096x64, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S2x8192x4096, .bf16⟩
  | .hbm, ⟨8, _⟩ => ⟨S4096x12352, .bf16⟩
  | .hbm, ⟨9, _⟩ => ⟨S2x8192x12288, .f32⟩
  | .hbm, ⟨10, _⟩ => ⟨S2x8192x128, .f32⟩
  | .local _ .vmem, ⟨0, _⟩ => ⟨S1x1024x4096, .bf16⟩
  | .local _ .vmem, ⟨1, _⟩ => ⟨S1x1024x4096, .bf16⟩
  | .local _ .vmem, ⟨2, _⟩ => ⟨S4096x768, .bf16⟩
  | .local _ .vmem, ⟨3, _⟩ => ⟨S4096x768, .bf16⟩
  | .local _ .vmem, ⟨4, _⟩ => ⟨S4096x128, .bf16⟩
  | .local _ .vmem, ⟨5, _⟩ => ⟨S1x1024x768, .f32⟩
  | .local _ .vmem, ⟨6, _⟩ => ⟨S1x1024x768, .f32⟩
  | .local _ .vmem, ⟨7, _⟩ => ⟨S1x1024x128, .f32⟩
  | .local _ .vmem, ⟨8, _⟩ => ⟨S1x1024x128, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2x8192x4096 : Shape := ⟨3, ![2, 8192, 4096]⟩
abbrev S4096x12352 : Shape := ⟨2, ![4096, 12352]⟩
abbrev S2x8192x12352 : Shape := ⟨3, ![2, 8192, 12352]⟩
abbrev S2x8192x12288 : Shape := ⟨3, ![2, 8192, 12288]⟩
abbrev S2x8192x64 : Shape := ⟨3, ![2, 8192, 64]⟩
abbrev S_ : Shape := ⟨0, ![]⟩
abbrev S2x8192x128 : Shape := ⟨3, ![2, 8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x12352, .f32⟩
  | .hbm, ⟨2, _⟩ => ⟨S2x8192x12352, .f32⟩
  | .hbm, ⟨3, _⟩ => ⟨S2x8192x12288, .f32⟩
  | .hbm, ⟨4, _⟩ => ⟨S2x8192x64, .f32⟩
  | .hbm, ⟨5, _⟩ => ⟨S_, .i32⟩
  | .hbm, ⟨6, _⟩ => ⟨S_, .f32⟩
  | .hbm, ⟨7, _⟩ => ⟨S2x8192x128, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S4096x4096 : Shape := ⟨2, ![4096, 4096]⟩
abbrev S16384x4096 : Shape := ⟨2, ![16384, 4096]⟩
abbrev S1024x2048 : Shape := ⟨2, ![1024, 2048]⟩
abbrev S4096x512 : Shape := ⟨2, ![4096, 512]⟩
abbrev S1024x512 : Shape := ⟨2, ![1024, 512]⟩
abbrev S1024x4096 : Shape := ⟨2, ![1024, 4096]⟩
abbrev S64x2048 : Shape := ⟨2, ![64, 2048]⟩
abbrev S64 : Shape := ⟨1, ![64]⟩
abbrev S64x1 : Shape := ⟨2, ![64, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048, .f32⟩
  | .hbm, ⟨3, _⟩ => ⟨S4096x4096, .f32⟩
  | .hbm, ⟨4, _⟩ => ⟨S4096x4096, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S4096x512, .bf16⟩
  | .local _ .vmem, ⟨6, _⟩ => ⟨S4096x512, .bf16⟩
  | .local _ .vmem, ⟨7, _⟩ => ⟨S1024x512, .bf16⟩
  | .local _ .vmem, ⟨8, _⟩ => ⟨S1024x512, .bf16⟩
  | .local _ .vmem, ⟨9, _⟩ => ⟨S1024x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v10 : BitVec 32 := Scalar.addi c0_i32_8 c16_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg8 : BitVec 32 := Scf.iv c0_i32_8 c1_i32 k0_t1
  let c64_i32 : BitVec 32 := 64#32
  let v15 : BitVec 32 := Scalar.muli arg8 c64_i32
  v15
def k0_off1 (k0_t1 : Fin k0_t1_loop.trips) : Fin 2 → Nat :=
  let c0_i32_8 : BitVec 32 := 0#32
  let c1_i32 : BitVec 32 := 1#32
  let arg8 : BitVec 32 := Scf.iv c0_i32_8 c1_i32 k0_t1
  let c64_i32 : BitVec 32 := 64#32
  let v15 : BitVec 32 := Scalar.muli arg8 c64_i32
  let v16 : BitVec 32 := v15
  let v17 : Index := Scalar.indexCast v16
  let c0_13 : Index := 0#32
  ![v17.toNat, 0]
def k0_off2 (k0_t1 : Fin k0_t1_loop.trips) : Fin 2 → Nat :=
  let c0_i32_8 : BitVec 32 := 0#32
  let c1_i32 : BitVec 32 := 1#32
  let arg8 : BitVec 32 := Scf.iv c0_i32_8 c1_i32 k0_t1
  let c64_i32 : BitVec 32 := 64#32
  let v15 : BitVec 32 := Scalar.muli arg8 c64_i32
  let v16 : BitVec 32 := v15
  let v33 : Index := Scalar.indexCast v16
  let c0_17 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S1x2048 : Shape := ⟨2, ![1, 2048]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048, .f32⟩
  | .hbm, ⟨3, _⟩ => ⟨S4096x4096, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x4096, .f32⟩
  | .hbm, ⟨22, _⟩ => ⟨S16384x4096, .f32⟩
  | .hbm, ⟨23, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S1x512x4096 : Shape := ⟨3, ![1, 512, 4096]⟩
abbrev S4096x12352 : Shape := ⟨2, ![4096, 12352]⟩
abbrev S4096x64 : Shape := ⟨2, ![4096, 64]⟩
abbrev S_ : Shape := ⟨0, ![]⟩
abbrev S4096x128 : Shape := ⟨2, ![4096, 128]⟩
abbrev S1x512x12288 : Shape := ⟨3, ![1, 512, 12288]⟩
abbrev S1x512x128 : Shape := ⟨3, ![1, 512, 128]⟩
abbrev S4096x1536 : Shape := ⟨2, ![4096, 1536]⟩
abbrev S1x512x1536 : Shape := ⟨3, ![1, 512, 1536]⟩
abbrev S512x4096 : Shape := ⟨2, ![512, 4096]⟩
abbrev S512x128 : Shape := ⟨2, ![512, 128]⟩
abbrev S512x1536 : Shape := ⟨2, ![512, 1536]⟩

abbrev nBuf : Space → Nat
  | .hbm => 11
  | .vmem => 7
  | .smem => 0
  | _ => 0

abbrev bufTy : (tb : Table) → Fin (tcTables nBuf tb) → BufTy
  | .hbm, ⟨0, _⟩ => ⟨S1x512x4096, .f32⟩
  | .hbm, ⟨1, _⟩ => ⟨S4096x12352, .f32⟩
  | .hbm, ⟨2, _⟩ => ⟨S4096x64, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S1x512x4096, .bf16⟩
  | .hbm, ⟨8, _⟩ => ⟨S4096x12352, .bf16⟩
  | .hbm, ⟨9, _⟩ => ⟨S1x512x12288, .f32⟩
  | .hbm, ⟨10, _⟩ => ⟨S1x512x128, .f32⟩
  | .local _ .vmem, ⟨0, _⟩ => ⟨S1x512x4096, .bf16⟩
  | .local _ .vmem, ⟨1, _⟩ => ⟨S4096x1536, .bf16⟩
  | .local _ .vmem, ⟨2, _⟩ => ⟨S4096x1536, .bf16⟩
  | .local _ .vmem, ⟨3, _⟩ => ⟨S4096x128, .bf16⟩
  | .local _ .vmem, ⟨4, _⟩ => ⟨S1x512x1536, .f32⟩
  | .local _ .vmem, ⟨5, _⟩ => ⟨S1x512x1536, .f32⟩
  | .local _ .vmem, ⟨6, _⟩ => ⟨S1x512x128, .f32⟩
  | _, _ => ⟨S1x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== Reference5Ideal.lean ====
abbrev S1x512x4096 : Shape := ⟨3, ![1, 512, 4096]⟩
abbrev S4096x12352 : Shape := ⟨2, ![4096, 12352]⟩
abbrev S1x512x12352 : Shape := ⟨3, ![1, 512, 12352]⟩
abbrev S1x512x12288 : Shape := ⟨3, ![1, 512, 12288]⟩
abbrev S1x512x64 : Shape := ⟨3, ![1, 512, 64]⟩
abbrev S_ : Shape := ⟨0, ![]⟩
abbrev S1x512x128 : Shape := ⟨3, ![1, 512, 128]⟩

abbrev nBuf : Space → Nat
  | .hbm => 8
  | .vmem => 0
  | .smem => 0
  | _ => 0

abbrev bufTy : (tb : Table) → Fin (tcTables nBuf tb) → BufTy
  | .hbm, ⟨0, _⟩ => ⟨S1x512x4096, .f32⟩
  | .hbm, ⟨1, _⟩ => ⟨S4096x12352, .f32⟩
  | .hbm, ⟨2, _⟩ => ⟨S1x512x12352, .f32⟩
  | .hbm, ⟨3, _⟩ => ⟨S1x512x12288, .f32⟩
  | .hbm, ⟨4, _⟩ => ⟨S1x512x64, .f32⟩
  | .hbm, ⟨5, _⟩ => ⟨S_, .i32⟩
  | .hbm, ⟨6, _⟩ => ⟨S_, .f32⟩
  | .hbm, ⟨7, _⟩ => ⟨S1x512x128, .f32⟩
  | _, _ => ⟨S1x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S8x4096 : Shape := ⟨2, ![8, 4096]⟩
abbrev S4096x24576 : Shape := ⟨2, ![4096, 24576]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S1x24576, .f32⟩
  | .hbm, ⟨3, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x4096 : Shape := ⟨2, ![8, 4096]⟩
abbrev S4096x24576 : Shape := ⟨2, ![4096, 24576]⟩
abbrev S1x24576 : Shape := ⟨2, ![1, 24576]⟩
abbrev S_ : Shape := ⟨0, ![]⟩
abbrev S8x24576 : Shape := ⟨2, ![8, 24576]⟩

abbrev nBuf : Space → Nat
  | .hbm => 15
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x24576, .f32⟩
  | .hbm, ⟨13, _⟩ => ⟨S8x24576, .f32⟩
  | .hbm, ⟨14, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel7.lean ====
abbrev S2x8192x4096 : Shape := ⟨3, ![2, 8192, 4096]⟩
abbrev S1x4096 : Shape := ⟨2, ![1, 4096]⟩
abbrev S2x1x4096 : Shape := ⟨3, ![2, 1, 4096]⟩
abbrev S1x256x4096 : Shape := ⟨3, ![1, 256, 4096]⟩
abbrev S1x1x4096 : Shape := ⟨3, ![1, 1, 4096]⟩
abbrev S1x16x4096 : Shape := ⟨3, ![1, 16, 4096]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_8 : BitVec 32 := 16#32
  let v9 : BitVec 32 := Scalar.muli arg7 c16_i32_8
  v9
def k0_off1 (k0_t1 : Fin k0_t1_loop.trips) : Fin 3 → Nat :=
  let c0_9 : Index := 0#32
  let c0_i32 : BitVec 32 := 0#32
  let c1_i32 : BitVec 32 := 1#32
  let arg7 : BitVec 32 := Scf.iv c0_i32 c1_i32 k0_t1
  let c16_i32_8 : BitVec 32 := 16#32
  let v9 : BitVec 32 := Scalar.muli arg7 c16_i32_8
  let v10 : BitVec 32 := v9
  let v11 : Index := Scalar.indexCast v10
  let c0_10 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S2x8192x4096 : Shape := ⟨3, ![2, 8192, 4096]⟩
abbrev S1x4096 : Shape := ⟨2, ![1, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | .hbm, ⟨20, _⟩ => ⟨S_, .f32⟩
  | .hbm, ⟨21, _⟩ => ⟨S2x1x4096, .f32⟩
  | .hbm, ⟨22, _⟩ => ⟨S2x1x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel8.lean ====
abbrev S2x256x4096 : Shape := ⟨3, ![2, 256, 4096]⟩
abbrev S1x4096 : Shape := ⟨2, ![1, 4096]⟩
abbrev S1x1x4096 : Shape := ⟨3, ![1, 1, 4096]⟩
abbrev S1x256x4096 : Shape := ⟨3, ![1, 256, 4096]⟩
abbrev S1x16x4096 : Shape := ⟨3, ![1, 16, 4096]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x256x4096, .f32⟩
  | .hbm, ⟨1, _⟩ => ⟨S1x4096, .f32⟩
  | .hbm, ⟨2, _⟩ => ⟨S1x1x4096, .f32⟩
  | .hbm, ⟨3, _⟩ => ⟨S1x1x4096, .f32⟩
  | .hbm, ⟨4, _⟩ => ⟨S2x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x256x4096, .bf16⟩
  | .local _ .vmem, ⟨6, _⟩ => ⟨S1x256x4096, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 1], ![false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_8 : BitVec 32 := 16#32
  let v9 : BitVec 32 := Scalar.muli arg7 c16_i32_8
  v9
def k0_off1 (k0_t1 : Fin k0_t1_loop.trips) : Fin 3 → Nat :=
  let c0_9 : Index := 0#32
  let c0_i32 : BitVec 32 := 0#32
  let c1_i32 : BitVec 32 := 1#32
  let arg7 : BitVec 32 := Scf.iv c0_i32 c1_i32 k0_t1
  let c16_i32_8 : BitVec 32 := 16#32
  let v9 : BitVec 32 := Scalar.muli arg7 c16_i32_8
  let v10 : BitVec 32 := v9
  let v11 : Index := Scalar.indexCast v10
  let c0_10 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x256x4096 : Shape := ⟨3, ![2, 256, 4096]⟩
abbrev S1x4096 : Shape := ⟨2, ![1, 4096]⟩
abbrev S1x1x4096 : Shape := ⟨3, ![1, 1, 4096]⟩
abbrev S_ : Shape := ⟨0, ![]⟩
abbrev S2x256 : Shape := ⟨2, ![2, 256]⟩
abbrev S2x256x1 : Shape := ⟨3, ![2, 256, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S1x4096, .f32⟩
  | .hbm, ⟨2, _⟩ => ⟨S1x1x4096, .f32⟩
  | .hbm, ⟨3, _⟩ => ⟨S1x1x4096, .f32⟩
  | .hbm, ⟨4, _⟩ => ⟨S2x256x4096, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x4096, .f32⟩
  | .hbm, ⟨16, _⟩ => ⟨S2x256x4096, .f32⟩
  | .hbm, ⟨17, _⟩ => ⟨S1x1x4096, .f32⟩
  | .hbm, ⟨18, _⟩ => ⟨S2x256x4096, .f32⟩
  | .hbm, ⟨19, _⟩ => ⟨S2x256x4096, .f32⟩
  | .hbm, ⟨20, _⟩ => ⟨S_, .f32⟩
  | .hbm, ⟨21, _⟩ => ⟨S1x1x4096, .f32⟩
  | .hbm, ⟨22, _⟩ => ⟨S1x1x4096, .f32⟩
  | .hbm, ⟨23, _⟩ => ⟨S2x256x4096, .f32⟩
  | .hbm, ⟨24, _⟩ => ⟨S2x256x4096, .f32⟩
  | .hbm, ⟨25, _⟩ => ⟨S2x256x4096, .f32⟩
  | .hbm, ⟨26, _⟩ => ⟨S2x256x4096, .f32⟩
  | .hbm, ⟨27, _⟩ => ⟨S2x256x4096, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel9.lean ====
abbrev S2x8192x128 : Shape := ⟨3, ![2, 8192, 128]⟩
abbrev S1x8192x128 : Shape := ⟨3, ![1, 8192, 128]⟩
abbrev S1x128x128 : Shape := ⟨3, ![1, 128, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S2x8192x128, .f32⟩
  | .hbm, ⟨1, _⟩ => ⟨S2x8192x128, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  v1
def k0_off1 (k0_t1 : Fin k0_t1_loop.trips) : Fin 3 → Nat :=
  let c0 : Index := 0#32
  let c0_i32 : BitVec 32 := 0#32
  let c1_i32 : BitVec 32 := 1#32
  let arg3 : BitVec 32 := Scf.iv c0_i32 c1_i32 k0_t1
  let v3 : Index := Scalar.indexCast arg3
  let c0_1 : Index := 0#32
  ![0, v3.toNat, 0]
def k0_off2 (k0_t1 : Fin k0_t1_loop.trips) : Fin 3 → Nat :=
  let c0_2 : Index := 0#32
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := v1
  let v6 : Index := Scalar.indexCast v2
  let c0_3 : Index := 0#32
  ![0, v6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S2x8192x128 : Shape := ⟨3, ![2, 8192, 128]⟩
abbrev S2x128x64x128 : Shape := ⟨4, ![2, 128, 64, 128]⟩
abbrev S2x64x128x128 : Shape := ⟨4, ![2, 64, 128, 128]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S2x128x64x128, .f32⟩
  | .hbm, ⟨2, _⟩ => ⟨S2x64x128x128, .f32⟩
  | .hbm, ⟨3, _⟩ => ⟨S2x8192x128, .f32⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel10.lean ====
abbrev S2x8192x2048 : Shape := ⟨3, ![2, 8192, 2048]⟩
abbrev S2x8192x12288 : Shape := ⟨3, ![2, 8192, 12288]⟩
abbrev S1x128 : Shape := ⟨2, ![1, 128]⟩
abbrev S1x8192x128 : Shape := ⟨3, ![1, 8192, 128]⟩
abbrev S9216x128 : Shape := ⟨2, ![9216, 128]⟩
abbrev S1x128x128 : Shape := ⟨3, ![1, 128, 128]⟩
abbrev S128x128 : Shape := ⟨2, ![128, 128]⟩
abbrev S64x128 : Shape := ⟨2, ![64, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2x8192x12288, .f32⟩
  | .hbm, ⟨2, _⟩ => ⟨S1x128, .f32⟩
  | .hbm, ⟨3, _⟩ => ⟨S2x8192x2048, .bf16⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x128, .f32⟩
  | .local _ .vmem, ⟨5, _⟩ => ⟨S1x8192x128, .bf16⟩
  | .local _ .vmem, ⟨6, _⟩ => ⟨S1x8192x128, .bf16⟩
  | .local _ .vmem, ⟨7, _⟩ => ⟨S9216x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  v3
def k0_off1 (k0_t1 : Fin k0_t1_loop.trips) : Fin 3 → Nat :=
  let c0_5 : Index := 0#32
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  let v4 : BitVec 32 := v3
  let v5 : Index := Scalar.indexCast v4
  let c0_6 : Index := 0#32
  ![0, v5.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let v8 : Index := Scalar.indexCast arg7
  let c0_7 : Index := 0#32
  ![v8.toNat, 0]
@[reducible] def k0_t2_loop : Scf.Loop 32 :=
  let c0_i32_2 : BitVec 32 := 0#32
  let c16_i32 : BitVec 32 := 16#32
  let v2 : BitVec 32 := Scalar.addi c0_i32_2 c16_i32
  let c1_i32_3 : BitVec 32 := 1#32
  ⟨c0_i32_2, v2, c1_i32_3⟩
def k0_mult2 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32 : BitVec 32 := 8#32
  let v3 : BitVec 32 := Scalar.muli arg7 c8_i32
  let c0_i32_5 : BitVec 32 := 0#32
  let v4 : BitVec 32 := Scalar.addi v3 c0_i32_5
  let c72_i32 : BitVec 32 := 72#32
  let v5 : BitVec 32 := Scalar.muli v4 c72_i32
  v5
def k0_off3 (k0_t2 : Fin k0_t2_loop.trips) (c0_i32_5 : BitVec 32) : Fin 2 → Nat :=
  let c0_i32_2 : BitVec 32 := 0#32
  let c1_i32_3 : BitVec 32 := 1#32
  let arg7 : BitVec 32 := Scf.iv c0_i32_2 c1_i32_3 k0_t2
  let c8_i32 : BitVec 32 := 8#32
  let v3 : BitVec 32 := Scalar.muli arg7 c8_i32
  let v4 : BitVec 32 := Scalar.addi v3 c0_i32_5
  let c72_i32 : BitVec 32 := 72#32
  let v5 : BitVec 32 := Scalar.muli v4 c72_i32
  let v6 : BitVec 32 := v5
  let v7 : Index := Scalar.indexCast v6
  let c0_6 : Index := 0#32
  ![v7.toNat, 0]
def k0_mult3 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_7 : BitVec 32 := 8#32
  let v9 : BitVec 32 := Scalar.muli arg7 c8_i32_7
  let c1_i32_8 : BitVec 32 := 1#32
  let v10 : BitVec 32 := Scalar.addi v9 c1_i32_8
  let c72_i32_9 : BitVec 32 := 72#32
  let v11 : BitVec 32 := Scalar.muli v10 c72_i32_9
  v11
def k0_mult4 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_11 : BitVec 32 := 8#32
  let v15 : BitVec 32 := Scalar.muli arg7 c8_i32_11
  let c2_i32 : BitVec 32 := 2#32
  let v16 : BitVec 32 := Scalar.addi v15 c2_i32
  let c72_i32_12 : BitVec 32 := 72#32
  let v17 : BitVec 32 := Scalar.muli v16 c72_i32_12
  v17
def k0_mult5 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_14 : BitVec 32 := 8#32
  let v21 : BitVec 32 := Scalar.muli arg7 c8_i32_14
  let c3_i32 : BitVec 32 := 3#32
  let v22 : BitVec 32 := Scalar.addi v21 c3_i32
  let c72_i32_15 : BitVec 32 := 72#32
  let v23 : BitVec 32 := Scalar.muli v22 c72_i32_15
  v23
def k0_mult6 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_17 : BitVec 32 := 8#32
  let v27 : BitVec 32 := Scalar.muli arg7 c8_i32_17
  let c4_i32 : BitVec 32 := 4#32
  let v28 : BitVec 32 := Scalar.addi v27 c4_i32
  let c72_i32_18 : BitVec 32 := 72#32
  let v29 : BitVec 32 := Scalar.muli v28 c72_i32_18
  v29
def k0_mult7 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_20 : BitVec 32 := 8#32
  let v33 : BitVec 32 := Scalar.muli arg7 c8_i32_20
  let c5_i32 : BitVec 32 := 5#32
  let v34 : BitVec 32 := Scalar.addi v33 c5_i32
  let c72_i32_21 : BitVec 32 := 72#32
  let v35 : BitVec 32 := Scalar.muli v34 c72_i32_21
  v35
def k0_mult8 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_23 : BitVec 32 := 8#32
  let v39 : BitVec 32 := Scalar.muli arg7 c8_i32_23
  let c6_i32 : BitVec 32 := 6#32
  let v40 : BitVec 32 := Scalar.addi v39 c6_i32
  let c72_i32_24 : BitVec 32 := 72#32
  let v41 : BitVec 32 := Scalar.muli v40 c72_i32_24
  v41
def k0_mult9 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_26 : BitVec 32 := 8#32
  let v45 : BitVec 32 := Scalar.muli arg7 c8_i32_26
  let c7_i32 : BitVec 32 := 7#32
  let v46 : BitVec 32 := Scalar.addi v45 c7_i32
  let c72_i32_27 : BitVec 32 := 72#32
  let v47 : BitVec 32 := Scalar.muli v46 c72_i32_27
  v47
def k0_mult10 (k0_t2 : Fin k0_t2_loop.trips) : BitVec 32 :=
  let c0_i32_2 : BitVec 32 := 0#32
  let c1_i32_3 : BitVec 32 := 1#32
  let arg7 : BitVec 32 := Scf.iv c0_i32_2 c1_i32_3 k0_t2
  let c8_i32_29 : BitVec 32 := 8#32
  let v52 : BitVec 32 := Scalar.muli arg7 c8_i32_29
  let c64_i32_30 : BitVec 32 := 64#32
  let v53 : BitVec 32 := Scalar.muli v52 c64_i32_30
  v53
def k0_off4 (k0_t2 : Fin k0_t2_loop.trips) : Fin 3 → Nat :=
  let c0_33 : Index := 0#32
  let c0_i32_2 : BitVec 32 := 0#32
  let c1_i32_3 : BitVec 32 := 1#32
  let arg7 : BitVec 32 := Scf.iv c0_i32_2 c1_i32_3 k0_t2
  let c8_i32_29 : BitVec 32 := 8#32
  let v52 : BitVec 32 := Scalar.muli arg7 c8_i32_29
  let c64_i32_30 : BitVec 32 := 64#32
  let v53 : BitVec 32 := Scalar.muli v52 c64_i32_30
  let v54 : BitVec 32 := v53
  let v67 : Index := Scalar.indexCast v54
  let c0_34 : Index := 0#32
  ![0, v67.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x8192x2048 : Shape := ⟨3, ![2, 8192, 2048]⟩
abbrev S2x8192x12288 : Shape := ⟨3, ![2, 8192, 12288]⟩
abbrev S1x128 : Shape := ⟨2, ![1, 128]⟩
abbrev S2x64x128x2048 : Shape := ⟨4, ![2, 64, 128, 2048]⟩
abbrev S2x128x64x2048 : Shape := ⟨4, ![2, 128, 64, 2048]⟩
abbrev S2x8192x16x128 : Shape := ⟨4, ![2, 8192, 16, 128]⟩
abbrev S_ : Shape := ⟨0, ![]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x12288, .f32⟩
  | .hbm, ⟨2, _⟩ => ⟨S1x128, .f32⟩
  | .hbm, ⟨3, _⟩ => ⟨S2x64x128x2048, .f32⟩
  | .hbm, ⟨4, _⟩ => ⟨S2x128x64x2048, .f32⟩
  | .hbm, ⟨5, _⟩ => ⟨S2x8192x2048, .f32⟩
  | .hbm, ⟨6, _⟩ => ⟨S2x8192x16x128, .f32⟩
  | .hbm, ⟨7, _⟩ => ⟨S2x8192x2048, .f32⟩
  | .hbm, ⟨8, _⟩ => ⟨S2x8192x16x128, .f32⟩
  | .hbm, ⟨9, _⟩ => ⟨S2x8192x16x128, .f32⟩
  | .hbm, ⟨10, _⟩ => ⟨S_, .f32⟩
  | .hbm, ⟨11, _⟩ => ⟨S2x8192x16, .f32⟩
  | .hbm, ⟨12, _⟩ => ⟨S2x8192x16x1, .f32⟩
  | .hbm, ⟨13, _⟩ => ⟨S_, .f32⟩
  | .hbm, ⟨14, _⟩ => ⟨S2x8192x16x1, .f32⟩
  | .hbm, ⟨15, _⟩ => ⟨S2x8192x16x1, .f32⟩
  | .hbm, ⟨16, _⟩ => ⟨S_, .f32⟩
  | .hbm, ⟨17, _⟩ => ⟨S2x8192x16x1, .f32⟩
  | .hbm, ⟨18, _⟩ => ⟨S2x8192x16x1, .f32⟩
  | .hbm, ⟨19, _⟩ => ⟨S2x8192x16x1, .f32⟩
  | .hbm, ⟨20, _⟩ => ⟨S2x8192x16x128, .f32⟩
  | .hbm, ⟨21, _⟩ => ⟨S2x8192x16x128, .f32⟩
  | .hbm, ⟨22, _⟩ => ⟨S1x1x1x128, .f32⟩
  | .hbm, ⟨23, _⟩ => ⟨S2x8192x16x128, .f32⟩
  | .hbm, ⟨24, _⟩ => ⟨S2x8192x16x128, .f32⟩
  | .hbm, ⟨25, _⟩ => ⟨S2x8192x16x128, .f32⟩
  | .hbm, ⟨26, _⟩ => ⟨S2x8192x16x128, .f32⟩
  | .hbm, ⟨27, _⟩ => ⟨S_, .f32⟩
  | .hbm, ⟨28, _⟩ => ⟨S2x8192x16x128, .f32⟩
  | .hbm, ⟨29, _⟩ => ⟨S2x8192x16x128, .f32⟩
  | .hbm, ⟨30, _⟩ => ⟨S_, .f32⟩
  | .hbm, ⟨31, _⟩ => ⟨S2x8192x16x128, .f32⟩
  | .hbm, ⟨32, _⟩ => ⟨S2x8192x16x128, .f32⟩
  | .hbm, ⟨33, _⟩ => ⟨S2x8192x16x128, .f32⟩
  | .hbm, ⟨34, _⟩ => ⟨S2x8192x16x128, .f32⟩
  | .hbm, ⟨35, _⟩ => ⟨S2x8192x2048, .f32⟩
  | .hbm, ⟨36, _⟩ => ⟨S2x8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel11.lean ====
abbrev S2x256x12288 : Shape := ⟨3, ![2, 256, 12288]⟩
abbrev S4x6144 : Shape := ⟨2, ![4, 6144]⟩
abbrev S2x256x6144 : Shape := ⟨3, ![2, 256, 6144]⟩
abbrev S1x256x128 : Shape := ⟨3, ![1, 256, 128]⟩
abbrev S4x128 : Shape := ⟨2, ![4, 128]⟩
abbrev S272x128 : Shape := ⟨2, ![272, 128]⟩
abbrev S256x128 : Shape := ⟨2, ![256, 128]⟩
abbrev S8x128 : Shape := ⟨2, ![8, 128]⟩
abbrev S1x128 : Shape := ⟨2, ![1, 128]⟩
abbrev S256 : Shape := ⟨1, ![256]⟩
abbrev S256x1 : Shape := ⟨2, ![256, 1]⟩

abbrev nBuf : Space → Nat
  | .hbm => 3
  | .vmem => 8
  | .smem => 0
  | _ => 0

abbrev bufTy : (tb : Table) → Fin (tcTables nBuf tb) → BufTy
  | .hbm, ⟨0, _⟩ => ⟨S2x256x12288, .f32⟩
  | .hbm, ⟨1, _⟩ => ⟨S4x6144, .f32⟩
  | .hbm, ⟨2, _⟩ => ⟨S2x256x6144, .bf16⟩
  | .local _ .vmem, ⟨0, _⟩ => ⟨S1x256x128, .f32⟩
  | .local _ .vmem, ⟨1, _⟩ => ⟨S1x256x128, .f32⟩
  | .local _ .vmem, ⟨2, _⟩ => ⟨S4x128, .f32⟩
  | .local _ .vmem, ⟨3, _⟩ => ⟨S4x128, .f32⟩
  | .local _ .vmem, ⟨4, _⟩ => ⟨S1x256x128, .bf16⟩
  | .local _ .vmem, ⟨5, _⟩ => ⟨S1x256x128, .bf16⟩
  | .local _ .vmem, ⟨6, _⟩ => ⟨S272x128, .f32⟩
  | .local _ .vmem, ⟨7, _⟩ => ⟨S256x128, .f32⟩
  | _, _ => ⟨S2x256x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 48], ![false, false]⟩

def k0_mult1 : BitVec 32 :=
  let c0_i32 : BitVec 32 := 0#32
  let c256_i32 : BitVec 32 := 256#32
  let v7 : BitVec 32 := Scalar.muli c0_i32 c256_i32
  v7
def k0_off1 : Fin 3 → Nat :=
  let c0_2 : Index := 0#32
  let c0_i32 : BitVec 32 := 0#32
  let c256_i32 : BitVec 32 := 256#32
  let v7 : BitVec 32 := Scalar.muli c0_i32 c256_i32
  let v8 : BitVec 32 := v7
  let v9 : Index := Scalar.indexCast v8
  let c0_3 : Index := 0#32
  ![0, v9.toNat, 0]
def k0_mult2 : BitVec 32 :=
  let c8_i32 : BitVec 32 := 8#32
  let c0_i32 : BitVec 32 := 0#32
  let c256_i32_4 : BitVec 32 := 256#32
  let v12 : BitVec 32 := Scalar.muli c0_i32 c256_i32_4
  let v13 : BitVec 32 := Scalar.addi c8_i32 v12
  v13
def k0_off2 : Fin 2 → Nat :=
  let c8_i32 : BitVec 32 := 8#32
  let c0_i32 : BitVec 32 := 0#32
  let c256_i32_4 : BitVec 32 := 256#32
  let v12 : BitVec 32 := Scalar.muli c0_i32 c256_i32_4
  let v13 : BitVec 32 := Scalar.addi c8_i32 v12
  let v14 : BitVec 32 := v13
  let v15 : Index := Scalar.indexCast v14
  let c0_5 : Index := 0#32
  ![v15.toNat, 0]
def k0_mult3 : BitVec 32 :=
  let c0_i32_6 : BitVec 32 := 0#32
  let c256_i32_7 : BitVec 32 := 256#32
  let v19 : BitVec 32 := Scalar.muli c0_i32_6 c256_i32_7
  v19
def k0_off3 (c6_i32 : BitVec 32) : Fin 2 → Nat :=
  let c0_i32_6 : BitVec 32 := 0#32
  let c256_i32_7 : BitVec 32 := 256#32
  let v19 : BitVec 32 := Scalar.muli c0_i32_6 c256_i32_7
  let v20 : BitVec 32 := v19
  let v22 : BitVec 32 := Scalar.addi v20 c6_i32
  let v23 : Index := Scalar.indexCast v22
  let c0_10 : Index := 0#32
  ![v23.toNat, 0]
def k0_off4 : Fin 2 → Nat :=
  let c0_i32_6 : BitVec 32 := 0#32
  let c256_i32_7 : BitVec 32 := 256#32
  let v19 : BitVec 32 := Scalar.muli c0_i32_6 c256_i32_7
  let v20 : BitVec 32 := v19
  let v48 : Index := Scalar.indexCast v20
  let c0_18 : Index := 0#32
  ![v48.toNat, 0]
def k0_cond1 (i : grid0.Coords) : BitVec 1 :=
  let arg1 : BitVec 32 := BitVec.ofNat 32 (i 1).val
  let c16_i32 : BitVec 32 := 16#32
  let v52 : BitVec 1 := Scalar.cmpi .slt arg1 c16_i32
  let v53 : BitVec 32 := Scalar.extui v52
  let c0_i32_20 : BitVec 32 := 0#32
  let v54 : BitVec 1 := Scalar.cmpi .ne v53 c0_i32_20
  v54

def k0_mult4 : BitVec 32 :=
  let c0_i32_25 : BitVec 32 := 0#32
  let c256_i32_26 : BitVec 32 := 256#32
  let v63 : BitVec 32 := Scalar.muli c0_i32_25 c256_i32_26
  v63
def k0_off5 : Fin 2 → Nat :=
  let c0_i32_25 : BitVec 32 := 0#32
  let c256_i32_26 : BitVec 32 := 256#32
  let v63 : BitVec 32 := Scalar.muli c0_i32_25 c256_i32_26
  let v64 : BitVec 32 := v63
  let v65 : Index := Scalar.indexCast v64
  let c0_27 : Index := 0#32
  ![v65.toNat, 0]
def k0_off6 : Fin 3 → Nat :=
  let c0_33 : Index := 0#32
  let c0_i32_25 : BitVec 32 := 0#32
  let c256_i32_26 : BitVec 32 := 256#32
  let v63 : BitVec 32 := Scalar.muli c0_i32_25 c256_i32_26
  let v64 : BitVec 32 := v63
  let v84 : Index := Scalar.indexCast v64
  let c0_34 : Index := 0#32
  ![0, v84.toNat, 0]
def k0_cond2 (i : grid0.Coords) : BitVec 1 :=
  let arg1 : BitVec 32 := BitVec.ofNat 32 (i 1).val
  let c16_i32_21 : BitVec 32 := 16#32
  let v55 : BitVec 1 := Scalar.cmpi .sge arg1 c16_i32_21
  let c32_i32 : BitVec 32 := 32#32
  let v56 : BitVec 1 := Scalar.cmpi .slt arg1 c32_i32
  let v57 : BitVec 1 := Scalar.andi v55 v56
  let v58 : BitVec 32 := Scalar.extui v57
  let c0_i32_22 : BitVec 32 := 0#32
  let v59 : BitVec 1 := Scalar.cmpi .ne v58 c0_i32_22
  v59

def k0_mult5 : BitVec 32 :=
  let c0_i32_25 : BitVec 32 := 0#32
  let c256_i32_26 : BitVec 32 := 256#32
  let v63 : BitVec 32 := Scalar.muli c0_i32_25 c256_i32_26
  v63
def k0_off7 : Fin 2 → Nat :=
  let c0_i32_25 : BitVec 32 := 0#32
  let c256_i32_26 : BitVec 32 := 256#32
  let v63 : BitVec 32 := Scalar.muli c0_i32_25 c256_i32_26
  let v64 : BitVec 32 := v63
  let v65 : Index := Scalar.indexCast v64
  let c0_27 : Index := 0#32
  ![v65.toNat, 0]
def k0_off8 : Fin 3 → Nat :=
  let c0_33 : Index := 0#32
  let c0_i32_25 : BitVec 32 := 0#32
  let c256_i32_26 : BitVec 32 := 256#32
  let v63 : BitVec 32 := Scalar.muli c0_i32_25 c256_i32_26
  let v64 : BitVec 32 := v63
  let v84 : Index := Scalar.indexCast v64
  let c0_34 : Index := 0#32
  ![0, v84.toNat, 0]
def k0_cond3 (i : grid0.Coords) : BitVec 1 :=
  let arg1 : BitVec 32 := BitVec.ofNat 32 (i 1).val
  let c32_i32_23 : BitVec 32 := 32#32
  let v60 : BitVec 1 := Scalar.cmpi .sge arg1 c32_i32_23
  let v61 : BitVec 32 := Scalar.extui v60
  let c0_i32_24 : BitVec 32 := 0#32
  let v62 : BitVec 1 := Scalar.cmpi .ne v61 c0_i32_24
  v62

def k0_mult6 : BitVec 32 :=
  let c0_i32_25 : BitVec 32 := 0#32
  let c256_i32_26 : BitVec 32 := 256#32
  let v63 : BitVec 32 := Scalar.muli c0_i32_25 c256_i32_26
  v63
def k0_off9 : Fin 2 → Nat :=
  let c0_i32_25 : BitVec 32 := 0#32
  let c256_i32_26 : BitVec 32 := 256#32
  let v63 : BitVec 32 := Scalar.muli c0_i32_25 c256_i32_26
  let v64 : BitVec 32 := v63
  let v65 : Index := Scalar.indexCast v64
  let c0_27 : Index := 0#32
  ![v65.toNat, 0]
def k0_off10 : Fin 3 → Nat :=
  let c0_30 : Index := 0#32
  let c0_i32_25 : BitVec 32 := 0#32
  let c256_i32_26 : BitVec 32 := 256#32
  let v63 : BitVec 32 := Scalar.muli c0_i32_25 c256_i32_26
  let v64 : BitVec 32 := v63
  let v74 : Index := Scalar.indexCast v64
  let c0_31 : Index := 0#32
  ![0, v74.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2x256x12288 : Shape := ⟨3, ![2, 256, 12288]⟩
abbrev S4x6144 : Shape := ⟨2, ![4, 6144]⟩
abbrev S2x256x6144 : Shape := ⟨3, ![2, 256, 6144]⟩
abbrev S_ : Shape := ⟨0, ![]⟩
abbrev S2x259x6144 : Shape := ⟨3, ![2, 259, 6144]⟩
abbrev S1x6144 : Shape := ⟨2, ![1, 6144]⟩
abbrev S6144 : Shape := ⟨1, ![6144]⟩
abbrev S1x1x6144 : Shape := ⟨3, ![1, 1, 6144]⟩
abbrev S2x256x2048 : Shape := ⟨3, ![2, 256, 2048]⟩
abbrev S2x256x16x128 : Shape := ⟨4, ![2, 256, 16, 128]⟩
abbrev S2x256x16 : Shape := ⟨3, ![2, 256, 16]⟩
abbrev S2x256x16x1 : Shape := ⟨4, ![2, 256, 16, 1]⟩

abbrev nBuf : Space → Nat
  | .hbm => 76
  | .vmem => 0
  | .smem => 0
  | _ => 0

abbrev bufTy : (tb : Table) → Fin (tcTables nBuf tb) → BufTy
  | .hbm, ⟨0, _⟩ => ⟨S2x256x12288, .f32⟩
  | .hbm, ⟨1, _⟩ => ⟨S4x6144, .f32⟩
  | .hbm, ⟨2, _⟩ => ⟨S2x256x6144, .f32⟩
  | .hbm, ⟨3, _⟩ => ⟨S_, .i32⟩
  | .hbm, ⟨4, _⟩ => ⟨S_, .f32⟩
  | .hbm, ⟨5, _⟩ => ⟨S2x259x6144, .f32⟩
  | .hbm, ⟨6, _⟩ => ⟨S2x256x6144, .f32⟩
  | .hbm, ⟨7, _⟩ => ⟨S1x6144, .f32⟩
  | .hbm, ⟨8, _⟩ => ⟨S6144, .f32⟩
  | .hbm, ⟨9, _⟩ => ⟨S1x1x6144, .f32⟩
  | .hbm, ⟨10, _⟩ => ⟨S2x256x6144, .f32⟩
  | .hbm, ⟨11, _⟩ => ⟨S2x256x6144, .f32⟩
  | .hbm, ⟨12, _⟩ => ⟨S2x256x6144, .f32⟩
  | .hbm, ⟨13, _⟩ => ⟨S1x6144, .f32⟩
  | .hbm, ⟨14, _⟩ => ⟨S6144, .f32⟩
  | .hbm, ⟨15, _⟩ => ⟨S1x1x6144, .f32⟩
  | .hbm, ⟨16, _⟩ => ⟨S2x256x6144, .f32⟩
  | .hbm, ⟨17, _⟩ => ⟨S2x256x6144, .f32⟩
  | .hbm, ⟨18, _⟩ => ⟨S2x256x6144, .f32⟩
  | .hbm, ⟨19, _⟩ => ⟨S2x256x6144, .f32⟩
  | .hbm, ⟨20, _⟩ => ⟨S1x6144, .f32⟩
  | .hbm, ⟨21, _⟩ => ⟨S6144, .f32⟩
  | .hbm, ⟨22, _⟩ => ⟨S1x1x6144, .f32⟩
  | .hbm, ⟨23, _⟩ => ⟨S2x256x6144, .f32⟩
  | .hbm, ⟨24, _⟩ => ⟨S2x256x6144, .f32⟩
  | .hbm, ⟨25, _⟩ => ⟨S2x256x6144, .f32⟩
  | .hbm, ⟨26, _⟩ => ⟨S2x256x6144, .f32⟩
  | .hbm, ⟨27, _⟩ => ⟨S1x6144, .f32⟩
  | .hbm, ⟨28, _⟩ => ⟨S6144, .f32⟩
  | .hbm, ⟨29, _⟩ => ⟨S1x1x6144, .f32⟩
  | .hbm, ⟨30, _⟩ => ⟨S2x256x6144, .f32⟩
  | .hbm, ⟨31, _⟩ => ⟨S2x256x6144, .f32⟩
  | .hbm, ⟨32, _⟩ => ⟨S2x256x6144, .f32⟩
  | .hbm, ⟨33, _⟩ => ⟨S2x256x6144, .f32⟩
  | .hbm, ⟨34, _⟩ => ⟨S2x256x6144, .f32⟩
  | .hbm, ⟨35, _⟩ => ⟨S_, .f32⟩
  | .hbm, ⟨36, _⟩ => ⟨S2x256x6144, .f32⟩
  | .hbm, ⟨37, _⟩ => ⟨S2x256x6144, .f32⟩
  | .hbm, ⟨38, _⟩ => ⟨S_, .f32⟩
  | .hbm, ⟨39, _⟩ => ⟨S2x256x6144, .f32⟩
  | .hbm, ⟨40, _⟩ => ⟨S2x256x6144, .f32⟩
  | .hbm, ⟨41, _⟩ => ⟨S2x256x6144, .f32⟩
  | .hbm, ⟨42, _⟩ => ⟨S2x256x2048, .f32⟩
  | .hbm, ⟨43, _⟩ => ⟨S2x256x2048, .f32⟩
  | .hbm, ⟨44, _⟩ => ⟨S2x256x2048, .f32⟩
  | .hbm, ⟨45, _⟩ => ⟨S2x256x16x128, .f32⟩
  | .hbm, ⟨46, _⟩ => ⟨S2x256x16x128, .f32⟩
  | .hbm, ⟨47, _⟩ => ⟨S_, .f32⟩
  | .hbm, ⟨48, _⟩ => ⟨S2x256x16, .f32⟩
  | .hbm, ⟨49, _⟩ => ⟨S2x256x16x1, .f32⟩
  | .hbm, ⟨50, _⟩ => ⟨S_, .f32⟩
  | .hbm, ⟨51, _⟩ => ⟨S2x256x16x1, .f32⟩
  | .hbm, ⟨52, _⟩ => ⟨S2x256x16x1, .f32⟩
  | .hbm, ⟨53, _⟩ => ⟨S2x256x16x1, .f32⟩
  | .hbm, ⟨54, _⟩ => ⟨S2x256x16x128, .f32⟩
  | .hbm, ⟨55, _⟩ => ⟨S2x256x16x128, .f32⟩
  | .hbm, ⟨56, _⟩ => ⟨S2x256x16x128, .f32⟩
  | .hbm, ⟨57, _⟩ => ⟨S2x256x16x128, .f32⟩
  | .hbm, ⟨58, _⟩ => ⟨S_, .f32⟩
  | .hbm, ⟨59, _⟩ => ⟨S2x256x16, .f32⟩
  | .hbm, ⟨60, _⟩ => ⟨S2x256x16x1, .f32⟩
  | .hbm, ⟨61, _⟩ => ⟨S_, .f32⟩
  | .hbm, ⟨62, _⟩ => ⟨S2x256x16x1, .f32⟩
  | .hbm, ⟨63, _⟩ => ⟨S2x256x16x1, .f32⟩
  | .hbm, ⟨64, _⟩ => ⟨S2x256x16x1, .f32⟩
  | .hbm, ⟨65, _⟩ => ⟨S2x256x16x128, .f32⟩
  | .hbm, ⟨66, _⟩ => ⟨S2x256x16x128, .f32⟩
  | .hbm, ⟨67, _⟩ => ⟨S2x256x16x128, .f32⟩
  | .hbm, ⟨68, _⟩ => ⟨S_, .f32⟩
  | .hbm, ⟨69, _⟩ => ⟨S2x256x16x128, .f32⟩
  | .hbm, ⟨70, _⟩ => ⟨S2x256x16x128, .f32⟩
  | .hbm, ⟨71, _⟩ => ⟨S2x256x2048, .f32⟩
  | .hbm, ⟨72, _⟩ => ⟨S2x256x2048, .f32⟩
  | .hbm, ⟨73, _⟩ => ⟨S2x256x2048, .f32⟩
  | .hbm, ⟨74, _⟩ => ⟨S2x256x6144, .f32⟩
  | .hbm, ⟨75, _⟩ => ⟨S2x256x6144, .bf16⟩
  | _, _ => ⟨S2x256x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_cst_0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_1 : Ref sig .tc := ⟨.hbm, 58, rfl⟩
abbrev main_v44 : Ref sig .tc := ⟨.hbm, 59, rfl⟩
abbrev main_v45 : Ref sig .tc := ⟨.hbm, 60, rfl⟩
abbrev main_cst_2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Proof.Ffn.Pay.lean ====
/-
  The feed-forward kernel's payloads AT AN INDEX, at the ideal instance (floats are extended reals): one grid point adds,
  to the accumulator block, the block product of the masked activation with the down-projection's tile.
-/
module

public import proofs.«01_k».proof.Proof.Gen.KernelIdeal.Skeleton
public import Idealize.ShloMosaic.Lib.Pointwise

@[expose] public section

set_option maxRecDepth 16384

noncomputable section

namespace Cert.KernelIdeal.Ffn

open Cert.KernelIdeal Cert.KernelIdeal.Gen Idealize.ShloMosaic
open scoped BigOperators

/-- The gated activation of two pre-activations: `g · (1 / (1 + exp (−g))) · u` over the extended reals. -/
def gated (g u : EReal) : EReal := g * Ideal.div 1 (1 + Ideal.exp (-g)) * u

/-- The first column of a tile that counts, as the program's words compute it: 256 in the last tile, else 0. -/
def firstCol (f : ℕ) : ℕ := if f = 21 then 256 else 0

/-- The program's column test on words, for a tile number below 22 and a column below 512. -/
theorem mask_word (f : Fin 22) (k : Fin 512) (a b : EReal) :
    Scalar.select (IntOp.cmpi CmpIPredicate.sge (BitVec.ofNat 32 k.val)
      (Scalar.select (Scalar.cmpi CmpIPredicate.eq (BitVec.ofNat 32 f.val) 21#32) 256#32 0#32)) a b
      = if firstCol f.val ≤ k.val then a else b := by
  have hk := k.isLt
  have hw : IntOp.cmpi CmpIPredicate.sge (BitVec.ofNat 32 k.val)
      (Scalar.select (Scalar.cmpi CmpIPredicate.eq (BitVec.ofNat 32 f.val) 21#32) 256#32 0#32)
      = if firstCol f.val ≤ k.val then 1#1 else 0#1 := by
    revert f k; decide +kernel
  rw [hw]
  by_cases h : firstCol f.val ≤ k.val
  · rw [if_pos h, if_pos h]; rfl
  · rw [if_neg h, if_neg h]; rfl

/-- One point's payload at an index: the accumulator plus the sum, over the tile's 512 hidden columns that count, of the
    gated activation times the down-projection's entry. -/
theorem pay4_apply (i : grid0.Coords) (h : Vec Ideal S512x4096 .bf16) (wg wu : Vec Ideal S4096x512 .bf16)
    (acc : Vec Ideal S512x4096 .f32) (wd : Vec Ideal S512x4096 .bf16) (r : Fin 512) (l : Fin 4096) :
    k0_pay4 i h wg wu acc wd (ix2 r l) = acc (ix2 r l) + ∑ k : Fin 512,
      if firstCol (i 1).val ≤ k.val then
        gated (∑ e : Fin 4096, h (ix2 r e) * wg (ix2 e k)) (∑ e : Fin 4096, h (ix2 r e) * wu (ix2 e k)) * wd (ix2 k l)
      else 0 := by
  pointwise [k0_pay4]
  refine congrArg _ (Finset.sum_congr rfl fun k _ => ?_)
  refine (mask_word (i 1) k _ _).trans ?_
  simp only [gated, zero_sub]

/-- The reset's block is zero at every index. -/
theorem pay3_apply (j : S512x4096.Idx) : k0_pay3 (F := Ideal) j = 0 := by
  pointwise [k0_pay3]

/-- Writing the accumulator back in the scratch changes nothing. -/
theorem pay1_eq {F : FTy → Type} [FloatOps F] (v : FVec F S512x4096 .f32) : k0_pay1 v = v := by
  unfold k0_pay1; exact shapeCast_self _ _

/-- The result's block is the accumulator's, entry by entry: a change of format is the identity here. -/
theorem pay2_apply (v : Vec Ideal S512x4096 .f32) (j : S512x4096.Idx) : k0_pay2 v j = v j := by
  pointwise [k0_pay2]

end Cert.KernelIdeal.Ffn

end
-- ==== Proof.Ffn.Blocks.lean ====
/-
  The feed-forward kernel's input blocks AT AN INDEX, as entries of the arguments: the activations' block is 512 rows;
  the three weight tiles are 512 hidden columns (or rows) from the start `start f`, which the last tile pulls back so
  that it ends with the array.
-/
module

public import proofs.«01_k».proof.Proof.Ffn.Pay
public import proofs.«01_k».proof.Proof.Gen.KernelIdeal.Frame
public import Idealize.ShloMosaic.Lib.StableHlo.ReadAt

@[expose] public section

set_option maxRecDepth 16384

noncomputable section

namespace Cert.KernelIdeal.Ffn

open Cert.KernelIdeal Cert.KernelIdeal.Gen Idealize.ShloMosaic Idealize.ShloMosaic.TcCoe Idealize.SL.Sem
open scoped BigOperators

variable (m : (ℓ : Loc nD τ sig) → Buf (Elt Ideal) ℓ)

/-- Where tile `f` of the hidden dimension starts: `512 f`, and 10496 = 11008 − 512 for the last. -/
def start (f : ℕ) : ℕ := min (512 * f) 10496

theorem start_le (f : ℕ) : start f + 512 ≤ 11008 := by unfold start; omega

/-- The grid's coordinates at point `t`: row block `t / 22`, tile `t % 22`; -/
theorem coords_val : ∀ t : Fin cfg0.N, (grid0.coords t 0).val = t.val / 22 ∧ (grid0.coords t 1).val = t.val % 22 :=
  (by decide +kernel : ∀ t : Fin grid0.N, _)

/-- and the windows' offsets there. -/
theorem index_val : ∀ t : Fin cfg0.N, cc0_transform_0 (grid0.coords t) = ![t.val / 22, 0]
    ∧ cc0_transform_1 (grid0.coords t) = ![0, start (t.val % 22)]
    ∧ cc0_transform_2 (grid0.coords t) = ![0, start (t.val % 22)]
    ∧ cc0_transform_3 (grid0.coords t) = ![start (t.val % 22), 0] :=
  (by decide +kernel : ∀ t : Fin grid0.N, _)

/-- At the region's entry the four staged arrays hold the arguments (a change of format is the identity here). -/
theorem V_v0 (c : Dev nD) (j : S16384x4096.Idx) : V m c main_v0 j = m ((c : Thread nD τ).loc main_arg0) j := by
  unfold V; after_reads_at
theorem V_v1 (c : Dev nD) (j : S4096x11008.Idx) : V m c main_v1 j = m ((c : Thread nD τ).loc main_arg1) j := by
  unfold V; after_reads_at
theorem V_v2 (c : Dev nD) (j : S4096x11008.Idx) : V m c main_v2 j = m ((c : Thread nD τ).loc main_arg2) j := by
  unfold V; after_reads_at
theorem V_v3 (c : Dev nD) (j : S11008x4096.Idx) : V m c main_v3 j = m ((c : Thread nD τ).loc main_arg3) j := by
  unfold V; after_reads_at

/-- The activations' block at point `t`: rows `512 (t / 22) + r` of the argument. -/
theorem iblk0_apply (c : Dev nD) (t : Fin cfg0.N) (r : Fin 512) (e : Fin 4096) :
    (iblk m c 0 t : Vec Ideal S512x4096 .bf16) (ix2 r e)
      = m ((c : Thread nD τ).loc main_arg0) (ix2 ⟨512 * (t.val / 22) + r.val, by have := lt_of_lt_of_eq t.isLt (show cfg0.N = 704 from N_0); omega⟩ e) := by
  rw [← V_v0 m c]
  unfold iblk
  rw [View.read_apply]
  show V m c main_v0 _ = V m c main_v0 _
  congr 1
  funext a
  apply Fin.ext
  have h := (index_val t).1
  match a with
  | ⟨0, _⟩ => show cc0_transform_0 (grid0.coords t) 0 * 512 + 1 * r.val = 512 * (t.val / 22) + r.val
              rw [h]; show t.val / 22 * 512 + 1 * r.val = _; omega
  | ⟨1, _⟩ => show cc0_transform_0 (grid0.coords t) 1 * 4096 + 1 * e.val = e.val
              rw [h]; show 0 * 4096 + 1 * e.val = _; omega

/-- The gate projection's tile at point `t`: columns `start (t % 22) + k`. -/
theorem iblk1_apply (c : Dev nD) (t : Fin cfg0.N) (e : Fin 4096) (k : Fin 512) :
    (iblk m c 1 t : Vec Ideal S4096x512 .bf16) (ix2 e k)
      = m ((c : Thread nD τ).loc main_arg1) (ix2 e ⟨start (t.val % 22) + k.val, by have := start_le (t.val % 22); omega⟩) := by
  rw [← V_v1 m c]
  unfold iblk
  rw [View.read_apply]
  show V m c main_v1 _ = V m c main_v1 _
  congr 1
  funext a
  apply Fin.ext
  have h := (index_val t).2.1
  match a with
  | ⟨0, _⟩ => show cc0_transform_1 (grid0.coords t) 0 + 1 * e.val = e.val
              rw [h]; show 0 + 1 * e.val = _; omega
  | ⟨1, _⟩ => show cc0_transform_1 (grid0.coords t) 1 + 1 * k.val = start (t.val % 22) + k.val
              rw [h]; show start (t.val % 22) + 1 * k.val = _; omega

/-- The up projection's tile at point `t`: columns `start (t % 22) + k`. -/
theorem iblk2_apply (c : Dev nD) (t : Fin cfg0.N) (e : Fin 4096) (k : Fin 512) :
    (iblk m c 2 t : Vec Ideal S4096x512 .bf16) (ix2 e k)
      = m ((c : Thread nD τ).loc main_arg2) (ix2 e ⟨start (t.val % 22) + k.val, by have := start_le (t.val % 22); omega⟩) := by
  rw [← V_v2 m c]
  unfold iblk
  rw [View.read_apply]
  show V m c main_v2 _ = V m c main_v2 _
  congr 1
  funext a
  apply Fin.ext
  have h := (index_val t).2.2.1
  match a with
  | ⟨0, _⟩ => show cc0_transform_2 (grid0.coords t) 0 + 1 * e.val = e.val
              rw [h]; show 0 + 1 * e.val = _; omega
  | ⟨1, _⟩ => show cc0_transform_2 (grid0.coords t) 1 + 1 * k.val = start (t.val % 22) + k.val
              rw [h]; show start (t.val % 22) + 1 * k.val = _; omega

/-- The down projection's tile at point `t`: rows `start (t % 22) + k`. -/
theorem iblk3_apply (c : Dev nD) (t : Fin cfg0.N) (k : Fin 512) (l : Fin 4096) :
    (iblk m c 3 t : Vec Ideal S512x4096 .bf16) (ix2 k l)
      = m ((c : Thread nD τ).loc main_arg3) (ix2 ⟨start (t.val % 22) + k.val, by have := start_le (t.val % 22); omega⟩ l) := by
  rw [← V_v3 m c]
  unfold iblk
  rw [View.read_apply]
  show V m c main_v3 _ = V m c main_v3 _
  congr 1
  funext a
  apply Fin.ext
  have h := (index_val t).2.2.2
  match a with
  | ⟨0, _⟩ => show cc0_transform_3 (grid0.coords t) 0 + 1 * k.val = start (t.val % 22) + k.val
              rw [h]; show start (t.val % 22) + 1 * k.val = _; omega
  | ⟨1, _⟩ => show cc0_transform_3 (grid0.coords t) 1 + 1 * l.val = l.val
              rw [h]; show 0 + 1 * l.val = _; omega

end Cert.KernelIdeal.Ffn

end
-- ==== Proof.Ffn.Fold.lean ====
/-
  What the feed-forward kernel's accumulator and result block hold after each grid point: the case each point runs, read
  as a value, and the running sum over the tiles of a row block.
-/
module

public import proofs.«01_k».proof.Proof.Ffn.Blocks

@[expose] public section

set_option maxRecDepth 16384

noncomputable section

namespace Cert.KernelIdeal.Ffn

open Cert.KernelIdeal Cert.KernelIdeal.Gen Idealize.ShloMosaic Idealize.ShloMosaic.TcCoe Idealize.SL.Sem
open scoped BigOperators

section Cases
variable {F : FTy → Type} [FloatOps F]

theorem zero2 : (![0, 0] : Fin 2 → Nat) = fun _ => 0 := funext fun a => by fin_cases a <;> rfl

variable (c : Dev nD) (i : grid0.Coords) (a2 : Memref sig .tc .vmem S512x4096 .bf16) (h2 : a2.IsWhole)
  (a3 : Memref sig .tc .vmem S4096x512 .bf16) (h3 : a3.IsWhole) (a4 : Memref sig .tc .vmem S4096x512 .bf16) (h4 : a4.IsWhole)
  (a5 : Memref sig .tc .vmem S512x4096 .bf16) (h5 : a5.IsWhole) (a6 : Memref sig .tc .vmem S512x4096 .bf16) (h6 : a6.IsWhole)
  (a7 : Memref sig .tc .vmem S512x4096 .f32) (h7 : a7.IsWhole)
  (x0 : Vec F S512x4096 .bf16) (x1 x2 : Vec F S4096x512 .bf16) (x3 : Vec F S512x4096 .bf16) (acc : Vec F S512x4096 .f32)

/-- A first tile leaves in the accumulator its payload over the zero block. -/
theorem acc_A (hc0 : cond0_0 i) (hc1 : ¬cond0_1 i) :
    sout0_A_0 c i a2 h2 a3 h3 a4 h4 a5 h5 a6 h6 a7 h7 hc0 hc1 x0 x1 x2 x3 = k0_pay4 i x0 x1 x2 k0_pay3 x3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x4096) zero2, View.readCov_unit_zero (S := S512x4096) _ zero2, pay1_eq]
  simp only [View.readAt_eq_ld, h2.read_unread, h3.read_unread, h4.read_unread, h5.read_unread,
    View.ld_unit_zero (S := S512x4096) zero2, View.ld_unit_zero (S := S4096x512) zero2]

/-- A middle tile leaves its payload over what the accumulator held. -/
theorem acc_B (hc0 : ¬cond0_0 i) (hc1 : ¬cond0_1 i) :
    sout0_B_0 c i a2 h2 a3 h3 a4 h4 a5 h5 a6 h6 a7 h7 hc0 hc1 x0 x1 x2 x3 acc = k0_pay4 i x0 x1 x2 acc x3 := by
  unfold sout0_B_0
  rw [View.read_writes_eq_canon _ _ _ (scover0_B_0 c i a2 h2 a3 h3 a4 h4 a5 h5 a6 h6 a7 h7 hc0 hc1 x0 x1 x2 x3 acc)]
  unfold kernelRun0_B
  dsimp only
  sl_unfold_words
  rw [View.canon_unit_zero (S := S512x4096) zero2, pay1_eq]
  simp only [View.readAt_eq_ld, h2.read_unread, h3.read_unread, h4.read_unread, h5.read_unread, h7.read_unread,
    View.ld_unit_zero (S := S512x4096) zero2, View.ld_unit_zero (S := S4096x512) zero2]

/-- So does the last tile; -/
theorem acc_C (hc0 : ¬cond0_0 i) (hc1 : cond0_1 i) :
    sout0_C_0 c i a2 h2 a3 h3 a4 h4 a5 h5 a6 h6 a7 h7 hc0 hc1 x0 x1 x2 x3 acc = k0_pay4 i x0 x1 x2 acc x3 := by
  unfold sout0_C_0
  rw [View.read_writes_eq_canon _ _ _ (scover0_C_0 c i a2 h2 a3 h3 a4 h4 a5 h5 a6 h6 a7 h7 hc0 hc1 x0 x1 x2 x3 acc)]
  unfold kernelRun0_C
  dsimp only
  sl_unfold_words
  rw [View.canon_unit_zero (S := S512x4096) zero2, pay1_eq]
  simp only [View.readAt_eq_ld, h2.read_unread, h3.read_unread, h4.read_unread, h5.read_unread, h7.read_unread,
    View.ld_unit_zero (S := S512x4096) zero2, View.ld_unit_zero (S := S4096x512) zero2]

/-- and it leaves that accumulator, narrowed, in the result's block. -/
theorem out_C (hc0 : ¬cond0_0 i) (hc1 : cond0_1 i) :
    out0_C_4 c i a2 h2 a3 h3 a4 h4 a5 h5 a6 h6 a7 h7 hc0 hc1 x0 x1 x2 x3 acc = k0_pay2 (k0_pay4 i x0 x1 x2 acc x3) := by
  unfold out0_C_4
  rw [View.read_writes_eq_canon _ _ _ (cover0_C_4 c i a2 h2 a3 h3 a4 h4 a5 h5 a6 h6 a7 h7 hc0 hc1 x0 x1 x2 x3 acc)]
  unfold kernelRun0_C
  dsimp only
  sl_unfold_words
  rw [View.canon_unit_zero (S := S512x4096) zero2, View.readCov_unit_zero (S := S512x4096) _ zero2, pay1_eq]
  simp only [View.readAt_eq_ld, h2.read_unread, h3.read_unread, h4.read_unread, h5.read_unread, h7.read_unread,
    View.ld_unit_zero (S := S512x4096) zero2, View.ld_unit_zero (S := S4096x512) zero2]

end Cases

/-! ## The running sum -/

variable (m : (ℓ : Loc nD τ sig) → Buf (Elt Ideal) ℓ)

/-- One term of a row's feed-forward sum: hidden column `q`'s gated activation times the down projection's entry. -/
def term (h : S16384x4096.Idx → EReal) (wg wu : S4096x11008.Idx → EReal) (wd : S11008x4096.Idx → EReal)
    (R : Fin 16384) (l : Fin 4096) (q : Fin 11008) : EReal :=
  gated (∑ e : Fin 4096, h (ix2 R e) * wg (ix2 e q)) (∑ e : Fin 4096, h (ix2 R e) * wu (ix2 e q)) * wd (ix2 q l)

/-- A tile's share of a sum over the hidden dimension: its columns that count. -/
def tileSum (g : Fin 11008 → EReal) (f : ℕ) : EReal :=
  ∑ k : Fin 512, if firstCol f ≤ k.val then g ⟨start f + k.val, by have := start_le f; omega⟩ else 0

/-- The kernel's arguments' terms on a device. -/
abbrev termAt (c : Dev nD) (R : Fin 16384) (l : Fin 4096) : Fin 11008 → EReal :=
  term (m ((c : Thread nD τ).loc main_arg0)) (m ((c : Thread nD τ).loc main_arg1)) (m ((c : Thread nD τ).loc main_arg2))
    (m ((c : Thread nD τ).loc main_arg3)) R l

/-- Row `r` of the row block that point `t` works on. -/
def rowAt (n : ℕ) (hn : n < cfg0.N) (r : Fin 512) : Fin 16384 :=
  ⟨512 * (n / 22) + r.val, by have := lt_of_lt_of_eq hn (show cfg0.N = 704 from N_0); omega⟩

/-- A point's payload over any accumulator adds its tile's share. -/
theorem pay_at (c : Dev nD) (t : Fin cfg0.N) (acc : Vec Ideal S512x4096 .f32) (r : Fin 512) (l : Fin 4096) :
    k0_pay4 (grid0.coords t) (iblk m c 0 t : Vec Ideal S512x4096 .bf16) (iblk m c 1 t : Vec Ideal S4096x512 .bf16)
        (iblk m c 2 t : Vec Ideal S4096x512 .bf16) acc (iblk m c 3 t : Vec Ideal S512x4096 .bf16) (ix2 r l)
      = acc (ix2 r l) + tileSum (termAt m c (rowAt t.val t.isLt r) l) (t.val % 22) := by
  rw [pay4_apply, (coords_val t).2]
  refine congrArg _ (Finset.sum_congr rfl fun k _ => ?_)
  simp only [iblk0_apply, iblk1_apply, iblk2_apply, iblk3_apply]
  rfl

/-- After point `n` the accumulator holds, at every index, the sum of the shares of its row block's tiles so far. -/
theorem acc_eq (c : Dev nD) (r : Fin 512) (l : Fin 4096) : ∀ (n : ℕ) (hn : n < cfg0.N),
    (outsAt0 m c n hn).2 (ix2 r l) = ∑ f ∈ Finset.range (n % 22 + 1), tileSum (termAt m c (rowAt n hn r) l) f := by
  intro n
  induction n with
  | zero =>
    intro hn
    rw [outsAt0_A m c ⟨0, hn⟩ (Nat.zero_mod _) (by simp)]
    dsimp only
    rw [acc_A, pay_at m c ⟨0, hn⟩, pay3_apply, zero_add]
    simp
  | succ n ih =>
    intro hn
    by_cases h0 : (n + 1) % 22 = 0
    · rw [outsAt0_A m c ⟨n + 1, hn⟩ h0 (by dsimp only; omega)]
      dsimp only
      rw [acc_A, pay_at m c ⟨n + 1, hn⟩, pay3_apply, zero_add]
      dsimp only
      rw [h0]; simp
    · have hrow : rowAt n (Nat.lt_of_succ_lt hn) r = rowAt (n + 1) hn r := Fin.ext (by
        show 512 * (n / 22) + r.val = 512 * ((n + 1) / 22) + r.val
        rw [show (n + 1) / 22 = n / 22 from by omega])
      have hmod : (n + 1) % 22 = n % 22 + 1 := by omega
      have key : ∀ a : Vec Ideal S512x4096 .f32, a (ix2 r l) = (outsAt0 m c n (Nat.lt_of_succ_lt hn)).2 (ix2 r l) →
          a (ix2 r l) + tileSum (termAt m c (rowAt (n + 1) hn r) l) ((n + 1) % 22)
            = ∑ f ∈ Finset.range ((n + 1) % 22 + 1), tileSum (termAt m c (rowAt (n + 1) hn r) l) f := by
        intro a ha
        rw [ha, ih (Nat.lt_of_succ_lt hn), hrow, hmod, Finset.sum_range_succ _ (n % 22 + 1)]
      by_cases h1 : (n + 1) % 22 = 21
      · rw [outsAt0_C m c ⟨n + 1, hn⟩ h0 h1]
        dsimp only
        rw [acc_C, pay_at m c ⟨n + 1, hn⟩]
        exact key _ rfl
      · rw [outsAt0_B m c ⟨n + 1, hn⟩ h0 h1]
        dsimp only
        rw [acc_B, pay_at m c ⟨n + 1, hn⟩]
        exact key _ rfl

/-- At a row block's last tile the result's block holds what the accumulator does. -/
theorem out_eq (c : Dev nD) (t : Fin cfg0.N) (h1 : t.val % 22 = 21) (r : Fin 512) (l : Fin 4096) :
    (outsAt0 m c t.val t.isLt).1 (ix2 r l) = ∑ f ∈ Finset.range 22, tileSum (termAt m c (rowAt t.val t.isLt r) l) f := by
  have h0 : ¬t.val % 22 = 0 := by omega
  have e : (outsAt0 m c t.val t.isLt).1 (ix2 r l) = (outsAt0 m c t.val t.isLt).2 (ix2 r l) := by
    rw [outsAt0_C m c t h0 h1]
    dsimp only
    rw [out_C, acc_C, pay2_apply]
  rw [e, acc_eq, h1]

end Cert.KernelIdeal.Ffn

end
-- ==== Proof.Ffn.Tiles.lean ====
/-
  The tiles' shares add up to the whole sum: 21 tiles of 512 hidden columns and the last tile's final 256 are the 11008
  hidden columns, each once.
-/
module

public import proofs.«01_k».proof.Proof.Ffn.Fold

@[expose] public section

noncomputable section

namespace Cert.KernelIdeal.Ffn

open scoped BigOperators

/-- Blocks of 512 consecutive terms add up to the terms themselves. -/
theorem sum_blocks (G : ℕ → EReal) (n : ℕ) :
    ∑ f ∈ Finset.range n, ∑ k ∈ Finset.range 512, G (512 * f + k) = ∑ q ∈ Finset.range (512 * n), G q := by
  induction n with
  | zero => simp
  | succ n ih => rw [Finset.sum_range_succ, ih, show 512 * (n + 1) = 512 * n + 512 from by ring, Finset.sum_range_add]

/-- The shares of the 22 tiles are the sum over the 11008 hidden columns. -/
theorem sum_tiles (g : Fin 11008 → EReal) : ∑ f ∈ Finset.range 22, tileSum g f = ∑ q : Fin 11008, g q := by
  let G : ℕ → EReal := fun q => if h : q < 11008 then g ⟨q, h⟩ else 0
  have hG : ∀ (q : ℕ) (h : q < 11008), g ⟨q, h⟩ = G q := fun q h => by simp only [G, dif_pos h]
  have ht : ∀ f, tileSum g f = ∑ k ∈ Finset.range 512, if firstCol f ≤ k then G (start f + k) else 0 := fun f => by
    rw [← Fin.sum_univ_eq_sum_range (fun k => if firstCol f ≤ k then G (start f + k) else 0) 512]
    exact Finset.sum_congr rfl fun k _ => by rw [hG]
  have hlt : ∀ f ∈ Finset.range 21, tileSum g f = ∑ k ∈ Finset.range 512, G (512 * f + k) := fun f hf => by
    have hf' := Finset.mem_range.mp hf
    rw [ht]
    refine Finset.sum_congr rfl fun k _ => ?_
    rw [show firstCol f = 0 from if_neg (by omega), show start f = 512 * f from by unfold start; omega, if_pos (Nat.zero_le _)]
  have hlast : tileSum g 21 = ∑ k ∈ Finset.range 256, G (512 * 21 + k) := by
    rw [ht]
    refine (Finset.sum_range_add _ 256 256).trans ?_
    rw [Finset.sum_eq_zero (s := Finset.range 256) fun k hk => if_neg (by
      have := Finset.mem_range.mp hk; show ¬256 ≤ k; omega), zero_add]
    refine Finset.sum_congr rfl fun k _ => ?_
    rw [if_pos (show firstCol 21 ≤ 256 + k from Nat.le_add_right 256 k)]
    congr 1
    show 10496 + (256 + k) = _
    omega
  rw [Finset.sum_range_succ, Finset.sum_congr rfl hlt, sum_blocks, hlast, ← Finset.sum_range_add, ← Fin.sum_univ_eq_sum_range G]
  exact Finset.sum_congr rfl fun q _ => (hG q.val q.isLt).symm

end Cert.KernelIdeal.Ffn

end
-- ==== Proof.Ffn.Result.lean ====
/-
  The feed-forward kernel's run, read: its result array holds at every index the whole sum over the hidden dimension, and
  the arguments are unchanged.
-/
module

public import proofs.«01_k».proof.Proof.Ffn.Tiles
public import Idealize.ShloMosaic.Lib.Pipeline.Value

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The feed-forward layer of a row: the sum over the hidden dimension of gated activation times down projection. -/
def ffn (h : S16384x4096.Idx → EReal) (wg wu : S4096x11008.Idx → EReal) (wd : S11008x4096.Idx → EReal) :
    S16384x4096.Idx → EReal := fun i => ∑ q : Fin 11008, term h wg wu wd (i 0) (i 1) q

/-- The result array's contents. -/
def result (c : Dev nD) : Buf (Elt Ideal) ((c : Thread nD τ).loc main_v4) :=
  ffn (m ((c : Thread nD τ).loc main_arg0)) (m ((c : Thread nD τ).loc main_arg1)) (m ((c : Thread nD τ).loc main_arg2))
    (m ((c : Thread nD τ).loc main_arg3))

/-- The result's block at point `t` is row block `t / 22`. -/
theorem outIndex_val : ∀ t : Fin cfg0.N, cc0_transform_4 (grid0.coords t) = ![t.val / 22, 0] :=
  (by decide +kernel : ∀ t : Fin grid0.N, _)

/-- What a row block's last point writes back is that block of `result`. -/
theorem flushed_eq (c : Dev nD) (t : Fin cfg0.N) (hf : (cfg0.win 4).flush t = true) :
    (dats m 0 c).flushed 4 t = ((cfg0.win 4).blk t).view.read (Elt Ideal) (result m c) := by
  have h1 : t.val % 22 = 21 := (flush0_4 t).mp hf
  show (cfg0.win 4).cut (grid0.coords t) ((dats m 0 c).after 4 t) = _
  rw [after0_4]
  funext y
  rw [View.read_apply]
  have ha : (cfg0.win 4).xinj (grid0.coords t) y = ix2 (y 0) (y 1) := by
    funext a; apply Fin.ext
    match a with
    | ⟨0, _⟩ => rfl
    | ⟨1, _⟩ => rfl
  have hb : ((cfg0.win 4).blk t).view.emb y = ix2 (rowAt t.val t.isLt (y 0)) (y 1) := by
    funext a; apply Fin.ext
    match a with
    | ⟨0, _⟩ => show cc0_transform_4 (grid0.coords t) 0 * 512 + 1 * (y 0).val = 512 * (t.val / 22) + (y 0).val
                rw [outIndex_val t]; show t.val / 22 * 512 + 1 * (y 0).val = _; omega
    | ⟨1, _⟩ => show cc0_transform_4 (grid0.coords t) 1 * 4096 + 1 * (y 1).val = (y 1).val
                rw [outIndex_val t]; show 0 * 4096 + 1 * (y 1).val = _; omega
  show (outsAt0 m c t.val t.isLt).1 ((cfg0.win 4).xinj (grid0.coords t) y) = result m c (((cfg0.win 4).blk t).view.emb y)
  rw [ha, hb]
  refine (out_eq m c t h1 (y 0) (y 1)).trans ?_
  rw [sum_tiles]
  rfl

/-- After the run the result array holds `result`: the row blocks' last points cover it. -/
theorem final_eq (c : Dev nD) : (dats m 0 c).arrAt 4 cfg0.N = result m c :=
  (dats m 0 c).arrAt_eq_of_cover 4 _ (flushed_eq m c) fun i => by
    have h0 : (i 0).val < 16384 := (i 0).isLt
    have h1 : (i 1).val < 4096 := (i 1).isLt
    let t : Fin cfg0.N := ⟨22 * ((i 0).val / 512) + 21, by rw [show cfg0.N = 704 from N_0]; omega⟩
    have ht : t.val / 22 = (i 0).val / 512 := by show (22 * ((i 0).val / 512) + 21) / 22 = _; omega
    refine ⟨t, (flush0_4 t).mpr (by show (22 * ((i 0).val / 512) + 21) % 22 = 21; omega), ?_⟩
    show i ∈ ((View.whole main_v4).slice (win0_4.rect t)).set
    rw [View.set_slice_whole, Rect.mem_set_unit]
    intro a
    match a with
    | ⟨0, _⟩ => show cc0_transform_4 (grid0.coords t) 0 * 512 ≤ (i 0).val ∧ (i 0).val < cc0_transform_4 (grid0.coords t) 0 * 512 + 512
                rw [outIndex_val t]; show t.val / 22 * 512 ≤ (i 0).val ∧ (i 0).val < t.val / 22 * 512 + 512
                rw [ht]; omega
    | ⟨1, _⟩ => show cc0_transform_4 (grid0.coords t) 1 * 4096 ≤ (i 1).val ∧ (i 1).val < cc0_transform_4 (grid0.coords t) 1 * 4096 + 4096
                rw [outIndex_val t]; show 0 * 4096 ≤ (i 1).val ∧ (i 1).val < 0 * 4096 + 4096; omega

/-- The run: the result array ends at `result`, the arguments as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Ffn

end
-- ==== Proof.Ffn.Equation.lean ====
/-
  The feed-forward layer's equation: what the reference's operations compose to is, at every index, the sum over the
  hidden dimension that the kernel's result array holds; so the two programs end with equal results.
-/
module

public import proofs.«01_k».proof.Defs
public import proofs.«01_k».proof.Proof.Ffn.Result
public import proofs.«01_k».proof.Proof.Gen.ReferenceIdeal.Run

@[expose] public section

set_option maxRecDepth 16384

noncomputable section

namespace Cert.ReferenceIdeal.Ffn

open Cert.ReferenceIdeal Cert.ReferenceIdeal.Gen Idealize.ShloMosaic Idealize.ShloMosaic.TcCoe Idealize.SL.Sem
open scoped BigOperators

/-- The composed term of the reference's operations, at the ideal instance, at an index. -/
theorem reference_apply (h : FVec Ideal S16384x4096 .f32) (wg wu : FVec Ideal S4096x11008 .f32) (wd : FVec Ideal S11008x4096 .f32)
    (i : S16384x4096.Idx) :
    (truncf .bf16 (Host.dotGeneral (F := Ideal) dot_S16384x11008_S11008x4096_S16384x4096_1_0_0_1_n_n none
      (mulf (mulf (Host.dotGeneral dot_S16384x4096_S4096x11008_S16384x11008_1_0_0_1_n_n none h wg)
        (Host.divf (broadcastInDim S16384x11008 ![] bcast_S_S16384x11008 (constant S_ .f32 0x3F800000#32))
          (addf (broadcastInDim S16384x11008 ![] bcast_S_S16384x11008 (constant S_ .f32 0x3F800000#32))
            (Host.exp (Host.negf (Host.dotGeneral dot_S16384x4096_S4096x11008_S16384x11008_1_0_0_1_n_n none h wg))))))
        (Host.dotGeneral dot_S16384x4096_S4096x11008_S16384x11008_1_0_0_1_n_n none h wu)) wd) bitsLt_bf16_f32
      : FVec Ideal S16384x4096 .bf16) i = Cert.KernelIdeal.Ffn.ffn h wg wu wd i := by
  idx_vars i
  pointwise [Cert.KernelIdeal.Ffn.ffn, Cert.KernelIdeal.Ffn.term, Cert.KernelIdeal.Ffn.gated]

end Cert.ReferenceIdeal.Ffn

namespace Cert.Proof.Ffn

open Idealize.ShloMosaic Idealize.ShloMosaic.TcCoe Idealize.SL.Sem

/-- The feed-forward kernel and its reference, from equal arguments, end with equal results. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Ffn.result m c, Cert.KernelIdeal.Ffn.run m ρ, ?_⟩
  refine (θ_run Cert.ReferenceIdeal.defs _ _).mono (fun r h c => ⟨(h c).1.trans ?_, (h c).2⟩) (Cert.ReferenceIdeal.Value.run m' ρ')
  obtain ⟨e0, e1, e2, e3⟩ := hargs c
  rw [e0, e1, e2, e3]
  exact funext fun i => Cert.ReferenceIdeal.Ffn.reference_apply _ _ _ _ i

end Cert.Proof.Ffn

end
-- ==== Proof.Post.Pay.lean ====
/-
  The kernel's payload AT AN INDEX, at the ideal instance (floats are extended reals): a row of `x` plus the two
  normalised rows, each times its weight and its gate.
-/
module

public import proofs.«01_k».proof.Proof.Gen.Kernel2Ideal.Skeleton
public import Idealize.ShloMosaic.Lib.Pointwise

@[expose] public section

set_option maxRecDepth 16384

noncomputable section

namespace Cert.Kernel2Ideal.Post

open Cert.Kernel2Ideal Cert.Kernel2Ideal.Gen Idealize.ShloMosaic
open scoped BigOperators

/-- One over the root mean square of a row, with the small constant added to the mean of the squares. -/
def scale (m : Fin 4096 → EReal) : EReal :=
  Ideal.rsqrt (Ideal.div (∑ k : Fin 4096, m k * m k) (Ideal.ofBits .f32 0x45800000#32) + Ideal.ofBits .f32 0x358637BD#32)

/-- A step's payload at an index. -/
theorem pay1_apply (gm gf : Vec Ideal S1x4096 .f32) (ga gb : Vec Ideal S1x1x4096 .f32) (x : Vec Ideal S16x4096 .f32)
    (m y : Vec Ideal S16x4096 .bf16) (r : Fin 16) (l : Fin 4096) :
    k0_pay1 (k0_pay2 gf gb) (k0_pay3 gm ga) x m y (ix2 r l)
      = x (ix2 r l) + m (ix2 r l) * scale (fun k => m (ix2 r k)) * (gm (ix2 0 l) * ga (ix3 0 0 l))
        + y (ix2 r l) * scale (fun k => y (ix2 r k)) * (gf (ix2 0 l) * gb (ix3 0 0 l)) := by
  pointwise [k0_pay1, k0_pay2, k0_pay3, scale]
end Cert.Kernel2Ideal.Post

end
-- ==== Proof.Post.Copies.lean ====
/-
  Copies in flight between trips of the closing norm's pipeline: the rules for starting a copy into a slot of a read
  ring, for starting a copy of a slot of the write ring out to the result, and for waiting either.
-/
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.FrameValue
public import Idealize.ShloMosaic.Lib.Ring
public import Idealize.ShloMosaic.Lib.Ring.Trips
public import Idealize.ShloMosaic.Lib.Tactic
public import Idealize.ShloMosaic.Lib.WordCmp

@[expose] public section

set_option maxRecDepth 16384

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- A slot at rest: its elements held at some contents, its cell at zero, and the slot's share of the array it is
    filled from. -/
def free {s : Shape} {e : EltTy} {sp' : Space} {s₀ : Shape} (sem : DmaSem sig) (dst : Memref sig .tc .vmem s e)
    (arr : Memref sig .tc sp' s₀ e) (q : PosShare TreeShare) (V : Buf (Elt F) (arr.view.loc (c : Thread nD τ))) : sProp 𝕄 :=
  iprop((∃ d, owns (c : Thread nD τ) dst fullShare d) ∗ semVal ((c : Thread nD τ), SemLoc.dma sem) 0
    ∗ (arr.view.loc (c : Thread nD τ) ↦{q} V))

/-- A slot that holds `p`, its cell at zero, and the slot's share of the array. -/
def landed {s : Shape} {e : EltTy} {sp' : Space} {s₀ : Shape} (sem : DmaSem sig) (dst : Memref sig .tc .vmem s e)
    (arr : Memref sig .tc sp' s₀ e) (q : PosShare TreeShare) (V : Buf (Elt F) (arr.view.loc (c : Thread nD τ)))
    (p : s.Idx → Elt F e) : sProp 𝕄 :=
  iprop(owns (c : Thread nD τ) dst fullShare p ∗ semVal ((c : Thread nD τ), SemLoc.dma sem) 0
    ∗ (arr.view.loc (c : Thread nD τ) ↦{q} V))

/-- A slot being filled with the block `src` of the array: the copy in flight, and the slot's share of the rest of the
    array. -/
def infl {s : Shape} {e : EltTy} {sp' : Space} (sem : DmaSem sig) (dst : Memref sig .tc .vmem s e)
    (src : Memref sig .tc sp' s e) (q : PosShare TreeShare) (V : Buf (Elt F) (src.view.loc (c : Thread nD τ))) : sProp 𝕄 :=
  iprop(Transfers.Flight (countersEmb (U := Pipeline.UD sig nD τ)) (c : Thread nD τ) (SemLoc.dma sem) () dst.view.dmaCredit
      iprop(owns (c : Thread nD τ) dst fullShare (src.view.read (Elt F) V)
        ∗ (src.view.loc (c : Thread nD τ) ↦[src.view.set]{q} V))
    ∗ (src.view.loc (c : Thread nD τ) ↦[Finset.univ \ src.view.set]{q} V))

/-- A slot that holds something is at rest. -/
theorem landed_free {s : Shape} {e : EltTy} {sp' : Space} {s₀ : Shape} (sem : DmaSem sig) (dst : Memref sig .tc .vmem s e)
    (arr : Memref sig .tc sp' s₀ e) (q : PosShare TreeShare) (V : Buf (Elt F) (arr.view.loc (c : Thread nD τ)))
    (p : s.Idx → Elt F e) : landed c sem dst arr q V p ⊢ free c sem dst arr q V := by
  unfold landed free
  iintro ⟨H1, H2, H3⟩
  isplitl [H1]; · iexists p; iexact H1
  isplitl [H2]; · iexact H2
  iexact H3

/-- Starting the copy of a block into a slot at rest. -/
theorem wp_issue {s : Shape} {e : EltTy} {sp' : Space} {sem : DmaSem sig} {dst : Memref sig .tc .vmem s e}
    {src : Memref sig .tc sp' s e} {q : PosShare TreeShare} {V : Buf (Elt F) (src.view.loc (c : Thread nD τ))}
    (hN : 0 < dst.view.dmaCredit)
    {hsrc : src.view.WordExact} {hdst : dst.view.WordExact} {hsem : DmaTarget.Typed (nD := nD) sp' (SemLoc.dma sem) (.here (p := .tc) dst)}
    {Q : PUnit → sProp 𝕄} :
    free c sem dst src q V ⊢ iprop((infl c sem dst src q V -∗ Q ⟨⟩)
      -∗ wp frame (wpE (defs₀ (F := F)) Variants.none (c : Thread nD τ) none) Set.univ
          (Prog.lift (.enqueueDma src (.here dst) (.dma sem) hsrc hdst hsem)) Q) := by
  unfold free owns
  iintro ⟨⟨%d, %f, -, Hd⟩, Hv, Ha⟩ Hk
  ihave Ha' := (pointsTo_split_subset (I := src.view.set) (Finset.subset_univ _)).1 $$ Ha
  icases Ha' with ⟨Hs, Hr⟩
  iapply (Transfers.wp_dmaLocal (countersEmb (U := Pipeline.UD sig nD τ)) Variants.none (c : Thread nD τ) none () dst.view.dmaCredit rfl hN
    (Finset.Subset.refl _)) $$ [Hs Hd Hv]
  · isplitl [Hs]; · iexact Hs
    isplitl [Hd]; · iexact Hd
    iexact Hv
  iintro HF
  rw [wp_ret]
  imodintro
  iapply Hk
  unfold infl
  isplitl [HF]
  · iapply (Transfers.Flight_mono (countersEmb (U := Pipeline.UD sig nD τ)) (c : Thread nD τ) ?_) $$ HF
    iintro ⟨Hd, Hs⟩
    isplitl [Hd]
    · unfold owns; iexists _; isplitr; swap; · iexact Hd
      ipureintro
      exact View.read_write_univ _ _
    iexact Hs
  iexact Hr

/-- Waiting the copy into a slot: the slot holds the block. -/
theorem wp_wait {s : Shape} {e : EltTy} {sp' sp'' : Space} {s' : Shape} {e' : EltTy} {sem : DmaSem sig} {dst : Memref sig .tc .vmem s e}
    {src : Memref sig .tc sp' s e} {q : PosShare TreeShare} {V : Buf (Elt F) (src.view.loc (c : Thread nD τ))}
    {srcw : Memref sig .tc sp'' s' e'} {dstw : Memref sig .tc .vmem s e} {hsrc : srcw.view.WordExact} {hdst : dstw.view.WordExact}
    (hN : dstw.view.dmaCredit = dst.view.dmaCredit)
    {Q : PUnit → sProp 𝕄} :
    iprop(infl c sem dst src q V ∗ (∃ W, owes (c : Thread nD τ) (0 : CellTallies nD τ sig Unit) W)) ⊢ iprop((iprop(landed c sem dst src q V (src.view.read (Elt F) V)
          ∗ (∃ W, owes (c : Thread nD τ) (0 : CellTallies nD τ sig Unit) W)) -∗ Q ⟨⟩)
      -∗ wp frame (wpE (defs₀ (F := F)) Variants.none (c : Thread nD τ) none) Set.univ
          (Prog.lift (.waitDma2 sem srcw dstw hsrc hdst)) Q) := by
  unfold infl
  iintro ⟨⟨HF, Hr⟩, ⟨%W, HW⟩⟩ Hk
  iapply (Transfers.wp_waitLocal (countersEmb (U := Pipeline.UD sig nD τ)) Variants.none (c : Thread nD τ) none () hN) $$ [HF HW]
  · isplitl [HF]; · iexact HF
    iexact HW
  iintro ⟨⟨Hd, Hs⟩, Hv, HW⟩
  rw [wp_ret]
  imodintro
  iapply Hk
  isplitl [Hd Hs Hv Hr]
  · unfold landed
    isplitl [Hd]; · iexact Hd
    isplitl [Hv]; · iexact Hv
    iapply (pointsTo_split_subset (I := src.view.set) (Finset.subset_univ _)).2
    isplitl [Hs]; · iexact Hs
    iexact Hr
  iexists _; iexact HW

/-- A slot of the write ring at rest. -/
def oFree {s : Shape} {e : EltTy} (sem : DmaSem sig) (slot : Memref sig .tc .vmem s e) : sProp 𝕄 :=
  iprop((∃ d, owns (Val := Elt F) (c : Thread nD τ) slot fullShare d) ∗ semVal ((c : Thread nD τ), SemLoc.dma sem) 0)

/-- A slot of the write ring being copied out to a block of the result: when the copy has landed the block holds what
    the slot holds. -/
def oInfl {s : Shape} {e : EltTy} {sp' : Space} (sem : DmaSem sig) (slot : Memref sig .tc .vmem s e)
    (blk : Memref sig .tc sp' s e) (p : s.Idx → Elt F e) : sProp 𝕄 :=
  Transfers.Flight (countersEmb (U := Pipeline.UD sig nD τ)) (c : Thread nD τ) (SemLoc.dma sem) () blk.view.dmaCredit
      iprop(owns (c : Thread nD τ) blk fullShare p ∗ owns (c : Thread nD τ) slot fullShare p)

/-- Starting the copy of a slot out to a block of the result. -/
theorem wp_oIssue {s : Shape} {e : EltTy} {sp' : Space} {sem : DmaSem sig} {slot : Memref sig .tc .vmem s e}
    {blk : Memref sig .tc sp' s e} {p : s.Idx → Elt F e}
    (hN : 0 < blk.view.dmaCredit)
    {hsrc : slot.view.WordExact} {hdst : blk.view.WordExact} {hsem : DmaTarget.Typed (nD := nD) .vmem (SemLoc.dma sem) (.here (p := .tc) blk)}
    {Q : PUnit → sProp 𝕄} :
    iprop(owns (c : Thread nD τ) slot fullShare p ∗ semVal ((c : Thread nD τ), SemLoc.dma sem) 0 ∗ (∃ d, owns (c : Thread nD τ) blk fullShare d))
      ⊢ iprop((oInfl c sem slot blk p -∗ Q ⟨⟩)
      -∗ wp frame (wpE (defs₀ (F := F)) Variants.none (c : Thread nD τ) none) Set.univ
          (Prog.lift (.enqueueDma slot (.here blk) (.dma sem) hsrc hdst hsem)) Q) := by
  unfold owns
  iintro ⟨⟨%fs, %hfs, Hs⟩, Hv, ⟨%d, %f, -, Hd⟩⟩ Hk
  iapply (Transfers.wp_dmaLocal (countersEmb (U := Pipeline.UD sig nD τ)) Variants.none (c : Thread nD τ) none () blk.view.dmaCredit rfl hN
    (Finset.Subset.refl _)) $$ [Hs Hd Hv]
  · isplitl [Hs]; · iexact Hs
    isplitl [Hd]; · iexact Hd
    iexact Hv
  iintro HF
  rw [wp_ret]
  imodintro
  iapply Hk
  unfold oInfl
  iapply (Transfers.Flight_mono (countersEmb (U := Pipeline.UD sig nD τ)) (c : Thread nD τ) ?_) $$ HF
  iintro ⟨Hd, Hs⟩
  isplitl [Hd]
  · unfold owns; iexists _; isplitr; swap; · iexact Hd
    ipureintro
    exact (View.read_write_univ _ _).trans hfs
  unfold owns; iexists _; isplitr; swap; · iexact Hs
  ipureintro; exact hfs

/-- Waiting a copy out: the block holds what the slot held, and the slot is at rest. -/
theorem wp_oWait {s : Shape} {e : EltTy} {sp' sp'' : Space} {s' : Shape} {e' : EltTy} {sem : DmaSem sig} {slot : Memref sig .tc .vmem s e}
    {blk : Memref sig .tc sp' s e} {p : s.Idx → Elt F e}
    {srcw : Memref sig .tc sp'' s' e'} {dstw : Memref sig .tc sp' s e} {hsrc : srcw.view.WordExact} {hdst : dstw.view.WordExact}
    (hN : dstw.view.dmaCredit = blk.view.dmaCredit)
    {Q : PUnit → sProp 𝕄} :
    iprop(oInfl c sem slot blk p ∗ (∃ W, owes (c : Thread nD τ) (0 : CellTallies nD τ sig Unit) W)) ⊢ iprop((iprop(owns (c : Thread nD τ) blk fullShare p
          ∗ oFree c sem slot ∗ (∃ W, owes (c : Thread nD τ) (0 : CellTallies nD τ sig Unit) W)) -∗ Q ⟨⟩)
      -∗ wp frame (wpE (defs₀ (F := F)) Variants.none (c : Thread nD τ) none) Set.univ
          (Prog.lift (.waitDma2 sem srcw dstw hsrc hdst)) Q) := by
  unfold oInfl
  iintro ⟨HF, ⟨%W, HW⟩⟩ Hk
  iapply (Transfers.wp_waitLocal (countersEmb (U := Pipeline.UD sig nD τ)) Variants.none (c : Thread nD τ) none () hN) $$ [HF HW]
  · isplitl [HF]; · iexact HF
    iexact HW
  iintro ⟨⟨Hd, Hs⟩, Hv, HW⟩
  rw [wp_ret]
  imodintro
  iapply Hk
  isplitl [Hd]; · iexact Hd
  isplitl [Hs Hv]
  · unfold oFree
    isplitl [Hs]; · iexists p; iexact Hs
    iexact Hv
  iexists _; iexact HW

end Cert.Kernel2Ideal.Post

end
-- ==== Proof.Post.Words.lean ====
/-
  The pipeline's schedule: the sixteen words the loop carries, as functions of the trip, and what the kernel computes
  from them in a trip: which copies it starts and waits for, and at which slots and blocks.
-/
module

public import proofs.«01_k».proof.Proof.Gen.Kernel2Ideal.Skeleton
public import Idealize.ShloMosaic.Lib.Decide

@[expose] public section

set_option maxRecDepth 16384

namespace Cert.Kernel2Ideal.Post

open Cert.Kernel2Ideal Cert.Kernel2Ideal.Gen
open Idealize.ShloMosaic

/-- Blocks of `x`, of the mixer's output and of the FFN's output whose copy has been started before trip `k`. -/
abbrev wI (k : ℕ) : BitVec 32 := BitVec.ofNat 32 (min (k + 2) 64)
/-- The trip's number: the blocks waited for, run and started out before it. -/
abbrev wK (k : ℕ) : BitVec 32 := BitVec.ofNat 32 k
/-- The gates whose copy has been started. -/
abbrev wG (k : ℕ) : BitVec 32 := BitVec.ofNat 32 (1 + min (k / 32) 1)
/-- The gates done with. -/
abbrev wD (k : ℕ) : BitVec 32 := BitVec.ofNat 32 (k / 32)
/-- The gain rows done with. -/
abbrev wL (k : ℕ) : BitVec 32 := BitVec.ofNat 32 (k / 64)
/-- The result's blocks waited for. -/
abbrev wO (k : ℕ) : BitVec 32 := BitVec.ofNat 32 (k - 1)
/-- The batch element of block `k`. -/
abbrev wB (k : ℕ) : BitVec 32 := BitVec.ofNat 32 (k / 32 % 2)
/-- The rows of block `k`. -/
abbrev wR (k : ℕ) : BitVec 32 := BitVec.ofNat 32 (k % 32)

/-- What the loop carries into trip `k`. -/
abbrev wds (k : ℕ) : BitVec 32 × BitVec 32 × BitVec 32 × BitVec 32 × BitVec 32 × BitVec 32 × BitVec 32 × BitVec 32 × BitVec 32
    × BitVec 32 × BitVec 32 × BitVec 32 × BitVec 32 × BitVec 32 × BitVec 32 × BitVec 32 :=
  (wI k, wK k, wI k, wK k, wL k, wG k, wD k, wI k, wK k, wL k, wG k, wD k, wK k, wO k, wB k, wR k)

/-- Where block `b` of a `[2, 8192, 4096]` array starts. -/
abbrev blkOff (b : ℕ) : Fin 3 → ℕ := ![b / 32 % 2, 256 * (b % 32), 0]
/-- Where slot `s` starts. -/
abbrev slotOff (s : ℕ) : Fin 3 → ℕ := ![s, 0, 0]

variable (t : Fin k0_t1_loop.trips)

theorem trips1 : k0_t1_loop.trips = 64 := by decide +kernel
theorem trips2 : k0_t2_loop.trips = 16 := by decide +kernel

theorem chk1 : ∀ t : Fin k0_t1_loop.trips, k0_chk1 t (wI t) (wK t) (wI t) (wK t) (wG t) (wD t) (wI t) (wK t) (wG t) (wD t) (wK t) (wO t) (wB t) (wR t) := by
  decide +kernel
theorem chk2 : ∀ t : Fin k0_t1_loop.trips, k0_chk2 (wD t) := by decide +kernel
theorem chk3 : ∀ t : Fin k0_t1_loop.trips, k0_chk3 (wD t) := by decide +kernel
theorem chk4 : ∀ t : Fin k0_t1_loop.trips, k0_chk4 (wK t) := by decide +kernel
theorem chk5 : ∀ t : Fin k0_t1_loop.trips, k0_chk5 (wK t) := by decide +kernel
theorem chk6 : ∀ t : Fin k0_t1_loop.trips, k0_chk6 (wK t) := by decide +kernel
theorem chk7 : ∀ t : Fin k0_t1_loop.trips, k0_chk7 (wK t) := by decide +kernel
theorem chk8 : k0_chk8 (wO 64) := by decide +kernel
theorem chk9 : k0_chk9 (wR 64) (wB 64) := by decide +kernel

/-! What is started and waited for. -/

theorem cond4 : ∀ t : Fin k0_t1_loop.trips, k0_cond4 t (wB t) (wR t) = 1#1 ↔ t.val + 2 < 64 := by decide +kernel
theorem cond5 : ∀ t : Fin k0_t1_loop.trips, k0_cond5 t (wB t) (wR t) = 1#1 ↔ t.val + 2 < 64 := by decide +kernel
theorem cond6 : ∀ t : Fin k0_t1_loop.trips, k0_cond6 t (wB t) (wR t) = 1#1 ↔ t.val = 31 := by decide +kernel
theorem cond7 : ∀ t : Fin k0_t1_loop.trips, k0_cond7 t (wB t) (wR t) = 1#1 ↔ t.val + 2 < 64 := by decide +kernel
theorem cond8 : ∀ t : Fin k0_t1_loop.trips, k0_cond8 t (wB t) (wR t) = 1#1 ↔ t.val = 31 := by decide +kernel
theorem cond9 : ∀ t : Fin k0_t1_loop.trips, k0_cond9 t (wB t) (wR t) = 1#1 := by decide +kernel
theorem cond10 : ∀ t : Fin k0_t1_loop.trips, k0_cond10 t (wB t) (wR t) = 1#1 := by decide +kernel
theorem cond11 : ∀ t : Fin k0_t1_loop.trips, k0_cond11 t (wB t) (wR t) = 1#1 ↔ t.val % 32 = 0 := by decide +kernel
theorem cond12 : ∀ t : Fin k0_t1_loop.trips, k0_cond12 t (wB t) (wR t) = 1#1 := by decide +kernel
theorem cond13 : ∀ t : Fin k0_t1_loop.trips, k0_cond13 t (wB t) (wR t) = 1#1 ↔ t.val % 32 = 0 := by decide +kernel
theorem cond20 : ∀ t : Fin k0_t1_loop.trips, k0_cond20 t (wB t) (wR t) = 1#1 := by decide +kernel
theorem cond26 : ∀ t : Fin k0_t1_loop.trips, k0_cond26 t (wB t) (wR t) = 1#1 ↔ t.val ≠ 0 := by decide +kernel
theorem cond1 : k0_cond1 = 1#1 := by decide +kernel
theorem cond2 : k0_cond2 = 1#1 := by decide +kernel
theorem cond3 : k0_cond3 = 1#1 := by decide +kernel

/-! The slots and blocks of the copies started in a trip. -/

theorem off14 : ∀ t : Fin k0_t1_loop.trips, t.val + 2 < 64 → k0_off14 (wI t) = ![(t.val + 2) % 3] := by decide +kernel
theorem off15 : ∀ t : Fin k0_t1_loop.trips, t.val + 2 < 64 → k0_off15 (wI t) = slotOff ((t.val + 2) % 3) := by decide +kernel
theorem off16 : ∀ t : Fin k0_t1_loop.trips, t.val + 2 < 64 → k0_off16 (wB t) (wR t) = blkOff (t.val + 2) := by decide +kernel
theorem off17 : ∀ t : Fin k0_t1_loop.trips, t.val + 2 < 64 → k0_off17 (wI t) = ![(t.val + 2) % 3] := by decide +kernel
theorem off18 : ∀ t : Fin k0_t1_loop.trips, t.val + 2 < 64 → k0_off18 (wI t) = slotOff ((t.val + 2) % 3) := by decide +kernel
theorem off19 : ∀ t : Fin k0_t1_loop.trips, t.val + 2 < 64 → k0_off19 (wB t) (wR t) = blkOff (t.val + 2) := by decide +kernel
theorem off20 : ∀ t : Fin k0_t1_loop.trips, t.val = 31 → k0_off20 (wG t) = ![1] := by decide +kernel
theorem off21 : ∀ t : Fin k0_t1_loop.trips, t.val = 31 → k0_off21 (wG t) = slotOff 1 := by decide +kernel
theorem off22 : ∀ t : Fin k0_t1_loop.trips, t.val = 31 → k0_off22 (wB t) (wR t) = slotOff 1 := by decide +kernel
theorem off23 : ∀ t : Fin k0_t1_loop.trips, t.val + 2 < 64 → k0_off23 (wI t) = ![(t.val + 2) % 3] := by decide +kernel
theorem off24 : ∀ t : Fin k0_t1_loop.trips, t.val + 2 < 64 → k0_off24 (wI t) = slotOff ((t.val + 2) % 3) := by decide +kernel
theorem off25 : ∀ t : Fin k0_t1_loop.trips, t.val + 2 < 64 → k0_off25 (wB t) (wR t) = blkOff (t.val + 2) := by decide +kernel
theorem off26 : ∀ t : Fin k0_t1_loop.trips, t.val = 31 → k0_off26 (wG t) = ![1] := by decide +kernel
theorem off27 : ∀ t : Fin k0_t1_loop.trips, t.val = 31 → k0_off27 (wG t) = slotOff 1 := by decide +kernel
theorem off28 : ∀ t : Fin k0_t1_loop.trips, t.val = 31 → k0_off28 (wB t) (wR t) = slotOff 1 := by decide +kernel

/-! The cells of the copies waited for. -/

theorem off29 : ∀ t : Fin k0_t1_loop.trips, k0_off29 (wK t) = ![t.val % 3] := by decide +kernel
theorem off32 : ∀ t : Fin k0_t1_loop.trips, k0_off32 (wK t) = ![t.val % 3] := by decide +kernel
theorem off35 : ∀ t : Fin k0_t1_loop.trips, k0_off35 (wD t) = ![t.val / 32 % 2] := by decide +kernel
theorem off38 : ∀ t : Fin k0_t1_loop.trips, k0_off38 (wK t) = ![t.val % 3] := by decide +kernel
theorem off41 : ∀ t : Fin k0_t1_loop.trips, k0_off41 (wD t) = ![t.val / 32 % 2] := by decide +kernel
theorem off55 : ∀ t : Fin k0_t1_loop.trips, t.val ≠ 0 → k0_off55 (wO t) = ![(t.val + 1) % 2] := by decide +kernel
theorem off58 : k0_off58 (wO 64) = ![1] := by decide +kernel

/-! The slots the trip's rows are read from and written to, and the block they are copied out to. -/

theorem off44 : ∀ t : Fin k0_t1_loop.trips, k0_off44 (wD t) = slotOff (t.val / 32 % 2) := by decide +kernel
theorem off45 : ∀ t : Fin k0_t1_loop.trips, k0_off45 (wD t) = slotOff (t.val / 32 % 2) := by decide +kernel
theorem off46 : ∀ t : Fin k0_t1_loop.trips, k0_off46 (wK t) = slotOff (t.val % 3) := by decide +kernel
theorem off48 : ∀ t : Fin k0_t1_loop.trips, k0_off48 (wK t) = slotOff (t.val % 3) := by decide +kernel
theorem off49 : ∀ t : Fin k0_t1_loop.trips, k0_off49 (wK t) = slotOff (t.val % 3) := by decide +kernel
theorem off50 : ∀ t : Fin k0_t1_loop.trips, k0_off50 (wK t) = slotOff (t.val % 2) := by decide +kernel
theorem off52 : ∀ t : Fin k0_t1_loop.trips, k0_off52 (wK t) = ![t.val % 2] := by decide +kernel
theorem off53 : ∀ t : Fin k0_t1_loop.trips, k0_off53 (wB t) (wR t) = blkOff t.val := by decide +kernel
theorem off54 : ∀ t : Fin k0_t1_loop.trips, k0_off54 (wK t) = slotOff (t.val % 2) := by decide +kernel
theorem off47 : ∀ j : Fin k0_t2_loop.trips, k0_off47 j = ![16 * j.val, 0] := by decide +kernel
theorem off51 : ∀ j : Fin k0_t2_loop.trips, k0_off51 j = ![16 * j.val, 0] := by decide +kernel

/-! The prologue's. -/

theorem off1 : k0_off1 = ![0] := by decide +kernel
theorem off2 : k0_off2 = slotOff 0 := by decide +kernel
theorem off3 : k0_off3 = ![0] := by decide +kernel
theorem off4 : k0_off4 = slotOff 0 := by decide +kernel
theorem off5 : k0_off5 = ![1] := by decide +kernel
theorem off6 : k0_off6 = slotOff 1 := by decide +kernel
theorem off7 : k0_off7 = blkOff 1 := by decide +kernel
theorem off8 : k0_off8 = ![1] := by decide +kernel
theorem off9 : k0_off9 = slotOff 1 := by decide +kernel
theorem off10 : k0_off10 = blkOff 1 := by decide +kernel
theorem off11 : k0_off11 = ![1] := by decide +kernel
theorem off12 : k0_off12 = slotOff 1 := by decide +kernel
theorem off13 : k0_off13 = blkOff 1 := by decide +kernel

end Cert.Kernel2Ideal.Post
-- ==== Proof.Post.Slots.lean ====
/-
  The slots of the pipeline's rings and the blocks of its arrays, and the copies, loads and stores of the kernel at
  them.
-/
module

public import proofs.«01_k».proof.Proof.Post.Copies
public import proofs.«01_k».proof.Proof.Post.Words

@[expose] public section

set_option maxRecDepth 16384

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Where they lie -/

theorem slot3_inb (k : ℕ) (a : Fin 3) : slotOff (k % 3) a + S1x256x4096.size a ≤ S3x256x4096.size a := by
  have := Nat.mod_lt k (show 0 < 3 by decide)
  fin_cases a
  · show k % 3 + 1 ≤ 3; omega
  · show 0 + 256 ≤ 256; omega
  · show 0 + 4096 ≤ 4096; omega

theorem slot2_inb (k : ℕ) (a : Fin 3) : slotOff (k % 2) a + S1x256x4096.size a ≤ S2x256x4096.size a := by
  have := Nat.mod_lt k (show 0 < 2 by decide)
  fin_cases a
  · show k % 2 + 1 ≤ 2; omega
  · show 0 + 256 ≤ 256; omega
  · show 0 + 4096 ≤ 4096; omega

theorem gate_inb (k : ℕ) (a : Fin 3) : slotOff (k % 2) a + S1x1x4096.size a ≤ S2x1x4096.size a := by
  have := Nat.mod_lt k (show 0 < 2 by decide)
  fin_cases a
  · show k % 2 + 1 ≤ 2; omega
  · show 0 + 1 ≤ 1; omega
  · show 0 + 4096 ≤ 4096; omega

theorem blk_inb (b : ℕ) (a : Fin 3) : blkOff b a + S1x256x4096.size a ≤ S2x8192x4096.size a := by
  have := Nat.mod_lt (b / 32) (show 0 < 2 by decide)
  have := Nat.mod_lt b (show 0 < 32 by decide)
  fin_cases a
  · show b / 32 % 2 + 1 ≤ 2; omega
  · show 256 * (b % 32) + 256 ≤ 8192; omega
  · show 0 + 4096 ≤ 4096; omega

theorem cell3_inb (k : ℕ) (a : Fin 1) : (![k % 3] : Fin 1 → ℕ) a + S1.size a ≤ S3.size a := by
  have := Nat.mod_lt k (show 0 < 3 by decide)
  fin_cases a; show k % 3 + 1 ≤ 3; omega

theorem cell2_inb (k : ℕ) (a : Fin 1) : (![k % 2] : Fin 1 → ℕ) a + S1.size a ≤ S2.size a := by
  have := Nat.mod_lt k (show 0 < 2 by decide)
  fin_cases a; show k % 2 + 1 ≤ 2; omega

theorem rows_inb (j : Fin 16) (a : Fin 2) : (![16 * j.val, 0] : Fin 2 → ℕ) a + S16x4096.size a ≤ S256x4096.size a := by
  have := j.isLt
  fin_cases a
  · show 16 * j.val + 16 ≤ 256; omega
  · show 0 + 4096 ≤ 4096; omega

/-- Slot `k mod 3` of a three-slot ring. -/
abbrev slot3 {e : EltTy} (A : Memref sig .tc .vmem S3x256x4096 e) (k : ℕ) : Memref sig .tc .vmem S256x4096 e :=
  (A.slice (Rect.unit (s := S3x256x4096) (slotOff (k % 3)) S1x256x4096.size (slot3_inb k)) (fun _ => rfl)).squeeze S256x4096
    squeezes_S1x256x4096_S256x4096
/-- Slot `k mod 2` of the result's ring. -/
abbrev slot2 {e : EltTy} (A : Memref sig .tc .vmem S2x256x4096 e) (k : ℕ) : Memref sig .tc .vmem S256x4096 e :=
  (A.slice (Rect.unit (s := S2x256x4096) (slotOff (k % 2)) S1x256x4096.size (slot2_inb k)) (fun _ => rfl)).squeeze S256x4096
    squeezes_S1x256x4096_S256x4096
/-- The gate row `k mod 2`, before the unit axis is dropped. -/
abbrev gateB {sp : Space} {e : EltTy} (A : Memref sig .tc sp S2x1x4096 e) (k : ℕ) : Memref sig .tc sp S1x1x4096 e :=
  A.slice (Rect.unit (s := S2x1x4096) (slotOff (k % 2)) S1x1x4096.size (gate_inb k)) (fun _ => rfl)
/-- The gate row `k mod 2`. -/
abbrev gate {sp : Space} {e : EltTy} (A : Memref sig .tc sp S2x1x4096 e) (k : ℕ) : Memref sig .tc sp S1x4096 e :=
  (gateB A k).squeeze S1x4096 squeezes_S1x1x4096_S1x4096
/-- Block `b` of an array. -/
abbrev blk {e : EltTy} (X : Memref sig .tc .hbm S2x8192x4096 e) (b : ℕ) : Memref sig .tc .hbm S256x4096 e :=
  (X.slice (Rect.unit (s := S2x8192x4096) (blkOff b) S1x256x4096.size (blk_inb b)) (fun _ => rfl)).squeeze S256x4096
    squeezes_S1x256x4096_S256x4096
/-- The cell of slot `k mod 3`. -/
abbrev cell3 (v : DmaSems sig S3) (k : ℕ) : DmaSem sig :=
  ((v.slice (Rect.unit (s := S3) ![k % 3] S1.size (cell3_inb k))).squeeze S_ squeezes_S1_S_).sem
/-- The cell of slot `k mod 2`. -/
abbrev cell2 (v : DmaSems sig S2) (k : ℕ) : DmaSem sig :=
  ((v.slice (Rect.unit (s := S2) ![k % 2] S1.size (cell2_inb k))).squeeze S_ squeezes_S1_S_).sem
/-- Step `j`'s rows of a slot. -/
abbrev rows (j : Fin 16) : Rect S256x4096 := Rect.unit (s := S256x4096) ![16 * j.val, 0] S16x4096.size (rows_inb j)

/-! ## Loads and stores through memrefs that are owned -/

variable (c : Dev nD)

/-- The weakest precondition of a piece of the kernel's program. -/
abbrev WP {α : Type} (p : Prog (TpuEff nD τ sig (Elt F) Λ₀ .tc) α) (Q : α → sProp 𝕄) : sProp 𝕄 :=
  wp frame (wpE (defs₀ (F := F)) Variants.none (c : Thread nD τ) none) Set.univ p Q

/-- A load of some of the elements of a memref that is owned reads them. -/
theorem wp_load_owns {s : Shape} {e : EltTy} {cs : CoreSpace} {M : Memref sig .tc cs s e} {q : PosShare TreeShare} {d : s.Idx → Elt F e}
    {r : Rect s} {hl : M.view.LoadsAt r.toLoadRect} {Q : (r.shape.Idx → Elt F e) → sProp 𝕄} :
    owns (c : Thread nD τ) M q d
      ⊢ iprop((owns (c : Thread nD τ) M q d -∗ Q (View.ld d r)) -∗ WP c (Prog.lift (.load M r.toLoadRect hl)) Q) := by
  unfold owns
  iintro ⟨%f, %hf, H⟩ K
  iapply wp_load Variants.none (c : Thread nD τ) none Set.univ (S := M.view.set) (f := f) (View.setOn_subset_set _ _) $$ H
  iintro H
  rw [View.readAt_eq_ld, hf, wp_ret]
  imodintro
  iapply K
  iexists f; isplitr; · ipureintro; exact hf
  iexact H

/-- A load, through a buffer at a rectangle, of a slice of it that is owned once a unit axis is dropped. -/
theorem wp_load_squeeze {s r' : Shape} {e : EltTy} {cs : CoreSpace} {M : Memref sig .tc cs s e} {q : PosShare TreeShare}
    {r : Rect s} {hr : ∀ a, r.stride a = 1} {hq : r.shape.Squeezes r'} {w : r.shape.Idx → Elt F e}
    {hl : M.view.LoadsAt r.toLoadRect} {Q : (r.shape.Idx → Elt F e) → sProp 𝕄} :
    owns (c : Thread nD τ) ((M.slice r hr).squeeze r' hq) q (fun y => w (Shape.reshapeEquiv hq.numel_eq y))
      ⊢ iprop((owns (c : Thread nD τ) ((M.slice r hr).squeeze r' hq) q (fun y => w (Shape.reshapeEquiv hq.numel_eq y)) -∗ Q w)
        -∗ WP c (Prog.lift (.load M r.toLoadRect hl)) Q) := by
  unfold owns
  iintro ⟨%f, %hf, H⟩ K
  have hS : M.view.setOn r.toLoadRect.set ⊆ ((M.slice r hr).squeeze r' hq).view.set := by
    show M.view.setOn r.set ⊆ ((M.view.slice r).reshape r' hq.numel_eq).set
    rw [View.set_reshape, View.set_slice]; exact subset_rfl
  have hw : M.view.readAt (Elt F) r.toLoadRect f = w := by
    funext x
    have := congrFun hf ((Shape.reshapeEquiv hq.numel_eq).symm x)
    simp only [Equiv.apply_symm_apply] at this
    rw [← this]
    show _ = (M.view.slice r).read (Elt F) f (Shape.reshapeEquiv hq.numel_eq ((Shape.reshapeEquiv hq.numel_eq).symm x))
    rw [Equiv.apply_symm_apply]; rfl
  iapply wp_load Variants.none (c : Thread nD τ) none Set.univ (S := ((M.slice r hr).squeeze r' hq).view.set) (f := f) hS $$ H
  iintro H
  rw [hw]
  rw [wp_ret]
  imodintro
  iapply K
  iexists f; isplitr; · ipureintro; exact hf
  iexact H

/-- What a memref holds after a store through some of its elements: the payload there, its old contents elsewhere. -/
def put {s : Shape} {e : EltTy} (d : s.Idx → Elt F e) (r : Rect s) (w : r.shape.Idx → Elt F e) : s.Idx → Elt F e :=
  open Classical in fun y => if h : ∃ x, r.emb x = y then w h.choose else d y

theorem put_emb {s : Shape} {e : EltTy} (d : s.Idx → Elt F e) (r : Rect s) (w : r.shape.Idx → Elt F e) (x : r.shape.Idx) :
    put d r w (r.emb x) = w x := by
  have h : ∃ x', r.emb x' = r.emb x := ⟨x, rfl⟩
  unfold put; rw [dif_pos h, r.emb.injective h.choose_spec]

theorem put_of_not {s : Shape} {e : EltTy} (d : s.Idx → Elt F e) (r : Rect s) (w : r.shape.Idx → Elt F e) (y : s.Idx)
    (h : ¬ ∃ x, r.emb x = y) : put d r w y = d y := by
  unfold put; rw [dif_neg h]

/-- A store through some of the elements of a memref that is owned whole. -/
theorem wp_store_owns {s : Shape} {e : EltTy} {cs : CoreSpace} {M : Memref sig .tc cs s e} {d : s.Idx → Elt F e}
    {r : Rect s} {w : r.shape.Idx → Elt F e} {hx hm} {Q : PUnit → sProp 𝕄} :
    owns (c : Thread nD τ) M fullShare d
      ⊢ iprop((owns (c : Thread nD τ) M fullShare (put d r w) -∗ Q ⟨⟩) -∗ WP c (Prog.lift (.store M r w Finset.univ hx hm)) Q) := by
  unfold owns
  iintro ⟨%f, %hf, H⟩ K
  iapply wp_store Variants.none (c : Thread nD τ) none Set.univ (m := M) (r := r) (S := M.view.set) (f := f)
    (Finset.Subset.trans (View.setOn_subset_set _ _) (View.set_slice_subset _ _)) $$ H
  iintro H
  rw [wp_ret]
  imodintro
  iapply K
  iexists _; isplitr [H]; rotate_left; · iexact H
  ipureintro
  funext y
  by_cases h : ∃ x, r.emb x = y
  · obtain ⟨x, rfl⟩ := h
    rw [put_emb]; exact View.read_slice_write_emb r f w (Finset.mem_univ _)
  · rw [put_of_not _ _ _ _ h, ← hf]
    refine View.read_slice_write_of_not_mem r f w _ ?_
    simpa using h

/-! ## Copies at offsets the kernel computes -/

section At

/-- Starting the copy of block `b` into slot `k mod 3` of a read ring. -/
theorem wp_issue3 {e : EltTy} {A : Memref sig .tc .vmem S3x256x4096 e} {X : Memref sig .tc .hbm S2x8192x4096 e} {v : DmaSems sig S3}
    (k b : ℕ) {q : PosShare TreeShare} {V : Buf (Elt F) (X.view.loc (c : Thread nD τ))} {oc : Fin 1 → ℕ} {os ob : Fin 3 → ℕ}
    {hoc : ∀ a, oc a + S1.size a ≤ S3.size a} {hos : ∀ a, os a + S1x256x4096.size a ≤ S3x256x4096.size a}
    {hob : ∀ a, ob a + S1x256x4096.size a ≤ S2x8192x4096.size a}
    (e1 : oc = ![k % 3]) (e2 : os = slotOff (k % 3)) (e3 : ob = blkOff b) {hsrc hdst hsem} {Q : PUnit → sProp 𝕄} :
    free c (cell3 v k) (slot3 A k) X q V ⊢ iprop((infl c (cell3 v k) (slot3 A k) (blk X b) q V -∗ Q ⟨⟩)
      -∗ WP c (Prog.lift (.enqueueDma
          ((X.slice (Rect.unit (s := S2x8192x4096) ob S1x256x4096.size hob) (fun _ => rfl)).squeeze S256x4096 squeezes_S1x256x4096_S256x4096)
          (.here ((A.slice (Rect.unit (s := S3x256x4096) os S1x256x4096.size hos) (fun _ => rfl)).squeeze S256x4096 squeezes_S1x256x4096_S256x4096))
          (.dma ((v.slice (Rect.unit (s := S3) oc S1.size hoc)).squeeze S_ squeezes_S1_S_).sem) hsrc hdst hsem)) Q) := by
  subst e1 e2 e3
  have h0 : 0 < (slot3 A k).view.dmaCredit := View.dmaCredit_pos _ (Shape.numel_pos (by decide))
  have h1 := wp_issue (F := F) c (sem := cell3 v k) (dst := slot3 A k) (src := blk X b) (q := q) (V := V) (hsrc := hsrc) (hdst := hdst) (hsem := hsem)
    (Q := Q) h0
  exact h1

/-- Starting the copy of gate row `b` into slot `k mod 2` of a gate's buffer. -/
theorem wp_issue2 {e : EltTy} {A : Memref sig .tc .vmem S2x1x4096 e} {X : Memref sig .tc .hbm S2x1x4096 e} {v : DmaSems sig S2}
    (k b : ℕ) {q : PosShare TreeShare} {V : Buf (Elt F) (X.view.loc (c : Thread nD τ))} {oc : Fin 1 → ℕ} {os ob : Fin 3 → ℕ}
    {hoc : ∀ a, oc a + S1.size a ≤ S2.size a} {hos : ∀ a, os a + S1x1x4096.size a ≤ S2x1x4096.size a}
    {hob : ∀ a, ob a + S1x1x4096.size a ≤ S2x1x4096.size a}
    (e1 : oc = ![k % 2]) (e2 : os = slotOff (k % 2)) (e3 : ob = slotOff (b % 2)) {hsrc hdst hsem} {Q : PUnit → sProp 𝕄} :
    free c (cell2 v k) (gate A k) X q V ⊢ iprop((infl c (cell2 v k) (gate A k) (gate X b) q V -∗ Q ⟨⟩)
      -∗ WP c (Prog.lift (.enqueueDma
          ((X.slice (Rect.unit (s := S2x1x4096) ob S1x1x4096.size hob) (fun _ => rfl)).squeeze S1x4096 squeezes_S1x1x4096_S1x4096)
          (.here ((A.slice (Rect.unit (s := S2x1x4096) os S1x1x4096.size hos) (fun _ => rfl)).squeeze S1x4096 squeezes_S1x1x4096_S1x4096))
          (.dma ((v.slice (Rect.unit (s := S2) oc S1.size hoc)).squeeze S_ squeezes_S1_S_).sem) hsrc hdst hsem)) Q) := by
  subst e1 e2 e3
  have h0 : 0 < (gate A k).view.dmaCredit := View.dmaCredit_pos _ (Shape.numel_pos (by decide))
  have h1 := wp_issue (F := F) c (sem := cell2 v k) (dst := gate A k) (src := gate X b) (q := q) (V := V) (hsrc := hsrc) (hdst := hdst) (hsem := hsem)
    (Q := Q) h0
  exact h1

/-- Waiting the copy of block `b` into slot `k mod 3`, at any slices of the ring and of the array. -/
theorem wp_wait3 {e : EltTy} {A : Memref sig .tc .vmem S3x256x4096 e} {X : Memref sig .tc .hbm S2x8192x4096 e} {v : DmaSems sig S3}
    (k b : ℕ) {q : PosShare TreeShare} {V : Buf (Elt F) (X.view.loc (c : Thread nD τ))} {oc : Fin 1 → ℕ} {os ob : Fin 3 → ℕ}
    {hoc : ∀ a, oc a + S1.size a ≤ S3.size a} {hos : ∀ a, os a + S1x256x4096.size a ≤ S3x256x4096.size a}
    {hob : ∀ a, ob a + S1x256x4096.size a ≤ S2x8192x4096.size a}
    (e1 : oc = ![k % 3]) {hsrc hdst} {Q : PUnit → sProp 𝕄} :
    iprop(infl c (cell3 v k) (slot3 A k) (blk X b) q V ∗ (∃ W, owes (c : Thread nD τ) (0 : CellTallies nD τ sig Unit) W))
      ⊢ iprop((iprop(landed c (cell3 v k) (slot3 A k) X q V ((blk X b).view.read (Elt F) V)
            ∗ (∃ W, owes (c : Thread nD τ) (0 : CellTallies nD τ sig Unit) W)) -∗ Q ⟨⟩)
      -∗ WP c (Prog.lift (.waitDma2 ((v.slice (Rect.unit (s := S3) oc S1.size hoc)).squeeze S_ squeezes_S1_S_).sem
          ((X.slice (Rect.unit (s := S2x8192x4096) ob S1x256x4096.size hob) (fun _ => rfl)).squeeze S256x4096 squeezes_S1x256x4096_S256x4096)
          ((A.slice (Rect.unit (s := S3x256x4096) os S1x256x4096.size hos) (fun _ => rfl)).squeeze S256x4096 squeezes_S1x256x4096_S256x4096)
          hsrc hdst)) Q) := by
  subst e1
  have h0 : ((A.slice (Rect.unit (s := S3x256x4096) os S1x256x4096.size hos) (fun _ => rfl)).squeeze S256x4096 squeezes_S1x256x4096_S256x4096).view.dmaCredit
      = (slot3 A k).view.dmaCredit := rfl
  have h1 := wp_wait (F := F) c (sem := cell3 v k) (dst := slot3 A k) (src := blk X b) (q := q) (V := V) (hsrc := hsrc) (hdst := hdst) (Q := Q) h0
  exact h1

/-- Waiting the copy of gate row `b` into slot `k mod 2`. -/
theorem wp_wait2 {e : EltTy} {A : Memref sig .tc .vmem S2x1x4096 e} {X : Memref sig .tc .hbm S2x1x4096 e} {v : DmaSems sig S2}
    (k b : ℕ) {q : PosShare TreeShare} {V : Buf (Elt F) (X.view.loc (c : Thread nD τ))} {oc : Fin 1 → ℕ} {os ob : Fin 3 → ℕ}
    {hoc : ∀ a, oc a + S1.size a ≤ S2.size a} {hos : ∀ a, os a + S1x1x4096.size a ≤ S2x1x4096.size a}
    {hob : ∀ a, ob a + S1x1x4096.size a ≤ S2x1x4096.size a}
    (e1 : oc = ![k % 2]) {hsrc hdst} {Q : PUnit → sProp 𝕄} :
    iprop(infl c (cell2 v k) (gate A k) (gate X b) q V ∗ (∃ W, owes (c : Thread nD τ) (0 : CellTallies nD τ sig Unit) W))
      ⊢ iprop((iprop(landed c (cell2 v k) (gate A k) X q V ((gate X b).view.read (Elt F) V)
            ∗ (∃ W, owes (c : Thread nD τ) (0 : CellTallies nD τ sig Unit) W)) -∗ Q ⟨⟩)
      -∗ WP c (Prog.lift (.waitDma2 ((v.slice (Rect.unit (s := S2) oc S1.size hoc)).squeeze S_ squeezes_S1_S_).sem
          ((X.slice (Rect.unit (s := S2x1x4096) ob S1x1x4096.size hob) (fun _ => rfl)).squeeze S1x4096 squeezes_S1x1x4096_S1x4096)
          ((A.slice (Rect.unit (s := S2x1x4096) os S1x1x4096.size hos) (fun _ => rfl)).squeeze S1x4096 squeezes_S1x1x4096_S1x4096)
          hsrc hdst)) Q) := by
  subst e1
  have h0 : ((A.slice (Rect.unit (s := S2x1x4096) os S1x1x4096.size hos) (fun _ => rfl)).squeeze S1x4096 squeezes_S1x1x4096_S1x4096).view.dmaCredit
      = (gate A k).view.dmaCredit := rfl
  have h1 := wp_wait (F := F) c (sem := cell2 v k) (dst := gate A k) (src := gate X b) (q := q) (V := V) (hsrc := hsrc) (hdst := hdst) (Q := Q) h0
  exact h1

/-- Starting the copy of slot `k mod 2` of the result's ring out to block `b`. -/
theorem wp_out {e : EltTy} {A : Memref sig .tc .vmem S2x256x4096 e} {X : Memref sig .tc .hbm S2x8192x4096 e} {v : DmaSems sig S2}
    (k b : ℕ) {p : S256x4096.Idx → Elt F e} {oc : Fin 1 → ℕ} {os ob : Fin 3 → ℕ}
    {hoc : ∀ a, oc a + S1.size a ≤ S2.size a} {hos : ∀ a, os a + S1x256x4096.size a ≤ S2x256x4096.size a}
    {hob : ∀ a, ob a + S1x256x4096.size a ≤ S2x8192x4096.size a}
    (e1 : oc = ![k % 2]) (e2 : os = slotOff (k % 2)) (e3 : ob = blkOff b) {hsrc hdst hsem} {Q : PUnit → sProp 𝕄} :
    iprop(owns (c : Thread nD τ) (slot2 A k) fullShare p ∗ semVal ((c : Thread nD τ), SemLoc.dma (cell2 v k)) 0
        ∗ (∃ d, owns (c : Thread nD τ) (blk X b) fullShare d))
      ⊢ iprop((oInfl c (cell2 v k) (slot2 A k) (blk X b) p -∗ Q ⟨⟩)
      -∗ WP c (Prog.lift (.enqueueDma
          ((A.slice (Rect.unit (s := S2x256x4096) os S1x256x4096.size hos) (fun _ => rfl)).squeeze S256x4096 squeezes_S1x256x4096_S256x4096)
          (.here ((X.slice (Rect.unit (s := S2x8192x4096) ob S1x256x4096.size hob) (fun _ => rfl)).squeeze S256x4096 squeezes_S1x256x4096_S256x4096))
          (.dma ((v.slice (Rect.unit (s := S2) oc S1.size hoc)).squeeze S_ squeezes_S1_S_).sem) hsrc hdst hsem)) Q) := by
  subst e1 e2 e3
  have h0 : 0 < (blk X b).view.dmaCredit := View.dmaCredit_pos _ (Shape.numel_pos (by decide))
  have h1 := wp_oIssue (F := F) c (sem := cell2 v k) (slot := slot2 A k) (blk := blk X b) (p := p) (hsrc := hsrc) (hdst := hdst)
    (hsem := hsem) (Q := Q) h0
  exact h1

/-- Waiting the copy out of slot `k mod 2` to block `b`. -/
theorem wp_outWait {e : EltTy} {A : Memref sig .tc .vmem S2x256x4096 e} {X : Memref sig .tc .hbm S2x8192x4096 e} {v : DmaSems sig S2}
    (k b : ℕ) {p : S256x4096.Idx → Elt F e} {oc : Fin 1 → ℕ} {os ob : Fin 3 → ℕ}
    {hoc : ∀ a, oc a + S1.size a ≤ S2.size a} {hos : ∀ a, os a + S1x256x4096.size a ≤ S2x256x4096.size a}
    {hob : ∀ a, ob a + S1x256x4096.size a ≤ S2x8192x4096.size a}
    (e1 : oc = ![k % 2]) {hsrc hdst} {Q : PUnit → sProp 𝕄} :
    iprop(oInfl c (cell2 v k) (slot2 A k) (blk X b) p ∗ (∃ W, owes (c : Thread nD τ) (0 : CellTallies nD τ sig Unit) W))
      ⊢ iprop((iprop(owns (c : Thread nD τ) (blk X b) fullShare p ∗ oFree c (cell2 v k) (slot2 A k)
            ∗ (∃ W, owes (c : Thread nD τ) (0 : CellTallies nD τ sig Unit) W)) -∗ Q ⟨⟩)
      -∗ WP c (Prog.lift (.waitDma2 ((v.slice (Rect.unit (s := S2) oc S1.size hoc)).squeeze S_ squeezes_S1_S_).sem
          ((A.slice (Rect.unit (s := S2x256x4096) os S1x256x4096.size hos) (fun _ => rfl)).squeeze S256x4096 squeezes_S1x256x4096_S256x4096)
          ((X.slice (Rect.unit (s := S2x8192x4096) ob S1x256x4096.size hob) (fun _ => rfl)).squeeze S256x4096 squeezes_S1x256x4096_S256x4096)
          hsrc hdst)) Q) := by
  subst e1
  have h0 : ((X.slice (Rect.unit (s := S2x8192x4096) ob S1x256x4096.size hob) (fun _ => rfl)).squeeze S256x4096
      squeezes_S1x256x4096_S256x4096).view.dmaCredit = (blk X b).view.dmaCredit := rfl
  have h1 := wp_oWait (F := F) c (sem := cell2 v k) (slot := slot2 A k) (blk := blk X b) (p := p) (hsrc := hsrc) (hdst := hdst) (Q := Q) h0
  exact h1

end At

end Cert.Kernel2Ideal.Post
-- ==== Proof.Post.Roles.lean ====
/-
  The states of a ring's slots between trips, and a copy that is started or waited for only in some trips.
-/
module

public import proofs.«01_k».proof.Proof.Post.Slots

@[expose] public section

set_option maxRecDepth 65536

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A bit that says whether a condition holds. -/
abbrev b1 (P : Prop) [Decidable P] : BitVec 1 := if P then 1#1 else 0#1

/-- The third of an array's share that slot `k mod 3` reads with. -/
def sh (k : ℕ) : PosShare TreeShare := Ring.shares3 fullShare ⟨k % 3, Nat.mod_lt k (by decide)⟩

theorem sh_add3 (k : ℕ) : sh (k + 3) = sh k := by
  unfold sh; congr 1; simp

section Rings
variable {e : EltTy} (v : DmaSems sig S3) (A : Memref sig .tc .vmem S3x256x4096 e) (X : Memref sig .tc .hbm S2x8192x4096 e)
  (V : Buf (Elt F) (X.view.loc (c : Thread nD τ)))

/-- Slot `k mod 3` of a read ring, at rest. -/
abbrev rFree (k : ℕ) : sProp 𝕄 := free c (cell3 v k) (slot3 A k) X (sh k) V
/-- Slot `k mod 3` of a read ring, block `k` on its way into it. -/
abbrev rInfl (k : ℕ) : sProp 𝕄 := infl c (cell3 v k) (slot3 A k) (blk X k) (sh k) V
/-- Slot `k mod 3` of a read ring, holding block `k`. -/
abbrev rLanded (k : ℕ) : sProp 𝕄 := landed c (cell3 v k) (slot3 A k) X (sh k) V ((blk X k).view.read (Elt F) V)
/-- Slot `k mod 3` once the copy of block `k`, if there is such a block, has been started. -/
def role (k : ℕ) : sProp 𝕄 := if k < 64 then rInfl c v A X V k else rFree c v A X V k

theorem role_lt {k : ℕ} (h : k < 64) : role c v A X V k = rInfl c v A X V k := if_pos h
theorem role_ge {k : ℕ} (h : ¬ k < 64) : role c v A X V k = rFree c v A X V k := if_neg h

theorem cell3_add3 (k : ℕ) : cell3 v (k + 3) = cell3 v k := by
  have : ∀ (a b : ℕ) (ha : ∀ x, (![a] : Fin 1 → ℕ) x + S1.size x ≤ S3.size x) (hb : ∀ x, (![b] : Fin 1 → ℕ) x + S1.size x ≤ S3.size x),
      a = b → ((v.slice (Rect.unit (s := S3) ![a] S1.size ha)).squeeze S_ squeezes_S1_S_).sem
        = ((v.slice (Rect.unit (s := S3) ![b] S1.size hb)).squeeze S_ squeezes_S1_S_).sem := by
    intro a b ha hb h; subst h; rfl
  exact this _ _ _ _ (Nat.add_mod_right k 3)
theorem slot3_add3 (k : ℕ) : slot3 A (k + 3) = slot3 A k := by
  have : ∀ (a b : ℕ) (ha : ∀ x, slotOff a x + S1x256x4096.size x ≤ S3x256x4096.size x)
      (hb : ∀ x, slotOff b x + S1x256x4096.size x ≤ S3x256x4096.size x), a = b →
      (A.slice (Rect.unit (s := S3x256x4096) (slotOff a) S1x256x4096.size ha) (fun _ => rfl)).squeeze S256x4096 squeezes_S1x256x4096_S256x4096
        = (A.slice (Rect.unit (s := S3x256x4096) (slotOff b) S1x256x4096.size hb) (fun _ => rfl)).squeeze S256x4096
            squeezes_S1x256x4096_S256x4096 := by
    intro a b ha hb h; subst h; rfl
  exact this _ _ _ _ (Nat.add_mod_right k 3)
theorem rFree_add3 (k : ℕ) : rFree c v A X V (k + 3) = rFree c v A X V k := by
  unfold rFree; rw [cell3_add3, slot3_add3, sh_add3]
end Rings

section Gates
variable (v : DmaSems sig S2) (A : Memref sig .tc .vmem S2x1x4096 .f32) (X : Memref sig .tc .hbm S2x1x4096 .f32)
  (V : Buf (Elt F) (X.view.loc (c : Thread nD τ)))

/-- Slot `g` of a gate's buffer, at rest. -/
abbrev gFree (g : ℕ) : sProp 𝕄 := free c (cell2 v g) (gate A g) X (sh g) V
/-- Slot `g` of a gate's buffer, batch element `g`'s row on its way into it. -/
abbrev gInfl (g : ℕ) : sProp 𝕄 := infl c (cell2 v g) (gate A g) (gate X g) (sh g) V
/-- Slot `g` of a gate's buffer, holding batch element `g`'s row. -/
abbrev gLanded (g : ℕ) : sProp 𝕄 := landed c (cell2 v g) (gate A g) X (sh g) V ((gate X g).view.read (Elt F) V)

/-- A gate's buffer before trip `k`. -/
def gates (k : ℕ) : sProp 𝕄 :=
  iprop((if k = 0 then gInfl c v A X V 0 else gLanded c v A X V 0)
    ∗ (if k < 32 then gFree c v A X V 1 else if k = 32 then gInfl c v A X V 1 else gLanded c v A X V 1))
/-- A gate's buffer in trip `k`, once the second row's copy has been started if it is to be: the row not waited for. -/
def gates' (k : ℕ) : sProp 𝕄 :=
  iprop((if k = 0 then gInfl c v A X V 0 else gLanded c v A X V 0)
    ∗ (if k < 31 then gFree c v A X V 1 else if k ≤ 32 then gInfl c v A X V 1 else gLanded c v A X V 1))
/-- The row of a gate's buffer that trip `k` does not read. -/
def gRest (k : ℕ) : sProp 𝕄 :=
  if k < 31 then gFree c v A X V 1 else if k < 32 then gInfl c v A X V 1 else gLanded c v A X V 0
/-- A gate's buffer in trip `k`, once its row is there. -/
def gates'' (k : ℕ) : sProp 𝕄 := iprop(gLanded c v A X V (k / 32) ∗ gRest c v A X V k)

theorem gates_next (k : ℕ) (hk : k < 64) : gates'' c v A X V k ⊢ gates c v A X V (k + 1) := by
  unfold gates'' gates gRest
  have h1 : k / 32 = if k < 32 then 0 else 1 := by split <;> omega
  rw [h1]
  by_cases a : k < 31
  · rw [if_pos (by omega : k < 32), if_pos a, if_neg (by omega), if_pos (by omega)]
  by_cases b : k < 32
  · rw [if_pos b, if_neg a, if_pos b, if_neg (by omega), if_neg (by omega), if_pos (by omega)]
  · rw [if_neg b, if_neg a, if_neg b, if_neg (by omega), if_neg (by omega), if_neg (by omega)]
    iintro ⟨H1, H2⟩
    isplitl [H2]; · iexact H2
    iexact H1

theorem gates_at31 {k : ℕ} (hk : k = 31) : gates c v A X V k = iprop(gLanded c v A X V 0 ∗ gFree c v A X V 1) := by
  subst hk; unfold gates; rw [if_neg (by decide), if_pos (by decide)]
theorem gates'_at31 {k : ℕ} (hk : k = 31) : gates' c v A X V k = iprop(gLanded c v A X V 0 ∗ gInfl c v A X V 1) := by
  subst hk; unfold gates'; rw [if_neg (by decide), if_neg (by decide), if_pos (by decide)]
theorem gates_not31 {k : ℕ} (hk : ¬ k = 31) : gates c v A X V k = gates' c v A X V k := by
  unfold gates gates'
  by_cases a : k < 31
  · rw [if_pos (by omega : k < 32), if_pos a]
  · rw [if_neg (by omega : ¬ k < 32), if_neg a]
    by_cases b : k = 32
    · rw [if_pos b, if_pos (by omega : k ≤ 32)]
    · rw [if_neg b, if_neg (by omega : ¬ k ≤ 32)]
theorem gates'_wait {k : ℕ} (hk : k < 64) (h : k % 32 = 0) :
    gates' c v A X V k ⊢ iprop(gInfl c v A X V (k / 32) ∗ gRest c v A X V k) := by
  unfold gates' gRest
  by_cases a : k = 0
  · subst a
    rw [if_pos rfl, if_pos (by decide), if_pos (by decide)]
  · obtain rfl : k = 32 := by omega
    rw [if_neg (by decide), if_neg (by decide), if_pos (by decide), if_neg (by decide), if_neg (by decide)]
    iintro ⟨H1, H2⟩
    isplitl [H2]; · iexact H2
    iexact H1
theorem gates'_keep {k : ℕ} (hk : k < 64) (h : ¬ k % 32 = 0) : gates' c v A X V k ⊢ gates'' c v A X V k := by
  unfold gates' gates'' gRest
  rw [if_neg (by omega)]
  by_cases a : k < 31
  · rw [if_pos a, if_pos a, show k / 32 = 0 by omega]
  by_cases b : k < 32
  · rw [if_neg a, if_neg a, if_pos (by omega), if_pos b, show k / 32 = 0 by omega]
  · rw [if_neg a, if_neg a, if_neg (by omega), if_neg b, show k / 32 = 1 by omega]
    iintro ⟨H1, H2⟩
    isplitl [H2]; · iexact H2
    iexact H1
end Gates

section Out
variable (v : DmaSems sig S2) (A : Memref sig .tc .vmem S2x256x4096 .f32) (X : Memref sig .tc .hbm S2x8192x4096 .f32)
  (p : ℕ → S256x4096.Idx → Elt F .f32)

/-- Before trip `k`, the other slot of the write ring: block `k - 1` on its way out of it, if there is such a block. -/
def oRole (k : ℕ) : sProp 𝕄 :=
  if k ≠ 0 then oInfl c (cell2 v (k + 1)) (slot2 A (k + 1)) (blk X (k - 1)) (p (k - 1)) else oFree c (cell2 v (k + 1)) (slot2 A (k + 1))
/-- What trip `k` finishes: block `k - 1` of the result, if there is such a block. -/
def oDone (k : ℕ) : sProp 𝕄 := if k ≠ 0 then owns (c : Thread nD τ) (blk X (k - 1)) fullShare (p (k - 1)) else iprop(emp)
end Out

/-- A step taken only if a condition holds, and what follows. -/
theorem wp_guard {C : Prop} [Decidable C] {α : Type} {m : C → Prog (TpuEff nD τ sig (Elt F) Λ₀ .tc) PUnit}
    {J : Prog (TpuEff nD τ sig (Elt F) Λ₀ .tc) α} {Q : α → sProp 𝕄} {R R' : sProp 𝕄}
    (hm : ∀ (h : C) (K : PUnit → sProp 𝕄), R ⊢ iprop((R' -∗ K ⟨⟩) -∗ WP c (m h) K)) (hn : ¬ C → R ⊢ R') :
    R ⊢ iprop((R' -∗ WP c J Q) -∗ WP c (if h : C then m h >>= fun _ => J else J) Q) := by
  by_cases h : C
  · rw [dif_pos h]; unfold WP; rw [wp_bind]
    iintro H K
    iapply (hm h _) $$ H
    iintro H
    iapply K
    iexact H
  · rw [dif_neg h]
    iintro H K
    iapply K
    iapply (hn h) $$ H

/-- A program that ends with a value equal to another. -/
theorem wp_pure_eq {α : Type} {r r' : α} {Q : α → sProp 𝕄} (h : r = r') : Q r' ⊢ WP c (Pure.pure r) Q := by
  subst h; unfold WP
  show _ ⊢ wp _ _ _ (Prog.ret r) Q
  rw [wp_ret]
  iintro H
  imodintro
  iexact H

end Cert.Kernel2Ideal.Post
-- ==== Proof.Post.Parts.lean ====
/-
  What each part of a trip does to the rings, and the words it leaves.
-/
module

public import proofs.«01_k».proof.Proof.Post.Roles

@[expose] public section

set_option maxRecDepth 65536

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

set_option maxHeartbeats 4000000

variable (arg0 : Memref sig .tc .hbm S2x8192x4096 .f32) (harg0 : arg0.IsWhole) (arg1 : Memref sig .tc .hbm S2x8192x4096 .bf16) (harg1 : arg1.IsWhole) (arg2 : Memref sig .tc .hbm S1x4096 .f32) (harg2 : arg2.IsWhole) (arg3 : Memref sig .tc .hbm S2x1x4096 .f32) (harg3 : arg3.IsWhole) (arg4 : Memref sig .tc .hbm S2x8192x4096 .bf16) (harg4 : arg4.IsWhole) (arg5 : Memref sig .tc .hbm S1x4096 .f32) (harg5 : arg5.IsWhole) (arg6 : Memref sig .tc .hbm S2x1x4096 .f32) (harg6 : arg6.IsWhole) (arg7 : Memref sig .tc .hbm S2x8192x4096 .f32) (harg7 : arg7.IsWhole) (alloca : Memref sig .tc .vmem S3x256x4096 .f32) (halloca : alloca.IsWhole) (v0 : DmaSems sig S3) (alloca_0 : Memref sig .tc .vmem S3x256x4096 .bf16) (halloca_0 : alloca_0.IsWhole) (v1 : DmaSems sig S3) (alloca_1 : Memref sig .tc .vmem S1x4096 .f32) (halloca_1 : alloca_1.IsWhole) (alloca_2 : Memref sig .tc .vmem S2x1x4096 .f32) (halloca_2 : alloca_2.IsWhole) (v2 : DmaSems sig S2) (alloca_3 : Memref sig .tc .vmem S3x256x4096 .bf16) (halloca_3 : alloca_3.IsWhole) (v3 : DmaSems sig S3) (alloca_4 : Memref sig .tc .vmem S1x4096 .f32) (halloca_4 : alloca_4.IsWhole) (alloca_5 : Memref sig .tc .vmem S2x1x4096 .f32) (halloca_5 : alloca_5.IsWhole) (v4 : DmaSems sig S2) (alloca_6 : Memref sig .tc .vmem S2x256x4096 .f32) (halloca_6 : alloca_6.IsWhole) (v5 : DmaSems sig S2) (v169r1 : DmaSems sig S_) (v169r2 : DmaSems sig S_)
  (t : Fin k0_t1_loop.trips)
  (Vx : Buf (Elt F) (arg0.view.loc (c : Thread nD τ))) (Vm : Buf (Elt F) (arg1.view.loc (c : Thread nD τ)))
  (Vgm : Buf (Elt F) (arg3.view.loc (c : Thread nD τ))) (Vy : Buf (Elt F) (arg4.view.loc (c : Thread nD τ)))
  (Vgf : Buf (Elt F) (arg6.view.loc (c : Thread nD τ)))

/-- The third part starts the copy of block `t + 2` of `x`. -/
theorem part3 {Q} : rFree c v0 alloca arg0 Vx (t.val + 2) ⊢ iprop((role c v0 alloca arg0 Vx (t.val + 2)
      -∗ Q ⟨wB (t.val + 2), wR (t.val + 2), wI (t.val + 1), b1 (t.val + 2 < 64), 1#1⟩)
    -∗ WP (F := F) c (k0_part3 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (wI t) (wK t) (wI t) (wK t) (wG t) (wD t) (wI t) (wK t) (wG t) (wD t) (wK t) (wO t) (wB t) (wR t) (chk1 t) (BitVec.ofNat 32 t.val) (wB (t.val + 1)) (wB (t.val + 1)) (wR (t.val + 1))
        (BitVec.ofNat 32 ((t.val + 1) % 32 + 1)) (b1 ((t.val + 1) % 32 = 31))) Q) := by
  rw [k0_part3_eq_skeleton]; unfold k0_part3_skel
  dsimp only
  iintro H4 HK
  iapply wp_guard c (R := rFree c v0 alloca arg0 Vx (t.val + 2)) (R' := role c v0 alloca arg0 Vx (t.val + 2)) ?_ ?_ $$ H4
  · intro h K
    have h' := (cond4 t).1 h
    rw [role_lt _ _ _ _ _ h']
    exact wp_issue3 c (t.val + 2) (t.val + 2) (off14 t h') (off15 t h') (off16 t h')
  · intro h
    rw [role_ge _ _ _ _ _ fun h' => h ((cond4 t).2 h')]
  iintro H4
  iapply wp_pure_eq c ?_
  rotate_left
  · iapply HK $$ H4
  · revert t; decide +kernel

/-- The fourth part starts the copies of block `t + 2` of the mixer's and of the FFN's output, and, in trip 31, of the
    second batch element's gates. -/
theorem part4 {Q} : iprop(rFree c v1 alloca_0 arg1 Vm (t.val + 2) ∗ gates c v2 alloca_2 arg3 Vgm t.val ∗ rFree c v3 alloca_3 arg4 Vy (t.val + 2) ∗ gates c v4 alloca_5 arg6 Vgf t.val)
    ⊢ iprop((iprop(role c v1 alloca_0 arg1 Vm (t.val + 2) ∗ gates' c v2 alloca_2 arg3 Vgm t.val ∗ role c v3 alloca_3 arg4 Vy (t.val + 2) ∗ gates' c v4 alloca_5 arg6 Vgf t.val)
      -∗ Q ⟨wI (t.val + 1), wG (t.val + 1), wI (t.val + 1), b1 (t.val = 31)⟩)
    -∗ WP (F := F) c (k0_part4 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (wI t) (wK t) (wI t) (wK t) (wG t) (wD t) (wI t) (wK t) (wG t) (wD t) (wK t) (wO t) (wB t) (wR t) (chk1 t) (BitVec.ofNat 32 t.val) (wB t) (wB (t.val + 1)) (wR (t.val + 1))
        (wB (t.val + 2)) (wR (t.val + 2)) (b1 (t.val + 2 < 64)) 1#1) Q) := by
  rw [k0_part4_eq_skeleton]; unfold k0_part4_skel
  dsimp only
  iintro ⟨H5, H6, H7, H8⟩ HK
  iapply wp_guard c (R := rFree c v1 alloca_0 arg1 Vm (t.val + 2)) (R' := role c v1 alloca_0 arg1 Vm (t.val + 2)) ?_ ?_ $$ H5
  · intro h K
    have h' := (cond5 t).1 h
    rw [role_lt _ _ _ _ _ h']
    exact wp_issue3 c (t.val + 2) (t.val + 2) (off17 t h') (off18 t h') (off19 t h')
  · intro h
    rw [role_ge _ _ _ _ _ fun h' => h ((cond5 t).2 h')]
  iintro H5
  iapply wp_guard c (R := gates c v2 alloca_2 arg3 Vgm t.val) (R' := gates' c v2 alloca_2 arg3 Vgm t.val) ?_ ?_ $$ H6
  · intro h K
    have h' := (cond6 t).1 h
    rw [gates_at31 _ _ _ _ _ h', gates'_at31 _ _ _ _ _ h']
    iintro ⟨H0, H1⟩ HJ
    iapply wp_issue2 c 1 1 (off20 t h') (off21 t h') (off22 t h') $$ H1
    iintro H1
    iapply HJ
    isplitl [H0]; · iexact H0
    iexact H1
  · intro h
    rw [gates_not31 _ _ _ _ _ fun h' => h ((cond6 t).2 h')]
  iintro H6
  iapply wp_guard c (R := rFree c v3 alloca_3 arg4 Vy (t.val + 2)) (R' := role c v3 alloca_3 arg4 Vy (t.val + 2)) ?_ ?_ $$ H7
  · intro h K
    have h' := (cond7 t).1 h
    rw [role_lt _ _ _ _ _ h']
    exact wp_issue3 c (t.val + 2) (t.val + 2) (off23 t h') (off24 t h') (off25 t h')
  · intro h
    rw [role_ge _ _ _ _ _ fun h' => h ((cond7 t).2 h')]
  iintro H7
  iapply wp_guard c (R := gates c v4 alloca_5 arg6 Vgf t.val) (R' := gates' c v4 alloca_5 arg6 Vgf t.val) ?_ ?_ $$ H8
  · intro h K
    have h' := (cond8 t).1 h
    rw [gates_at31 _ _ _ _ _ h', gates'_at31 _ _ _ _ _ h']
    iintro ⟨H0, H1⟩ HJ
    iapply wp_issue2 c 1 1 (off26 t h') (off27 t h') (off28 t h') $$ H1
    iintro H1
    iapply HJ
    isplitl [H0]; · iexact H0
    iexact H1
  · intro h
    rw [gates_not31 _ _ _ _ _ fun h' => h ((cond8 t).2 h')]
  iintro H8
  iapply wp_pure_eq c ?_
  rotate_left
  · iapply HK
    isplitl [H5]; · iexact H5
    isplitl [H6]; · iexact H6
    isplitl [H7]; · iexact H7
    iexact H8
  · revert t; decide +kernel

/-- The fifth part waits for block `t` of `x`, of the mixer's and of the FFN's output, and, in a batch element's first
    trip, for its first gate. -/
theorem part5 {Q} : iprop(rInfl c v0 alloca arg0 Vx t.val ∗ rInfl c v1 alloca_0 arg1 Vm t.val ∗ gates' c v2 alloca_2 arg3 Vgm t.val ∗ rInfl c v3 alloca_3 arg4 Vy t.val ∗ (∃ W, owes (c : Thread nD τ) (0 : CellTallies nD τ sig Unit) W))
    ⊢ iprop((iprop(rLanded c v0 alloca arg0 Vx t.val ∗ rLanded c v1 alloca_0 arg1 Vm t.val ∗ gates'' c v2 alloca_2 arg3 Vgm t.val ∗ rLanded c v3 alloca_3 arg4 Vy t.val ∗ (∃ W, owes (c : Thread nD τ) (0 : CellTallies nD τ sig Unit) W))
      -∗ Q ⟨wG (t.val + 1), BitVec.ofNat 32 (if t.val % 32 = 0 then 1 else 0), 0#32⟩)
    -∗ WP (F := F) c (k0_part5 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (wI t) (wK t) (wI t) (wK t) (wG t) (wD t) (wI t) (wK t) (wG t) (wD t) (wK t) (wO t) (wB t) (wR t) (chk1 t) (BitVec.ofNat 32 t.val) (b1 (t.val = 0)) (wB t) (wR t)
        (wB (t.val + 63)) (wR (t.val + 63)) (wB (t.val + 1)) (wR (t.val + 1)) (b1 (t.val = 31))) Q) := by
  rw [k0_part5_eq_skeleton]; unfold k0_part5_skel
  dsimp only
  iintro ⟨H9, H10, H11, H12, HO⟩ HK
  iapply wp_guard c (R := iprop(rInfl c v0 alloca arg0 Vx t.val ∗ (∃ W, owes (c : Thread nD τ) (0 : CellTallies nD τ sig Unit) W)))
    (R' := iprop(rLanded c v0 alloca arg0 Vx t.val ∗ (∃ W, owes (c : Thread nD τ) (0 : CellTallies nD τ sig Unit) W))) ?_ ?_ $$ [H9 HO]
  · intro h K
    exact wp_wait3 c t.val t.val (off29 t)
  · intro h
    exact absurd (cond9 t) h
  · isplitl [H9]; · iexact H9
    iexact HO
  iintro ⟨H9, HO⟩
  iapply wp_guard c (R := iprop(rInfl c v1 alloca_0 arg1 Vm t.val ∗ (∃ W, owes (c : Thread nD τ) (0 : CellTallies nD τ sig Unit) W)))
    (R' := iprop(rLanded c v1 alloca_0 arg1 Vm t.val ∗ (∃ W, owes (c : Thread nD τ) (0 : CellTallies nD τ sig Unit) W))) ?_ ?_ $$ [H10 HO]
  · intro h K
    exact wp_wait3 c t.val t.val (off32 t)
  · intro h
    exact absurd (cond10 t) h
  · isplitl [H10]; · iexact H10
    iexact HO
  iintro ⟨H10, HO⟩
  iapply wp_guard c (R := iprop(gates' c v2 alloca_2 arg3 Vgm t.val ∗ (∃ W, owes (c : Thread nD τ) (0 : CellTallies nD τ sig Unit) W)))
    (R' := iprop(gates'' c v2 alloca_2 arg3 Vgm t.val ∗ (∃ W, owes (c : Thread nD τ) (0 : CellTallies nD τ sig Unit) W))) ?_ ?_ $$ [H11 HO]
  · intro h K
    iintro ⟨HG, HO⟩ HJ
    ihave HG' := (gates'_wait c v2 alloca_2 arg3 Vgm (lt_of_lt_of_eq t.isLt trips1) ((cond11 t).1 h)) $$ HG
    icases HG' with ⟨H0, H1⟩
    iapply wp_wait2 c (t.val / 32) (t.val / 32) (off35 t) $$ [H0 HO]
    · isplitl [H0]; · iexact H0
      iexact HO
    iintro ⟨H0, HO⟩
    iapply HJ
    isplitl [H0 H1]
    · unfold gates''
      isplitl [H0]; · iexact H0
      iexact H1
    iexact HO
  · intro h
    iintro ⟨HG, HO⟩
    isplitl [HG]
    · iapply (gates'_keep c v2 alloca_2 arg3 Vgm (lt_of_lt_of_eq t.isLt trips1) fun h' => h ((cond11 t).2 h')) $$ HG
    iexact HO
  · isplitl [H11]; · iexact H11
    iexact HO
  iintro ⟨H11, HO⟩
  iapply wp_guard c (R := iprop(rInfl c v3 alloca_3 arg4 Vy t.val ∗ (∃ W, owes (c : Thread nD τ) (0 : CellTallies nD τ sig Unit) W)))
    (R' := iprop(rLanded c v3 alloca_3 arg4 Vy t.val ∗ (∃ W, owes (c : Thread nD τ) (0 : CellTallies nD τ sig Unit) W))) ?_ ?_ $$ [H12 HO]
  · intro h K
    exact wp_wait3 c t.val t.val (off38 t)
  · intro h
    exact absurd (cond12 t) h
  · isplitl [H12]; · iexact H12
    iexact HO
  iintro ⟨H12, HO⟩
  iapply wp_pure_eq c ?_
  rotate_left
  · iapply HK
    isplitl [H9]; · iexact H9
    isplitl [H10]; · iexact H10
    isplitl [H11]; · iexact H11
    isplitl [H12]; · iexact H12
    iexact HO
  · revert t; decide +kernel

/-- The seventh part starts the copy of the written block `t` to the result. -/
theorem part7 {Q} (p : S256x4096.Idx → Elt F .f32) :
    iprop(owns (c : Thread nD τ) (slot2 alloca_6 t.val) fullShare p ∗ semVal ((c : Thread nD τ), SemLoc.dma (cell2 v5 t.val)) 0
        ∗ (∃ d, owns (Val := Elt F) (c : Thread nD τ) (blk arg7 t.val) fullShare d))
    ⊢ iprop((oInfl c (cell2 v5 t.val) (slot2 alloca_6 t.val) (blk arg7 t.val) p -∗ Q ⟨wK (t.val + 1), b1 (t.val ≠ 0), 0#1⟩)
    -∗ WP (F := F) c (k0_part7 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (wI t) (wK t) (wI t) (wK t) (wG t) (wD t) (wI t) (wK t) (wG t) (wD t) (wK t) (wO t) (wB t) (wR t) (chk1 t) (b1 (t.val = 0)) (b1 (t.val = 63)) (wB t) (wR t)
        (wB (t.val + 63)) (wR (t.val + 63)) (wB (t.val + 1)) (wR (t.val + 1))) Q) := by
  rw [k0_part7_eq_skeleton]; unfold k0_part7_skel
  dsimp only
  simp only [ite_self]
  iintro H20 HK
  iapply wp_guard c (R := iprop(owns (c : Thread nD τ) (slot2 alloca_6 t.val) fullShare p
        ∗ semVal ((c : Thread nD τ), SemLoc.dma (cell2 v5 t.val)) 0
        ∗ (∃ d, owns (Val := Elt F) (c : Thread nD τ) (blk arg7 t.val) fullShare d)))
      (R' := oInfl c (cell2 v5 t.val) (slot2 alloca_6 t.val) (blk arg7 t.val) p) ?_ ?_ $$ H20
  · intro h K
    exact wp_out c t.val t.val (off52 t) (off54 t) (off53 t)
  · intro h
    exact absurd (cond20 t) h
  iintro H20
  iapply wp_pure_eq c ?_
  rotate_left
  · iapply HK
    iexact H20
  · revert t; decide +kernel

/-- The eighth part waits for the copy of block `t - 1` to the result. -/
theorem part8 {Q} (p : ℕ → S256x4096.Idx → Elt F .f32) :
    iprop(oRole c v5 alloca_6 arg7 p t.val ∗ (∃ W, owes (c : Thread nD τ) (0 : CellTallies nD τ sig Unit) W))
    ⊢ iprop((iprop(oFree c (cell2 v5 (t.val + 1)) (slot2 alloca_6 (t.val + 1)) ∗ oDone c arg7 p t.val ∗ (∃ W, owes (c : Thread nD τ) (0 : CellTallies nD τ sig Unit) W)) -∗ Q (wO (t.val + 1)))
    -∗ WP (F := F) c (k0_part8 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (wI t) (wK t) (wI t) (wK t) (wG t) (wD t) (wI t) (wK t) (wG t) (wD t) (wK t) (wO t) (wB t) (wR t) (chk1 t) (b1 (t.val = 0)) (wB t) (wR t)
        (wB (t.val + 63)) (wR (t.val + 63)) (b1 (t.val ≠ 0)) 0#1) Q) := by
  rw [k0_part8_eq_skeleton]; unfold k0_part8_skel
  dsimp only
  simp only [ite_self]
  iintro H26 HK
  iapply wp_guard c (R := iprop(oRole c v5 alloca_6 arg7 p t.val ∗ (∃ W, owes (c : Thread nD τ) (0 : CellTallies nD τ sig Unit) W)))
      (R' := iprop(oFree c (cell2 v5 (t.val + 1)) (slot2 alloca_6 (t.val + 1)) ∗ oDone c arg7 p t.val ∗ (∃ W, owes (c : Thread nD τ) (0 : CellTallies nD τ sig Unit) W))) ?_ ?_ $$ H26
  · intro h K
    have h' := (cond26 t).1 h
    unfold oRole oDone
    rw [if_pos h', if_pos h']
    iintro H HJ
    iapply wp_outWait c (t.val + 1) (t.val - 1) (off55 t h') $$ H
    iintro ⟨H1, H2, H3⟩
    iapply HJ
    isplitl [H2]; · iexact H2
    isplitl [H1]; · iexact H1
    iexact H3
  · intro h
    have h' : ¬ t.val ≠ 0 := fun h' => h ((cond26 t).2 h')
    unfold oRole oDone
    rw [if_neg h', if_neg h']
    iintro ⟨H1, H2⟩
    isplitl [H1]; · iexact H1
    isplitr; · iempintro
    iexact H2
  iintro ⟨H1, H2, H3⟩
  iapply wp_pure_eq c ?_
  rotate_left
  · iapply HK
    isplitl [H1]; · iexact H1
    isplitl [H2]; · iexact H2
    iexact H3
  · revert t; decide +kernel

/-- The second part checks the offsets' bounds and computes the trip's words. -/
theorem part2 {Q} :
    Q ⟨chk7 t, chk6 t, chk5 t, chk4 t, chk3 t, chk2 t, chk1 t, BitVec.ofNat 32 t.val, b1 (t.val = 0), b1 (t.val = 63), wB t, wR t,
        wB (t.val + 63), wR (t.val + 63), wB (t.val + 1), wB (t.val + 1), wR (t.val + 1),
        BitVec.ofNat 32 ((t.val + 1) % 32 + 1), b1 ((t.val + 1) % 32 = 31)⟩
    ⊢ WP (F := F) c (k0_part2 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 0#32 1#32 t (wI t) (wK t) (wI t) (wK t) (wG t) (wD t) (wI t) (wK t) (wG t) (wD t) (wK t) (wO t) (wB t) (wR t)) Q := by
  rw [k0_part2_eq_skeleton]; unfold k0_part2_skel
  dsimp only
  unfold WP
  iintro HK
  rw [wp_bind]
  iapply wp_assume Variants.none (c : Thread nD τ) none Set.univ (chk7 t)
  rw [wp_ret]; imodintro
  rw [wp_bind]
  iapply wp_assume Variants.none (c : Thread nD τ) none Set.univ (chk6 t)
  rw [wp_ret]; imodintro
  rw [wp_bind]
  iapply wp_assume Variants.none (c : Thread nD τ) none Set.univ (chk5 t)
  rw [wp_ret]; imodintro
  rw [wp_bind]
  iapply wp_assume Variants.none (c : Thread nD τ) none Set.univ (chk4 t)
  rw [wp_ret]; imodintro
  rw [wp_bind]
  iapply wp_assume Variants.none (c : Thread nD τ) none Set.univ (chk3 t)
  rw [wp_ret]; imodintro
  rw [wp_bind]
  iapply wp_assume Variants.none (c : Thread nD τ) none Set.univ (chk2 t)
  rw [wp_ret]; imodintro
  rw [wp_bind]
  iapply wp_assume Variants.none (c : Thread nD τ) none Set.univ (chk1 t)
  rw [wp_ret]; imodintro
  iapply wp_pure_eq c ?_
  rotate_left
  · iexact HK
  · refine congrArg (PSigma.mk (chk7 t)) ?_
    refine congrArg (PSigma.mk (chk6 t)) ?_
    refine congrArg (PSigma.mk (chk5 t)) ?_
    refine congrArg (PSigma.mk (chk4 t)) ?_
    refine congrArg (PSigma.mk (chk3 t)) ?_
    refine congrArg (PSigma.mk (chk2 t)) ?_
    refine congrArg (PSigma.mk (chk1 t)) ?_
    clear Q; revert t; decide +kernel

end Cert.Kernel2Ideal.Post
-- ==== Proof.Post.Inner.lean ====
/-
  What the steps of one block compute and leave in the write ring.
-/
module

public import proofs.«01_k».proof.Proof.Post.Parts
public import Idealize.ShloMosaic.Lib.Pointwise

@[expose] public section

set_option maxRecDepth 65536

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

set_option maxHeartbeats 4000000

/-! ## The value of a block -/

/-- A gate's row with the unit axis put back. -/
def up (g : S1x4096.Idx → Elt F .f32) : S1x1x4096.Idx → Elt F .f32 :=
  fun z => g ((Shape.reshapeEquiv squeezes_S1x1x4096_S1x4096.numel_eq).symm z)

theorem up_spec (g : S1x4096.Idx → Elt F .f32) : (fun y => up g (Shape.reshapeEquiv squeezes_S1x1x4096_S1x4096.numel_eq y)) = g := by
  funext y; unfold up; rw [Equiv.symm_apply_apply]

/-- What step `j` computes of the blocks `xb`, `mb`, `yb`, the norms' weights `gm`, `gf` and the gates' rows. -/
def outRows (gm ga gf gb : S1x4096.Idx → Elt F .f32) (xb : S256x4096.Idx → Elt F .f32) (mb yb : S256x4096.Idx → Elt F .bf16)
    (j : Fin 16) : S16x4096.Idx → Elt F .f32 :=
  k0_pay1 (k0_pay2 gf (up gb)) (k0_pay3 gm (up ga)) (View.ld xb (rows j)) (View.ld mb (rows j)) (View.ld yb (rows j))

/-- The step that writes a row, and the element's place among the step's. -/
def stepOf (i : S256x4096.Idx) : Fin 16 := ⟨(i 0).val / 16, by have : (i 0).val < 256 := (i 0).isLt; omega⟩
def stepIdx (i : S256x4096.Idx) : S16x4096.Idx := ix2 (⟨(i 0).val % 16, Nat.mod_lt _ (by decide)⟩ : Fin 16) (⟨(i 1).val, (i 1).isLt⟩ : Fin 4096)

theorem rows_emb (i : S256x4096.Idx) : (rows (stepOf i)).emb (stepIdx i) = i := by
  funext a
  apply Fin.ext
  fin_cases a
  · show 16 * ((i 0).val / 16) + 1 * ((i 0).val % 16) = (i 0).val; omega
  · show 0 + 1 * (i 1).val = (i 1).val; omega

/-- The block that the sixteen steps leave. -/
def outBlk (gm ga gf gb : S1x4096.Idx → Elt F .f32) (xb : S256x4096.Idx → Elt F .f32) (mb yb : S256x4096.Idx → Elt F .bf16) :
    S256x4096.Idx → Elt F .f32 :=
  fun i => outRows gm ga gf gb xb mb yb (stepOf i) (stepIdx i)

/-- A block whose rows are the steps' rows is the block. -/
theorem outBlk_of {gm ga gf gb : S1x4096.Idx → Elt F .f32} {xb : S256x4096.Idx → Elt F .f32} {mb yb : S256x4096.Idx → Elt F .bf16}
    {d : S256x4096.Idx → Elt F .f32} (h : ∀ (j : Fin 16) (x : S16x4096.Idx), d ((rows j).emb x) = outRows gm ga gf gb xb mb yb j x) :
    d = outBlk gm ga gf gb xb mb yb := by
  funext i
  have := h (stepOf i) (stepIdx i)
  rw [rows_emb] at this
  exact this

/-- Different steps write different rows. -/
theorem rows_ne {j j' : Fin 16} (h : j ≠ j') (x : S16x4096.Idx) : ¬ ∃ x', (rows j).emb x' = (rows j').emb x := by
  rintro ⟨x', h'⟩
  apply h
  have h0 := congrArg (fun y : S256x4096.Idx => (y 0).val) h'
  have a : 16 * j.val + 1 * (x' 0).val = 16 * j'.val + 1 * (x 0).val := h0
  have b : (x' 0).val < 16 := (x' 0).isLt
  have d : (x 0).val < 16 := (x 0).isLt
  exact Fin.ext (by omega)

/-! ## The loads and the store -/

/-- A step, among sixteen. -/
abbrev st (j : Fin k0_t2_loop.trips) : Fin 16 := ⟨j.val, lt_of_lt_of_eq j.isLt trips2⟩

theorem wp_load3 {e : EltTy} {A : Memref sig .tc .vmem S3x256x4096 e} (k : ℕ) (j : Fin 16) {d : S256x4096.Idx → Elt F e}
    {os : Fin 3 → ℕ} {orr : Fin 2 → ℕ} {hos : ∀ a, os a + S1x256x4096.size a ≤ S3x256x4096.size a}
    {hor : ∀ a, orr a + S16x4096.size a ≤ S256x4096.size a} (e1 : os = slotOff (k % 3)) (e2 : orr = ![16 * j.val, 0]) {hl}
    {Q : (S16x4096.Idx → Elt F e) → sProp 𝕄} :
    owns (c : Thread nD τ) (slot3 A k) fullShare d
      ⊢ iprop((owns (c : Thread nD τ) (slot3 A k) fullShare d -∗ Q (View.ld d (rows j)))
      -∗ WP c (Prog.lift (.load ((A.slice (Rect.unit (s := S3x256x4096) os S1x256x4096.size hos) (fun _ => rfl)).squeeze S256x4096
          squeezes_S1x256x4096_S256x4096) (Rect.unit (s := S256x4096) orr S16x4096.size hor).toLoadRect hl)) Q) := by
  subst e1 e2
  have h1 := wp_load_owns (F := F) c (M := slot3 A k) (q := fullShare) (d := d) (r := rows j) (hl := hl) (Q := Q)
  exact h1

theorem wp_load2 {e : EltTy} {A : Memref sig .tc .vmem S2x256x4096 e} (k : ℕ) (j : Fin 16) {d : S256x4096.Idx → Elt F e}
    {os : Fin 3 → ℕ} {orr : Fin 2 → ℕ} {hos : ∀ a, os a + S1x256x4096.size a ≤ S2x256x4096.size a}
    {hor : ∀ a, orr a + S16x4096.size a ≤ S256x4096.size a} (e1 : os = slotOff (k % 2)) (e2 : orr = ![16 * j.val, 0]) {hl}
    {Q : (S16x4096.Idx → Elt F e) → sProp 𝕄} :
    owns (c : Thread nD τ) (slot2 A k) fullShare d
      ⊢ iprop((owns (c : Thread nD τ) (slot2 A k) fullShare d -∗ Q (View.ld d (rows j)))
      -∗ WP c (Prog.lift (.load ((A.slice (Rect.unit (s := S2x256x4096) os S1x256x4096.size hos) (fun _ => rfl)).squeeze S256x4096
          squeezes_S1x256x4096_S256x4096) (Rect.unit (s := S256x4096) orr S16x4096.size hor).toLoadRect hl)) Q) := by
  subst e1 e2
  have h1 := wp_load_owns (F := F) c (M := slot2 A k) (q := fullShare) (d := d) (r := rows j) (hl := hl) (Q := Q)
  exact h1

theorem wp_store2 {e : EltTy} {A : Memref sig .tc .vmem S2x256x4096 e} (k : ℕ) (j : Fin 16) {d : S256x4096.Idx → Elt F e}
    {os : Fin 3 → ℕ} {orr : Fin 2 → ℕ} {hos : ∀ a, os a + S1x256x4096.size a ≤ S2x256x4096.size a}
    {hor : ∀ a, orr a + S16x4096.size a ≤ S256x4096.size a} (e1 : os = slotOff (k % 2)) (e2 : orr = ![16 * j.val, 0])
    {w : S16x4096.Idx → Elt F e} {hx hm} {Q : PUnit → sProp 𝕄} :
    owns (c : Thread nD τ) (slot2 A k) fullShare d
      ⊢ iprop((owns (c : Thread nD τ) (slot2 A k) fullShare (put d (rows j) w) -∗ Q ⟨⟩)
      -∗ WP c (Prog.lift (.store ((A.slice (Rect.unit (s := S2x256x4096) os S1x256x4096.size hos) (fun _ => rfl)).squeeze S256x4096
          squeezes_S1x256x4096_S256x4096) (Rect.unit (s := S256x4096) orr S16x4096.size hor) w Finset.univ hx hm)) Q) := by
  subst e1 e2
  have h1 := wp_store_owns (F := F) c (M := slot2 A k) (d := d) (r := rows j) (w := w) (hx := hx) (hm := hm) (Q := Q)
  exact h1

theorem wp_loadGate {A : Memref sig .tc .vmem S2x1x4096 .f32} (k : ℕ) {g : S1x4096.Idx → Elt F .f32}
    {os : Fin 3 → ℕ} {hos : ∀ a, os a + S1x1x4096.size a ≤ S2x1x4096.size a} (e1 : os = slotOff (k % 2)) {hl}
    {Q : (S1x1x4096.Idx → Elt F .f32) → sProp 𝕄} :
    owns (c : Thread nD τ) (gate A k) fullShare g
      ⊢ iprop((owns (c : Thread nD τ) (gate A k) fullShare g -∗ Q (up g))
      -∗ WP c (Prog.lift (.load A (Rect.unit (s := S2x1x4096) os S1x1x4096.size hos).toLoadRect hl)) Q) := by
  subst e1
  have h1 := wp_load_squeeze (F := F) c (M := A) (q := fullShare) (r := Rect.unit (s := S2x1x4096) (slotOff (k % 2)) S1x1x4096.size hos)
    (hr := fun _ => rfl) (hq := squeezes_S1x1x4096_S1x4096) (w := up g) (hl := hl) (Q := Q)
  have e := up_spec g
  rw [e] at h1
  exact h1

theorem wp_loadVec {A : Memref sig .tc .vmem S1x4096 .f32} {g : S1x4096.Idx → Elt F .f32}
    {ho : ∀ a, (![0, 0] : Fin 2 → ℕ) a + S1x4096.size a ≤ S1x4096.size a} {hl} {Q : (S1x4096.Idx → Elt F .f32) → sProp 𝕄} :
    owns (c : Thread nD τ) A fullShare g
      ⊢ iprop((owns (c : Thread nD τ) A fullShare g -∗ Q g)
      -∗ WP c (Prog.lift (.load A (Rect.unit (s := S1x4096) ![0, 0] S1x4096.size ho).toLoadRect hl)) Q) := by
  have h1 := wp_load_owns (F := F) c (M := A) (q := fullShare) (d := g) (r := Rect.unit (s := S1x4096) ![0, 0] S1x4096.size ho)
    (hl := hl) (Q := Q)
  have e : View.ld g (Rect.unit (s := S1x4096) ![0, 0] S1x4096.size ho) = g := by
    funext x
    show g _ = g x
    congr 1
    funext a
    apply Fin.ext
    fin_cases a
    · show 0 + 1 * (x 0).val = (x 0).val; omega
    · show 0 + 1 * (x 1).val = (x 1).val; omega
  rw [e] at h1
  exact h1
variable (arg0 : Memref sig .tc .hbm S2x8192x4096 .f32) (harg0 : arg0.IsWhole) (arg1 : Memref sig .tc .hbm S2x8192x4096 .bf16) (harg1 : arg1.IsWhole) (arg2 : Memref sig .tc .hbm S1x4096 .f32) (harg2 : arg2.IsWhole) (arg3 : Memref sig .tc .hbm S2x1x4096 .f32) (harg3 : arg3.IsWhole) (arg4 : Memref sig .tc .hbm S2x8192x4096 .bf16) (harg4 : arg4.IsWhole) (arg5 : Memref sig .tc .hbm S1x4096 .f32) (harg5 : arg5.IsWhole) (arg6 : Memref sig .tc .hbm S2x1x4096 .f32) (harg6 : arg6.IsWhole) (arg7 : Memref sig .tc .hbm S2x8192x4096 .f32) (harg7 : arg7.IsWhole) (alloca : Memref sig .tc .vmem S3x256x4096 .f32) (halloca : alloca.IsWhole) (v0 : DmaSems sig S3) (alloca_0 : Memref sig .tc .vmem S3x256x4096 .bf16) (halloca_0 : alloca_0.IsWhole) (v1 : DmaSems sig S3) (alloca_1 : Memref sig .tc .vmem S1x4096 .f32) (halloca_1 : alloca_1.IsWhole) (alloca_2 : Memref sig .tc .vmem S2x1x4096 .f32) (halloca_2 : alloca_2.IsWhole) (v2 : DmaSems sig S2) (alloca_3 : Memref sig .tc .vmem S3x256x4096 .bf16) (halloca_3 : alloca_3.IsWhole) (v3 : DmaSems sig S3) (alloca_4 : Memref sig .tc .vmem S1x4096 .f32) (halloca_4 : alloca_4.IsWhole) (alloca_5 : Memref sig .tc .vmem S2x1x4096 .f32) (halloca_5 : alloca_5.IsWhole) (v4 : DmaSems sig S2) (alloca_6 : Memref sig .tc .vmem S2x256x4096 .f32) (halloca_6 : alloca_6.IsWhole) (v5 : DmaSems sig S2) (v169r1 : DmaSems sig S_) (v169r2 : DmaSems sig S_)
  (t : Fin k0_t1_loop.trips)
  (Vx : Buf (Elt F) (arg0.view.loc (c : Thread nD τ))) (Vm : Buf (Elt F) (arg1.view.loc (c : Thread nD τ)))
  (Vgm : Buf (Elt F) (arg3.view.loc (c : Thread nD τ))) (Vy : Buf (Elt F) (arg4.view.loc (c : Thread nD τ)))
  (Vgf : Buf (Elt F) (arg6.view.loc (c : Thread nD τ)))

variable (gm ga gf gb : S1x4096.Idx → Elt F .f32) (xb : S256x4096.Idx → Elt F .f32) (mb yb : S256x4096.Idx → Elt F .bf16)

/-- The three blocks that a trip reads. -/
def ins : sProp 𝕄 :=
  iprop(owns (c : Thread nD τ) (slot3 alloca t.val) fullShare xb ∗ owns (c : Thread nD τ) (slot3 alloca_0 t.val) fullShare mb
    ∗ owns (c : Thread nD τ) (slot3 alloca_3 t.val) fullShare yb)

/-- A step reads its rows of the three blocks and computes its rows of the result. -/
theorem part1 {Q} (v329 v334 : FVec F S1x4096 .f32) (w0 w1 : BitVec 32) (j : Fin k0_t2_loop.trips) :
    ins c alloca alloca_0 alloca_3 t xb mb yb
    ⊢ iprop((ins c alloca alloca_0 alloca_3 t xb mb yb
      -∗ Q ⟨Scalar.muli (Scf.iv w0 w1 j) 16#32, k0_pay1 v329 v334 (View.ld xb (rows (st j))) (View.ld mb (rows (st j))) (View.ld yb (rows (st j)))⟩)
    -∗ WP (F := F) c (k0_part1 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 (wK t) (wK t) (wK t) (chk6 t) (chk5 t) (chk4 t) v329 v334 w0 w1 j) Q) := by
  rw [k0_part1_eq_skeleton]; unfold k0_part1_skel
  dsimp only
  unfold WP ins
  iintro ⟨Hx, Hm, Hy⟩ HK
  rw [wp_bind]
  iapply wp_load3 c t.val (st j) (off46 t) (off47 j) $$ Hx
  iintro Hx
  rw [wp_bind]
  iapply wp_load3 c t.val (st j) (off48 t) (off47 j) $$ Hm
  iintro Hm
  rw [wp_bind]
  iapply wp_load3 c t.val (st j) (off49 t) (off47 j) $$ Hy
  iintro Hy
  iapply wp_pure_eq c rfl
  iapply HK
  isplitl [Hx]; · iexact Hx
  isplitl [Hm]; · iexact Hm
  iexact Hy

/-- After `n` steps: the first `n` steps' rows of the slot are written. -/
def steps (n : ℕ) : sProp 𝕄 :=
  iprop((∃ d, ⌜∀ (j : Fin 16) (x : S16x4096.Idx), j.val < n → d ((rows j).emb x) = outRows gm ga gf gb xb mb yb j x⌝
      ∗ owns (Val := Elt F) (c : Thread nD τ) (slot2 alloca_6 t.val) fullShare d)
    ∗ ins c alloca alloca_0 alloca_3 t xb mb yb)

/-- One step writes its rows. -/
theorem t2_body (j : Fin k0_t2_loop.trips) (acc : Unit) :
    steps c alloca alloca_0 alloca_3 alloca_6 t gm ga gf gb xb mb yb j.val
    ⊢ WP (F := F) c (k0_t2_body arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (wI t) (wK t) (wI t) (wK t) (wG t) (wD t) (wI t) (wK t) (wG t) (wD t) (wK t) (wO t) (wB t) (wR t) (chk7 t) (chk6 t) (chk5 t) (chk4 t) (chk3 t) (chk2 t) (chk1 t) (BitVec.ofNat 32 t.val) (b1 (t.val = 0)) (b1 (t.val = 63)) (wB t) (wR t) (wB (t.val + 63)) (wR (t.val + 63)) (wB (t.val + 1)) (wR (t.val + 1)) (BitVec.ofNat 32 (if t.val % 32 = 0 then 1 else 0)) 0#32 gf (up gb) gm (up ga) j acc)
      (fun _ => steps c alloca alloca_0 alloca_3 alloca_6 t gm ga gf gb xb mb yb (j.val + 1)) := by
  unfold k0_t2_body
  dsimp only
  unfold WP steps
  iintro ⟨⟨%d, %hd, Hd⟩, Hi⟩
  rw [wp_bind]
  iapply (part1 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t xb mb yb _ _ _ _ j) $$ Hi
  iintro Hi
  rw [wp_bind]
  iapply wp_load2 c t.val (st j) (off50 t) (off51 j) $$ Hd
  iintro Hd
  rw [wp_bind]
  iapply wp_store2 c t.val (st j) (off50 t) (off51 j) $$ Hd
  iintro Hd
  iapply wp_pure_eq c rfl
  isplitl [Hd]
  · iexists _
    isplitr
    swap
    · iexact Hd
    ipureintro
    intro j' x hj
    by_cases e : st j = j'
    · subst e
      rw [put_emb]; rfl
    · rw [put_of_not _ _ _ _ (rows_ne e x)]
      apply hd
      have : j.val ≠ j'.val := fun e' => e (Fin.ext e')
      omega
  iexact Hi

/-- The sixth part waits for the FFN's gate, if it is a batch element's first trip, and runs the sixteen steps: the slot of
    the write ring then holds the block. -/
theorem part6 {Q} (hgb : (gate arg6 (t.val / 32)).view.read (Elt F) Vgf = gb) :
    iprop(ins c alloca alloca_0 alloca_3 t xb mb yb ∗ (∃ d, owns (Val := Elt F) (c : Thread nD τ) (slot2 alloca_6 t.val) fullShare d)
      ∗ owns (c : Thread nD τ) alloca_1 fullShare gm ∗ owns (c : Thread nD τ) alloca_4 fullShare gf
      ∗ owns (c : Thread nD τ) (gate alloca_2 (t.val / 32)) fullShare ga ∗ gates' c v4 alloca_5 arg6 Vgf t.val ∗ (∃ W, owes (c : Thread nD τ) (0 : CellTallies nD τ sig Unit) W))
    ⊢ iprop((iprop(ins c alloca alloca_0 alloca_3 t xb mb yb
        ∗ owns (c : Thread nD τ) (slot2 alloca_6 t.val) fullShare (outBlk gm ga gf gb xb mb yb)
        ∗ owns (c : Thread nD τ) alloca_1 fullShare gm ∗ owns (c : Thread nD τ) alloca_4 fullShare gf
        ∗ owns (c : Thread nD τ) (gate alloca_2 (t.val / 32)) fullShare ga ∗ gates'' c v4 alloca_5 arg6 Vgf t.val ∗ (∃ W, owes (c : Thread nD τ) (0 : CellTallies nD τ sig Unit) W)) -∗ Q ⟨⟩)
    -∗ WP (F := F) c (k0_part6 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (wI t) (wK t) (wI t) (wK t) (wG t) (wD t) (wI t) (wK t) (wG t) (wD t) (wK t) (wO t) (wB t) (wR t) (chk7 t) (chk6 t) (chk5 t) (chk4 t) (chk3 t) (chk2 t) (chk1 t) (BitVec.ofNat 32 t.val) (b1 (t.val = 0)) (b1 (t.val = 63)) (wB t) (wR t) (wB (t.val + 63)) (wR (t.val + 63)) (wB (t.val + 1)) (wR (t.val + 1)) (BitVec.ofNat 32 (if t.val % 32 = 0 then 1 else 0)) 0#32) Q) := by
  rw [k0_part6_eq_skeleton]; unfold k0_part6_skel
  dsimp only
  simp only [ite_self]
  iintro ⟨Hi, Hd, Hgm, Hgf, Hga, H13, HO⟩ HK
  iapply wp_guard c (R := iprop(gates' c v4 alloca_5 arg6 Vgf t.val ∗ (∃ W, owes (c : Thread nD τ) (0 : CellTallies nD τ sig Unit) W)))
    (R' := iprop(gates'' c v4 alloca_5 arg6 Vgf t.val ∗ (∃ W, owes (c : Thread nD τ) (0 : CellTallies nD τ sig Unit) W))) ?_ ?_ $$ [H13 HO]
  · intro h K
    iintro ⟨HG, HO⟩ HJ
    ihave HG' := (gates'_wait c v4 alloca_5 arg6 Vgf (lt_of_lt_of_eq t.isLt trips1) ((cond13 t).1 h)) $$ HG
    icases HG' with ⟨H0, H1⟩
    iapply wp_wait2 c (t.val / 32) (t.val / 32) (off41 t) $$ [H0 HO]
    · isplitl [H0]; · iexact H0
      iexact HO
    iintro ⟨H0, HO⟩
    iapply HJ
    isplitl [H0 H1]
    · unfold gates''
      isplitl [H0]; · iexact H0
      iexact H1
    iexact HO
  · intro h
    iintro ⟨HG, HO⟩
    isplitl [HG]
    · iapply (gates'_keep c v4 alloca_5 arg6 Vgf (lt_of_lt_of_eq t.isLt trips1) fun h' => h ((cond13 t).2 h')) $$ HG
    iexact HO
  · isplitl [H13]; · iexact H13
    iexact HO
  iintro ⟨H13, HO⟩
  unfold gates'' gLanded landed
  icases H13 with ⟨⟨Hgb, Hgs, Hgr⟩, Hg1⟩
  rw [hgb]
  unfold WP
  rw [wp_bind]
  iapply wp_loadVec c $$ Hgf
  iintro Hgf
  rw [wp_bind]
  iapply wp_loadGate c (t.val / 32) (off44 t) $$ Hgb
  iintro Hgb
  rw [wp_bind]
  iapply wp_loadVec c $$ Hgm
  iintro Hgm
  rw [wp_bind]
  iapply wp_loadGate c (t.val / 32) (off45 t) $$ Hga
  iintro Hga
  iapply (Scf.wp_for_bind frame (wpE (defs₀ (F := F)) Variants.none (c : Thread nD τ) none) Set.univ k0_t2_loop.lb k0_t2_loop.ub k0_t2_loop.st
    k0_t2_ok _ _ (fun n _ => steps c alloca alloca_0 alloca_3 alloca_6 t gm ga gf gb xb mb yb n)
    (fun j acc => t2_body c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t gm ga gf gb xb mb yb j acc)) $$ [Hi Hd]
  · unfold steps
    icases Hd with ⟨%d, Hd⟩
    isplitl [Hd]
    · iexists d
      isplitr
      · ipureintro
        intro j x hj
        exact absurd hj (Nat.not_lt_zero _)
      · iexact Hd
    · iexact Hi
  iintro %acc Hs
  unfold steps
  icases Hs with ⟨⟨%d, %hd, Hd⟩, Hi⟩
  have hd' := outBlk_of fun j x => hd j x (lt_of_lt_of_eq j.isLt trips2.symm)
  rw [hd']
  iapply wp_pure_eq c rfl
  iapply HK
  isplitl [Hi]; · iexact Hi
  isplitl [Hd]; · iexact Hd
  isplitl [Hgm]; · iexact Hgm
  isplitl [Hgf]; · iexact Hgf
  isplitl [Hga]; · iexact Hga
  isplitl [Hgb Hgs Hgr Hg1]
  · isplitl [Hgb Hgs Hgr]
    · isplitl [Hgb]; · iexact Hgb
      isplitl [Hgs]; · iexact Hgs
      iexact Hgr
    iexact Hg1
  iexact HO

end Cert.Kernel2Ideal.Post
-- ==== Proof.Post.Trip.lean ====
/-
  One trip: from the rings before trip `t` to the rings before trip `t + 1`.
-/
module

public import proofs.«01_k».proof.Proof.Post.Inner

@[expose] public section

set_option maxRecDepth 65536

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

set_option maxHeartbeats 4000000

section Out2
variable (v : DmaSems sig S2) (A : Memref sig .tc .vmem S2x256x4096 .f32) (X : Memref sig .tc .hbm S2x8192x4096 .f32)
  (p : ℕ → S256x4096.Idx → Elt F .f32)

theorem cell2_add2 (k : ℕ) : cell2 v (k + 2) = cell2 v k := by
  have : ∀ (a b : ℕ) (ha : ∀ x, (![a] : Fin 1 → ℕ) x + S1.size x ≤ S2.size x) (hb : ∀ x, (![b] : Fin 1 → ℕ) x + S1.size x ≤ S2.size x),
      a = b → ((v.slice (Rect.unit (s := S2) ![a] S1.size ha)).squeeze S_ squeezes_S1_S_).sem
        = ((v.slice (Rect.unit (s := S2) ![b] S1.size hb)).squeeze S_ squeezes_S1_S_).sem := by
    intro a b ha hb h; subst h; rfl
  exact this _ _ _ _ (Nat.add_mod_right k 2)
theorem slot2_add2 (k : ℕ) : slot2 A (k + 2) = slot2 A k := by
  have : ∀ (a b : ℕ) (ha : ∀ x, slotOff a x + S1x256x4096.size x ≤ S2x256x4096.size x)
      (hb : ∀ x, slotOff b x + S1x256x4096.size x ≤ S2x256x4096.size x), a = b →
      (A.slice (Rect.unit (s := S2x256x4096) (slotOff a) S1x256x4096.size ha) (fun _ => rfl)).squeeze S256x4096 squeezes_S1x256x4096_S256x4096
        = (A.slice (Rect.unit (s := S2x256x4096) (slotOff b) S1x256x4096.size hb) (fun _ => rfl)).squeeze S256x4096
            squeezes_S1x256x4096_S256x4096 := by
    intro a b ha hb h; subst h; rfl
  exact this _ _ _ _ (Nat.add_mod_right k 2)

/-- A started copy of block `k` is what trip `k + 1` finds in the other slot. -/
theorem oRole_succ (k : ℕ) : oRole c v A X p (k + 1) = oInfl c (cell2 v k) (slot2 A k) (blk X k) (p k) := by
  unfold oRole
  rw [if_pos (Nat.succ_ne_zero k)]
  show oInfl c (cell2 v (k + 2)) (slot2 A (k + 2)) (blk X k) (p k) = _
  rw [cell2_add2, slot2_add2]

/-- The blocks of the result that trip `k` and the later ones write. -/
def todo (k : ℕ) : sProp 𝕄 := bigSep (Finset.Ico k 64) fun b => iprop(∃ d, owns (Val := Elt F) (c : Thread nD τ) (blk X b) fullShare d)
/-- The blocks of the result whose copies were waited for before trip `k`. -/
def done (k : ℕ) : sProp 𝕄 := bigSep (Finset.range (k - 1)) fun b => owns (c : Thread nD τ) (blk X b) fullShare (p b)

theorem todo_take {k : ℕ} (hk : k < 64) :
    todo c X k ⊢ iprop((∃ d, owns (Val := Elt F) (c : Thread nD τ) (blk X k) fullShare d) ∗ todo c X (k + 1)) := by
  unfold todo
  rw [show Finset.Ico k 64 = insert k (Finset.Ico (k + 1) 64) from (Finset.insert_Ico_add_one_left_eq_Ico hk).symm,
    bigSep_insert (by simp)]
  exact .rfl

theorem done_put (k : ℕ) : iprop(oDone c X p k ∗ done c X p k) ⊢ done c X p (k + 1) := by
  unfold oDone done
  by_cases h : k ≠ 0
  · obtain ⟨k, rfl⟩ := Nat.exists_eq_succ_of_ne_zero h
    rw [if_pos h]
    show iprop(owns (c : Thread nD τ) (blk X k) fullShare (p k)
      ∗ bigSep (Finset.range k) fun b => owns (c : Thread nD τ) (blk X b) fullShare (p b)) ⊢ bigSep (Finset.range (k + 1)) _
    rw [Finset.range_add_one, bigSep_insert (by simp)]
    exact .rfl
  · rw [if_neg h]
    obtain rfl : k = 0 := by omega
    iintro ⟨-, H⟩
    iexact H
end Out2
variable (arg0 : Memref sig .tc .hbm S2x8192x4096 .f32) (harg0 : arg0.IsWhole) (arg1 : Memref sig .tc .hbm S2x8192x4096 .bf16) (harg1 : arg1.IsWhole) (arg2 : Memref sig .tc .hbm S1x4096 .f32) (harg2 : arg2.IsWhole) (arg3 : Memref sig .tc .hbm S2x1x4096 .f32) (harg3 : arg3.IsWhole) (arg4 : Memref sig .tc .hbm S2x8192x4096 .bf16) (harg4 : arg4.IsWhole) (arg5 : Memref sig .tc .hbm S1x4096 .f32) (harg5 : arg5.IsWhole) (arg6 : Memref sig .tc .hbm S2x1x4096 .f32) (harg6 : arg6.IsWhole) (arg7 : Memref sig .tc .hbm S2x8192x4096 .f32) (harg7 : arg7.IsWhole) (alloca : Memref sig .tc .vmem S3x256x4096 .f32) (halloca : alloca.IsWhole) (v0 : DmaSems sig S3) (alloca_0 : Memref sig .tc .vmem S3x256x4096 .bf16) (halloca_0 : alloca_0.IsWhole) (v1 : DmaSems sig S3) (alloca_1 : Memref sig .tc .vmem S1x4096 .f32) (halloca_1 : alloca_1.IsWhole) (alloca_2 : Memref sig .tc .vmem S2x1x4096 .f32) (halloca_2 : alloca_2.IsWhole) (v2 : DmaSems sig S2) (alloca_3 : Memref sig .tc .vmem S3x256x4096 .bf16) (halloca_3 : alloca_3.IsWhole) (v3 : DmaSems sig S3) (alloca_4 : Memref sig .tc .vmem S1x4096 .f32) (halloca_4 : alloca_4.IsWhole) (alloca_5 : Memref sig .tc .vmem S2x1x4096 .f32) (halloca_5 : alloca_5.IsWhole) (v4 : DmaSems sig S2) (alloca_6 : Memref sig .tc .vmem S2x256x4096 .f32) (halloca_6 : alloca_6.IsWhole) (v5 : DmaSems sig S2) (v169r1 : DmaSems sig S_) (v169r2 : DmaSems sig S_)
  (t : Fin k0_t1_loop.trips)
  (Vx : Buf (Elt F) (arg0.view.loc (c : Thread nD τ))) (Vm : Buf (Elt F) (arg1.view.loc (c : Thread nD τ)))
  (Vgm : Buf (Elt F) (arg3.view.loc (c : Thread nD τ))) (Vy : Buf (Elt F) (arg4.view.loc (c : Thread nD τ)))
  (Vgf : Buf (Elt F) (arg6.view.loc (c : Thread nD τ)))

variable (gm gf : S1x4096.Idx → Elt F .f32)

/-- Block `b` of the result. -/
def pBlk (b : ℕ) : S256x4096.Idx → Elt F .f32 :=
  outBlk gm ((gate arg3 (b / 32)).view.read (Elt F) Vgm) gf ((gate arg6 (b / 32)).view.read (Elt F) Vgf)
    ((blk arg0 b).view.read (Elt F) Vx) ((blk arg1 b).view.read (Elt F) Vm) ((blk arg4 b).view.read (Elt F) Vy)

/-- What is held before trip `k`. -/
def res (k : ℕ) : sProp 𝕄 :=
  iprop(role c v0 alloca arg0 Vx k ∗ role c v0 alloca arg0 Vx (k + 1) ∗ rFree c v0 alloca arg0 Vx (k + 2)
    ∗ role c v1 alloca_0 arg1 Vm k ∗ role c v1 alloca_0 arg1 Vm (k + 1) ∗ rFree c v1 alloca_0 arg1 Vm (k + 2)
    ∗ role c v3 alloca_3 arg4 Vy k ∗ role c v3 alloca_3 arg4 Vy (k + 1) ∗ rFree c v3 alloca_3 arg4 Vy (k + 2)
    ∗ gates c v2 alloca_2 arg3 Vgm k ∗ gates c v4 alloca_5 arg6 Vgf k
    ∗ owns (c : Thread nD τ) alloca_1 fullShare gm ∗ owns (c : Thread nD τ) alloca_4 fullShare gf
    ∗ oFree c (cell2 v5 k) (slot2 alloca_6 k) ∗ oRole c v5 alloca_6 arg7 (pBlk c arg0 arg1 arg3 arg4 arg6 Vx Vm Vgm Vy Vgf gm gf) k
    ∗ todo c arg7 k ∗ done c arg7 (pBlk c arg0 arg1 arg3 arg4 arg6 Vx Vm Vgm Vy Vgf gm gf) k
    ∗ (∃ W, owes (c : Thread nD τ) (0 : CellTallies nD τ sig Unit) W))

/-- A trip's parts, and the words for the next trip. -/
theorem part9 {Q} : res c arg0 arg1 arg3 arg4 arg6 arg7 alloca v0 alloca_0 v1 alloca_1 alloca_2 v2 alloca_3 v3 alloca_4 alloca_5 v4 alloca_6 v5 Vx Vm Vgm Vy Vgf gm gf t.val
    ⊢ iprop((res c arg0 arg1 arg3 arg4 arg6 arg7 alloca v0 alloca_0 v1 alloca_1 alloca_2 v2 alloca_3 v3 alloca_4 alloca_5 v4 alloca_6 v5 Vx Vm Vgm Vy Vgf gm gf (t.val + 1)
      -∗ Q ⟨wI (t.val + 1), wI (t.val + 1), wG (t.val + 1), wI (t.val + 1), wG (t.val + 1), wK (t.val + 1), wO (t.val + 1),
        wK (t.val + 1), wK (t.val + 1), wL (t.val + 1), wD (t.val + 1), wK (t.val + 1), wL (t.val + 1), wD (t.val + 1),
        wR (t.val + 1), BitVec.ofNat 32 ((t.val + 1) / 32), 2#32⟩)
    -∗ WP (F := F) c (k0_part9 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 0#32 1#32 t (wI t) (wK t) (wI t) (wK t) (wL t) (wG t) (wD t) (wI t) (wK t) (wL t) (wG t) (wD t)
        (wK t) (wO t) (wB t) (wR t)) Q) := by
  rw [k0_part9_eq_skeleton]; unfold k0_part9_skel
  dsimp only
  have ht : t.val < 64 := lt_of_lt_of_eq t.isLt trips1
  unfold WP res
  rw [role_lt c v0 alloca arg0 Vx ht, role_lt c v1 alloca_0 arg1 Vm ht, role_lt c v3 alloca_3 arg4 Vy ht]
  iintro ⟨Hx0, Hx1, Hx2, Hm0, Hm1, Hm2, Hy0, Hy1, Hy2, HGM, HGF, Hgm, Hgf, Hof, Hor, Htd, Hdn, HO⟩ HK
  rw [wp_bind]
  iapply part2 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t
  rw [wp_bind]
  iapply (part3 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t Vx) $$ Hx2
  iintro Hx2
  rw [wp_bind]
  iapply (part4 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t Vm Vgm Vy Vgf) $$ [Hm2 HGM Hy2 HGF]
  · isplitl [Hm2]; · iexact Hm2
    isplitl [HGM]; · iexact HGM
    isplitl [Hy2]; · iexact Hy2
    iexact HGF
  iintro ⟨Hm2, HGM, Hy2, HGF⟩
  rw [wp_bind]
  iapply (part5 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t Vx Vm Vgm Vy) $$ [Hx0 Hm0 HGM Hy0 HO]
  · isplitl [Hx0]; · iexact Hx0
    isplitl [Hm0]; · iexact Hm0
    isplitl [HGM]; · iexact HGM
    isplitl [Hy0]; · iexact Hy0
    iexact HO
  iintro ⟨Hx0, Hm0, HGM, Hy0, HO⟩
  unfold gates'' rLanded gLanded landed
  icases Hx0 with ⟨Hxo, Hxs, Hxa⟩
  icases Hm0 with ⟨Hmo, Hms, Hma⟩
  icases Hy0 with ⟨Hyo, Hys, Hya⟩
  icases HGM with ⟨⟨Hgo, Hgs, Hga⟩, HGMr⟩
  unfold oFree
  icases Hof with ⟨Hod, Hos⟩
  rw [wp_bind]
  iapply (part6 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t Vgf gm ((gate arg3 (t.val / 32)).view.read (Elt F) Vgm) gf ((gate arg6 (t.val / 32)).view.read (Elt F) Vgf) ((blk arg0 t.val).view.read (Elt F) Vx) ((blk arg1 t.val).view.read (Elt F) Vm) ((blk arg4 t.val).view.read (Elt F) Vy) rfl) $$ [Hxo Hmo Hyo Hod Hgm Hgf Hgo HGF HO]
  · isplitl [Hxo Hmo Hyo]
    · unfold ins
      isplitl [Hxo]; · iexact Hxo
      isplitl [Hmo]; · iexact Hmo
      iexact Hyo
    isplitl [Hod]; · iexact Hod
    isplitl [Hgm]; · iexact Hgm
    isplitl [Hgf]; · iexact Hgf
    isplitl [Hgo]; · iexact Hgo
    isplitl [HGF]; · iexact HGF
    iexact HO
  unfold ins
  iintro ⟨⟨Hxo, Hmo, Hyo⟩, Hod, Hgm, Hgf, Hgo, HGF, HO⟩
  ihave Htd' := (todo_take c arg7 ht) $$ Htd
  icases Htd' with ⟨Hb, Htd⟩
  rw [wp_bind]
  iapply (part7 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (pBlk c arg0 arg1 arg3 arg4 arg6 Vx Vm Vgm Vy Vgf gm gf t.val)) $$ [Hod Hos Hb]
  · isplitl [Hod]; · iexact Hod
    isplitl [Hos]; · iexact Hos
    iexact Hb
  iintro Hoi
  rw [wp_bind]
  iapply (part8 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t (pBlk c arg0 arg1 arg3 arg4 arg6 Vx Vm Vgm Vy Vgf gm gf)) $$ [Hor HO]
  · isplitl [Hor]; · iexact Hor
    iexact HO
  iintro ⟨Hof, Hdd, HO⟩
  iapply wp_pure_eq c ?_
  rotate_left
  · iapply HK
    isplitl [Hx1]; · iexact Hx1
    isplitl [Hx2]; · iexact Hx2
    isplitl [Hxo Hxs Hxa]
    · rw [rFree_add3 c v0 alloca arg0 Vx t.val]
      unfold rFree free
      isplitl [Hxo]; · iexists _; iexact Hxo
      isplitl [Hxs]; · iexact Hxs
      iexact Hxa
    isplitl [Hm1]; · iexact Hm1
    isplitl [Hm2]; · iexact Hm2
    isplitl [Hmo Hms Hma]
    · rw [rFree_add3 c v1 alloca_0 arg1 Vm t.val]
      unfold rFree free
      isplitl [Hmo]; · iexists _; iexact Hmo
      isplitl [Hms]; · iexact Hms
      iexact Hma
    isplitl [Hy1]; · iexact Hy1
    isplitl [Hy2]; · iexact Hy2
    isplitl [Hyo Hys Hya]
    · rw [rFree_add3 c v3 alloca_3 arg4 Vy t.val]
      unfold rFree free
      isplitl [Hyo]; · iexists _; iexact Hyo
      isplitl [Hys]; · iexact Hys
      iexact Hya
    isplitl [Hgo Hgs Hga HGMr]
    · iapply (gates_next c v2 alloca_2 arg3 Vgm t.val ht)
      unfold gates'' gLanded landed
      isplitl [Hgo Hgs Hga]
      · isplitl [Hgo]; · iexact Hgo
        isplitl [Hgs]; · iexact Hgs
        iexact Hga
      iexact HGMr
    isplitl [HGF]
    · iapply (gates_next c v4 alloca_5 arg6 Vgf t.val ht)
      unfold gates''
      iexact HGF
    isplitl [Hgm]; · iexact Hgm
    isplitl [Hgf]; · iexact Hgf
    isplitl [Hof]; · unfold oFree; iexact Hof
    isplitl [Hoi]
    · rw [oRole_succ]
      iexact Hoi
    isplitl [Htd]; · iexact Htd
    isplitl [Hdd Hdn]
    · iapply (done_put c arg7 _ t.val)
      isplitl [Hdd]; · iexact Hdd
      iexact Hdn
    iexact HO
  · revert t; decide +kernel

/-- What is held before trip `k`, and the words the loop carries. -/
def inv (k : ℕ) (acc : BitVec 32 × BitVec 32 × BitVec 32 × BitVec 32 × BitVec 32 × BitVec 32 × BitVec 32 × BitVec 32 × BitVec 32 × BitVec 32
    × BitVec 32 × BitVec 32 × BitVec 32 × BitVec 32 × BitVec 32 × BitVec 32) : sProp 𝕄 :=
  iprop(⌜acc = wds k⌝ ∗ res c arg0 arg1 arg3 arg4 arg6 arg7 alloca v0 alloca_0 v1 alloca_1 alloca_2 v2 alloca_3 v3 alloca_4 alloca_5 v4 alloca_6 v5 Vx Vm Vgm Vy Vgf gm gf k)

/-- One trip. -/
theorem t1_body (w20 w21 w49 w57 w65 w73 w81 : BitVec 32) (w85 : BitVec 1) (w87 : BitVec 32) (acc) : inv c arg0 arg1 arg3 arg4 arg6 arg7 alloca v0 alloca_0 v1 alloca_1 alloca_2 v2 alloca_3 v3 alloca_4 alloca_5 v4 alloca_6 v5 Vx Vm Vgm Vy Vgf gm gf t.val acc
    ⊢ WP (F := F) c (k0_t1_body arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 w20 w21 w49 w57 w65 w73 w81 w85 w87 t acc) (inv c arg0 arg1 arg3 arg4 arg6 arg7 alloca v0 alloca_0 v1 alloca_1 alloca_2 v2 alloca_3 v3 alloca_4 alloca_5 v4 alloca_6 v5 Vx Vm Vgm Vy Vgf gm gf (t.val + 1)) := by
  unfold inv
  iintro ⟨%h, H⟩
  subst h
  unfold k0_t1_body wds
  dsimp only
  unfold WP
  rw [wp_bind]
  iapply (part9 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t Vx Vm Vgm Vy Vgf gm gf) $$ H
  iintro H
  dsimp only
  iapply wp_pure_eq c ?_
  rotate_left
  · isplitr
    · ipureintro; rfl
    · iexact H
  · have e : ∀ t : Fin k0_t1_loop.trips, Scalar.select (Scalar.cmpi .eq (BitVec.ofNat 32 ((t.val + 1) / 32)) 2#32) 0#32
        (BitVec.ofNat 32 ((t.val + 1) / 32)) = wB (t.val + 1) := by decide +kernel
    rw [e t]

end Cert.Kernel2Ideal.Post
-- ==== Proof.Post.Body.lean ====
/-
  The whole body: the prologue, the sixty-four trips, the epilogue.
-/
module

public import proofs.«01_k».proof.Proof.Post.Trip

@[expose] public section

set_option maxRecDepth 65536

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

set_option maxHeartbeats 4000000

theorem rFree_mod {e : EltTy} (v : DmaSems sig S3) (A : Memref sig .tc .vmem S3x256x4096 e) (X : Memref sig .tc .hbm S2x8192x4096 e)
    (V : Buf (Elt F) (X.view.loc (c : Thread nD τ))) (r n : ℕ) : rFree c v A X V (r + 3 * n) = rFree c v A X V r := by
  induction n with
  | zero => rfl
  | succ n ih => rw [Nat.mul_succ, ← Nat.add_assoc, rFree_add3, ih]

theorem oFree_mod (v : DmaSems sig S2) (A : Memref sig .tc .vmem S2x256x4096 .f32) (r n : ℕ) :
    oFree (F := F) c (cell2 v (r + 2 * n)) (slot2 A (r + 2 * n)) = oFree c (cell2 v r) (slot2 A r) := by
  induction n with
  | zero => rfl
  | succ n ih => rw [Nat.mul_succ, ← Nat.add_assoc, cell2_add2, slot2_add2, ih]

theorem done_zero (X : Memref sig .tc .hbm S2x8192x4096 .f32) (p : ℕ → S256x4096.Idx → Elt F .f32) : iprop(emp) ⊢ done c X p 0 :=
  Entails.of_eq bigSep_empty.symm

/-- A vector's buffer, filled once before the loop. -/
theorem wp_issueVec {A : Memref sig .tc .vmem S1x4096 .f32} {X : Memref sig .tc .hbm S1x4096 .f32} {sem : DmaSem sig}
    {V : Buf (Elt F) (X.view.loc (c : Thread nD τ))} {hsrc hdst hsem} {Q : PUnit → sProp 𝕄} :
    free c sem A X fullShare V ⊢ iprop((infl c sem A X fullShare V -∗ Q ⟨⟩)
      -∗ WP c (Prog.lift (.enqueueDma X (.here A) (.dma sem) hsrc hdst hsem)) Q) := by
  have h0 : 0 < A.view.dmaCredit := View.dmaCredit_pos _ (Shape.numel_pos (by decide))
  have h1 := wp_issue (F := F) c (sem := sem) (dst := A) (src := X) (q := fullShare) (V := V) (hsrc := hsrc) (hdst := hdst) (hsem := hsem) (Q := Q) h0
  exact h1
theorem wp_waitVec {A : Memref sig .tc .vmem S1x4096 .f32} {X : Memref sig .tc .hbm S1x4096 .f32} {sem : DmaSem sig}
    {V : Buf (Elt F) (X.view.loc (c : Thread nD τ))} {hsrc hdst} {Q : PUnit → sProp 𝕄} :
    iprop(infl c sem A X fullShare V ∗ (∃ W, owes (c : Thread nD τ) (0 : CellTallies nD τ sig Unit) W))
      ⊢ iprop((iprop(landed c sem A X fullShare V (X.view.read (Elt F) V) ∗ (∃ W, owes (c : Thread nD τ) (0 : CellTallies nD τ sig Unit) W)) -∗ Q ⟨⟩)
      -∗ WP c (Prog.lift (.waitDma2 sem X A hsrc hdst)) Q) := by
  have h1 := wp_wait (F := F) c (sem := sem) (dst := A) (src := X) (q := fullShare) (V := V) (hsrc := hsrc) (hdst := hdst) (Q := Q) rfl
  exact h1
variable (arg0 : Memref sig .tc .hbm S2x8192x4096 .f32) (harg0 : arg0.IsWhole) (arg1 : Memref sig .tc .hbm S2x8192x4096 .bf16) (harg1 : arg1.IsWhole) (arg2 : Memref sig .tc .hbm S1x4096 .f32) (harg2 : arg2.IsWhole) (arg3 : Memref sig .tc .hbm S2x1x4096 .f32) (harg3 : arg3.IsWhole) (arg4 : Memref sig .tc .hbm S2x8192x4096 .bf16) (harg4 : arg4.IsWhole) (arg5 : Memref sig .tc .hbm S1x4096 .f32) (harg5 : arg5.IsWhole) (arg6 : Memref sig .tc .hbm S2x1x4096 .f32) (harg6 : arg6.IsWhole) (arg7 : Memref sig .tc .hbm S2x8192x4096 .f32) (harg7 : arg7.IsWhole) (alloca : Memref sig .tc .vmem S3x256x4096 .f32) (halloca : alloca.IsWhole) (v0 : DmaSems sig S3) (alloca_0 : Memref sig .tc .vmem S3x256x4096 .bf16) (halloca_0 : alloca_0.IsWhole) (v1 : DmaSems sig S3) (alloca_1 : Memref sig .tc .vmem S1x4096 .f32) (halloca_1 : alloca_1.IsWhole) (alloca_2 : Memref sig .tc .vmem S2x1x4096 .f32) (halloca_2 : alloca_2.IsWhole) (v2 : DmaSems sig S2) (alloca_3 : Memref sig .tc .vmem S3x256x4096 .bf16) (halloca_3 : alloca_3.IsWhole) (v3 : DmaSems sig S3) (alloca_4 : Memref sig .tc .vmem S1x4096 .f32) (halloca_4 : alloca_4.IsWhole) (alloca_5 : Memref sig .tc .vmem S2x1x4096 .f32) (halloca_5 : alloca_5.IsWhole) (v4 : DmaSems sig S2) (alloca_6 : Memref sig .tc .vmem S2x256x4096 .f32) (halloca_6 : alloca_6.IsWhole) (v5 : DmaSems sig S2) (v169r1 : DmaSems sig S_) (v169r2 : DmaSems sig S_)

  (Vx : Buf (Elt F) (arg0.view.loc (c : Thread nD τ))) (Vm : Buf (Elt F) (arg1.view.loc (c : Thread nD τ)))
  (Vgm : Buf (Elt F) (arg3.view.loc (c : Thread nD τ))) (Vy : Buf (Elt F) (arg4.view.loc (c : Thread nD τ)))
  (Vgf : Buf (Elt F) (arg6.view.loc (c : Thread nD τ)))
  (Vg2 : Buf (Elt F) (arg2.view.loc (c : Thread nD τ))) (Vg5 : Buf (Elt F) (arg5.view.loc (c : Thread nD τ)))

/-- What is held at rest: the slots, the cells and the arrays that are read. -/
def idle : sProp 𝕄 :=
  iprop(rFree c v0 alloca arg0 Vx 0 ∗ rFree c v0 alloca arg0 Vx 1 ∗ rFree c v0 alloca arg0 Vx 2
    ∗ rFree c v1 alloca_0 arg1 Vm 0 ∗ rFree c v1 alloca_0 arg1 Vm 1 ∗ rFree c v1 alloca_0 arg1 Vm 2
    ∗ rFree c v3 alloca_3 arg4 Vy 0 ∗ rFree c v3 alloca_3 arg4 Vy 1 ∗ rFree c v3 alloca_3 arg4 Vy 2
    ∗ gFree c v2 alloca_2 arg3 Vgm 0 ∗ gFree c v2 alloca_2 arg3 Vgm 1 ∗ gFree c v4 alloca_5 arg6 Vgf 0 ∗ gFree c v4 alloca_5 arg6 Vgf 1
    ∗ free c v169r1.sem alloca_1 arg2 fullShare Vg2 ∗ free c v169r2.sem alloca_4 arg5 fullShare Vg5
    ∗ oFree c (cell2 v5 0) (slot2 alloca_6 0) ∗ oFree c (cell2 v5 1) (slot2 alloca_6 1))

theorem part10 {Q} : Q ⟨0#32, 1#32, 2#32, 0#32, 3#32, 1#1⟩ ⊢ WP (F := F) c (k0_part10 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2) Q := by
  rw [k0_part10_eq_skeleton]; unfold k0_part10_skel
  dsimp only
  iintro HK
  iapply wp_pure_eq c ?_
  rotate_left
  · iexact HK
  · decide +kernel

/-- The prologue's first part copies the norms' weights and starts the copies of block 0 of `x` and of the mixer's output. -/
theorem part11 {Q} (a b d : BitVec 32) (e : BitVec 1) : iprop(free c v169r1.sem alloca_1 arg2 fullShare Vg2 ∗ free c v169r2.sem alloca_4 arg5 fullShare Vg5 ∗ rFree c v0 alloca arg0 Vx 0 ∗ rFree c v1 alloca_0 arg1 Vm 0 ∗ (∃ W, owes (c : Thread nD τ) (0 : CellTallies nD τ sig Unit) W))
    ⊢ iprop((iprop(landed c v169r1.sem alloca_1 arg2 fullShare Vg2 (arg2.view.read (Elt F) Vg2) ∗ landed c v169r2.sem alloca_4 arg5 fullShare Vg5 (arg5.view.read (Elt F) Vg5) ∗ rInfl c v0 alloca arg0 Vx 0 ∗ rInfl c v1 alloca_0 arg1 Vm 0 ∗ (∃ W, owes (c : Thread nD τ) (0 : CellTallies nD τ sig Unit) W)) -∗ Q ⟨1#32, 1#32⟩)
    -∗ WP (F := F) c (k0_part11 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 a b d e) Q) := by
  rw [k0_part11_eq_skeleton]; unfold k0_part11_skel
  dsimp only
  unfold WP
  iintro ⟨Hgm, Hgf, Hx, Hm, HO⟩ HK
  rw [wp_bind]
  iapply wp_issueVec c $$ Hgm
  iintro Hgm
  rw [wp_bind]
  iapply wp_waitVec c $$ [Hgm HO]
  · isplitl [Hgm]; · iexact Hgm
    iexact HO
  iintro ⟨Hgm, HO⟩
  rw [wp_bind]
  iapply wp_issueVec c $$ Hgf
  iintro Hgf
  rw [wp_bind]
  iapply wp_waitVec c $$ [Hgf HO]
  · isplitl [Hgf]; · iexact Hgf
    iexact HO
  iintro ⟨Hgf, HO⟩
  rw [wp_bind]
  iapply wp_issue3 c 0 0 off1 off2 (show (![0, 0, 0] : Fin 3 → ℕ) = blkOff 0 from rfl) $$ Hx
  iintro Hx
  rw [wp_bind]
  iapply wp_issue3 c 0 0 off1 off2 (show (![0, 0, 0] : Fin 3 → ℕ) = blkOff 0 from rfl) $$ Hm
  iintro Hm
  iapply wp_pure_eq c ?_
  rotate_left
  · iapply HK
    isplitl [Hgm]; · iexact Hgm
    isplitl [Hgf]; · iexact Hgf
    isplitl [Hx]; · iexact Hx
    isplitl [Hm]; · iexact Hm
    iexact HO
  · decide +kernel

/-- The prologue's second part starts the copies of the first gates' rows and of block 0 of the FFN's output. -/
theorem part12 {Q} : iprop(gFree c v2 alloca_2 arg3 Vgm 0 ∗ rFree c v3 alloca_3 arg4 Vy 0 ∗ gFree c v4 alloca_5 arg6 Vgf 0)
    ⊢ iprop((iprop(gInfl c v2 alloca_2 arg3 Vgm 0 ∗ rInfl c v3 alloca_3 arg4 Vy 0 ∗ gInfl c v4 alloca_5 arg6 Vgf 0) -∗ Q ⟨1#32, 1#32, 1#32, 1#1, 1#32⟩)
    -∗ WP (F := F) c (k0_part12 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 0#32 1#32) Q) := by
  rw [k0_part12_eq_skeleton]; unfold k0_part12_skel
  dsimp only
  unfold WP
  iintro ⟨Hgm, Hy, Hgf⟩ HK
  rw [wp_bind]
  iapply wp_issue2 c 0 0 off3 off4 (show (![0, 0, 0] : Fin 3 → ℕ) = slotOff (0 % 2) from rfl) $$ Hgm
  iintro Hgm
  rw [wp_bind]
  iapply wp_issue3 c 0 0 off1 off2 (show (![0, 0, 0] : Fin 3 → ℕ) = blkOff 0 from rfl) $$ Hy
  iintro Hy
  rw [wp_bind]
  iapply wp_issue2 c 0 0 off3 off4 (show (![0, 0, 0] : Fin 3 → ℕ) = slotOff (0 % 2) from rfl) $$ Hgf
  iintro Hgf
  iapply wp_pure_eq c ?_
  rotate_left
  · iapply HK
    isplitl [Hgm]; · iexact Hgm
    isplitl [Hy]; · iexact Hy
    iexact Hgf
  · decide +kernel

theorem part14 {Q} (a b d : BitVec 32) : iprop(∀ r, Q r) ⊢ WP (F := F) c (k0_part14 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 a b d) Q := by
  rw [k0_part14_eq_skeleton]; unfold k0_part14_skel
  dsimp only
  iintro HK
  iapply wp_pure_eq c rfl
  iapply HK

/-- The prologue's third part starts the copies of block 1; then the loop runs its trips. -/
theorem part13 {Q} : iprop(rFree c v0 alloca arg0 Vx 1 ∗ rFree c v1 alloca_0 arg1 Vm 1 ∗ rFree c v3 alloca_3 arg4 Vy 1
      ∗ (iprop(rInfl c v0 alloca arg0 Vx 1 ∗ rInfl c v1 alloca_0 arg1 Vm 1 ∗ rInfl c v3 alloca_3 arg4 Vy 1) -∗ res c arg0 arg1 arg3 arg4 arg6 arg7 alloca v0 alloca_0 v1 alloca_1 alloca_2 v2 alloca_3 v3 alloca_4 alloca_5 v4 alloca_6 v5 Vx Vm Vgm Vy Vgf (arg2.view.read (Elt F) Vg2) (arg5.view.read (Elt F) Vg5) 0))
    ⊢ iprop((res c arg0 arg1 arg3 arg4 arg6 arg7 alloca v0 alloca_0 v1 alloca_1 alloca_2 v2 alloca_3 v3 alloca_4 alloca_5 v4 alloca_6 v5 Vx Vm Vgm Vy Vgf (arg2.view.read (Elt F) Vg2) (arg5.view.read (Elt F) Vg5) 64 -∗ Q ⟨wO 64, wB 64, wR 64, chk9, chk8, 1#32⟩)
    -∗ WP (F := F) c (k0_part13 arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 0#32 1#32 1#32 1#32 1#32 1#32 1#32 1#1 1#32) Q) := by
  rw [k0_part13_eq_skeleton]; unfold k0_part13_skel
  dsimp only
  iintro ⟨H1, H2, H3, HR⟩ HK
  iapply wp_guard c (R := rFree c v0 alloca arg0 Vx 1) (R' := rInfl c v0 alloca arg0 Vx 1) ?_ ?_ $$ H1
  · intro h K
    exact wp_issue3 c 1 1 off5 off6 off7
  · intro h
    exact absurd cond1 h
  iintro H1
  iapply wp_guard c (R := rFree c v1 alloca_0 arg1 Vm 1) (R' := rInfl c v1 alloca_0 arg1 Vm 1) ?_ ?_ $$ H2
  · intro h K
    exact wp_issue3 c 1 1 off8 off9 off10
  · intro h
    exact absurd cond2 h
  iintro H2
  iapply wp_guard c (R := rFree c v3 alloca_3 arg4 Vy 1) (R' := rInfl c v3 alloca_3 arg4 Vy 1) ?_ ?_ $$ H3
  · intro h K
    exact wp_issue3 c 1 1 off11 off12 off13
  · intro h
    exact absurd cond3 h
  iintro H3
  unfold WP
  iapply (Scf.wp_for_bind frame (wpE (defs₀ (F := F)) Variants.none (c : Thread nD τ) none) Set.univ k0_t1_loop.lb k0_t1_loop.ub k0_t1_loop.st
    k0_t1_ok _ _ (inv c arg0 arg1 arg3 arg4 arg6 arg7 alloca v0 alloca_0 v1 alloca_1 alloca_2 v2 alloca_3 v3 alloca_4 alloca_5 v4 alloca_6 v5 Vx Vm Vgm Vy Vgf (arg2.view.read (Elt F) Vg2) (arg5.view.read (Elt F) Vg5))
    (fun t acc => t1_body c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 t Vx Vm Vgm Vy Vgf (arg2.view.read (Elt F) Vg2) (arg5.view.read (Elt F) Vg5) 0#32 1#32 1#32 1#32 1#32 1#32 1#32 1#1 1#32 acc)) $$ [H1 H2 H3 HR]
  · unfold inv
    isplitr
    · ipureintro; rfl
    · iapply HR
      isplitl [H1]; · iexact H1
      isplitl [H2]; · iexact H2
      iexact H3
  iintro %acc HI
  unfold inv
  icases HI with ⟨%hacc, HI⟩
  subst hacc
  rw [show Scf.trips k0_t1_loop.lb k0_t1_loop.ub k0_t1_loop.st = 64 from trips1]
  unfold wds
  dsimp only
  rw [wp_bind]
  iapply wp_assume Variants.none (c : Thread nD τ) none Set.univ chk9
  rw [wp_ret]; imodintro
  rw [wp_bind]
  iapply wp_assume Variants.none (c : Thread nD τ) none Set.univ chk8
  rw [wp_ret]; imodintro
  iapply wp_pure_eq c rfl
  iapply HK
  iexact HI

/-- The body takes the result's blocks at any contents and leaves them at the result's; everything else is as before. -/
theorem body {Q} : iprop(idle c arg0 arg1 arg2 arg3 arg4 arg5 arg6 alloca v0 alloca_0 v1 alloca_1 alloca_2 v2 alloca_3 v3 alloca_4 alloca_5 v4 alloca_6 v5 v169r1 v169r2 Vx Vm Vgm Vy Vgf Vg2 Vg5 ∗ todo c arg7 0 ∗ (∃ W, owes (c : Thread nD τ) (0 : CellTallies nD τ sig Unit) W))
    ⊢ iprop((iprop(idle c arg0 arg1 arg2 arg3 arg4 arg5 arg6 alloca v0 alloca_0 v1 alloca_1 alloca_2 v2 alloca_3 v3 alloca_4 alloca_5 v4 alloca_6 v5 v169r1 v169r2 Vx Vm Vgm Vy Vgf Vg2 Vg5 ∗ done c arg7 (pBlk c arg0 arg1 arg3 arg4 arg6 Vx Vm Vgm Vy Vgf (arg2.view.read (Elt F) Vg2) (arg5.view.read (Elt F) Vg5)) 65 ∗ (∃ W, owes (c : Thread nD τ) (0 : CellTallies nD τ sig Unit) W)) -∗ Q ⟨⟩)
    -∗ WP (F := F) c (cc0_post arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2) Q) := by
  rw [cc0_post_eq_skeleton]; unfold cc0_post_skel
  dsimp only
  unfold WP idle
  iintro ⟨⟨Hx0, Hx1, Hx2, Hm0, Hm1, Hm2, Hy0, Hy1, Hy2, Hgm0, Hgm1, Hgf0, Hgf1, Hvm, Hvf, Ho0, Ho1⟩, Htd, HO⟩ HK
  rw [wp_bind]
  iapply (part10 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2)
  rw [wp_bind]
  iapply (part11 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 Vx Vm Vg2 Vg5) $$ [Hvm Hvf Hx0 Hm0 HO]
  · isplitl [Hvm]; · iexact Hvm
    isplitl [Hvf]; · iexact Hvf
    isplitl [Hx0]; · iexact Hx0
    isplitl [Hm0]; · iexact Hm0
    iexact HO
  iintro ⟨Hvm, Hvf, Hx0, Hm0, HO⟩
  rw [wp_bind]
  iapply (part12 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 Vgm Vy Vgf) $$ [Hgm0 Hy0 Hgf0]
  · isplitl [Hgm0]; · iexact Hgm0
    isplitl [Hy0]; · iexact Hy0
    iexact Hgf0
  iintro ⟨Hgm0, Hy0, Hgf0⟩
  unfold landed
  icases Hvm with ⟨Hvm, Hvms, Hvma⟩
  icases Hvf with ⟨Hvf, Hvfs, Hvfa⟩
  rw [wp_bind]
  iapply (part13 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2 Vx Vm Vgm Vy Vgf Vg2 Vg5) $$ [Hx0 Hx1 Hx2 Hm0 Hm1 Hm2 Hy0 Hy1 Hy2 Hgm0 Hgm1 Hgf0 Hgf1 Hvm Hvf Ho0 Ho1 Htd HO]
  · isplitl [Hx1]; · iexact Hx1
    isplitl [Hm1]; · iexact Hm1
    isplitl [Hy1]; · iexact Hy1
    iintro ⟨Hx1, Hm1, Hy1⟩
    unfold res gates oRole
    rw [role_lt c v0 alloca arg0 Vx (show 0 < 64 by decide), role_lt c v0 alloca arg0 Vx (show 0 + 1 < 64 by decide), role_lt c v1 alloca_0 arg1 Vm (show 0 < 64 by decide),
      role_lt c v1 alloca_0 arg1 Vm (show 0 + 1 < 64 by decide), role_lt c v3 alloca_3 arg4 Vy (show 0 < 64 by decide), role_lt c v3 alloca_3 arg4 Vy (show 0 + 1 < 64 by decide),
      if_pos rfl, if_pos (show 0 < 32 by decide), if_pos rfl, if_pos (show 0 < 32 by decide), if_neg (show ¬ (0 : ℕ) ≠ 0 by decide)]
    isplitl [Hx0]; · iexact Hx0
    isplitl [Hx1]; · iexact Hx1
    isplitl [Hx2]; · iexact Hx2
    isplitl [Hm0]; · iexact Hm0
    isplitl [Hm1]; · iexact Hm1
    isplitl [Hm2]; · iexact Hm2
    isplitl [Hy0]; · iexact Hy0
    isplitl [Hy1]; · iexact Hy1
    isplitl [Hy2]; · iexact Hy2
    isplitl [Hgm0 Hgm1]
    · isplitl [Hgm0]; · iexact Hgm0
      iexact Hgm1
    isplitl [Hgf0 Hgf1]
    · isplitl [Hgf0]; · iexact Hgf0
      iexact Hgf1
    isplitl [Hvm]; · iexact Hvm
    isplitl [Hvf]; · iexact Hvf
    isplitl [Ho0]; · iexact Ho0
    isplitl [Ho1]; · iexact Ho1
    isplitl [Htd]; · iexact Htd
    isplitr
    · iapply (done_zero c arg7 _)
      iempintro
    iexact HO
  unfold res gates oRole
  rw [role_ge c v0 alloca arg0 Vx (show ¬ 64 < 64 by decide), role_ge c v0 alloca arg0 Vx (show ¬ 64 + 1 < 64 by decide), role_ge c v1 alloca_0 arg1 Vm (show ¬ 64 < 64 by decide),
    role_ge c v1 alloca_0 arg1 Vm (show ¬ 64 + 1 < 64 by decide), role_ge c v3 alloca_3 arg4 Vy (show ¬ 64 < 64 by decide), role_ge c v3 alloca_3 arg4 Vy (show ¬ 64 + 1 < 64 by decide),
    if_neg (show ¬ 64 = 0 by decide), if_neg (show ¬ 64 < 32 by decide), if_neg (show ¬ 64 = 32 by decide),
    if_neg (show ¬ 64 = 0 by decide), if_neg (show ¬ 64 < 32 by decide), if_neg (show ¬ 64 = 32 by decide), if_pos (show (64 : ℕ) ≠ 0 by decide)]
  iintro ⟨Hx1, Hx2, Hx0, Hm1, Hm2, Hm0, Hy1, Hy2, Hy0, ⟨Hgm0, Hgm1⟩, ⟨Hgf0, Hgf1⟩, Hvm, Hvf, Ho0, Ho1, -, Hdn, HO⟩
  rw [wp_bind]
  iapply (part14 c arg0 harg0 arg1 harg1 arg2 harg2 arg3 harg3 arg4 harg4 arg5 harg5 arg6 harg6 arg7 harg7 alloca halloca v0 alloca_0 halloca_0 v1 alloca_1 halloca_1 alloca_2 halloca_2 v2 alloca_3 halloca_3 v3 alloca_4 halloca_4 alloca_5 halloca_5 v4 alloca_6 halloca_6 v5 v169r1 v169r2)
  iintro %r
  rw [wp_bind]
  iapply wp_outWait c 65 63 off58 $$ [Ho1 HO]
  · isplitl [Ho1]; · iexact Ho1
    iexact HO
  iintro ⟨Hb, Ho1, HO⟩
  iapply wp_pure_eq c rfl
  iapply HK
  isplitr [Hb Hdn HO]
  · isplitl [Hx0]; · rw [← rFree_mod c v0 alloca arg0 Vx 0 22]; iexact Hx0
    isplitl [Hx1]; · rw [← rFree_mod c v0 alloca arg0 Vx 1 21]; iexact Hx1
    isplitl [Hx2]; · rw [← rFree_mod c v0 alloca arg0 Vx 2 21]; iexact Hx2
    isplitl [Hm0]; · rw [← rFree_mod c v1 alloca_0 arg1 Vm 0 22]; iexact Hm0
    isplitl [Hm1]; · rw [← rFree_mod c v1 alloca_0 arg1 Vm 1 21]; iexact Hm1
    isplitl [Hm2]; · rw [← rFree_mod c v1 alloca_0 arg1 Vm 2 21]; iexact Hm2
    isplitl [Hy0]; · rw [← rFree_mod c v3 alloca_3 arg4 Vy 0 22]; iexact Hy0
    isplitl [Hy1]; · rw [← rFree_mod c v3 alloca_3 arg4 Vy 1 21]; iexact Hy1
    isplitl [Hy2]; · rw [← rFree_mod c v3 alloca_3 arg4 Vy 2 21]; iexact Hy2
    isplitl [Hgm0]; · iapply landed_free $$ Hgm0
    isplitl [Hgm1]; · iapply landed_free $$ Hgm1
    isplitl [Hgf0]; · iapply landed_free $$ Hgf0
    isplitl [Hgf1]; · iapply landed_free $$ Hgf1
    isplitl [Hvm Hvms Hvma]
    · unfold free
      isplitl [Hvm]; · iexists _; iexact Hvm
      isplitl [Hvms]; · iexact Hvms
      iexact Hvma
    isplitl [Hvf Hvfs Hvfa]
    · unfold free
      isplitl [Hvf]; · iexists _; iexact Hvf
      isplitl [Hvfs]; · iexact Hvfs
      iexact Hvfa
    isplitl [Ho0]; · iapply (Entails.of_eq (oFree_mod c v5 alloca_6 0 32)) $$ Ho0
    iapply (Entails.of_eq (oFree_mod c v5 alloca_6 1 32)) $$ Ho1
  isplitr [HO]
  · iapply (done_put c arg7 _ 64)
    isplitl [Hb]
    · unfold oDone
      rw [if_pos (show (64 : ℕ) ≠ 0 by decide)]
      iexact Hb
    · iexact Hdn
  iexact HO

end Cert.Kernel2Ideal.Post
-- ==== Proof.Post.Split.lean ====
/-
  Buffers held whole, and the same buffers held slot by slot, row by row, block by block and share by share.
-/
module

public import proofs.«01_k».proof.Proof.Post.Body
public import Idealize.ShloMosaic.Lib.Ring.WriteBehind
public import Idealize.ShloMosaic.Lib.Ring.Trips

@[expose] public section

set_option maxRecDepth 65536

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A memref held at some contents, and its elements held at some contents. -/
theorem owns_some {sp : Space} {s : Shape} {e : EltTy} (M : Memref sig .tc sp s e) :
    (iprop(∃ d, owns (c : Thread nD τ) M fullShare d) : sProp 𝕄)
      ⊢ iprop(∃ f : Buf (Elt F) (M.view.loc (c : Thread nD τ)), M.view.loc (c : Thread nD τ) ↦[M.view.set]{fullShare} f) := by
  unfold owns
  iintro ⟨%d, %f, -, H⟩
  iexists f; iexact H
theorem some_owns {sp : Space} {s : Shape} {e : EltTy} (M : Memref sig .tc sp s e)
    (f : Buf (Elt F) (M.view.loc (c : Thread nD τ))) :
    (M.view.loc (c : Thread nD τ) ↦[M.view.set]{fullShare} f : sProp 𝕄)
      ⊢ iprop(∃ d, owns (c : Thread nD τ) M fullShare d) := by
  unfold owns
  iintro H
  iexists M.view.read (Elt F) f, f
  isplitr
  · ipureintro; rfl
  iexact H

/-- Disjoint rectangles lie under disjoint elements, and rectangles that cover a memref's indices lie under all of its
    elements. -/
theorem part_disj {sp : Space} {s : Shape} {e : EltTy} (A : View sig .tc sp s e) {R R' : Rect s} (h : Disjoint R.set R'.set) :
    Disjoint (R.set.map A.emb) (R'.set.map A.emb) := (Finset.disjoint_map _).mpr h
theorem part_cover {sp : Space} {s : Shape} {e : EltTy} (A : View sig .tc sp s e) (hA : A.set = Finset.univ) {n : ℕ} (R : Fin n → Rect s)
    (h : ∀ x, ∃ i, x ∈ (R i).set) : (Finset.univ.biUnion fun i => (R i).set.map A.emb) = Finset.univ := by
  ext y
  have hy : y ∈ A.set := by rw [hA]; exact Finset.mem_univ y
  obtain ⟨x, -, rfl⟩ := Finset.mem_map.mp hy
  obtain ⟨i, hi⟩ := h x
  exact ⟨fun _ => Finset.mem_univ _, fun _ => Finset.mem_biUnion.mpr ⟨i, Finset.mem_univ _, Finset.mem_map_of_mem _ hi⟩⟩

/-! ## The rings and the gates' buffers -/

section
variable {e : EltTy} (A : Memref sig .tc .vmem S3x256x4096 e)

theorem ring3_set (k : ℕ) : (slot3 A k).view.set = (Rect.unit (s := S3x256x4096) (slotOff (k % 3)) S1x256x4096.size (slot3_inb k)).set.map A.view.emb :=
  (View.set_reshape _ _).trans (View.set_slice _ _)
theorem ring3_disj (i i' : Fin 3) (h : i ≠ i') :
    Disjoint (slot3 A i.val).view.set (slot3 A i'.val).view.set := by
  rw [ring3_set, ring3_set]
  refine part_disj _ (Finset.disjoint_left.mpr fun x hx hx' => h (Fin.ext ?_))
  have h1 := (Rect.mem_set_unit.mp hx) 0
  have h2 := (Rect.mem_set_unit.mp hx') 0
  have h1 : i.val % 3 ≤ (x 0).val ∧ (x 0).val < i.val % 3 + 1 := h1
  have h2 : i'.val % 3 ≤ (x 0).val ∧ (x 0).val < i'.val % 3 + 1 := h2
  have := i.isLt; have := i'.isLt
  omega
theorem ring3_cover (hA : A.view.set = Finset.univ) :
    (Finset.univ.biUnion fun i : Fin 3 => (show Finset A.view.ty.Idx from (slot3 A i.val).view.set)) = Finset.univ := by
  refine (Finset.biUnion_congr rfl fun i _ => ring3_set A i.val).trans
    (part_cover A.view hA (fun i : Fin 3 => Rect.unit (s := S3x256x4096) (slotOff (i.val % 3)) S1x256x4096.size (slot3_inb i.val)) fun x => ?_)
  refine ⟨⟨(x 0).val, (x 0).isLt⟩, Rect.mem_set_unit.mpr fun a => ?_⟩
  have h0 : (x 0).val < 3 := (x 0).isLt
  fin_cases a
  · show (x 0).val % 3 ≤ (x 0).val ∧ (x 0).val < (x 0).val % 3 + 1
    omega
  · show 0 ≤ (x 1).val ∧ (x 1).val < 0 + S1x256x4096.size 1
    have : (x 1).val < S3x256x4096.size 1 := (x 1).isLt
    have : S3x256x4096.size 1 = S1x256x4096.size 1 := rfl
    omega
  · show 0 ≤ (x 2).val ∧ (x 2).val < 0 + S1x256x4096.size 2
    have : (x 2).val < S3x256x4096.size 2 := (x 2).isLt
    have : S3x256x4096.size 2 = S1x256x4096.size 2 := rfl
    omega

/-- A three-slot ring held whole, and its slots. -/
theorem ring3_split (hA : A.view.set = Finset.univ) :
    (iprop(∃ f : Buf (Elt F) (A.view.loc (c : Thread nD τ)), A.view.loc (c : Thread nD τ) ↦{fullShare} f) : sProp 𝕄)
      ⊢ iprop((∃ d, owns (c : Thread nD τ) (slot3 A 0) fullShare d) ∗ (∃ d, owns (c : Thread nD τ) (slot3 A 1) fullShare d) ∗ (∃ d, owns (c : Thread nD τ) (slot3 A 2) fullShare d)) := by
  refine (Ring.pieces_split (ℓ := A.view.loc (c : Thread nD τ)) (fun i : Fin 3 => (slot3 A i.val).view.set) (ring3_disj A) (ring3_cover A hA)
    _ fun i f => rfl).trans ?_
  rw [BI.bigSep_univ_eq_bigSepL [0, 1, 2] (by decide) (by decide)]
  show _ ⊢ _
  refine (show _ ⊢ iprop((∃ f : Buf (Elt F) ((slot3 A 0).view.loc (c : Thread nD τ)), (slot3 A 0).view.loc (c : Thread nD τ) ↦[(slot3 A 0).view.set]{fullShare} f) ∗ (∃ f : Buf (Elt F) ((slot3 A 1).view.loc (c : Thread nD τ)), (slot3 A 1).view.loc (c : Thread nD τ) ↦[(slot3 A 1).view.set]{fullShare} f) ∗ (∃ f : Buf (Elt F) ((slot3 A 2).view.loc (c : Thread nD τ)), (slot3 A 2).view.loc (c : Thread nD τ) ↦[(slot3 A 2).view.set]{fullShare} f)) from .rfl).trans ?_
  iintro ⟨⟨%f0, H0⟩, ⟨%f1, H1⟩, ⟨%f2, H2⟩⟩
  isplitl [H0]; · iapply some_owns c (slot3 A 0) f0; iexact H0
  isplitl [H1]; · iapply some_owns c (slot3 A 1) f1; iexact H1
  iapply some_owns c (slot3 A 2) f2; iexact H2
theorem ring3_join0 (hA : A.view.set = Finset.univ) (f₀ : Buf (Elt F) (A.view.loc (c : Thread nD τ))) :
    iprop((∃ f : Buf (Elt F) ((slot3 A 0).view.loc (c : Thread nD τ)), (slot3 A 0).view.loc (c : Thread nD τ) ↦[(slot3 A 0).view.set]{fullShare} f) ∗ (∃ f : Buf (Elt F) ((slot3 A 1).view.loc (c : Thread nD τ)), (slot3 A 1).view.loc (c : Thread nD τ) ↦[(slot3 A 1).view.set]{fullShare} f) ∗ (∃ f : Buf (Elt F) ((slot3 A 2).view.loc (c : Thread nD τ)), (slot3 A 2).view.loc (c : Thread nD τ) ↦[(slot3 A 2).view.set]{fullShare} f))
      ⊢ (iprop(∃ f : Buf (Elt F) (A.view.loc (c : Thread nD τ)), A.view.loc (c : Thread nD τ) ↦{fullShare} f) : sProp 𝕄) := by
  refine BIBase.Entails.trans ?_ (Ring.pieces_join (ℓ := A.view.loc (c : Thread nD τ)) (fun i : Fin 3 => (slot3 A i.val).view.set) (ring3_disj A)
    (ring3_cover A hA) _ (fun i f => rfl) f₀)
  rw [BI.bigSep_univ_eq_bigSepL [0, 1, 2] (by decide) (by decide)]
  exact .rfl
theorem ring3_join (hA : A.view.set = Finset.univ) :
    iprop((∃ d, owns (c : Thread nD τ) (slot3 A 0) fullShare d) ∗ (∃ d, owns (c : Thread nD τ) (slot3 A 1) fullShare d) ∗ (∃ d, owns (c : Thread nD τ) (slot3 A 2) fullShare d))
      ⊢ (iprop(∃ f : Buf (Elt F) (A.view.loc (c : Thread nD τ)), A.view.loc (c : Thread nD τ) ↦{fullShare} f) : sProp 𝕄) := by
  iintro ⟨⟨%d0, H0⟩, H1, H2⟩
  unfold owns
  icases H0 with ⟨%f0, %e0, H0⟩
  iapply ring3_join0 c A hA f0
  isplitl [H0]; · iexists f0; iexact H0
  isplitl [H1]; · iapply owns_some c (slot3 A 1); unfold owns; iexact H1
  iapply owns_some c (slot3 A 2); unfold owns; iexact H2
end

section
variable {e : EltTy} (A : Memref sig .tc .vmem S2x256x4096 e)

theorem ring2_set (k : ℕ) : (slot2 A k).view.set = (Rect.unit (s := S2x256x4096) (slotOff (k % 2)) S1x256x4096.size (slot2_inb k)).set.map A.view.emb :=
  (View.set_reshape _ _).trans (View.set_slice _ _)
theorem ring2_disj (i i' : Fin 2) (h : i ≠ i') :
    Disjoint (slot2 A i.val).view.set (slot2 A i'.val).view.set := by
  rw [ring2_set, ring2_set]
  refine part_disj _ (Finset.disjoint_left.mpr fun x hx hx' => h (Fin.ext ?_))
  have h1 := (Rect.mem_set_unit.mp hx) 0
  have h2 := (Rect.mem_set_unit.mp hx') 0
  have h1 : i.val % 2 ≤ (x 0).val ∧ (x 0).val < i.val % 2 + 1 := h1
  have h2 : i'.val % 2 ≤ (x 0).val ∧ (x 0).val < i'.val % 2 + 1 := h2
  have := i.isLt; have := i'.isLt
  omega
theorem ring2_cover (hA : A.view.set = Finset.univ) :
    (Finset.univ.biUnion fun i : Fin 2 => (show Finset A.view.ty.Idx from (slot2 A i.val).view.set)) = Finset.univ := by
  refine (Finset.biUnion_congr rfl fun i _ => ring2_set A i.val).trans
    (part_cover A.view hA (fun i : Fin 2 => Rect.unit (s := S2x256x4096) (slotOff (i.val % 2)) S1x256x4096.size (slot2_inb i.val)) fun x => ?_)
  refine ⟨⟨(x 0).val, (x 0).isLt⟩, Rect.mem_set_unit.mpr fun a => ?_⟩
  have h0 : (x 0).val < 2 := (x 0).isLt
  fin_cases a
  · show (x 0).val % 2 ≤ (x 0).val ∧ (x 0).val < (x 0).val % 2 + 1
    omega
  · show 0 ≤ (x 1).val ∧ (x 1).val < 0 + S1x256x4096.size 1
    have : (x 1).val < S2x256x4096.size 1 := (x 1).isLt
    have : S2x256x4096.size 1 = S1x256x4096.size 1 := rfl
    omega
  · show 0 ≤ (x 2).val ∧ (x 2).val < 0 + S1x256x4096.size 2
    have : (x 2).val < S2x256x4096.size 2 := (x 2).isLt
    have : S2x256x4096.size 2 = S1x256x4096.size 2 := rfl
    omega

/-- The result's ring held whole, and its slots. -/
theorem ring2_split (hA : A.view.set = Finset.univ) :
    (iprop(∃ f : Buf (Elt F) (A.view.loc (c : Thread nD τ)), A.view.loc (c : Thread nD τ) ↦{fullShare} f) : sProp 𝕄)
      ⊢ iprop((∃ d, owns (c : Thread nD τ) (slot2 A 0) fullShare d) ∗ (∃ d, owns (c : Thread nD τ) (slot2 A 1) fullShare d)) := by
  refine (Ring.pieces_split (ℓ := A.view.loc (c : Thread nD τ)) (fun i : Fin 2 => (slot2 A i.val).view.set) (ring2_disj A) (ring2_cover A hA)
    _ fun i f => rfl).trans ?_
  rw [BI.bigSep_univ_eq_bigSepL [0, 1] (by decide) (by decide)]
  show _ ⊢ _
  refine (show _ ⊢ iprop((∃ f : Buf (Elt F) ((slot2 A 0).view.loc (c : Thread nD τ)), (slot2 A 0).view.loc (c : Thread nD τ) ↦[(slot2 A 0).view.set]{fullShare} f) ∗ (∃ f : Buf (Elt F) ((slot2 A 1).view.loc (c : Thread nD τ)), (slot2 A 1).view.loc (c : Thread nD τ) ↦[(slot2 A 1).view.set]{fullShare} f)) from .rfl).trans ?_
  iintro ⟨⟨%f0, H0⟩, ⟨%f1, H1⟩⟩
  isplitl [H0]; · iapply some_owns c (slot2 A 0) f0; iexact H0
  iapply some_owns c (slot2 A 1) f1; iexact H1
theorem ring2_join0 (hA : A.view.set = Finset.univ) (f₀ : Buf (Elt F) (A.view.loc (c : Thread nD τ))) :
    iprop((∃ f : Buf (Elt F) ((slot2 A 0).view.loc (c : Thread nD τ)), (slot2 A 0).view.loc (c : Thread nD τ) ↦[(slot2 A 0).view.set]{fullShare} f) ∗ (∃ f : Buf (Elt F) ((slot2 A 1).view.loc (c : Thread nD τ)), (slot2 A 1).view.loc (c : Thread nD τ) ↦[(slot2 A 1).view.set]{fullShare} f))
      ⊢ (iprop(∃ f : Buf (Elt F) (A.view.loc (c : Thread nD τ)), A.view.loc (c : Thread nD τ) ↦{fullShare} f) : sProp 𝕄) := by
  refine BIBase.Entails.trans ?_ (Ring.pieces_join (ℓ := A.view.loc (c : Thread nD τ)) (fun i : Fin 2 => (slot2 A i.val).view.set) (ring2_disj A)
    (ring2_cover A hA) _ (fun i f => rfl) f₀)
  rw [BI.bigSep_univ_eq_bigSepL [0, 1] (by decide) (by decide)]
  exact .rfl
theorem ring2_join (hA : A.view.set = Finset.univ) :
    iprop((∃ d, owns (c : Thread nD τ) (slot2 A 0) fullShare d) ∗ (∃ d, owns (c : Thread nD τ) (slot2 A 1) fullShare d))
      ⊢ (iprop(∃ f : Buf (Elt F) (A.view.loc (c : Thread nD τ)), A.view.loc (c : Thread nD τ) ↦{fullShare} f) : sProp 𝕄) := by
  iintro ⟨⟨%d0, H0⟩, H1⟩
  unfold owns
  icases H0 with ⟨%f0, %e0, H0⟩
  iapply ring2_join0 c A hA f0
  isplitl [H0]; · iexists f0; iexact H0
  iapply owns_some c (slot2 A 1); unfold owns; iexact H1
end

section
variable (A : Memref sig .tc .vmem S2x1x4096 (.f32 : EltTy))

theorem gate_set (k : ℕ) : (gate A k).view.set = (Rect.unit (s := S2x1x4096) (slotOff (k % 2)) S1x1x4096.size (gate_inb k)).set.map A.view.emb :=
  (View.set_reshape _ _).trans (View.set_slice _ _)
theorem gate_disj (i i' : Fin 2) (h : i ≠ i') :
    Disjoint (gate A i.val).view.set (gate A i'.val).view.set := by
  rw [gate_set, gate_set]
  refine part_disj _ (Finset.disjoint_left.mpr fun x hx hx' => h (Fin.ext ?_))
  have h1 := (Rect.mem_set_unit.mp hx) 0
  have h2 := (Rect.mem_set_unit.mp hx') 0
  have h1 : i.val % 2 ≤ (x 0).val ∧ (x 0).val < i.val % 2 + 1 := h1
  have h2 : i'.val % 2 ≤ (x 0).val ∧ (x 0).val < i'.val % 2 + 1 := h2
  have := i.isLt; have := i'.isLt
  omega
theorem gate_cover (hA : A.view.set = Finset.univ) :
    (Finset.univ.biUnion fun i : Fin 2 => (show Finset A.view.ty.Idx from (gate A i.val).view.set)) = Finset.univ := by
  refine (Finset.biUnion_congr rfl fun i _ => gate_set A i.val).trans
    (part_cover A.view hA (fun i : Fin 2 => Rect.unit (s := S2x1x4096) (slotOff (i.val % 2)) S1x1x4096.size (gate_inb i.val)) fun x => ?_)
  refine ⟨⟨(x 0).val, (x 0).isLt⟩, Rect.mem_set_unit.mpr fun a => ?_⟩
  have h0 : (x 0).val < 2 := (x 0).isLt
  fin_cases a
  · show (x 0).val % 2 ≤ (x 0).val ∧ (x 0).val < (x 0).val % 2 + 1
    omega
  · show 0 ≤ (x 1).val ∧ (x 1).val < 0 + S1x1x4096.size 1
    have : (x 1).val < S2x1x4096.size 1 := (x 1).isLt
    have : S2x1x4096.size 1 = S1x1x4096.size 1 := rfl
    omega
  · show 0 ≤ (x 2).val ∧ (x 2).val < 0 + S1x1x4096.size 2
    have : (x 2).val < S2x1x4096.size 2 := (x 2).isLt
    have : S2x1x4096.size 2 = S1x1x4096.size 2 := rfl
    omega

/-- A gate's buffer held whole, and its rows. -/
theorem gate_split (hA : A.view.set = Finset.univ) :
    (iprop(∃ f : Buf (Elt F) (A.view.loc (c : Thread nD τ)), A.view.loc (c : Thread nD τ) ↦{fullShare} f) : sProp 𝕄)
      ⊢ iprop((∃ d, owns (c : Thread nD τ) (gate A 0) fullShare d) ∗ (∃ d, owns (c : Thread nD τ) (gate A 1) fullShare d)) := by
  refine (Ring.pieces_split (ℓ := A.view.loc (c : Thread nD τ)) (fun i : Fin 2 => (gate A i.val).view.set) (gate_disj A) (gate_cover A hA)
    _ fun i f => rfl).trans ?_
  rw [BI.bigSep_univ_eq_bigSepL [0, 1] (by decide) (by decide)]
  show _ ⊢ _
  refine (show _ ⊢ iprop((∃ f : Buf (Elt F) ((gate A 0).view.loc (c : Thread nD τ)), (gate A 0).view.loc (c : Thread nD τ) ↦[(gate A 0).view.set]{fullShare} f) ∗ (∃ f : Buf (Elt F) ((gate A 1).view.loc (c : Thread nD τ)), (gate A 1).view.loc (c : Thread nD τ) ↦[(gate A 1).view.set]{fullShare} f)) from .rfl).trans ?_
  iintro ⟨⟨%f0, H0⟩, ⟨%f1, H1⟩⟩
  isplitl [H0]; · iapply some_owns c (gate A 0) f0; iexact H0
  iapply some_owns c (gate A 1) f1; iexact H1
theorem gate_join0 (hA : A.view.set = Finset.univ) (f₀ : Buf (Elt F) (A.view.loc (c : Thread nD τ))) :
    iprop((∃ f : Buf (Elt F) ((gate A 0).view.loc (c : Thread nD τ)), (gate A 0).view.loc (c : Thread nD τ) ↦[(gate A 0).view.set]{fullShare} f) ∗ (∃ f : Buf (Elt F) ((gate A 1).view.loc (c : Thread nD τ)), (gate A 1).view.loc (c : Thread nD τ) ↦[(gate A 1).view.set]{fullShare} f))
      ⊢ (iprop(∃ f : Buf (Elt F) (A.view.loc (c : Thread nD τ)), A.view.loc (c : Thread nD τ) ↦{fullShare} f) : sProp 𝕄) := by
  refine BIBase.Entails.trans ?_ (Ring.pieces_join (ℓ := A.view.loc (c : Thread nD τ)) (fun i : Fin 2 => (gate A i.val).view.set) (gate_disj A)
    (gate_cover A hA) _ (fun i f => rfl) f₀)
  rw [BI.bigSep_univ_eq_bigSepL [0, 1] (by decide) (by decide)]
  exact .rfl
theorem gate_join (hA : A.view.set = Finset.univ) :
    iprop((∃ d, owns (c : Thread nD τ) (gate A 0) fullShare d) ∗ (∃ d, owns (c : Thread nD τ) (gate A 1) fullShare d))
      ⊢ (iprop(∃ f : Buf (Elt F) (A.view.loc (c : Thread nD τ)), A.view.loc (c : Thread nD τ) ↦{fullShare} f) : sProp 𝕄) := by
  iintro ⟨⟨%d0, H0⟩, H1⟩
  unfold owns
  icases H0 with ⟨%f0, %e0, H0⟩
  iapply gate_join0 c A hA f0
  isplitl [H0]; · iexists f0; iexact H0
  iapply owns_some c (gate A 1); unfold owns; iexact H1
end

/-! ## The arrays' shares -/

/-- An array held whole, and the three shares of it. -/
theorem thirds {ℓ : Loc nD τ sig} (f : Buf (Elt F) ℓ) :
    (ℓ ↦{fullShare} f : sProp 𝕄) ⊣⊢ iprop((ℓ ↦{sh 0} f) ∗ (ℓ ↦{sh 1} f) ∗ ℓ ↦{sh 2} f) := Ring.pointsTo_thirds fullShare f

/-! ## The result's blocks -/

section
variable {e : EltTy} (X : Memref sig .tc .hbm S2x8192x4096 e)

theorem blk_set (b : ℕ) : (blk X b).view.set = (Rect.unit (s := S2x8192x4096) (blkOff b) S1x256x4096.size (blk_inb b)).set.map X.view.emb :=
  (View.set_reshape _ _).trans (View.set_slice _ _)
theorem blk_disj (b : ℕ) (hb : b ∈ Finset.range 64) (b' : ℕ) (hb' : b' ∈ Finset.range 64) (h : b ≠ b') :
    Disjoint (blk X b).view.set (blk X b').view.set := by
  rw [blk_set, blk_set]
  refine part_disj _ (Finset.disjoint_left.mpr fun x hx hx' => h ?_)
  have h1 := (Rect.mem_set_unit.mp hx) 0
  have h2 := (Rect.mem_set_unit.mp hx') 0
  have h3 := (Rect.mem_set_unit.mp hx) 1
  have h4 := (Rect.mem_set_unit.mp hx') 1
  have h1 : b / 32 % 2 ≤ (x 0).val ∧ (x 0).val < b / 32 % 2 + 1 := h1
  have h2 : b' / 32 % 2 ≤ (x 0).val ∧ (x 0).val < b' / 32 % 2 + 1 := h2
  have h3 : 256 * (b % 32) ≤ (x 1).val ∧ (x 1).val < 256 * (b % 32) + 256 := h3
  have h4 : 256 * (b' % 32) ≤ (x 1).val ∧ (x 1).val < 256 * (b' % 32) + 256 := h4
  have := Finset.mem_range.mp hb; have := Finset.mem_range.mp hb'
  omega
theorem blk_cover (hX : X.view.set = Finset.univ) :
    ((Finset.range 64).biUnion fun b => (show Finset X.view.ty.Idx from (blk X b).view.set)) = Finset.univ := by
  ext y
  have hy : y ∈ X.view.set := by rw [hX]; exact Finset.mem_univ y
  obtain ⟨x, -, rfl⟩ := Finset.mem_map.mp hy
  refine ⟨fun _ => Finset.mem_univ _, fun _ => Finset.mem_biUnion.mpr ⟨32 * (x 0).val + (x 1).val / 256, ?_, ?_⟩⟩
  · have h0 : (x 0).val < 2 := (x 0).isLt
    have h1 : (x 1).val < 8192 := (x 1).isLt
    exact Finset.mem_range.mpr (by omega)
  rw [blk_set]
  refine Finset.mem_map_of_mem _ (Rect.mem_set_unit.mpr fun a => ?_)
  have h0 : (x 0).val < 2 := (x 0).isLt
  have h1 : (x 1).val < 8192 := (x 1).isLt
  have h2 : (x 2).val < 4096 := (x 2).isLt
  fin_cases a
  · show (32 * (x 0).val + (x 1).val / 256) / 32 % 2 ≤ (x 0).val ∧ (x 0).val < (32 * (x 0).val + (x 1).val / 256) / 32 % 2 + 1
    omega
  · show 256 * ((32 * (x 0).val + (x 1).val / 256) % 32) ≤ (x 1).val ∧ (x 1).val < 256 * ((32 * (x 0).val + (x 1).val / 256) % 32) + 256
    omega
  · show 0 ≤ (x 2).val ∧ (x 2).val < 0 + 4096
    omega

/-- The result held whole is its blocks, each at some contents; -/
theorem blk_split (hX : X.view.set = Finset.univ) (f : Buf (Elt F) (X.view.loc (c : Thread nD τ))) :
    (X.view.loc (c : Thread nD τ) ↦{fullShare} f : sProp 𝕄)
      ⊢ bigSep (Finset.range 64) fun b => iprop(∃ d, owns (c : Thread nD τ) (blk X b) fullShare d) := by
  have h1 := pointsTo_biUnion (Ix := Unit) (Val := Elt F) (Name := ℕ) (U := Pipeline.UD sig nD τ) (Lvl := ℕ) (ℓ := X.view.loc (c : Thread nD τ)) (q := fullShare) (f := f) (Finset.range 64)
    (fun b => (blk X b).view.set) (blk_disj X)
  have h1 := (congrArg (fun S => (X.view.loc (c : Thread nD τ) ↦[S]{fullShare} f : sProp 𝕄)) (blk_cover X hX).symm).trans h1
  refine (Entails.of_eq h1).trans ?_
  exact bigSep_mono fun b _ => some_owns c (blk X b) f

/-- and the blocks, each at what `G` has there, are the result held at `G`. -/
theorem blk_join (hX : X.view.set = Finset.univ) (G : Buf (Elt F) (X.view.loc (c : Thread nD τ)))
    (p : ℕ → S256x4096.Idx → Elt F e) (hG : ∀ b < 64, (blk X b).view.read (Elt F) G = p b) :
    (bigSep (Finset.range 64) fun b => owns (c : Thread nD τ) (blk X b) fullShare (p b))
      ⊢ (X.view.loc (c : Thread nD τ) ↦{fullShare} G : sProp 𝕄) := by
  have h1 := pointsTo_biUnion (Ix := Unit) (Val := Elt F) (Name := ℕ) (U := Pipeline.UD sig nD τ) (Lvl := ℕ) (ℓ := X.view.loc (c : Thread nD τ)) (q := fullShare) (f := G) (Finset.range 64)
    (fun b => (blk X b).view.set) (blk_disj X)
  have h1 := (congrArg (fun S => (X.view.loc (c : Thread nD τ) ↦[S]{fullShare} G : sProp 𝕄)) (blk_cover X hX).symm).trans h1
  refine BIBase.Entails.trans ?_ (Entails.of_eq h1.symm)
  refine bigSep_mono fun b hb => ?_
  unfold owns
  refine (show iprop(∃ f : Buf (Elt F) ((blk X b).view.loc (c : Thread nD τ)), ⌜(blk X b).view.read (Elt F) f = p b⌝
    ∗ (blk X b).view.loc (c : Thread nD τ) ↦[(blk X b).view.set]{fullShare} f)
    ⊢ ((blk X b).view.loc (c : Thread nD τ) ↦[(blk X b).view.set]{fullShare} G : sProp 𝕄) from ?_)
  iintro ⟨%f, %hf, H⟩
  have hh : ∀ i ∈ (blk X b).view.set, f i = G i := by
    intro i hi
    obtain ⟨x, -, rfl⟩ := Finset.mem_map.mp hi
    have := congrFun (hf.trans (hG b (Finset.mem_range.mp hb)).symm) x
    exact (cast_inj _).mp this
  iapply (Entails.of_eq (pointsTo_congr (ℓ := (blk X b).view.loc (c : Thread nD τ)) (q := fullShare) hh)) $$ H
end

end Cert.Kernel2Ideal.Post

end
-- ==== Proof.Post.Run.lean ====
/-
  The launch: what the region hands the body and takes back, the run of the program, and the frame.
-/
module

public import proofs.«01_k».proof.Proof.Post.Split
public import proofs.«01_k».proof.Proof.Gen.Kernel2Ideal.Launch
public import proofs.«01_k».proof.Proof.Gen.Kernel2Ideal.Points
public import Idealize.ShloMosaic.Lib.Pipeline.FrameBody
public import Idealize.ShloMosaic.Lib.ValueLayout
public import Idealize.ShloMosaic.Lib.Pipeline.FrameValue

@[expose] public section

set_option maxRecDepth 65536

noncomputable section

namespace Cert.Kernel2Ideal.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-! ## What the region holds -/

/-- The cells of the body's copies. -/
abbrev osem0 : Fin 17 → SemLoc sig := fun j => SemLoc.dma j
theorem ownSemFacts0 : Pipeline.OwnSemFacts cfg0.spec osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6, 7, 8, 9, 10, 11, 12, 13, 14, 15, 16] (by decide) (by decide)]; rfl

/-- The arrays that are read, and the array that is written. -/
def H0 : Finset (Ref sig .tc) := {main_arg0, main_arg1, main_arg2, main_arg3, main_arg4, main_arg5, main_arg6}
def R0 : Finset (Ref sig .tc) := {main_v0}
theorem H0_sub : H0 ⊆ Pipeline.restRefs sig cfg0.spec := by decide
theorem R0_sub : R0 ⊆ Pipeline.restRefs sig cfg0.spec \ H0 := by decide

/-- A scoped buffer held whole, as its memref. -/
theorem whole_owns (b : Ref sig .tc) (f : Buf (Elt F) ((c : Thread nD τ).loc b)) :
    (((c : Thread nD τ).loc b) ↦{fullShare} f : sProp 𝕄) ⊢ iprop(∃ d, owns (c : Thread nD τ) (Memref.whole b) fullShare d) := by
  iintro H; iexists f; iapply (Entails.of_eq (owns_whole (c : Thread nD τ) b fullShare f).symm) $$ H
theorem owns_whole_some (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  iintro ⟨%d, H⟩; iexists d; iapply (Entails.of_eq (owns_whole (c : Thread nD τ) b fullShare d)) $$ H

section
variable (W : (b : Ref sig .tc) → Buf (Elt F) ((c : Thread nD τ).loc b))

theorem args_eq : (bigSep H0 (fun b => ((c : Thread nD τ).loc b) ↦{fullShare} W b) : sProp 𝕄) = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_arg3) ↦{fullShare} W main_arg3) ∗ (((c : Thread nD τ).loc main_arg4) ↦{fullShare} W main_arg4) ∗ (((c : Thread nD τ).loc main_arg5) ↦{fullShare} W main_arg5) ∗ (((c : Thread nD τ).loc main_arg6) ↦{fullShare} W main_arg6)) := by
  rw [BI.bigSep_eq_bigSepL_of_eq [main_arg0, main_arg1, main_arg2, main_arg3, main_arg4, main_arg5, main_arg6] (by decide) (by decide)]; rfl
theorem routed_eq : (Pipeline.routed R0 c W : sProp 𝕄) = (((c : Thread nD τ).loc main_v0) ↦{fullShare} W main_v0) := by
  unfold Pipeline.routed; rw [BI.bigSep_eq_bigSepL_of_eq [main_v0] (by decide) (by decide)]; rfl

/-- What is held besides the generator's register and the result: the scoped buffers, the cells, the arrays read. -/
def held : sProp 𝕄 := iprop(((∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped5), ((c : Thread nD τ).loc cc0_scoped5) ↦{fullShare} f) ∗ (∃ f : Buf (Elt F) ((c : Thread nD τ).loc cc0_scoped7), ((c : Thread nD τ).loc cc0_scoped7) ↦{fullShare} f) ∗ (∃ f : Buf (Elt F) ((c : Thread nD τ).loc cc0_scoped9), ((c : Thread nD τ).loc cc0_scoped9) ↦{fullShare} f) ∗ (∃ f : Buf (Elt F) ((c : Thread nD τ).loc cc0_scoped10), ((c : Thread nD τ).loc cc0_scoped10) ↦{fullShare} f) ∗ (∃ f : Buf (Elt F) ((c : Thread nD τ).loc cc0_scoped12), ((c : Thread nD τ).loc cc0_scoped12) ↦{fullShare} f))
  ∗ (semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ ((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_arg3) ↦{fullShare} W main_arg3) ∗ (((c : Thread nD τ).loc main_arg4) ↦{fullShare} W main_arg4) ∗ (((c : Thread nD τ).loc main_arg5) ↦{fullShare} W main_arg5) ∗ (((c : Thread nD τ).loc main_arg6) ↦{fullShare} W main_arg6)))
/-- The same as the body holds it. -/
abbrev atRest : sProp 𝕄 := idle c (Memref.whole main_arg0) (Memref.whole main_arg1) (Memref.whole main_arg2) (Memref.whole main_arg3) (Memref.whole main_arg4) (Memref.whole main_arg5) (Memref.whole main_arg6) (Memref.whole cc0_scoped0) cc0_scoped1 (Memref.whole cc0_scoped2) cc0_scoped3 (Memref.whole cc0_scoped4) (Memref.whole cc0_scoped5) cc0_scoped6 (Memref.whole cc0_scoped7) cc0_scoped8 (Memref.whole cc0_scoped9) (Memref.whole cc0_scoped10) cc0_scoped11 (Memref.whole cc0_scoped12) cc0_scoped13 cc0_scoped14 cc0_scoped15 (W main_arg0) (W main_arg1) (W main_arg3) (W main_arg4) (W main_arg6) (W main_arg2) (W main_arg5)
/-- The thirds of the gates that no slot reads with. -/
abbrev spare : sProp 𝕄 := iprop((((c : Thread nD τ).loc main_arg3) ↦{sh 2} W main_arg3) ∗ (((c : Thread nD τ).loc main_arg6) ↦{sh 2} W main_arg6))
/-- The result's block `b`. -/
abbrev blockAt (b : ℕ) : S256x4096.Idx → Elt F .f32 := pBlk c (Memref.whole main_arg0) (Memref.whole main_arg1) (Memref.whole main_arg3) (Memref.whole main_arg4) (Memref.whole main_arg6) (W main_arg0) (W main_arg1) (W main_arg3) (W main_arg4) (W main_arg6) ((Memref.whole main_arg2).view.read (Elt F) (W main_arg2)) ((Memref.whole main_arg5).view.read (Elt F) (W main_arg5)) b

theorem enter : held c W ⊢ iprop(atRest c W ∗ spare c W) := by
  unfold held atRest spare idle rFree gFree free oFree
  iintro ⟨⟨S0, S2, S4, S5, S7, S9, S10, S12⟩, ⟨C0, C1, C2, C3, C4, C5, C6, C7, C8, C9, C10, C11, C12, C13, C14, C15, C16⟩, ⟨A0, A1, A2, A3, A4, A5, A6⟩⟩
  ihave X := ring3_split c (Memref.whole cc0_scoped0) (View.set_whole _) $$ S0
  icases X with ⟨X0, X1, X2⟩
  ihave M := ring3_split c (Memref.whole cc0_scoped2) (View.set_whole _) $$ S2
  icases M with ⟨M0, M1, M2⟩
  ihave Y := ring3_split c (Memref.whole cc0_scoped7) (View.set_whole _) $$ S7
  icases Y with ⟨Y0, Y1, Y2⟩
  ihave G := gate_split c (Memref.whole cc0_scoped5) (View.set_whole _) $$ S5
  icases G with ⟨G0, G1⟩
  ihave K := gate_split c (Memref.whole cc0_scoped10) (View.set_whole _) $$ S10
  icases K with ⟨K0, K1⟩
  ihave O := ring2_split c (Memref.whole cc0_scoped12) (View.set_whole _) $$ S12
  icases O with ⟨O0, O1⟩
  icases S4 with ⟨%f4, S4⟩
  ihave S4 := whole_owns c cc0_scoped4 f4 $$ S4
  icases S9 with ⟨%f9, S9⟩
  ihave S9 := whole_owns c cc0_scoped9 f9 $$ S9
  ihave A0 := (thirds (W main_arg0)).1 $$ A0
  icases A0 with ⟨A00, A01, A02⟩
  ihave A1 := (thirds (W main_arg1)).1 $$ A1
  icases A1 with ⟨A10, A11, A12⟩
  ihave A4 := (thirds (W main_arg4)).1 $$ A4
  icases A4 with ⟨A40, A41, A42⟩
  ihave A3 := (thirds (W main_arg3)).1 $$ A3
  icases A3 with ⟨A30, A31, A32⟩
  ihave A6 := (thirds (W main_arg6)).1 $$ A6
  icases A6 with ⟨A60, A61, A62⟩
  isplitl [X0 C0 A00 X1 C1 A01 X2 C2 A02 M0 C3 A10 M1 C4 A11 M2 C5 A12 Y0 C8 A40 Y1 C9 A41 Y2 C10 A42 G0 C6 A30 G1 C7 A31 K0 C11 A60 K1 C12 A61 S4 C15 A2 S9 C16 A5 O0 C13 O1 C14]
  · isplitl [X0 C0 A00]
    · isplitl [X0]; · iexact X0
      isplitl [C0]; · iexact C0
      iexact A00
    isplitl [X1 C1 A01]
    · isplitl [X1]; · iexact X1
      isplitl [C1]; · iexact C1
      iexact A01
    isplitl [X2 C2 A02]
    · isplitl [X2]; · iexact X2
      isplitl [C2]; · iexact C2
      iexact A02
    isplitl [M0 C3 A10]
    · isplitl [M0]; · iexact M0
      isplitl [C3]; · iexact C3
      iexact A10
    isplitl [M1 C4 A11]
    · isplitl [M1]; · iexact M1
      isplitl [C4]; · iexact C4
      iexact A11
    isplitl [M2 C5 A12]
    · isplitl [M2]; · iexact M2
      isplitl [C5]; · iexact C5
      iexact A12
    isplitl [Y0 C8 A40]
    · isplitl [Y0]; · iexact Y0
      isplitl [C8]; · iexact C8
      iexact A40
    isplitl [Y1 C9 A41]
    · isplitl [Y1]; · iexact Y1
      isplitl [C9]; · iexact C9
      iexact A41
    isplitl [Y2 C10 A42]
    · isplitl [Y2]; · iexact Y2
      isplitl [C10]; · iexact C10
      iexact A42
    isplitl [G0 C6 A30]
    · isplitl [G0]; · iexact G0
      isplitl [C6]; · iexact C6
      iexact A30
    isplitl [G1 C7 A31]
    · isplitl [G1]; · iexact G1
      isplitl [C7]; · iexact C7
      iexact A31
    isplitl [K0 C11 A60]
    · isplitl [K0]; · iexact K0
      isplitl [C11]; · iexact C11
      iexact A60
    isplitl [K1 C12 A61]
    · isplitl [K1]; · iexact K1
      isplitl [C12]; · iexact C12
      iexact A61
    isplitl [S4 C15 A2]
    · isplitl [S4]; · iexact S4
      isplitl [C15]; · iexact C15
      iexact A2
    isplitl [S9 C16 A5]
    · isplitl [S9]; · iexact S9
      isplitl [C16]; · iexact C16
      iexact A5
    isplitl [O0 C13]
    · isplitl [O0]; · iexact O0
      iexact C13
    isplitl [O1]; · iexact O1
    iexact C14
  isplitl [A32]; · iexact A32
  iexact A62

theorem leave : iprop(atRest c W ∗ spare c W) ⊢ held c W := by
  unfold held atRest spare idle rFree gFree free oFree
  iintro ⟨⟨⟨X0, C0, A00⟩, ⟨X1, C1, A01⟩, ⟨X2, C2, A02⟩, ⟨M0, C3, A10⟩, ⟨M1, C4, A11⟩, ⟨M2, C5, A12⟩, ⟨Y0, C8, A40⟩, ⟨Y1, C9, A41⟩, ⟨Y2, C10, A42⟩, ⟨G0, C6, A30⟩, ⟨G1, C7, A31⟩, ⟨K0, C11, A60⟩, ⟨K1, C12, A61⟩, ⟨S4, C15, A2⟩, ⟨S9, C16, A5⟩, ⟨O0, C13⟩, ⟨O1, C14⟩⟩, ⟨A32, A62⟩⟩
  isplitl [X0 X1 X2 M0 M1 M2 S4 G0 G1 Y0 Y1 Y2 S9 K0 K1 O0 O1]
  · isplitl [X0 X1 X2]
    · iapply ring3_join c (Memref.whole cc0_scoped0) (View.set_whole _)
      isplitl [X0]; · iexact X0
      isplitl [X1]; · iexact X1
      iexact X2
    isplitl [M0 M1 M2]
    · iapply ring3_join c (Memref.whole cc0_scoped2) (View.set_whole _)
      isplitl [M0]; · iexact M0
      isplitl [M1]; · iexact M1
      iexact M2
    isplitl [S4]; · iapply owns_whole_some c cc0_scoped4; iexact S4
    isplitl [G0 G1]
    · iapply gate_join c (Memref.whole cc0_scoped5) (View.set_whole _)
      isplitl [G0]; · iexact G0
      iexact G1
    isplitl [Y0 Y1 Y2]
    · iapply ring3_join c (Memref.whole cc0_scoped7) (View.set_whole _)
      isplitl [Y0]; · iexact Y0
      isplitl [Y1]; · iexact Y1
      iexact Y2
    isplitl [S9]; · iapply owns_whole_some c cc0_scoped9; iexact S9
    isplitl [K0 K1]
    · iapply gate_join c (Memref.whole cc0_scoped10) (View.set_whole _)
      isplitl [K0]; · iexact K0
      iexact K1
    iapply ring2_join c (Memref.whole cc0_scoped12) (View.set_whole _)
    isplitl [O0]; · iexact O0
    iexact O1
  isplitl [C0 C1 C2 C3 C4 C5 C6 C7 C8 C9 C10 C11 C12 C13 C14 C15 C16]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    iexact C16
  isplitl [A00 A01 A02]
  · iapply (thirds (W main_arg0)).2
    isplitl [A00]; · iexact A00
    isplitl [A01]; · iexact A01
    iexact A02
  isplitl [A10 A11 A12]
  · iapply (thirds (W main_arg1)).2
    isplitl [A10]; · iexact A10
    isplitl [A11]; · iexact A11
    iexact A12
  isplitl [A2]
  · iexact A2
  isplitl [A30 A31 A32]
  · iapply (thirds (W main_arg3)).2
    isplitl [A30]; · iexact A30
    isplitl [A31]; · iexact A31
    iexact A32
  isplitl [A40 A41 A42]
  · iapply (thirds (W main_arg4)).2
    isplitl [A40]; · iexact A40
    isplitl [A41]; · iexact A41
    iexact A42
  isplitl [A5]
  · iexact A5
  iapply (thirds (W main_arg6)).2
  isplitl [A60]; · iexact A60
  isplitl [A61]; · iexact A61
  iexact A62
end

/-! ## The result -/

/-- Where an index of a block lies in the array. -/
theorem blk_emb {e : EltTy} (X : Memref sig .tc .hbm S2x8192x4096 e) (b : ℕ) (r : Fin 256) (l : Fin 4096) :
    (blk X b).view.emb (ix2 r l) = X.view.emb (ix3 (⟨b / 32 % 2, Nat.mod_lt _ (by decide)⟩ : Fin 2)
      (⟨256 * (b % 32) + r.val, by have := Nat.mod_lt b (show 0 < 32 by decide); have := r.isLt; omega⟩ : Fin 8192) l) := by
  have h : Shape.reshapeEquiv squeezes_S1x256x4096_S256x4096.numel_eq (ix2 r l) = ix3 (⟨0, Nat.one_pos⟩ : Fin 1) r l :=
    ValueIdx.reshapeEquiv_ix2_1ab squeezes_S1x256x4096_S256x4096.numel_eq r l
  show X.view.emb ((Rect.unit (s := S2x8192x4096) (blkOff b) S1x256x4096.size (blk_inb b)).emb
    (Shape.reshapeEquiv squeezes_S1x256x4096_S256x4096.numel_eq (ix2 r l))) = _
  rw [h]
  refine congrArg X.view.emb (funext fun a => Fin.ext ?_)
  fin_cases a
  · show b / 32 % 2 + 1 * 0 = b / 32 % 2
    omega
  · show 256 * (b % 32) + 1 * r.val = 256 * (b % 32) + r.val
    omega
  · show 0 + 1 * l.val = l.val
    omega

/-- What the result's array holds after the run: at row `r` of batch element `b`, row `r mod 256` of block
    `32 b + r / 256`. -/
def outAt (W : (b : Ref sig .tc) → Buf (Elt F) ((c : Thread nD τ).loc b)) : S2x8192x4096.Idx → Elt F .f32 := fun i =>
  blockAt c W (32 * (i 0).val + (i 1).val / 256) (ix2 (⟨(i 1).val % 256, Nat.mod_lt _ (by decide)⟩ : Fin 256) (i 2 : Fin 4096))

theorem read_outAt (W : (b : Ref sig .tc) → Buf (Elt F) ((c : Thread nD τ).loc b)) (b : ℕ) (hb : b < 64) :
    (blk (Memref.whole main_v0) b).view.read (Elt F) (outAt c W) = blockAt c W b := by
  funext x
  obtain ⟨r, l, rfl⟩ : ∃ (r : Fin 256) (l : Fin 4096), x = ix2 r l := ⟨x 0, x 1, by funext a; fin_cases a <;> rfl⟩
  have h := blk_emb (Memref.whole main_v0) b r l
  rw [View.read_apply]
  show outAt c W ((blk (Memref.whole main_v0) b).view.emb (ix2 r l)) = _
  rw [h]
  show blockAt c W (32 * (b / 32 % 2) + (256 * (b % 32) + r.val) / 256) (ix2 (⟨(256 * (b % 32) + r.val) % 256, _⟩ : Fin 256) l) = _
  have hr := r.isLt
  have e1 : 32 * (b / 32 % 2) + (256 * (b % 32) + r.val) / 256 = b := by omega
  have e2 : (⟨(256 * (b % 32) + r.val) % 256, Nat.mod_lt _ (by decide)⟩ : Fin 256) = r := Fin.ext (by show (256 * (b % 32) + r.val) % 256 = r.val; omega)
  rw [e1, e2]

/-! ## The region's body -/

theorem todo_start : (bigSep (Finset.range 64) fun b => iprop(∃ d, owns (c : Thread nD τ) (blk (Memref.whole main_v0) b) fullShare d))
    ⊢ (todo (F := F) c (Memref.whole main_v0) 0 : sProp 𝕄) := by
  unfold todo; rw [Finset.range_eq_Ico]; exact .rfl
theorem done_end (p : ℕ → S256x4096.Idx → Elt F .f32) : done c (Memref.whole main_v0) p 65
    ⊢ (bigSep (Finset.range 64) fun b => owns (c : Thread nD τ) (blk (Memref.whole main_v0) b) fullShare (p b) : sProp 𝕄) := by
  unfold done; exact .rfl

variable (m : (ℓ : Loc nD τ sig) → Buf (Elt F) ℓ) (ρ : Dev nD → PrngReg)

/-- The buffers as the region finds them, and as it leaves them. -/
abbrev V (c : Dev nD) (b : Ref sig .tc) : Buf (Elt F) ((c : Thread nD τ).loc b) := m ((c : Thread nD τ).loc b)
def after (c : Dev nD) : (b : Ref sig .tc) → Buf (Elt F) ((c : Thread nD τ).loc b) :=
  Function.update (V m c) main_v0 (outAt c (V m c))
theorem after_v0 (c : Dev nD) : after m c main_v0 = outAt c (V m c) := Function.update_self _ _ _

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- What the region holds, conjunct by conjunct. -/
theorem phi_eq (G : (c : Dev nD) → (b : Ref sig .tc) → Buf (Elt F) ((c : Thread nD τ).loc b)) :
    (Pipeline.ΦDRG osem0 cfg0.spec H0 R0 (V m) G c : sProp 𝕄) ⊣⊢
      iprop(held c (V m c) ∗ (∃ r, prngReg c r) ∗ (((c : Thread nD τ).loc main_v0) ↦{fullShare} G c main_v0)) := by
  rw [Pipeline.ΦDRG_eq, scopedRest0_eq, ownSems00_eq, args_eq, routed_eq]
  unfold held
  refine ⟨?_, ?_⟩
  · iintro ⟨HS, HG, HC, HA, HR⟩
    isplitl [HS HC HA]
    · isplitl [HS]; · iexact HS
      isplitl [HC]; · iexact HC
      iexact HA
    isplitl [HG]; · iexact HG
    iexact HR
  · iintro ⟨⟨HS, HC, HA⟩, HG, HR⟩
    isplitl [HS]; · iexact HS
    isplitl [HG]; · iexact HG
    isplitl [HC]; · iexact HC
    isplitl [HA]; · iexact HA
    iexact HR

/-- The proof data of the one region: it is entered with the result as it was and left with the result written. -/
def dats (_ : Fin 1) (c : Dev nD) : Dat τ (Elt F) Unit ℕ (Pipeline.UD sig nD τ) ℕ cfg0 c where
  A w := w.elim0
  after w t := w.elim0
  Φ t := if t.val = 0 then Pipeline.ΦDRG osem0 cfg0.spec H0 R0 (V m) (V m) c else Pipeline.ΦDRG osem0 cfg0.spec H0 R0 (V m) (after m) c
  q _ := fullShare
  owed _ := 0

theorem phi_first (c : Dev nD) : (dats m 0 c).Φ 0 = Pipeline.ΦDRG osem0 cfg0.spec H0 R0 (V m) (V m) c := by
  dsimp only [dats]; exact if_pos rfl
theorem phi_last (c : Dev nD) : (dats m 0 c).Φ (Fin.last cfg0.N) = Pipeline.ΦDRG osem0 cfg0.spec H0 R0 (V m) (after m) c := by
  dsimp only [dats]; exact if_neg (by rw [Fin.val_last]; have h1 : cfg0.N = 1 := N_0; omega)

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (t : Fin cfg0.N) :
    bodyPre m c t ⊢ wp frame (wpE (defs₀ (F := F)) Variants.none c none) Set.univ (bodyAt0 t) (fun _ => bodyPost m c t) := by
  unfold bodyPre bodyPost bodyAt0
  have ht : t.val = 0 := by have := t.isLt; have h1 : cfg0.N = 1 := N_0; omega
  rw [show (dats m 0 c).Φ t.castSucc = Pipeline.ΦDRG osem0 cfg0.spec H0 R0 (V m) (V m) c from by dsimp only [dats]; exact if_pos ht,
    show (dats m 0 c).Φ t.succ = Pipeline.ΦDRG osem0 cfg0.spec H0 R0 (V m) (after m) c from by dsimp only [dats]; exact if_neg (Nat.succ_ne_zero _)]
  unfold Dat.owesAt Pipeline.owesWithin
  rw [show (dats m 0 c).owed t.castSucc = 0 from rfl, show (dats m 0 c).owed t.succ = 0 from rfl]
  iintro ⟨HP, ⟨%T, -, HT⟩⟩
  ihave HP := (phi_eq c m (V m)).1 $$ HP
  icases HP with ⟨HH, HG, HR⟩
  ihave HH := enter c (V m c) $$ HH
  icases HH with ⟨HI, HS⟩
  ihave HR := blk_split c (Memref.whole main_v0) (View.set_whole _) (V m c main_v0) $$ HR
  iapply (body c (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v0) (Memref.isWhole_whole _) (Memref.whole cc0_scoped0) (Memref.isWhole_whole _) cc0_scoped1 (Memref.whole cc0_scoped2) (Memref.isWhole_whole _) cc0_scoped3 (Memref.whole cc0_scoped4) (Memref.isWhole_whole _) (Memref.whole cc0_scoped5) (Memref.isWhole_whole _) cc0_scoped6 (Memref.whole cc0_scoped7) (Memref.isWhole_whole _) cc0_scoped8 (Memref.whole cc0_scoped9) (Memref.isWhole_whole _) (Memref.whole cc0_scoped10) (Memref.isWhole_whole _) cc0_scoped11 (Memref.whole cc0_scoped12) (Memref.isWhole_whole _) cc0_scoped13 cc0_scoped14 cc0_scoped15 (V m c main_arg0) (V m c main_arg1) (V m c main_arg3) (V m c main_arg4) (V m c main_arg6) (V m c main_arg2) (V m c main_arg5)) $$ [HI HR HT]
  · isplitl [HI]; · iexact HI
    isplitl [HR]; · iapply (todo_start c); iexact HR
    iexists T; iexact HT
  iintro ⟨HI, HD, ⟨%T', HT⟩⟩
  isplitl [HI HD HG HS]
  · iapply (phi_eq c m (after m)).2
    isplitl [HI HS]
    · iapply leave c (V m c)
      isplitl [HI]; · iexact HI
      iexact HS
    isplitl [HG]; · iexact HG
    rw [after_v0]
    iapply blk_join c (Memref.whole main_v0) (View.set_whole _) (outAt c (V m c)) (blockAt c (V m c)) (read_outAt c (V m c))
    iapply (done_end c (blockAt c (V m c))); iexact HD
  iexists T'; isplitr; · ipureintro; exact fun _ _ => Or.inl trivial
  iexact HT

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [defs₀_row]
  exact triple_restated (sound_body c m t) rfl (by
    unfold bodyPre
    iintro ⟨H1, H2, -⟩
    isplitl [H1]; · iexact H1
    iexact H2) fun _ => by
    unfold bodyPost
    iintro ⟨H1, H2⟩
    isplitl [H1]; · iexact H1
    isplitl [H2]; · iexact H2
    rw [Finset.univ_eq_empty]
    iapply (Entails.of_eq BI.bigSep_empty.symm)
    iempintro

/-! ## The run and the frame -/

set_option backward.isDefEq.respectTransparency.types false in
/-- From any memory the program ends with the result's array at `outAt`, its arguments as they were, and every cell at
    zero. -/
theorem run_main : θ_run defs (onTc (τ := τ) (main (F := F))) (s₀ m ρ)
    (fun r => Pipeline.FramePostRG cfgs (dats m) 0 R0 (V m) (after m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation c m).loose) (hshare := fun c w => w.elim0)
    (howed := fun _ _ => rfl) (V := V m) (hmain := hmain m Variants.none) (hA := fun _ w => w.elim0) (G := after m)
    (hin := fun c => Entails.of_eq (phi_first m c).symm) (hout := fun c => Entails.of_eq (phi_last m c))

theorem run : θ_run defs (onTc (τ := τ) (main (F := F))) ⟨m, fun _ => 0, ρ⟩ (fun r => (∀ c : Dev nD,
      r.2.mem ((c.tc : Thread nD τ).loc main_v0) = outAt c (V m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.written c (b := main_v0) (by decide)).trans (after_v0 m c),
      (h.1.toR c).2 main_arg0 (Finset.mem_sdiff.mpr ⟨Pipeline.mem_restRefs_of main_arg0 (by decide) (by decide), by decide⟩),
      (h.1.toR c).2 main_arg1 (Finset.mem_sdiff.mpr ⟨Pipeline.mem_restRefs_of main_arg1 (by decide) (by decide), by decide⟩),
      (h.1.toR c).2 main_arg2 (Finset.mem_sdiff.mpr ⟨Pipeline.mem_restRefs_of main_arg2 (by decide) (by decide), by decide⟩),
      (h.1.toR c).2 main_arg3 (Finset.mem_sdiff.mpr ⟨Pipeline.mem_restRefs_of main_arg3 (by decide) (by decide), by decide⟩),
      (h.1.toR c).2 main_arg4 (Finset.mem_sdiff.mpr ⟨Pipeline.mem_restRefs_of main_arg4 (by decide) (by decide), by decide⟩),
      (h.1.toR c).2 main_arg5 (Finset.mem_sdiff.mpr ⟨Pipeline.mem_restRefs_of main_arg5 (by decide) (by decide), by decide⟩),
      (h.1.toR c).2 main_arg6 (Finset.mem_sdiff.mpr ⟨Pipeline.mem_restRefs_of main_arg6 (by decide) (by decide), by decide⟩)⟩, h.2⟩) (run_main m ρ)

end Cert.Kernel2Ideal.Post

end
-- ==== Proof.Post.Result.lean ====
/-
  What the result's array holds AT AN INDEX, at the ideal instance, and the run of the program stated with it.
-/
module

public import proofs.«01_k».proof.Proof.Post.Pay
public import proofs.«01_k».proof.Proof.Post.Run

@[expose] public section

set_option maxRecDepth 16384

noncomputable section

namespace Cert.Kernel2Ideal.Post

open Cert.Kernel2Ideal Cert.Kernel2Ideal.Gen Idealize.ShloMosaic Idealize.ShloMosaic.TcCoe Idealize.SL.Sem
open scoped BigOperators

/-- The layer's last step at an index: `x`, plus the mixer's row divided by its root mean square times weight and gate,
    plus the feed-forward row likewise. -/
def postRow (x : S2x8192x4096.Idx → EReal) (m : S2x8192x4096.Idx → EReal) (gm : S1x4096.Idx → EReal) (ga : S2x1x4096.Idx → EReal)
    (y : S2x8192x4096.Idx → EReal) (gf : S1x4096.Idx → EReal) (gb : S2x1x4096.Idx → EReal) (i : S2x8192x4096.Idx) : EReal :=
  x i + ga (ix3 (i 0) 0 (i 2)) * (m i * scale (fun k => m (ix3 (i 0) (i 1) k)) * gm (ix2 0 (i 2)))
    + gb (ix3 (i 0) 0 (i 2)) * (y i * scale (fun k => y (ix3 (i 0) (i 1) k)) * gf (ix2 0 (i 2)))

/-- The gate's row with its unit axis, at an index. -/
theorem up_apply (g : S1x4096.Idx → Elt Ideal .f32) (l : Fin 4096) : up g (ix3 0 0 l) = g (ix2 0 l) := by
  have h : Shape.reshapeEquiv squeezes_S1x1x4096_S1x4096.numel_eq (ix2 (0 : Fin 1) l) = ix3 (0 : Fin 1) (0 : Fin 1) l :=
    ValueIdx.reshapeEquiv_ix2_1ab squeezes_S1x1x4096_S1x4096.numel_eq (0 : Fin 1) l
  unfold up
  rw [← h, Equiv.symm_apply_apply]

/-- A step's rows of a block, at an index. -/
theorem rows_apply {e : EltTy} (xb : S256x4096.Idx → Elt Ideal e) (r : Fin 256) (l : Fin 4096) :
    View.ld xb (rows (⟨r.val / 16, by have := r.isLt; omega⟩ : Fin 16)) (ix2 (⟨r.val % 16, Nat.mod_lt _ (by decide)⟩ : Fin 16) l) = xb (ix2 r l) := by
  show xb ((rows _).emb _) = _
  refine congrArg xb (funext fun a => Fin.ext ?_)
  fin_cases a
  · show 16 * (r.val / 16) + 1 * (r.val % 16) = r.val; omega
  · show 0 + 1 * l.val = l.val; omega

/-- A block at an index. -/
theorem outBlk_apply (gm ga gf gb : S1x4096.Idx → Elt Ideal .f32) (xb : S256x4096.Idx → Elt Ideal .f32)
    (mb yb : S256x4096.Idx → Elt Ideal .bf16) (r : Fin 256) (l : Fin 4096) :
    outBlk gm ga gf gb xb mb yb (ix2 r l)
      = xb (ix2 r l) + mb (ix2 r l) * scale (fun k => mb (ix2 r k)) * (gm (ix2 0 l) * ga (ix2 0 l))
        + yb (ix2 r l) * scale (fun k => yb (ix2 r k)) * (gf (ix2 0 l) * gb (ix2 0 l)) := by
  show k0_pay1 (k0_pay2 gf (up gb)) (k0_pay3 gm (up ga)) (View.ld xb (rows (⟨r.val / 16, _⟩ : Fin 16))) (View.ld mb (rows (⟨r.val / 16, _⟩ : Fin 16)))
    (View.ld yb (rows (⟨r.val / 16, _⟩ : Fin 16))) (ix2 (⟨r.val % 16, _⟩ : Fin 16) l) = _
  rw [pay1_apply, rows_apply, rows_apply, rows_apply, up_apply, up_apply]
  have hm : (fun k : Fin 4096 => View.ld mb (rows (⟨r.val / 16, by have := r.isLt; omega⟩ : Fin 16)) (ix2 (⟨r.val % 16, Nat.mod_lt _ (by decide)⟩ : Fin 16) k))
      = fun k => mb (ix2 r k) := funext fun k => rows_apply mb r k
  have hy : (fun k : Fin 4096 => View.ld yb (rows (⟨r.val / 16, by have := r.isLt; omega⟩ : Fin 16)) (ix2 (⟨r.val % 16, Nat.mod_lt _ (by decide)⟩ : Fin 16) k))
      = fun k => yb (ix2 r k) := funext fun k => rows_apply yb r k
  rw [hm, hy]

variable (c : Dev nD)

/-- Where an index of a gate's row lies in the gate's array. -/
theorem gate_emb {sp : Space} {e : EltTy} (X : Memref sig .tc sp S2x1x4096 e) (k : ℕ) (l : Fin 4096) :
    (gate X k).view.emb (ix2 (0 : Fin 1) l) = X.view.emb (ix3 (⟨k % 2, Nat.mod_lt _ (by decide)⟩ : Fin 2) (0 : Fin 1) l) := by
  have h : Shape.reshapeEquiv squeezes_S1x1x4096_S1x4096.numel_eq (ix2 (0 : Fin 1) l) = ix3 (0 : Fin 1) (0 : Fin 1) l :=
    ValueIdx.reshapeEquiv_ix2_1ab squeezes_S1x1x4096_S1x4096.numel_eq (0 : Fin 1) l
  show X.view.emb ((Rect.unit (s := S2x1x4096) (slotOff (k % 2)) S1x1x4096.size (gate_inb k)).emb
    (Shape.reshapeEquiv squeezes_S1x1x4096_S1x4096.numel_eq (ix2 (0 : Fin 1) l))) = _
  rw [h]
  refine congrArg X.view.emb (funext fun a => Fin.ext ?_)
  fin_cases a
  · show k % 2 + 1 * 0 = k % 2
    omega
  · show 0 + 1 * 0 = 0
    omega
  · show 0 + 1 * l.val = l.val
    omega

/-- An index of the result, from its batch, its row and its lane. -/
theorem blk_read_at {e : EltTy} (X : Memref sig .tc .hbm S2x8192x4096 e) (V : X.view.ty.Contents (Elt Ideal)) (b : Fin 2) (t : Fin 8192) (l : Fin 4096) :
    (blk X (32 * b.val + t.val / 256)).view.read (Elt Ideal) V (ix2 (⟨t.val % 256, Nat.mod_lt _ (by decide)⟩ : Fin 256) l)
      = X.view.read (Elt Ideal) V (ix3 b t l) := by
  have hb := b.isLt
  have ht := t.isLt
  have h := blk_emb X (32 * b.val + t.val / 256) (⟨t.val % 256, Nat.mod_lt _ (by decide)⟩ : Fin 256) l
  have e1 : (⟨(32 * b.val + t.val / 256) / 32 % 2, Nat.mod_lt _ (by decide)⟩ : Fin 2) = b := Fin.ext (by show (32 * b.val + t.val / 256) / 32 % 2 = b.val; omega)
  have e2 : ∀ p, (⟨256 * ((32 * b.val + t.val / 256) % 32) + t.val % 256, p⟩ : Fin 8192) = t := fun p =>
    Fin.ext (by show 256 * ((32 * b.val + t.val / 256) % 32) + t.val % 256 = t.val; omega)
  have h2 : (blk X (32 * b.val + t.val / 256)).view.emb (ix2 (⟨t.val % 256, Nat.mod_lt _ (by decide)⟩ : Fin 256) l) = X.view.emb (ix3 b t l) := by
    refine h.trans ?_
    rw [e1]
    exact congrArg (fun u => X.view.emb (ix3 b u l)) (e2 _)
  rw [View.read_apply, View.read_apply, h2]

/-- A gate's row read at an index. -/
theorem gate_read_at {e : EltTy} (X : Memref sig .tc .hbm S2x1x4096 e) (V : X.view.ty.Contents (Elt Ideal)) (b : Fin 2) (t : Fin 8192) (l : Fin 4096) :
    (gate X ((32 * b.val + t.val / 256) / 32)).view.read (Elt Ideal) V (ix2 0 l) = X.view.read (Elt Ideal) V (ix3 b 0 l) := by
  have hb := b.isLt
  have ht := t.isLt
  have e1 : (⟨(32 * b.val + t.val / 256) / 32 % 2, Nat.mod_lt _ (by decide)⟩ : Fin 2) = b := Fin.ext (by show (32 * b.val + t.val / 256) / 32 % 2 = b.val; omega)
  have h2 := gate_emb X ((32 * b.val + t.val / 256) / 32) l
  rw [e1] at h2
  rw [View.read_apply, View.read_apply, h2]

/-- What the result's array holds at an index. -/
theorem outAt_apply (W : (b : Ref sig .tc) → Buf (Elt Ideal) ((c : Thread nD τ).loc b)) (i : S2x8192x4096.Idx) :
    outAt c W i = postRow (W main_arg0) (W main_arg1) (W main_arg2) (W main_arg3) (W main_arg4) (W main_arg5) (W main_arg6) i := by
  obtain ⟨b, t, l, rfl⟩ : ∃ (b : Fin 2) (t : Fin 8192) (l : Fin 4096), i = ix3 b t l :=
    ⟨i 0, i 1, i 2, funext fun a => by fin_cases a <;> rfl⟩
  show pBlk c _ _ _ _ _ _ _ _ _ _ _ _ (32 * b.val + t.val / 256) (ix2 (⟨t.val % 256, _⟩ : Fin 256) l) = _
  unfold pBlk
  rw [outBlk_apply, blk_read_at, blk_read_at, blk_read_at, gate_read_at, gate_read_at]
  have hm : (fun k : Fin 4096 => (blk (Memref.whole main_arg1) (32 * b.val + t.val / 256)).view.read (Elt Ideal) (W main_arg1)
      (ix2 (⟨t.val % 256, Nat.mod_lt _ (by decide)⟩ : Fin 256) k)) = fun k => W main_arg1 (ix3 b t k) := funext fun k => blk_read_at (Memref.whole main_arg1) (W main_arg1) b t k
  have hy : (fun k : Fin 4096 => (blk (Memref.whole main_arg4) (32 * b.val + t.val / 256)).view.read (Elt Ideal) (W main_arg4)
      (ix2 (⟨t.val % 256, Nat.mod_lt _ (by decide)⟩ : Fin 256) k)) = fun k => W main_arg4 (ix3 b t k) := funext fun k => blk_read_at (Memref.whole main_arg4) (W main_arg4) b t k
  rw [hm, hy]
  have e : ∀ p q r s : EReal, p * q * (r * s) = s * (p * q * r) := fun p q r s => by rw [← mul_assoc, mul_comm]
  rw [e, e]
  rfl

variable (m : (ℓ : Loc nD τ sig) → Buf (Elt Ideal) ℓ) (ρ : Dev nD → PrngReg)

/-- The result of the run, on a device. -/
def result : Buf (Elt Ideal) ((c.tc : Thread nD τ).loc main_v0) :=
  postRow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The array after the run is that result. -/
theorem outAt_eq : outAt c (V m c) = result c m := funext fun i => outAt_apply c (V m c) i

end Cert.Kernel2Ideal.Post

end
-- ==== Proof.Post.Equation.lean ====
/-
  The reference at an index, and the two programs' results side by side.
-/
module

public import proofs.«01_k».proof.Defs
public import proofs.«01_k».proof.Proof.Post.Result
public import proofs.«01_k».proof.Proof.Gen.Reference2Ideal.Run

@[expose] public section

set_option maxRecDepth 16384

noncomputable section

namespace Cert.Reference2Ideal.Post

open Cert.Reference2Ideal Cert.Reference2Ideal.Gen Idealize.ShloMosaic Idealize.ShloMosaic.TcCoe
open Cert.Kernel2Ideal.Post (postRow scale)
open scoped BigOperators

/-- The reference's composed term at an index. -/
theorem reference_apply (x : FVec Ideal S2x8192x4096 .f32) (m : FVec Ideal S2x8192x4096 .bf16) (gm : FVec Ideal S1x4096 .f32)
    (ga : FVec Ideal S2x1x4096 .f32) (y : FVec Ideal S2x8192x4096 .bf16) (gf : FVec Ideal S1x4096 .f32) (gb : FVec Ideal S2x1x4096 .f32)
    (i : S2x8192x4096.Idx) :
    addf (addf x (mulf (broadcastInDim S2x8192x4096 ![0, 1, 2] bcast_S2x1x4096_S2x8192x4096_0_1_2 ga) (mulf (mulf (extf .f32 m bitsLt_bf16_f32) (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf (extf .f32 m bitsLt_bf16_f32) (extf .f32 m bitsLt_bf16_f32)) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![1, 2] bcast_S1x4096_S1x1x4096_1_2 gm))))) (mulf (broadcastInDim S2x8192x4096 ![0, 1, 2] bcast_S2x1x4096_S2x8192x4096_0_1_2 gb) (mulf (mulf (extf .f32 y bitsLt_bf16_f32) (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf (extf .f32 y bitsLt_bf16_f32) (extf .f32 y bitsLt_bf16_f32)) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![1, 2] bcast_S1x4096_S1x1x4096_1_2 gf)))) i
      = postRow x m gm ga y gf gb i := by
  idx_vars i
  pointwise [postRow, scale]

end Cert.Reference2Ideal.Post

namespace Cert.Post

open Idealize.ShloMosaic Idealize.ShloMosaic.TcCoe Idealize.SL.Sem

/-- The two programs' results agree: both are the layer's last step of the arguments. -/
theorem algebraic : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Kernel2Ideal.Post.result c m, ?_, ?_⟩
  · exact (θ_run Cert.Kernel2Ideal.defs _ _).mono (fun r h c => ⟨(h.1 c).1.trans (Cert.Kernel2Ideal.Post.outAt_eq c m), (h.1 c).2⟩)
      (Cert.Kernel2Ideal.Post.run (F := Ideal) m ρ)
  · refine (θ_run Cert.Reference2Ideal.defs _ _).mono (fun r h c => ⟨(h c).1.trans ?_, (h c).2⟩) (Cert.Reference2Ideal.Value.run m' ρ')
    obtain ⟨e0, e1, e2, e3, e4, e5, e6⟩ := hargs c
    rw [e0, e1, e2, e3, e4, e5, e6]
    exact funext fun i => Cert.Reference2Ideal.Post.reference_apply _ _ _ _ _ _ _ i

end Cert.Post

end
-- ==== Proof.Inproj.Body.lean ====
/-
  One point of the input projection's body on any whole staging buffers: it leaves its input blocks as they were, the
  result tile at the product of the activations' block and the weights' tile, and — at the first column tile of a row
  block only — the tail's tile at the product of the activations' block and the padded tail weights; at the other
  points the tail's tile is not touched.
-/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer stored whole holds is what was stored. -/
theorem read_whole_store {sp : Space} {e : EltTy} {s : Shape} (v : View sig .tc sp s e) (f : v.ty.Contents (Elt F)) (off : Fin s.rank → ℕ)
    (hoff : ∀ a, off a = 0) (hin : ∀ a, off a + s.size a ≤ s.size a) (w : s.Idx → Elt F e) :
    v.read (Elt F) (v.writes (Elt F) f [⟨Rect.unit off s.size hin, w⟩]) = w :=
  funext fun y => View.read_writes_cons_hit_of_coords v f (Rect.unit off s.size hin) w [] y y fun a => by
    show (y a).val = off a + 1 * (y a).val
    rw [hoff a]; omega

/-- What is loaded whole from a buffer is what the buffer holds. -/
theorem readAt_whole {sp : Space} {e : EltTy} {s : Shape} {μ : Memref sig .tc sp s e} (h : μ.IsWhole) (x : s.Idx → Elt F e) (off : Fin s.rank → ℕ)
    (hoff : ∀ a, off a = 0) (hin : ∀ a, off a + s.size a ≤ s.size a) :
    View.readAt (Elt F) μ.view (Rect.unit off s.size hin).toLoadRect (h.unread x) = x := by
  rw [View.readAt_eq_ld, h.read_unread]
  funext y
  show x _ = x _
  congr 1
  funext a; apply Fin.ext
  show off a + 1 * (y a).val = (y a).val
  rw [hoff a]; omega

/-- The body at the first column tile of a row block. -/
theorem body_first (c : Dev nD) (i : grid0.Coords)
    (arg3 : Memref sig .tc .vmem S1x1024x4096 .bf16) (harg3 : arg3.IsWhole) (arg4 : Memref sig .tc .vmem S4096x768 .bf16) (harg4 : arg4.IsWhole)
    (arg5 : Memref sig .tc .vmem S4096x128 .bf16) (harg5 : arg5.IsWhole) (arg6 : Memref sig .tc .vmem S1x1024x768 .f32) (harg6 : arg6.IsWhole)
    (arg7 : Memref sig .tc .vmem S1x1024x128 .f32) (harg7 : arg7.IsWhole) (hc : k0_cond1 i = 1#1)
    (x0 : Vec F S1x1024x4096 .bf16) (x1 : Vec F S4096x768 .bf16) (x2 : Vec F S4096x128 .bf16) (x3 : Vec F S1x1024x768 .f32) (x4 : Vec F S1x1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 x0 x1) ∗ owns (c : Thread nD τ) arg7 fullShare (k0_pay1 x0 x2)) -∗ K ⟨⟩))
      ⊢ wp frame (wpE (defs₀ (F := F)) Variants.none c none) Set.univ (cc0_inproj i arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_whole_store _ _ _ (by decide), readAt_whole harg3 x0 _ (by decide), readAt_whole harg4 x1 _ (by decide)]
  · iexists _; isplitr
    swap; · iexact H4
    ipureintro
    rw [read_whole_store _ _ _ (by decide), readAt_whole harg3 x0 _ (by decide), readAt_whole harg5 x2 _ (by decide)]

/-- The body at any other column tile: the tail's tile stays as it was. -/
theorem body_rest (c : Dev nD) (i : grid0.Coords)
    (arg3 : Memref sig .tc .vmem S1x1024x4096 .bf16) (harg3 : arg3.IsWhole) (arg4 : Memref sig .tc .vmem S4096x768 .bf16) (harg4 : arg4.IsWhole)
    (arg5 : Memref sig .tc .vmem S4096x128 .bf16) (harg5 : arg5.IsWhole) (arg6 : Memref sig .tc .vmem S1x1024x768 .f32) (harg6 : arg6.IsWhole)
    (arg7 : Memref sig .tc .vmem S1x1024x128 .f32) (harg7 : arg7.IsWhole) (hc : ¬k0_cond1 i = 1#1)
    (x0 : Vec F S1x1024x4096 .bf16) (x1 : Vec F S4096x768 .bf16) (x2 : Vec F S4096x128 .bf16) (x3 : Vec F S1x1024x768 .f32) (x4 : Vec F S1x1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 x0 x1) ∗ owns (c : Thread nD τ) arg7 fullShare x4) -∗ K ⟨⟩))
      ⊢ wp frame (wpE (defs₀ (F := F)) Variants.none c none) Set.univ (cc0_inproj i arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_whole_store _ _ _ (by decide), readAt_whole harg3 x0 _ (by decide), readAt_whole harg4 x1 _ (by decide)]
  · iexists _; isplitr
    swap; · iexact H4
    ipureintro
    exact hf4

end Cert.Kernel3Ideal.Inproj

end
-- ==== Proof.Inproj.Launch.lean ====
/-
  The input projection's launch: what each staging buffer holds after each point, the body's obligation at every point,
  and the run over any float values. The tail's tile, stored at the first column tile of a row block, is kept through
  the other fifteen and written back after the last.
-/
module

public import proofs.«01_k».proof.Proof.Inproj.Body
public import Idealize.ShloMosaic.Lib.Claim

@[expose] public section

set_option maxRecDepth 16384

noncomputable section

namespace Cert.Kernel3Ideal.Inproj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body stores the tail's tile at the first column tile only. -/
theorem hcond : ∀ t : Fin cfg0.N, k0_cond1 (grid0.coords t) = 1#1 ↔ t.val % 16 = 0 :=
  (by decide +kernel : ∀ t : Fin grid0.N, k0_cond1 (grid0.coords t) = 1#1 ↔ t.val % 16 = 0)

/-- The windows' block indices at point `t`: batch `t / 128`, row block `t / 16 % 8`, column tile `t % 16`. -/
theorem index_val : ∀ t : Fin cfg0.N, cc0_transform_0 (grid0.coords t) = ![t.val / 128, t.val / 16 % 8, 0]
    ∧ cc0_transform_1 (grid0.coords t) = ![0, t.val % 16]
    ∧ cc0_transform_2 (grid0.coords t) = ![0, 0]
    ∧ cc0_transform_3 (grid0.coords t) = ![t.val / 128, t.val / 16 % 8, t.val % 16]
    ∧ cc0_transform_4 (grid0.coords t) = ![t.val / 128, t.val / 16 % 8, 0] :=
  (by decide +kernel : ∀ t : Fin grid0.N, _)

/-- The result tile at point `t`. -/
def tile (c : Dev nD) (t : Fin cfg0.N) : Vec F S1x1024x768 .f32 := k0_pay2 (iblk m c 0 t) (X0_1 m c t)

/-- The tail's tile of the row block that point `t` is in. -/
def tail (c : Dev nD) (t : Fin cfg0.N) : Vec F S1x1024x128 .f32 := k0_pay1 (iblk m c 0 t) (iblk m c 2 t)

/-- Points of one row block have one activations' block, -/
theorem iblk0_congr (c : Dev nD) (t t' : Fin cfg0.N) (h : t.val / 16 = t'.val / 16) :
    (iblk m c 0 t : Vec F S1x1024x4096 .bf16) = iblk m c 0 t' := by
  have h2 : t.val / 128 = t'.val / 128 := by omega
  have hi : cc0_transform_0 (grid0.coords t) = cc0_transform_0 (grid0.coords t') := by
    rw [(index_val t).1, (index_val t').1, h2, h]
  funext y
  unfold iblk
  rw [View.read_apply, View.read_apply]
  show V m c main_v3 _ = V m c main_v3 _
  congr 1
  funext a; apply Fin.ext
  show cc0_transform_0 (grid0.coords t) a * S1x1024x4096.size a + 1 * (y a).val = cc0_transform_0 (grid0.coords t') a * S1x1024x4096.size a + 1 * (y a).val
  rw [hi]

/-- and all points have one block of the tail's weights, -/
theorem iblk2_congr (c : Dev nD) (t t' : Fin cfg0.N) :
    (iblk m c 2 t : Vec F S4096x128 .bf16) = iblk m c 2 t' := by
  funext y
  unfold iblk
  rw [View.read_apply, View.read_apply]
  show V m c main_v2 _ = V m c main_v2 _
  congr 1

/-- so they have one tail's tile. -/
theorem tail_congr (c : Dev nD) (t t' : Fin cfg0.N) (h : t.val / 16 = t'.val / 16) : tail m c t = tail m c t' := by
  unfold tail
  rw [iblk0_congr m c t t' h, iblk2_congr m c t t']

/-- What every staging buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => tile m c t
    | ⟨4, _⟩ => tail m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tile m c t := by dsimp only [dats]
theorem after0_4 (c : Dev nD) (t : Fin cfg0.N) : (dats m 0 c).after 4 t = tail m c t := by dsimp only [dats]

/-- What the input windows hold before each point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the tail's window is live and where idle. -/
theorem live4 (t : Fin cfg0.N) (h : t.val % 16 = 0) : cfg0.idle 4 (grid0.coords t) = false := by
  show (!(k0_cond1 (grid0.coords t) == 1#1)) = false
  rw [(hcond t).mpr h]; rfl
theorem idle4 (t : Fin cfg0.N) (h : ¬t.val % 16 = 0) : cfg0.idle 4 (grid0.coords t) = true := by
  show (!(k0_cond1 (grid0.coords t) == 1#1)) = true
  rw [beq_eq_false_iff_ne.mpr (fun e => h ((hcond t).mp e))]; rfl
theorem noFlush4 (t : Fin cfg0.N) (h : ¬t.val % 16 = 15) : (cfg0.win 4).flush t = false :=
  eq_false_of_ne_true fun e => h ((flush0_4 t).mp e)

/-- What the body left in the tail's buffer at a first column tile is the tail's tile, all of it. -/
theorem kept4 (c : Dev nD) (t : Fin cfg0.N) (d) : (dats m 0 c).kept 4 t d = tail m c t := by
  unfold Dat.kept
  rw [after0_4]
  funext j
  unfold Pipeline.Window.fill
  have hm : (cfg0.win 4).moved (cfg0.grid.coords t) j = true := ((cfg0.win 4).moved_iff _ j).mpr fun a => (j a).isLt
  rw [dif_pos hm]

/-- Before every point of a row block but its first, the tail's buffer holds the tail's tile. -/
theorem before0_4 (c : Dev nD) : ∀ (n : ℕ) (t : Fin cfg0.N), t.val % 16 = n + 1 → ∀ d, (dats m 0 c).before 4 t d = tail m c t
  | 0, t, h, d => by
    let t' : Fin cfg0.N := ⟨t.val - 1, Nat.lt_of_le_of_lt (Nat.sub_le _ _) t.isLt⟩
    have h0 : t'.val % 16 = 0 := by show (t.val - 1) % 16 = 0; omega
    rw [(dats m 0 c).before_of_pos 4 t (by omega) ((cfg0.win 4).fetch_out rfl t) d, noFlush4 t' (by omega), if_neg Bool.false_ne_true]
    unfold Dat.left
    rw [live4 t' h0]
    show (dats m 0 c).kept 4 t' d = _
    rw [kept4]
    exact tail_congr m c t' t (by show (t.val - 1) / 16 = t.val / 16; omega)
  | n + 1, t, h, d => by
    let t' : Fin cfg0.N := ⟨t.val - 1, Nat.lt_of_le_of_lt (Nat.sub_le _ _) t.isLt⟩
    have h0 : t'.val % 16 = n + 1 := by show (t.val - 1) % 16 = n + 1; omega
    rw [(dats m 0 c).before_of_pos 4 t (by omega) ((cfg0.win 4).fetch_out rfl t) d, noFlush4 t' (by omega), if_neg Bool.false_ne_true]
    unfold Dat.left
    rw [idle4 t' (by omega)]
    show (dats m 0 c).before 4 t' d = _
    rw [before0_4 c n t' h0 d]
    exact tail_congr m c t' t (by show (t.val - 1) / 16 = t.val / 16; omega)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (st0_1 t) fullShare (X0_1 m c t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (st0_3 t) fullShare (tile m c t) := by
  unfold Dat.leavesExact; rw [show cfg0.idle 3 (cfg0.grid.coords t) = false from rfl, after0_3]
theorem leaves0_4_first (c : Dev nD) (t : Fin cfg0.N) (h : t.val % 16 = 0) :
    (dats m 0 c).leavesExact 4 t = owns (c : Thread nD τ) (st0_4 t) fullShare (tail m c t) := by
  unfold Dat.leavesExact; rw [show cfg0.idle 4 (cfg0.grid.coords t) = false from live4 t h, after0_4]
theorem leaves0_4_last (c : Dev nD) (t : Fin cfg0.N) (h : t.val % 16 = 15) :
    (dats m 0 c).leavesExact 4 t = owns (c : Thread nD τ) (st0_4 t) fullShare (tail m c t) := by
  unfold Dat.leavesExact; rw [show cfg0.idle 4 (cfg0.grid.coords t) = true from idle4 t (by omega), (flush0_4 t).mpr h, after0_4]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl,
    leaves0_0, leaves0_1, leaves0_2, leaves0_3]
  by_cases h0 : t.val % 16 = 0
  · rw [leaves0_4_first m c t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((hcond t).mpr h0) (iblk m c 0 t) (X0_1 m c t) (iblk m c 2 t)
      ((dats m 0 c).before 3 t d3) ((dats m 0 c).before 4 t d4) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · obtain ⟨n, hn⟩ : ∃ n, t.val % 16 = n + 1 := ⟨t.val % 16 - 1, by omega⟩
    simp only [before0_4 m c n t hn]
    have hpost : owns (c : Thread nD τ) (st0_4 t) fullShare (tail m c t) ⊢ (dats m 0 c).leavesExact 4 t := by
      by_cases h1 : t.val % 16 = 15
      · rw [leaves0_4_last m c t h1]
      · rw [Dat.leavesExact_idle (dats m 0 c) 4 t (idle4 t h0) (noFlush4 t h1)]
        simp only [before0_4 m c n t hn]
        iintro H
        iexists (tail m c t)
        iexact H
    iintro ⟨HΦ, Ho, ⟨%d0, H0⟩, ⟨%d1, H1⟩, ⟨%d2, H2⟩, ⟨%d3, H3⟩, ⟨%d4, H4⟩⟩
    iapply (body_rest c (grid0.coords t) _ _ _ _ _ _ _ _ _ _ (fun e => h0 ((hcond t).mp e)) (iblk m c 0 t) (X0_1 m c t) (iblk m c 2 t)
      ((dats m 0 c).before 3 t d3) (tail m c t) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply hpost
    iexact H4

/-- The body table's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the points' write-backs leave, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The arguments end unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel3Ideal.Inproj

end
-- ==== Proof.Inproj.Blocks.lean ====
/-
  The input projection's blocks AT AN INDEX, as entries of the arguments, over the extended reals; and the tiles its
  points leave, as sums of products of those entries.
-/
module

public import proofs.«01_k».proof.Proof.Inproj.Launch
public import Idealize.ShloMosaic.Lib.StableHlo.ReadAt
public import Idealize.ShloMosaic.Lib.Pointwise

@[expose] public section

set_option maxRecDepth 16384

noncomputable section

namespace Cert.Kernel3Ideal.Inproj

open Cert.Kernel3Ideal Cert.Kernel3Ideal.Gen Idealize.ShloMosaic Idealize.ShloMosaic.TcCoe Idealize.SL.Sem
open scoped BigOperators

variable (m : (ℓ : Loc nD τ sig) → Buf (Elt Ideal) ℓ)

/-- The tile payload at an index: a row of the activations' block times a column of the weights' tile. -/
theorem pay2_apply (h : Vec Ideal S1x1024x4096 .bf16) (w : Vec Ideal S4096x768 .bf16) (r : Fin 1024) (l : Fin 768) :
    k0_pay2 h w (ix3 (0 : Fin 1) r l) = ∑ e : Fin 4096, h (ix3 (0 : Fin 1) r e) * w (ix2 e l) := by
  pointwise [k0_pay2]

/-- The tail payload at an index. -/
theorem pay1_apply (h : Vec Ideal S1x1024x4096 .bf16) (w : Vec Ideal S4096x128 .bf16) (r : Fin 1024) (l : Fin 128) :
    k0_pay1 h w (ix3 (0 : Fin 1) r l) = ∑ e : Fin 4096, h (ix3 (0 : Fin 1) r e) * w (ix2 e l) := by
  pointwise [k0_pay1]

/-- The batch that point `t` is in, and the row `r` of its row block. -/
def batch (t : Fin cfg0.N) : Fin 2 := ⟨t.val / 128, by have := lt_of_lt_of_eq t.isLt (show cfg0.N = 256 from N_0); omega⟩
def row (t : Fin cfg0.N) (r : Fin 1024) : Fin 8192 := ⟨1024 * (t.val / 16 % 8) + r.val, by omega⟩

/-- The tail's weights: the last 64 columns, and 64 columns of zeros. -/
def tailW (w : S4096x12352.Idx → EReal) (e : Fin 4096) (l : Fin 128) : EReal :=
  if h : l.val < 64 then w (ix2 e ⟨12288 + l.val, by omega⟩) else 0

/-- At the region's entry the staged arrays hold the arguments (a change of format is the identity here), -/
theorem V_v3 (c : Dev nD) (j : S2x8192x4096.Idx) : V m c main_v3 j = m ((c : Thread nD τ).loc main_arg0) j := by
  unfold V; after_reads_at
theorem V_v4 (c : Dev nD) (j : S4096x12352.Idx) : V m c main_v4 j = m ((c : Thread nD τ).loc main_arg1) j := by
  unfold V; after_reads_at

/-- The integer zero converts to zero. -/
theorem sitofp_zero : (FloatOps.sitofp FTy.f32 (0#32 : BitVec 32) : Ideal .f32) = (0 : EReal) := by
  show (((0#32 : BitVec 32).toInt : ℝ) : EReal) = 0
  simp

/-- and the third the tail's weights. -/
theorem V_v2 (c : Dev nD) (e : Fin 4096) (l : Fin 128) :
    V m c main_v2 (ix2 e l) = tailW (m ((c : Thread nD τ).loc main_arg1)) e l := by
  unfold V; after_reads_at
  unfold tailW
  by_cases h : l.val < 64
  · rw [dif_pos h, dif_pos h]
  · rw [dif_neg h, dif_neg h]; exact sitofp_zero

/-- The activations' block at point `t`: rows `1024 (t / 16 % 8) + r` of batch `t / 128`. -/
theorem iblk0_apply (c : Dev nD) (t : Fin cfg0.N) (r : Fin 1024) (e : Fin 4096) :
    (iblk m c 0 t : Vec Ideal S1x1024x4096 .bf16) (ix3 (0 : Fin 1) r e)
      = m ((c : Thread nD τ).loc main_arg0) (ix3 (batch t) (row t r) e) := by
  rw [← V_v3 m c]
  unfold iblk
  rw [View.read_apply]
  show V m c main_v3 _ = V m c main_v3 _
  congr 1
  funext a; apply Fin.ext
  match a with
  | ⟨0, _⟩ => show cc0_transform_0 (grid0.coords t) 0 * 1 + 1 * 0 = t.val / 128
              rw [(index_val t).1]; show t.val / 128 * 1 + 1 * 0 = _; omega
  | ⟨1, _⟩ => show cc0_transform_0 (grid0.coords t) 1 * 1024 + 1 * r.val = 1024 * (t.val / 16 % 8) + r.val
              rw [(index_val t).1]; show t.val / 16 % 8 * 1024 + 1 * r.val = _; omega
  | ⟨2, _⟩ => show cc0_transform_0 (grid0.coords t) 2 * 4096 + 1 * e.val = e.val
              rw [(index_val t).1]; show 0 * 4096 + 1 * e.val = _; omega

/-- The weights' tile at point `t`: columns `768 (t % 16) + l`. -/
theorem X1_apply (c : Dev nD) (t : Fin cfg0.N) (e : Fin 4096) (l : Fin 768) :
    (X0_1 m c t : Vec Ideal S4096x768 .bf16) (ix2 e l)
      = m ((c : Thread nD τ).loc main_arg1) (ix2 e ⟨768 * (t.val % 16) + l.val, by omega⟩) := by
  rw [← V_v4 m c]
  unfold X0_1 Pipeline.Window.fill
  rw [dif_pos (moved0_1 t _)]
  unfold iblk
  rw [View.read_apply]
  show V m c main_v4 _ = V m c main_v4 _
  congr 1
  funext a; apply Fin.ext
  match a with
  | ⟨0, _⟩ => show cc0_transform_1 (grid0.coords t) 0 * 4096 + 1 * e.val = e.val
              rw [(index_val t).2.1]; show 0 * 4096 + 1 * e.val = _; omega
  | ⟨1, _⟩ => show cc0_transform_1 (grid0.coords t) 1 * 768 + 1 * l.val = 768 * (t.val % 16) + l.val
              rw [(index_val t).2.1]; show t.val % 16 * 768 + 1 * l.val = _; omega

/-- The tail's weights block at every point: all of them. -/
theorem iblk2_apply (c : Dev nD) (t : Fin cfg0.N) (e : Fin 4096) (l : Fin 128) :
    (iblk m c 2 t : Vec Ideal S4096x128 .bf16) (ix2 e l) = tailW (m ((c : Thread nD τ).loc main_arg1)) e l := by
  rw [← V_v2 m c]
  unfold iblk
  rw [View.read_apply]
  show V m c main_v2 _ = V m c main_v2 _
  congr 1
  funext a; apply Fin.ext
  match a with
  | ⟨0, _⟩ => show cc0_transform_2 (grid0.coords t) 0 * 4096 + 1 * e.val = e.val
              rw [(index_val t).2.2.1]; show 0 * 4096 + 1 * e.val = _; omega
  | ⟨1, _⟩ => show cc0_transform_2 (grid0.coords t) 1 * 128 + 1 * l.val = l.val
              rw [(index_val t).2.2.1]; show 0 * 128 + 1 * l.val = _; omega

/-- The projection: a row of the activations times a column of the weights, the first 12288 columns; -/
def proj (h : S2x8192x4096.Idx → EReal) (w : S4096x12352.Idx → EReal) : S2x8192x12288.Idx → EReal :=
  fun i => ∑ e : Fin 4096, h (ix3 (i 0) (i 1) e) * w (ix2 e ⟨(i 2).val, lt_of_lt_of_le (i 2).isLt (by decide)⟩)

/-- and its last 64 columns, then 64 of zeros. -/
def projTail (h : S2x8192x4096.Idx → EReal) (w : S4096x12352.Idx → EReal) : S2x8192x128.Idx → EReal :=
  fun i => if l : (i 2).val < 64 then ∑ e : Fin 4096, h (ix3 (i 0) (i 1) e) * w (ix2 e ⟨12288 + (i 2).val, by omega⟩) else 0

/-- The result tile at point `t` is a tile of the projection, -/
theorem tile_apply (c : Dev nD) (t : Fin cfg0.N) (r : Fin 1024) (l : Fin 768) :
    tile m c t (ix3 (0 : Fin 1) r l)
      = proj (m ((c : Thread nD τ).loc main_arg0)) (m ((c : Thread nD τ).loc main_arg1))
          (ix3 (batch t) (row t r) (⟨768 * (t.val % 16) + l.val, by omega⟩ : Fin 12288)) := by
  unfold tile
  refine (pay2_apply _ _ r l).trans ?_
  refine Finset.sum_congr rfl fun e _ => ?_
  rw [iblk0_apply m c t r e, X1_apply m c t e l]
  rfl

/-- and the tail's tile one of the projection's tail: a product with a column of zeros is zero. -/
theorem tail_apply (c : Dev nD) (t : Fin cfg0.N) (r : Fin 1024) (l : Fin 128) :
    tail m c t (ix3 (0 : Fin 1) r l)
      = projTail (m ((c : Thread nD τ).loc main_arg0)) (m ((c : Thread nD τ).loc main_arg1)) (ix3 (batch t) (row t r) l) := by
  unfold tail
  refine (pay1_apply _ _ r l).trans ?_
  refine (Finset.sum_congr rfl fun e _ => congrArg₂ (fun a b : EReal => a * b) (iblk0_apply m c t r e) (iblk2_apply m c t e l)).trans ?_
  show _ = if h : l.val < 64 then _ else (0 : EReal)
  unfold tailW
  by_cases h : l.val < 64
  · simp only [dif_pos h]; rfl
  · simp only [dif_neg h, mul_zero, Finset.sum_const_zero]

end Cert.Kernel3Ideal.Inproj

end
-- ==== Proof.Inproj.Result.lean ====
/-
  The input projection's run, read: its two result arrays hold at every index the projection and its padded tail, and
  the arguments are unchanged.
-/
module

public import proofs.«01_k».proof.Proof.Inproj.Blocks
public import Idealize.ShloMosaic.Lib.Pipeline.Value

@[expose] public section

set_option maxRecDepth 16384

noncomputable section

namespace Cert.Kernel3Ideal.Inproj

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The two result arrays' contents. -/
def result (c : Dev nD) : Buf (Elt Ideal) ((c : Thread nD τ).loc main_v5_0) :=
  proj (m ((c : Thread nD τ).loc main_arg0)) (m ((c : Thread nD τ).loc main_arg1))
def resultTail (c : Dev nD) : Buf (Elt Ideal) ((c : Thread nD τ).loc main_v5_1) :=
  projTail (m ((c : Thread nD τ).loc main_arg0)) (m ((c : Thread nD τ).loc main_arg1))

/-- What a point writes back of the projection is that block of `result`, -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext y
  rw [View.read_apply]
  have hy : (y 0).val = 0 := by have : (y 0).val < 1 := (y 0).isLt; omega
  have h2 : (y 2).val < 768 := (y 2).isLt
  have ha : (cfg0.win 3).xinj (grid0.coords t) y = ix3 (0 : Fin 1) (y 1) (y 2) := by
    funext a; apply Fin.ext
    match a with
    | ⟨0, _⟩ => exact hy
    | ⟨1, _⟩ => rfl
    | ⟨2, _⟩ => rfl
  have hb : ((cfg0.win 3).blk t).view.emb y = ix3 (batch t) (row t (y 1)) (⟨768 * (t.val % 16) + (y 2).val, by omega⟩ : Fin 12288) := by
    funext a; apply Fin.ext
    match a with
    | ⟨0, _⟩ => show cc0_transform_3 (grid0.coords t) 0 * 1 + 1 * (y 0).val = t.val / 128
                rw [(index_val t).2.2.2.1, hy]; show t.val / 128 * 1 + 1 * 0 = _; omega
    | ⟨1, _⟩ => show cc0_transform_3 (grid0.coords t) 1 * 1024 + 1 * (y 1).val = 1024 * (t.val / 16 % 8) + (y 1).val
                rw [(index_val t).2.2.2.1]; show t.val / 16 % 8 * 1024 + 1 * (y 1).val = _; omega
    | ⟨2, _⟩ => show cc0_transform_3 (grid0.coords t) 2 * 768 + 1 * (y 2).val = 768 * (t.val % 16) + (y 2).val
                rw [(index_val t).2.2.2.1]; show t.val % 16 * 768 + 1 * (y 2).val = _; omega
  show tile m c t ((cfg0.win 3).xinj (grid0.coords t) y) = result m c (((cfg0.win 3).blk t).view.emb y)
  rw [ha, hb]
  exact tile_apply m c t (y 1) (y 2)

/-- and what a row block's last point writes back of the tail is that block of `resultTail`. -/
theorem flushedTail_eq (c : Dev nD) (t : Fin cfg0.N) (hf : (cfg0.win 4).flush t = true) :
    (dats m 0 c).flushed 4 t = ((cfg0.win 4).blk t).view.read (Elt Ideal) (resultTail m c) := by
  show (cfg0.win 4).cut (grid0.coords t) ((dats m 0 c).after 4 t) = _
  rw [after0_4]
  funext y
  rw [View.read_apply]
  have hy : (y 0).val = 0 := by have : (y 0).val < 1 := (y 0).isLt; omega
  have ha : (cfg0.win 4).xinj (grid0.coords t) y = ix3 (0 : Fin 1) (y 1) (y 2) := by
    funext a; apply Fin.ext
    match a with
    | ⟨0, _⟩ => exact hy
    | ⟨1, _⟩ => rfl
    | ⟨2, _⟩ => rfl
  have hb : ((cfg0.win 4).blk t).view.emb y = ix3 (batch t) (row t (y 1)) (y 2) := by
    funext a; apply Fin.ext
    match a with
    | ⟨0, _⟩ => show cc0_transform_4 (grid0.coords t) 0 * 1 + 1 * (y 0).val = t.val / 128
                rw [(index_val t).2.2.2.2, hy]; show t.val / 128 * 1 + 1 * 0 = _; omega
    | ⟨1, _⟩ => show cc0_transform_4 (grid0.coords t) 1 * 1024 + 1 * (y 1).val = 1024 * (t.val / 16 % 8) + (y 1).val
                rw [(index_val t).2.2.2.2]; show t.val / 16 % 8 * 1024 + 1 * (y 1).val = _; omega
    | ⟨2, _⟩ => show cc0_transform_4 (grid0.coords t) 2 * 128 + 1 * (y 2).val = (y 2).val
                rw [(index_val t).2.2.2.2]; show 0 * 128 + 1 * (y 2).val = _; omega
  show tail m c t ((cfg0.win 4).xinj (grid0.coords t) y) = resultTail m c (((cfg0.win 4).blk t).view.emb y)
  rw [ha, hb]
  exact tail_apply m c t (y 1) (y 2)

/-- After the run the first result array holds `result`: the points' tiles cover it. -/
theorem final_eq (c : Dev nD) : (dats m 0 c).arrAt 3 cfg0.N = result m c :=
  (dats m 0 c).arrAt_eq_of_cover 3 _ (flushed_eq m c) fun i => by
    have h0 : (i 0).val < 2 := (i 0).isLt
    have h1 : (i 1).val < 8192 := (i 1).isLt
    have h2 : (i 2).val < 12288 := (i 2).isLt
    let t : Fin cfg0.N := ⟨128 * (i 0).val + 16 * ((i 1).val / 1024) + (i 2).val / 768, by rw [show cfg0.N = 256 from N_0]; omega⟩
    have e0 : t.val / 128 = (i 0).val := by show (128 * (i 0).val + 16 * ((i 1).val / 1024) + (i 2).val / 768) / 128 = _; omega
    have e1 : t.val / 16 % 8 = (i 1).val / 1024 := by show (128 * (i 0).val + 16 * ((i 1).val / 1024) + (i 2).val / 768) / 16 % 8 = _; omega
    have e2 : t.val % 16 = (i 2).val / 768 := by show (128 * (i 0).val + 16 * ((i 1).val / 1024) + (i 2).val / 768) % 16 = _; omega
    refine ⟨t, flush0_3 t, ?_⟩
    show i ∈ ((View.whole main_v5_0).slice (win0_3.rect t)).set
    rw [View.set_slice_whole, Rect.mem_set_unit]
    intro a
    match a with
    | ⟨0, _⟩ => show cc0_transform_3 (grid0.coords t) 0 * 1 ≤ (i 0).val ∧ (i 0).val < cc0_transform_3 (grid0.coords t) 0 * 1 + 1
                rw [(index_val t).2.2.2.1]; show t.val / 128 * 1 ≤ (i 0).val ∧ (i 0).val < t.val / 128 * 1 + 1
                rw [e0]; omega
    | ⟨1, _⟩ => show cc0_transform_3 (grid0.coords t) 1 * 1024 ≤ (i 1).val ∧ (i 1).val < cc0_transform_3 (grid0.coords t) 1 * 1024 + 1024
                rw [(index_val t).2.2.2.1]; show t.val / 16 % 8 * 1024 ≤ (i 1).val ∧ (i 1).val < t.val / 16 % 8 * 1024 + 1024
                rw [e1]; omega
    | ⟨2, _⟩ => show cc0_transform_3 (grid0.coords t) 2 * 768 ≤ (i 2).val ∧ (i 2).val < cc0_transform_3 (grid0.coords t) 2 * 768 + 768
                rw [(index_val t).2.2.2.1]; show t.val % 16 * 768 ≤ (i 2).val ∧ (i 2).val < t.val % 16 * 768 + 768
                rw [e2]; omega

/-- And the second holds `resultTail`: the row blocks' last points cover it. -/
theorem finalTail_eq (c : Dev nD) : (dats m 0 c).arrAt 4 cfg0.N = resultTail m c :=
  (dats m 0 c).arrAt_eq_of_cover 4 _ (flushedTail_eq m c) fun i => by
    have h0 : (i 0).val < 2 := (i 0).isLt
    have h1 : (i 1).val < 8192 := (i 1).isLt
    have h2 : (i 2).val < 128 := (i 2).isLt
    let t : Fin cfg0.N := ⟨128 * (i 0).val + 16 * ((i 1).val / 1024) + 15, by rw [show cfg0.N = 256 from N_0]; omega⟩
    have e0 : t.val / 128 = (i 0).val := by show (128 * (i 0).val + 16 * ((i 1).val / 1024) + 15) / 128 = _; omega
    have e1 : t.val / 16 % 8 = (i 1).val / 1024 := by show (128 * (i 0).val + 16 * ((i 1).val / 1024) + 15) / 16 % 8 = _; omega
    refine ⟨t, (flush0_4 t).mpr (by show (128 * (i 0).val + 16 * ((i 1).val / 1024) + 15) % 16 = 15; omega), ?_⟩
    show i ∈ ((View.whole main_v5_1).slice (win0_4.rect t)).set
    rw [View.set_slice_whole, Rect.mem_set_unit]
    intro a
    match a with
    | ⟨0, _⟩ => show cc0_transform_4 (grid0.coords t) 0 * 1 ≤ (i 0).val ∧ (i 0).val < cc0_transform_4 (grid0.coords t) 0 * 1 + 1
                rw [(index_val t).2.2.2.2]; show t.val / 128 * 1 ≤ (i 0).val ∧ (i 0).val < t.val / 128 * 1 + 1
                rw [e0]; omega
    | ⟨1, _⟩ => show cc0_transform_4 (grid0.coords t) 1 * 1024 ≤ (i 1).val ∧ (i 1).val < cc0_transform_4 (grid0.coords t) 1 * 1024 + 1024
                rw [(index_val t).2.2.2.2]; show t.val / 16 % 8 * 1024 ≤ (i 1).val ∧ (i 1).val < t.val / 16 % 8 * 1024 + 1024
                rw [e1]; omega
    | ⟨2, _⟩ => show cc0_transform_4 (grid0.coords t) 2 * 128 ≤ (i 2).val ∧ (i 2).val < cc0_transform_4 (grid0.coords t) 2 * 128 + 128
                rw [(index_val t).2.2.2.2]; show 0 * 128 ≤ (i 2).val ∧ (i 2).val < 0 * 128 + 128; omega

/-- The run: the result arrays end at `result` and `resultTail`, the arguments as launched. -/
theorem run : θ_run defs (onTc (τ := τ) (main (F := Ideal))) ⟨m, fun _ => 0, ρ⟩ fun r => ∀ c : Dev nD,
      r.2.mem ((c : Thread nD τ).loc main_v5_0) = result m c
      ∧ r.2.mem ((c : Thread nD τ).loc main_v5_1) = resultTail m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 3).trans (final_eq m c), ((h.1 c).1 4).trans (finalTail_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_quiescent m ρ)

end Cert.Kernel3Ideal.Inproj

end
-- ==== Proof.Inproj.Equation.lean ====
/-
  The input projection's equation: the reference's product of the whole weights, cut into its first 12288 columns and its
  padded tail, is at every index what the kernel's two result arrays hold; so the two programs end with equal results.
-/
module

public import proofs.«01_k».proof.Defs
public import proofs.«01_k».proof.Proof.Inproj.Result
public import proofs.«01_k».proof.Proof.Gen.Reference3Ideal.Run

@[expose] public section

set_option maxRecDepth 16384

noncomputable section

namespace Cert.Reference3Ideal.Inproj

open Cert.Reference3Ideal Cert.Reference3Ideal.Gen Idealize.ShloMosaic Idealize.ShloMosaic.TcCoe Idealize.SL.Sem
open Cert.Kernel3Ideal.Inproj (proj projTail)
open scoped BigOperators

/-- The reference's first result at an index. -/
theorem reference_apply (h : FVec Ideal S2x8192x4096 .f32) (w : FVec Ideal S4096x12352 .f32) (i : S2x8192x12288.Idx) :
    (extractStridedSlice S2x8192x12288 ![0, 0, 0] (Host.dotGeneral (F := Ideal) dot_S2x8192x4096_S4096x12352_S2x8192x12352_2_0_01_1_n_n none h w)
      slices_S2x8192x12352_S2x8192x12288_0_0_0 : FVec Ideal S2x8192x12288 .f32) i = proj h w i := by
  idx_vars i
  pointwise [proj]

/-- The reference's second result at an index. -/
theorem referenceTail_apply (h : FVec Ideal S2x8192x4096 .f32) (w : FVec Ideal S4096x12352 .f32) (i : S2x8192x128.Idx) :
    (pad S2x8192x128 ![0, 0, 0] ![0, 0, 64] ![0, 0, 0] (extractStridedSlice S2x8192x64 ![0, 0, 12288]
        (Host.dotGeneral (F := Ideal) dot_S2x8192x4096_S4096x12352_S2x8192x12352_2_0_01_1_n_n none h w) slices_S2x8192x12352_S2x8192x64_0_0_12288)
      (sitofp .f32 (constantI S_ 32 0#32)) pads_S2x8192x64_S2x8192x128_000_000_0640 h_S_ : FVec Ideal S2x8192x128 .f32) i = projTail h w i := by
  idx_vars i
  pointwise [projTail]
  by_cases l : i2.val < 64
  · rw [dif_pos l, dif_pos l]
  · rw [dif_neg l, dif_neg l]; exact Cert.Kernel3Ideal.Inproj.sitofp_zero

end Cert.Reference3Ideal.Inproj

namespace Cert.Inproj

open Idealize.ShloMosaic Idealize.ShloMosaic.TcCoe Idealize.SL.Sem

/-- The input projection and its reference, from equal arguments, end with equal results. -/
theorem algebraic : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => Cert.Kernel3Ideal.Inproj.result m c, fun c => Cert.Kernel3Ideal.Inproj.resultTail m c, Cert.Kernel3Ideal.Inproj.run m ρ, ?_⟩
  refine (θ_run Cert.Reference3Ideal.defs _ _).mono (fun r h c => ⟨(h c).1.trans ?_, (h c).2.1.trans ?_, (h c).2.2⟩) (Cert.Reference3Ideal.Value.run m' ρ')
  · obtain ⟨e0, e1⟩ := hargs c
    rw [e0, e1]
    exact funext fun i => Cert.Reference3Ideal.Inproj.reference_apply _ _ i
  · obtain ⟨e0, e1⟩ := hargs c
    rw [e0, e1]
    exact funext fun i => Cert.Reference3Ideal.Inproj.referenceTail_apply _ _ i

end Cert.Inproj

end
-- ==== Proof.Outproj.Body.lean ====
/-
  One point of the output projection's body on any whole staging buffers. At the first column tile of a row block it
  fills the scratch: a loop of sixteen trips writes the left half, sixty-four rows at a time, with the LRU's rows
  normed, and the right half is stored whole. At every point it then stores the scratch's product with the weights' tile.
-/
module

public import proofs.«01_k».proof.Proof.Gen.Kernel4Ideal.Frame
public import proofs.«01_k».proof.Proof.Gen.Kernel4Ideal.Skeleton
public import Idealize.ShloMosaic.Lib.Pointwise

@[expose] public section

set_option maxRecDepth 16384

noncomputable section

namespace Cert.Kernel4Ideal.Outproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer stored whole holds is what was stored. -/
theorem read_whole_store {sp : Space} {e : EltTy} {s : Shape} (v : View sig .tc sp s e) (f : v.ty.Contents (Elt F)) (off : Fin s.rank → ℕ)
    (hoff : ∀ a, off a = 0) (hin : ∀ a, off a + s.size a ≤ s.size a) (w : s.Idx → Elt F e) :
    v.read (Elt F) (v.writes (Elt F) f [⟨Rect.unit off s.size hin, w⟩]) = w :=
  funext fun y => View.read_writes_cons_hit_of_coords v f (Rect.unit off s.size hin) w [] y y fun a => by
    show (y a).val = off a + 1 * (y a).val
    rw [hoff a]; omega

/-- What is loaded whole from a buffer is what the buffer holds. -/
theorem readAt_whole {sp : Space} {e : EltTy} {s : Shape} (v : View sig .tc sp s e) (f : v.ty.Contents (Elt F)) (off : Fin s.rank → ℕ)
    (hoff : ∀ a, off a = 0) (hin : ∀ a, off a + s.size a ≤ s.size a) :
    View.readAt (Elt F) v (Rect.unit off s.size hin).toLoadRect f = v.read (Elt F) f := by
  rw [View.readAt_eq_ld]
  funext y
  show v.read (Elt F) f _ = v.read (Elt F) f _
  congr 1
  funext a; apply Fin.ext
  show off a + 1 * (y a).val = (y a).val
  rw [hoff a]; omega

/-- Sixty-four rows of a block. -/
abbrev rows (k : Fin 16) : Rect S1024x2048 := Rect.unit (s := S1024x2048) ![64 * k.val, 0] S64x2048.size (fun a => by
  have := k.isLt
  match a with
  | ⟨0, _⟩ => show 64 * k.val + 64 ≤ 1024; omega
  | ⟨1, _⟩ => show 0 + 2048 ≤ 2048; omega)

/-- An entry of the LRU's rows, normed: computed sixty-four rows at a time. -/
def leftAt (g : Vec F S1x2048 .f32) (x0 : Vec F S1024x2048 .bf16) (r : Fin 1024) (e : Fin 2048) : Elt F .bf16 :=
  k0_pay1 g (View.ld x0 (rows ⟨r.val / 64, by omega⟩)) (ix2 (⟨r.val % 64, Nat.mod_lt _ (by decide)⟩ : Fin 64) e)

/-- What the scratch is filled with: the LRU's rows normed beside the DeltaNet's rows. -/
def acts (g : Vec F S1x2048 .f32) (x0 x1 : Vec F S1024x2048 .bf16) : Vec F S1024x4096 .bf16 := fun i =>
  if h : (i 1).val < 2048 then leftAt g x0 (i 0) ⟨(i 1).val, h⟩
  else x1 (ix2 (i 0) (⟨(i 1).val - 2048, by have : (i 1).val < 4096 := (i 1).isLt; omega⟩ : Fin 2048))

theorem trips1 : k0_t1_loop.trips = 16 := by decide +kernel

/-- After `n` trips the first `64 n` rows of the scratch's left half are written. -/
def Filled (g : Vec F S1x2048 .f32) (x0 : Vec F S1024x2048 .bf16) (n : ℕ) (s : Vec F S1024x4096 .bf16) : Prop :=
  ∀ (r : Fin 1024) (e : Fin 2048), r.val < 64 * n → s (ix2 r (⟨e.val, by omega⟩ : Fin 4096)) = leftAt g x0 r e

/-- What is held before trip `n`. -/
def inv (c : Dev nD) (arg2 : Memref sig .tc .vmem S1024x2048 .bf16) (arg7 : Memref sig .tc .vmem S1024x4096 .bf16)
    (g : Vec F S1x2048 .f32) (x0 : Vec F S1024x2048 .bf16) (n : ℕ) : sProp 𝕄 :=
  iprop((∃ s, ⌜Filled g x0 n s⌝ ∗ owns (c : Thread nD τ) arg7 fullShare s) ∗ owns (c : Thread nD τ) arg2 fullShare x0)

variable (c : Dev nD) (i : grid0.Coords)
    (arg2 : Memref sig .tc .vmem S1024x2048 .bf16) (harg2 : arg2.IsWhole) (arg3 : Memref sig .tc .vmem S1024x2048 .bf16) (harg3 : arg3.IsWhole)
    (arg4 : Memref sig .tc .vmem S1x2048 .f32) (harg4 : arg4.IsWhole) (arg5 : Memref sig .tc .vmem S4096x512 .bf16) (harg5 : arg5.IsWhole)
    (arg6 : Memref sig .tc .vmem S1024x512 .bf16) (harg6 : arg6.IsWhole) (arg7 : Memref sig .tc .vmem S1024x4096 .bf16) (harg7 : arg7.IsWhole)
    (x0 x1 : Vec F S1024x2048 .bf16) (g : Vec F S1x2048 .f32) (w : Vec F S4096x512 .bf16)

/-- The rows a trip loads. -/
theorem trip_load (t : Fin k0_t1_loop.trips) (hc : k0_cond1 i = 1#1) :
    View.readAt (Elt F) arg2.view (Rect.unit (s := S1024x2048) (k0_off1 t) S64x2048.size (k0_off1_inb i t hc)).toLoadRect (harg2.unread x0)
      = View.ld x0 (rows ⟨t.val, lt_of_lt_of_eq t.isLt trips1⟩) := by
  rw [View.readAt_eq_ld, harg2.read_unread]
  funext y
  show x0 _ = x0 _
  congr 1
  funext a; apply Fin.ext
  exact congrArg (· + 1 * (y a).val) (congrFun (k0_off1_eq t) a)

/-- A trip's store writes its rows and leaves the others. -/
theorem trip_store (t : Fin k0_t1_loop.trips) (hc : k0_cond1 i = 1#1) (f : arg7.view.ty.Contents (Elt F))
    (hf : Filled g x0 t.val (arg7.view.read (Elt F) f)) :
    Filled g x0 (t.val + 1) (arg7.view.read (Elt F) (arg7.view.writes (Elt F) f
      [⟨Rect.unit (s := S1024x4096) (k0_off2 t) S64x2048.size (k0_off2_inb i t hc), k0_pay1 g (View.ld x0 (rows ⟨t.val, lt_of_lt_of_eq t.isLt trips1⟩))⟩])) := by
  intro r e hr
  by_cases h : r.val < 64 * t.val
  · rw [← hf r e h]
    exact View.read_writes_cons_miss_of_axis arg7.view f _ [] _ (0 : Fin 2) (64 * t.val) 64 (congrFun (k0_off2_eq t) 0) rfl rfl (.inl h)
  · have e1 : r.val / 64 = t.val := by omega
    refine (View.read_writes_cons_hit_of_coords arg7.view f _ _ [] (ix2 (⟨r.val % 64, Nat.mod_lt _ (by decide)⟩ : Fin 64) e) _ fun a => ?_).trans ?_
    · match a with
      | ⟨0, _⟩ => refine Eq.trans ?_ (congrArg (· + 1 * (r.val % 64)) (congrFun (k0_off2_eq t) 0)).symm
                  show r.val = 64 * t.val + 1 * (r.val % 64); omega
      | ⟨1, _⟩ => refine Eq.trans ?_ (congrArg (· + 1 * e.val) (congrFun (k0_off2_eq t) 1)).symm
                  show e.val = 0 + 1 * e.val; omega
    · exact congrArg (fun k : Fin 16 => k0_pay1 g (View.ld x0 (rows k)) (ix2 (⟨r.val % 64, Nat.mod_lt _ (by decide)⟩ : Fin 64) e)) (Fin.ext e1.symm)

set_option maxHeartbeats 1600000 in
/-- One trip. -/
theorem trip (hc : k0_cond1 i = 1#1) (t : Fin k0_t1_loop.trips) (acc : Unit) :
    inv c arg2 arg7 g x0 t.val ⊢ wp frame (wpE (defs₀ (F := F)) Variants.none c none) Set.univ
      (k0_t1_body i arg2 harg2 arg3 harg3 arg4 harg4 arg5 harg5 arg6 harg6 arg7 harg7 hc g t acc) (fun _ => inv c arg2 arg7 g x0 (t.val + 1)) := by
  unfold k0_t1_body inv owns
  iintro ⟨⟨%s, %hs, ⟨%f, %hf, H7⟩⟩, ⟨%f2, %hf2, H2⟩⟩
  obtain rfl := harg2.eq_unread hf2
  subst hf
  sl_exec
  sl_step
  isplitl [H7]
  · iexists _; isplitr
    swap
    · iexists _; isplitr
      swap; · iexact H7
      ipureintro; rfl
    ipureintro
    rw [trip_load i arg2 harg2 x0 t hc]
    exact trip_store i arg7 x0 g t hc f hs
  · iexists _; isplitr; · ipureintro; exact harg2.read_unread _
    iexact H2

/-- The right half, stored whole after the sixteen trips, completes the scratch. -/
theorem fill_store (f : arg7.view.ty.Contents (Elt F)) (hf : Filled g x0 16 (arg7.view.read (Elt F) f)) :
    arg7.view.read (Elt F) (arg7.view.writes (Elt F) f
      [⟨Rect.unit (s := S1024x4096) ![0, 2048] S1024x2048.size inb_S1024x4096_S1024x2048_0_2048, k0_pay2 x1⟩]) = acts g x0 x1 := by
  funext j
  have h0 : (j 0).val < 1024 := (j 0).isLt
  have h1 : (j 1).val < 4096 := (j 1).isLt
  unfold acts
  by_cases h : (j 1).val < 2048
  · rw [dif_pos h]
    refine (View.read_writes_cons_miss_of_axis arg7.view f _ [] _ (1 : Fin 2) 2048 2048 rfl rfl rfl (.inl h)).trans ?_
    refine Eq.trans ?_ (hf (j 0) ⟨(j 1).val, h⟩ (by omega))
    show arg7.view.read (Elt F) f j = arg7.view.read (Elt F) f _
    congr 1
    funext a
    match a with
    | ⟨0, _⟩ => rfl
    | ⟨1, _⟩ => rfl
  · rw [dif_neg h]
    refine (View.read_writes_cons_hit_of_coords arg7.view f _ _ [] (ix2 (j 0) (⟨(j 1).val - 2048, by omega⟩ : Fin 2048)) _ fun a => ?_).trans ?_
    · match a with
      | ⟨0, _⟩ => show (j 0).val = 0 + 1 * (j 0).val; omega
      | ⟨1, _⟩ => show (j 1).val = 2048 + 1 * ((j 1).val - 2048); omega
    · unfold k0_pay2
      rw [shapeCast_self]
      rfl

set_option maxHeartbeats 3200000 in
/-- The body at the first column tile of a row block: whatever the scratch held, it fills it and stores the product. -/
theorem body_first (hc : k0_cond1 i = 1#1) (x6 : Vec F S1024x512 .bf16) (K : PUnit → sProp 𝕄) :
    iprop(owns (c : Thread nD τ) arg2 fullShare x0 ∗ owns (c : Thread nD τ) arg3 fullShare x1 ∗ owns (c : Thread nD τ) arg4 fullShare g
        ∗ owns (c : Thread nD τ) arg5 fullShare w ∗ owns (c : Thread nD τ) arg6 fullShare x6 ∗ (∃ s, owns (Val := Elt F) (c : Thread nD τ) arg7 fullShare s)
        ∗ (iprop(owns (c : Thread nD τ) arg2 fullShare x0 ∗ owns (c : Thread nD τ) arg3 fullShare x1 ∗ owns (c : Thread nD τ) arg4 fullShare g
            ∗ owns (c : Thread nD τ) arg5 fullShare w ∗ owns (c : Thread nD τ) arg6 fullShare (k0_pay3 (acts g x0 x1) w)
            ∗ owns (c : Thread nD τ) arg7 fullShare (acts g x0 x1)) -∗ K ⟨⟩))
      ⊢ wp frame (wpE (defs₀ (F := F)) Variants.none c none) Set.univ
          (cc0_outproj i arg2 harg2 arg3 harg3 arg4 harg4 arg5 harg5 arg6 harg6 arg7 harg7) K := by
  simp only [cc0_outproj_eq_skeleton]; unfold cc0_outproj_skel
  rw [dif_pos hc]
  iintro ⟨H2, H3, H4, H5, H6, ⟨%s, H7⟩, HK⟩
  ihave H4' := (Entails.of_eq (show owns (c : Thread nD τ) arg4 fullShare g = iprop(∃ f, ⌜arg4.view.read (Elt F) f = g⌝ ∗ _) from by unfold owns; rfl)) $$ H4
  icases H4' with ⟨%f4, %hf4, H4⟩
  rw [wp_bind]
  iapply wp_load Variants.none (c : Thread nD τ) none Set.univ (S := arg4.view.set) (f := f4) (View.setOn_subset_set _ _) $$ H4
  iintro H4
  rw [wp_ret]; imodintro
  rw [readAt_whole _ _ _ (by decide), hf4]
  iapply (Scf.wp_for_bind frame (wpE (defs₀ (F := F)) Variants.none (c : Thread nD τ) none) Set.univ k0_t1_loop.lb k0_t1_loop.ub k0_t1_loop.st
    (k0_t1_ok i hc) _ _ (fun n _ => inv c arg2 arg7 g x0 n)
    (fun t acc => trip c i arg2 harg2 arg3 harg3 arg4 harg4 arg5 harg5 arg6 harg6 arg7 harg7 x0 g hc t acc)) $$ [H2 H7]
  · unfold inv
    isplitl [H7]
    · iexists s
      isplitr
      · ipureintro
        intro r e hr
        exact absurd hr (by omega)
      · iexact H7
    · iexact H2
  iintro %acc HI
  rw [show Scf.trips k0_t1_loop.lb k0_t1_loop.ub k0_t1_loop.st = 16 from trips1]
  unfold inv owns
  icases HI with ⟨⟨%s', %hs, ⟨%f7, %hf7, H7⟩⟩, ⟨%f2, %hf2, H2⟩⟩
  icases H3 with ⟨%f3, %hf3, H3⟩
  icases H5 with ⟨%f5, %hf5, H5⟩
  icases H6 with ⟨%f6, %hf6, H6⟩
  subst hf7
  obtain rfl := harg3.eq_unread hf3; obtain rfl := harg5.eq_unread hf5
  sl_exec
  sl_step
  iapply HK
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [read_whole_store _ _ _ (by decide), readAt_whole arg7.view _ _ (by decide), readAt_whole arg5.view _ _ (by decide), hf5]
    refine congrArg (fun a => k0_pay3 a w) ?_
    unfold body_first.sl.H7_1
    rw [readAt_whole arg3.view _ _ (by decide), hf3]
    exact fill_store arg7 x0 x1 g f7 hs
  · iexists _; isplitr
    swap; · iexact H7
    ipureintro
    unfold body_first.sl.H7_1
    rw [readAt_whole arg3.view _ _ (by decide), hf3]
    exact fill_store arg7 x0 x1 g f7 hs

set_option maxHeartbeats 1600000 in
/-- The body at any other column tile: it stores the product of the scratch and the weights' tile. -/
theorem body_rest (hc : ¬k0_cond1 i = 1#1) (x6 : Vec F S1024x512 .bf16) (s : Vec F S1024x4096 .bf16) (K : PUnit → sProp 𝕄) :
    iprop(owns (c : Thread nD τ) arg2 fullShare x0 ∗ owns (c : Thread nD τ) arg3 fullShare x1 ∗ owns (c : Thread nD τ) arg4 fullShare g
        ∗ owns (c : Thread nD τ) arg5 fullShare w ∗ owns (c : Thread nD τ) arg6 fullShare x6 ∗ owns (c : Thread nD τ) arg7 fullShare s
        ∗ (iprop(owns (c : Thread nD τ) arg2 fullShare x0 ∗ owns (c : Thread nD τ) arg3 fullShare x1 ∗ owns (c : Thread nD τ) arg4 fullShare g
            ∗ owns (c : Thread nD τ) arg5 fullShare w ∗ owns (c : Thread nD τ) arg6 fullShare (k0_pay3 s w)
            ∗ owns (c : Thread nD τ) arg7 fullShare s) -∗ K ⟨⟩))
      ⊢ wp frame (wpE (defs₀ (F := F)) Variants.none c none) Set.univ
          (cc0_outproj i arg2 harg2 arg3 harg3 arg4 harg4 arg5 harg5 arg6 harg6 arg7 harg7) K := by
  simp only [cc0_outproj_eq_skeleton]; unfold cc0_outproj_skel
  unfold owns
  iintro ⟨H2, H3, H4, ⟨%f5, %hf5, H5⟩, ⟨%f6, %hf6, H6⟩, ⟨%f7, %hf7, H7⟩, HK⟩
  obtain rfl := harg5.eq_unread hf5; obtain rfl := harg7.eq_unread hf7
  sl_exec (disch := sl_exact hc)
  sl_step
  iapply HK
  isplitl [H2]; · iexact H2
  isplitl [H3]; · iexact H3
  isplitl [H4]; · iexact H4
  isplitl [H5]
  · iexists _; isplitr; · ipureintro; exact hf5
    iexact H5
  isplitl [H6]
  · iexists _; isplitr
    swap; · iexact H6
    ipureintro
    rw [read_whole_store _ _ _ (by decide), readAt_whole arg7.view _ _ (by decide), readAt_whole arg5.view _ _ (by decide), hf5, hf7]
  · iexists _; isplitr; · ipureintro; exact hf7
    iexact H7

end Cert.Kernel4Ideal.Outproj

end
-- ==== Proof.Outproj.Launch.lean ====
/-
  The output projection's launch: what each staging buffer and the scratch hold after each point, the body's obligation
  at every point, and the run over any float values. The scratch, filled at the first column tile of a row block, is
  carried through the block's eight points.
-/
module

public import proofs.«01_k».proof.Proof.Outproj.Body
public import Idealize.ShloMosaic.Lib.Claim

@[expose] public section

set_option maxRecDepth 16384

noncomputable section

namespace Cert.Kernel4Ideal.Outproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body fills the scratch at the first column tile only. -/
theorem hcond : ∀ t : Fin cfg0.N, k0_cond1 (grid0.coords t) = 1#1 ↔ t.val % 8 = 0 :=
  (by decide +kernel : ∀ t : Fin grid0.N, k0_cond1 (grid0.coords t) = 1#1 ↔ t.val % 8 = 0)

/-- The windows' block indices at point `t`: row block `t / 8`, column tile `t % 8`. -/
theorem index_val : ∀ t : Fin cfg0.N, cc0_transform_0 (grid0.coords t) = ![t.val / 8, 0]
    ∧ cc0_transform_1 (grid0.coords t) = ![t.val / 8, 0]
    ∧ cc0_transform_2 (grid0.coords t) = ![0, 0]
    ∧ cc0_transform_3 (grid0.coords t) = ![0, t.val % 8]
    ∧ cc0_transform_4 (grid0.coords t) = ![t.val / 8, t.val % 8] :=
  (by decide +kernel : ∀ t : Fin grid0.N, _)

/-- What the scratch holds after point `t`. -/
def scr (c : Dev nD) (t : Fin cfg0.N) : Vec F S1024x4096 .bf16 := acts (iblk m c 2 t) (iblk m c 0 t) (iblk m c 1 t)

/-- The result tile at point `t`. -/
def tile (c : Dev nD) (t : Fin cfg0.N) : Vec F S1024x512 .bf16 := k0_pay3 (scr m c t) (iblk m c 3 t)

/-- Points of one row block have one block of the LRU's rows, -/
theorem iblk0_congr (c : Dev nD) (t t' : Fin cfg0.N) (h : t.val / 8 = t'.val / 8) :
    (iblk m c 0 t : Vec F S1024x2048 .bf16) = iblk m c 0 t' := by
  have hi : cc0_transform_0 (grid0.coords t) = cc0_transform_0 (grid0.coords t') := by
    rw [(index_val t).1, (index_val t').1, h]
  funext y
  unfold iblk
  rw [View.read_apply, View.read_apply]
  show V m c main_arg0 _ = V m c main_arg0 _
  congr 1
  funext a; apply Fin.ext
  show cc0_transform_0 (grid0.coords t) a * S1024x2048.size a + 1 * (y a).val = cc0_transform_0 (grid0.coords t') a * S1024x2048.size a + 1 * (y a).val
  rw [hi]

/-- one block of the DeltaNet's, -/
theorem iblk1_congr (c : Dev nD) (t t' : Fin cfg0.N) (h : t.val / 8 = t'.val / 8) :
    (iblk m c 1 t : Vec F S1024x2048 .bf16) = iblk m c 1 t' := by
  have hi : cc0_transform_1 (grid0.coords t) = cc0_transform_1 (grid0.coords t') := by
    rw [(index_val t).2.1, (index_val t').2.1, h]
  funext y
  unfold iblk
  rw [View.read_apply, View.read_apply]
  show V m c main_arg1 _ = V m c main_arg1 _
  congr 1
  funext a; apply Fin.ext
  show cc0_transform_1 (grid0.coords t) a * S1024x2048.size a + 1 * (y a).val = cc0_transform_1 (grid0.coords t') a * S1024x2048.size a + 1 * (y a).val
  rw [hi]

/-- and all points have one block of the norm's weights, -/
theorem iblk2_congr (c : Dev nD) (t t' : Fin cfg0.N) :
    (iblk m c 2 t : Vec F S1x2048 .f32) = iblk m c 2 t' := by
  funext y
  unfold iblk
  rw [View.read_apply, View.read_apply]
  show V m c main_arg2 _ = V m c main_arg2 _
  congr 1

/-- so they have one filling of the scratch. -/
theorem scr_congr (c : Dev nD) (t t' : Fin cfg0.N) (h : t.val / 8 = t'.val / 8) : scr m c t = scr m c t' := by
  unfold scr
  rw [iblk0_congr m c t t' h, iblk1_congr m c t t' h, iblk2_congr m c t t']

/-- The scratch, whole. -/
abbrev scM : Memref sig .tc .vmem S1024x4096 .bf16 := Memref.whole cc0_scratch0

/-- What the launch hands over beside the windows: the scratch at some contents and the generator's register. -/
theorem PhiA_eq (c : Dev nD) : (Pipeline.ΦA spec0 c : sProp 𝕄)
    = iprop((∃ d, owns (Val := Elt F) (c : Thread nD τ) scM fullShare d) ∗ (∃ r, prngReg c r)) := by
  unfold Pipeline.ΦA; rw [scopedRest0_eq]; simp only [scM, owns_whole]; rfl

/-- What is held before point `n`: before the first the scratch at anything, later at what the point before left in it. -/
def Phi (c : Dev nD) : (n : ℕ) → n ≤ cfg0.N → sProp 𝕄
  | 0, _ => Pipeline.ΦA spec0 c
  | n + 1, hn => iprop(owns (c : Thread nD τ) scM fullShare (scr m c ⟨n, hn⟩) ∗ (∃ r, prngReg c r))

/-- At any point the scratch holds something. -/
theorem Phi_some (c : Dev nD) (n : ℕ) (h : n ≤ cfg0.N) :
    Phi m c n h ⊢ iprop((∃ d, owns (Val := Elt F) (c : Thread nD τ) scM fullShare d) ∗ (∃ r, prngReg c r)) := by
  cases n with
  | zero => show Pipeline.ΦA spec0 c ⊢ _; rw [PhiA_eq]
  | succ n =>
    unfold Phi
    iintro ⟨H, Hg⟩
    isplitl [H]
    · iexists _; iexact H
    · iexact Hg

/-- Before a point that is not the first of its row block the scratch holds that block's filling. -/
theorem Phi_rest (c : Dev nD) (t : Fin cfg0.N) (h : ¬t.val % 8 = 0) :
    Phi m c t.val (Nat.le_of_lt t.isLt) = iprop(owns (c : Thread nD τ) scM fullShare (scr m c t) ∗ (∃ r, prngReg c r)) := by
  obtain ⟨n, hn⟩ := t
  cases n with
  | zero => exact absurd (Nat.zero_mod _) h
  | succ n =>
    have h : ¬(n + 1) % 8 = 0 := h
    show iprop(owns (c : Thread nD τ) scM fullShare (scr m c ⟨n, _⟩) ∗ (∃ r, prngReg c r)) = _
    rw [scr_congr m c ⟨n, Nat.lt_of_succ_lt hn⟩ ⟨n + 1, hn⟩ (by show n / 8 = (n + 1) / 8; omega)]

/-- What every staging buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = tile m c t := by dsimp only [dats]

/-- What the input windows hold before each point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (st0_4 t) fullShare (tile m c t) := by
  unfold Dat.leavesExact; rw [show cfg0.idle 4 (cfg0.grid.coords t) = false from rfl, after0_4]

/-- What is held before a point, and after it. -/
theorem Phi_castSucc (c : Dev nD) (t : Fin cfg0.N) : (dats m 0 c).Φ t.castSucc = Phi m c t.val (Nat.le_of_lt t.isLt) := by
  dsimp only [dats]; exact Pipeline.Dat.Φ_castSucc (Phi m c) t
theorem Phi_succ (c : Dev nD) (t : Fin cfg0.N) :
    (dats m 0 c).Φ t.succ = iprop(owns (c : Thread nD τ) scM fullShare (scr m c t) ∗ (∃ r, prngReg c r)) := rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    Phi_castSucc, Phi_succ, leaves0_0, leaves0_1, leaves0_2, leaves0_3, leaves0_4]
  by_cases h0 : t.val % 8 = 0
  · iintro ⟨HΦ, Ho, ⟨%d0, H0⟩, ⟨%d1, H1⟩, ⟨%d2, H2⟩, ⟨%d3, H3⟩, ⟨%d4, H4⟩⟩
    ihave HΦ' := (Phi_some m c t.val (Nat.le_of_lt t.isLt)) $$ HΦ
    icases HΦ' with ⟨HS, Hg⟩
    iapply (body_first c (grid0.coords t) _ _ _ _ _ _ _ _ _ _ _ _ (iblk m c 0 t) (iblk m c 1 t) (iblk m c 2 t) (iblk m c 3 t)
      ((hcond t).mpr h0) ((dats m 0 c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [Phi_rest m c t h0]
    iintro ⟨⟨HS, Hg⟩, Ho, ⟨%d0, H0⟩, ⟨%d1, H1⟩, ⟨%d2, H2⟩, ⟨%d3, H3⟩, ⟨%d4, H4⟩⟩
    iapply (body_rest c (grid0.coords t) _ _ _ _ _ _ _ _ _ _ _ _ (iblk m c 0 t) (iblk m c 1 t) (iblk m c 2 t) (iblk m c 3 t)
      (fun e => h0 ((hcond t).mp e)) ((dats m 0 c).before 4 t d4) (scr m c t) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The body table's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch's contents are forgotten. -/
theorem hout (c : Dev nD) : (dats m 0 c).Φ (Fin.last cfg0.N) ⊢ Pipeline.ΦA spec0 c := by
  rw [PhiA_eq]
  exact Phi_some m c cfg0.N (Nat.le_refl _)

set_option backward.isDefEq.respectTransparency.types false in
/-- The launch: every array at what the points' write-backs leave, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := hout m)

/-- The arguments end unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel4Ideal.Outproj

end
-- ==== Proof.Outproj.Blocks.lean ====
/-
  The output projection's blocks AT AN INDEX, as entries of the arguments, over the extended reals; and the tiles its
  points leave, as sums of products of the filled rows and the weights.
-/
module

public import proofs.«01_k».proof.Proof.Outproj.Launch
public import Idealize.ShloMosaic.Lib.StableHlo.ReadAt
public import Idealize.ShloMosaic.Lib.Pointwise

@[expose] public section

set_option maxRecDepth 16384

noncomputable section

namespace Cert.Kernel4Ideal.Outproj

open Cert.Kernel4Ideal Cert.Kernel4Ideal.Gen Idealize.ShloMosaic Idealize.ShloMosaic.TcCoe Idealize.SL.Sem
open scoped BigOperators

variable (m : (ℓ : Loc nD τ sig) → Buf (Elt Ideal) ℓ)

/-- One over the root of a row's mean square, the small constant added to the mean. -/
def invRms (x : Fin 2048 → EReal) : EReal :=
  Ideal.rsqrt (Ideal.div (∑ k : Fin 2048, x k * x k) (Ideal.ofBits .f32 0x45000000#32) + Ideal.ofBits .f32 0x358637BD#32)

/-- A row of the latent: the LRU's row normed and weighted, then the DeltaNet's row. -/
def latent (x y : S16384x2048.Idx → EReal) (g : S1x2048.Idx → EReal) (r : Fin 16384) (e : Fin 4096) : EReal :=
  if h : e.val < 2048 then x (ix2 r (⟨e.val, h⟩ : Fin 2048)) * invRms (fun k => x (ix2 r k)) * g (ix2 (0 : Fin 1) (⟨e.val, h⟩ : Fin 2048))
  else y (ix2 r (⟨e.val - 2048, by have := e.isLt; omega⟩ : Fin 2048))

/-- The output projection: a row of the latent times a column of the weights. -/
def outp (x y : S16384x2048.Idx → EReal) (g : S1x2048.Idx → EReal) (w : S4096x4096.Idx → EReal) : S16384x4096.Idx → EReal :=
  fun i => ∑ e : Fin 4096, latent x y g (i 0) e * w (ix2 e (i 1))

/-- A trip's payload at an index. -/
theorem pay1_apply (g : Vec Ideal S1x2048 .f32) (x : Vec Ideal S64x2048 .bf16) (r : Fin 64) (e : Fin 2048) :
    k0_pay1 g x (ix2 r e) = x (ix2 r e) * invRms (fun k => x (ix2 r k)) * g (ix2 (0 : Fin 1) e) := by
  pointwise [k0_pay1, invRms]

/-- The tile payload at an index: a row of the scratch times a column of the weights' tile. -/
theorem pay3_apply (s : Vec Ideal S1024x4096 .bf16) (w : Vec Ideal S4096x512 .bf16) (r : Fin 1024) (l : Fin 512) :
    k0_pay3 s w (ix2 r l) = ∑ e : Fin 4096, s (ix2 r e) * w (ix2 e l) := by
  pointwise [k0_pay3]

/-- A row of a trip's rows is a row of the block. -/
theorem ld_rows (x : Vec Ideal S1024x2048 .bf16) (r : Fin 1024) (e : Fin 2048) :
    View.ld x (rows ⟨r.val / 64, by omega⟩) (ix2 (⟨r.val % 64, Nat.mod_lt _ (by decide)⟩ : Fin 64) e) = x (ix2 r e) := by
  show x _ = x _
  congr 1
  funext a; apply Fin.ext
  match a with
  | ⟨0, _⟩ => show 64 * (r.val / 64) + 1 * (r.val % 64) = r.val; omega
  | ⟨1, _⟩ => show 0 + 1 * e.val = e.val; omega

/-- The scratch's left half at an index: the block's row normed, whichever trip wrote it. -/
theorem leftAt_apply (g : Vec Ideal S1x2048 .f32) (x : Vec Ideal S1024x2048 .bf16) (r : Fin 1024) (e : Fin 2048) :
    leftAt g x r e = x (ix2 r e) * invRms (fun k => x (ix2 r k)) * g (ix2 (0 : Fin 1) e) := by
  unfold leftAt
  refine (pay1_apply g _ _ e).trans ?_
  rw [ld_rows x r e, show (fun k => View.ld x (rows ⟨r.val / 64, by omega⟩) (ix2 (⟨r.val % 64, Nat.mod_lt _ (by decide)⟩ : Fin 64) k))
    = fun k => x (ix2 r k) from funext (ld_rows x r)]

/-- The row `r` of point `t`'s row block. -/
def row (t : Fin cfg0.N) (r : Fin 1024) : Fin 16384 :=
  ⟨1024 * (t.val / 8) + r.val, by have := lt_of_lt_of_eq t.isLt (show cfg0.N = 128 from N_0); omega⟩

/-- At the region's entry the staged weights hold the argument: a change of format is the identity here. -/
theorem V_v0 (c : Dev nD) (j : S4096x4096.Idx) : V m c main_v0 j = m ((c : Thread nD τ).loc main_arg3) j := by
  unfold V; after_reads_at

/-- The LRU's block at point `t`: rows `1024 (t / 8) + r`; -/
theorem iblk0_apply (c : Dev nD) (t : Fin cfg0.N) (r : Fin 1024) (e : Fin 2048) :
    (iblk m c 0 t : Vec Ideal S1024x2048 .bf16) (ix2 r e) = m ((c : Thread nD τ).loc main_arg0) (ix2 (row t r) e) := by
  rw [← V_main_arg0 m c]
  unfold iblk
  rw [View.read_apply]
  show V m c main_arg0 _ = V m c main_arg0 _
  congr 1
  funext a; apply Fin.ext
  match a with
  | ⟨0, _⟩ => show cc0_transform_0 (grid0.coords t) 0 * 1024 + 1 * r.val = 1024 * (t.val / 8) + r.val
              rw [(index_val t).1]; show t.val / 8 * 1024 + 1 * r.val = _; omega
  | ⟨1, _⟩ => show cc0_transform_0 (grid0.coords t) 1 * 2048 + 1 * e.val = e.val
              rw [(index_val t).1]; show 0 * 2048 + 1 * e.val = _; omega

/-- the DeltaNet's block: the same rows; -/
theorem iblk1_apply (c : Dev nD) (t : Fin cfg0.N) (r : Fin 1024) (e : Fin 2048) :
    (iblk m c 1 t : Vec Ideal S1024x2048 .bf16) (ix2 r e) = m ((c : Thread nD τ).loc main_arg1) (ix2 (row t r) e) := by
  rw [← V_main_arg1 m c]
  unfold iblk
  rw [View.read_apply]
  show V m c main_arg1 _ = V m c main_arg1 _
  congr 1
  funext a; apply Fin.ext
  match a with
  | ⟨0, _⟩ => show cc0_transform_1 (grid0.coords t) 0 * 1024 + 1 * r.val = 1024 * (t.val / 8) + r.val
              rw [(index_val t).2.1]; show t.val / 8 * 1024 + 1 * r.val = _; omega
  | ⟨1, _⟩ => show cc0_transform_1 (grid0.coords t) 1 * 2048 + 1 * e.val = e.val
              rw [(index_val t).2.1]; show 0 * 2048 + 1 * e.val = _; omega

/-- the norm's weights: all of them at every point; -/
theorem iblk2_apply (c : Dev nD) (t : Fin cfg0.N) (e : Fin 2048) :
    (iblk m c 2 t : Vec Ideal S1x2048 .f32) (ix2 (0 : Fin 1) e) = m ((c : Thread nD τ).loc main_arg2) (ix2 (0 : Fin 1) e) := by
  rw [← V_main_arg2 m c]
  unfold iblk
  rw [View.read_apply]
  show V m c main_arg2 _ = V m c main_arg2 _
  congr 1
  funext a; apply Fin.ext
  match a with
  | ⟨0, _⟩ => show cc0_transform_2 (grid0.coords t) 0 * 1 + 1 * 0 = 0
              rw [(index_val t).2.2.1]; rfl
  | ⟨1, _⟩ => show cc0_transform_2 (grid0.coords t) 1 * 2048 + 1 * e.val = e.val
              rw [(index_val t).2.2.1]; show 0 * 2048 + 1 * e.val = _; omega

/-- and the output weights' tile: columns `512 (t % 8) + l`. -/
theorem iblk3_apply (c : Dev nD) (t : Fin cfg0.N) (e : Fin 4096) (l : Fin 512) :
    (iblk m c 3 t : Vec Ideal S4096x512 .bf16) (ix2 e l)
      = m ((c : Thread nD τ).loc main_arg3) (ix2 e (⟨512 * (t.val % 8) + l.val, by omega⟩ : Fin 4096)) := by
  rw [← V_v0 m c]
  unfold iblk
  rw [View.read_apply]
  show V m c main_v0 _ = V m c main_v0 _
  congr 1
  funext a; apply Fin.ext
  match a with
  | ⟨0, _⟩ => show cc0_transform_3 (grid0.coords t) 0 * 4096 + 1 * e.val = e.val
              rw [(index_val t).2.2.2.1]; show 0 * 4096 + 1 * e.val = _; omega
  | ⟨1, _⟩ => show cc0_transform_3 (grid0.coords t) 1 * 512 + 1 * l.val = 512 * (t.val % 8) + l.val
              rw [(index_val t).2.2.2.1]; show t.val % 8 * 512 + 1 * l.val = _; omega

/-- The scratch after point `t`: rows of the latent. -/
theorem scr_apply (c : Dev nD) (t : Fin cfg0.N) (r : Fin 1024) (e : Fin 4096) :
    scr m c t (ix2 r e) = latent (m ((c : Thread nD τ).loc main_arg0)) (m ((c : Thread nD τ).loc main_arg1))
      (m ((c : Thread nD τ).loc main_arg2)) (row t r) e := by
  show (if h : e.val < 2048 then leftAt (iblk m c 2 t) (iblk m c 0 t) r ⟨e.val, h⟩
    else (iblk m c 1 t : Vec Ideal S1024x2048 .bf16) (ix2 r (⟨e.val - 2048, _⟩ : Fin 2048))) = _
  unfold latent
  by_cases h : e.val < 2048
  · rw [dif_pos h, dif_pos h]
    refine (leftAt_apply _ _ r _).trans ?_
    rw [iblk0_apply m c t r ⟨e.val, h⟩, iblk2_apply m c t ⟨e.val, h⟩,
      show (fun k => (iblk m c 0 t : Vec Ideal S1024x2048 .bf16) (ix2 r k)) = fun k => m ((c : Thread nD τ).loc main_arg0) (ix2 (row t r) k)
        from funext (iblk0_apply m c t r)]
  · rw [dif_neg h, dif_neg h]
    exact iblk1_apply m c t r _

/-- The result tile at point `t` is a tile of the output projection. -/
theorem tile_apply (c : Dev nD) (t : Fin cfg0.N) (r : Fin 1024) (l : Fin 512) :
    tile m c t (ix2 r l)
      = outp (m ((c : Thread nD τ).loc main_arg0)) (m ((c : Thread nD τ).loc main_arg1)) (m ((c : Thread nD τ).loc main_arg2))
          (m ((c : Thread nD τ).loc main_arg3)) (ix2 (row t r) (⟨512 * (t.val % 8) + l.val, by omega⟩ : Fin 4096)) := by
  unfold tile
  refine (pay3_apply _ _ r l).trans ?_
  exact Finset.sum_congr rfl fun e _ => congrArg₂ (fun a b : EReal => a * b) (scr_apply m c t r e) (iblk3_apply m c t e l)

end Cert.Kernel4Ideal.Outproj

end
-- ==== Proof.Outproj.Result.lean ====
/-
  The output projection's run, read: its result array holds the projection at every index, and the arguments are
  unchanged.
-/
module

public import proofs.«01_k».proof.Proof.Outproj.Blocks
public import Idealize.ShloMosaic.Lib.Pipeline.Value

@[expose] public section

set_option maxRecDepth 16384

noncomputable section

namespace Cert.Kernel4Ideal.Outproj

open Cert.Kernel4Ideal Cert.Kernel4Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The result array's contents. -/
def result (c : Dev nD) : Buf (Elt Ideal) ((c : Thread nD τ).loc main_v1) :=
  outp (m ((c : Thread nD τ).loc main_arg0)) (m ((c : Thread nD τ).loc main_arg1)) (m ((c : Thread nD τ).loc main_arg2))
    (m ((c : Thread nD τ).loc main_arg3))

/-- What a point writes back is its block of `result`. -/
theorem flushed_eq (c : Dev nD) (t : Fin cfg0.N) (hf : (cfg0.win 4).flush t = true) :
    (dats m 0 c).flushed 4 t = ((cfg0.win 4).blk t).view.read (Elt Ideal) (result m c) := by
  show (cfg0.win 4).cut (grid0.coords t) ((dats m 0 c).after 4 t) = _
  rw [after0_4]
  funext y
  rw [View.read_apply]
  have h1 : (y 1).val < 512 := (y 1).isLt
  have ha : (cfg0.win 4).xinj (grid0.coords t) y = ix2 (y 0) (y 1) := by
    funext a; apply Fin.ext
    match a with
    | ⟨0, _⟩ => rfl
    | ⟨1, _⟩ => rfl
  have hb : ((cfg0.win 4).blk t).view.emb y = ix2 (row t (y 0)) (⟨512 * (t.val % 8) + (y 1).val, by omega⟩ : Fin 4096) := by
    funext a; apply Fin.ext
    match a with
    | ⟨0, _⟩ => show cc0_transform_4 (grid0.coords t) 0 * 1024 + 1 * (y 0).val = 1024 * (t.val / 8) + (y 0).val
                rw [(index_val t).2.2.2.2]; show t.val / 8 * 1024 + 1 * (y 0).val = _; omega
    | ⟨1, _⟩ => show cc0_transform_4 (grid0.coords t) 1 * 512 + 1 * (y 1).val = 512 * (t.val % 8) + (y 1).val
                rw [(index_val t).2.2.2.2]; show t.val % 8 * 512 + 1 * (y 1).val = _; omega
  show tile m c t ((cfg0.win 4).xinj (grid0.coords t) y) = result m c (((cfg0.win 4).blk t).view.emb y)
  rw [ha, hb]
  exact tile_apply m c t (y 0) (y 1)

/-- After the run the result array holds `result`: the points' tiles cover it. -/
theorem final_eq (c : Dev nD) : (dats m 0 c).arrAt 4 cfg0.N = result m c :=
  (dats m 0 c).arrAt_eq_of_cover 4 _ (flushed_eq m c) fun i => by
    have h0 : (i 0).val < 16384 := (i 0).isLt
    have h1 : (i 1).val < 4096 := (i 1).isLt
    let t : Fin cfg0.N := ⟨8 * ((i 0).val / 1024) + (i 1).val / 512, by rw [show cfg0.N = 128 from N_0]; omega⟩
    have e0 : t.val / 8 = (i 0).val / 1024 := by show (8 * ((i 0).val / 1024) + (i 1).val / 512) / 8 = _; omega
    have e1 : t.val % 8 = (i 1).val / 512 := by show (8 * ((i 0).val / 1024) + (i 1).val / 512) % 8 = _; omega
    refine ⟨t, flush0_4 t, ?_⟩
    show i ∈ ((View.whole main_v1).slice (win0_4.rect t)).set
    rw [View.set_slice_whole, Rect.mem_set_unit]
    intro a
    match a with
    | ⟨0, _⟩ => show cc0_transform_4 (grid0.coords t) 0 * 1024 ≤ (i 0).val ∧ (i 0).val < cc0_transform_4 (grid0.coords t) 0 * 1024 + 1024
                rw [(index_val t).2.2.2.2]; show t.val / 8 * 1024 ≤ (i 0).val ∧ (i 0).val < t.val / 8 * 1024 + 1024
                rw [e0]; omega
    | ⟨1, _⟩ => show cc0_transform_4 (grid0.coords t) 1 * 512 ≤ (i 1).val ∧ (i 1).val < cc0_transform_4 (grid0.coords t) 1 * 512 + 512
                rw [(index_val t).2.2.2.2]; show t.val % 8 * 512 ≤ (i 1).val ∧ (i 1).val < t.val % 8 * 512 + 512
                rw [e1]; omega

/-- The run: the result array ends at `result`, -/
theorem run_result : θ_run defs (onTc (τ := τ) (main (F := Ideal))) ⟨m, fun _ => 0, ρ⟩ fun r => ∀ c : Dev nD,
      r.2.mem ((c : Thread nD τ).loc main_v1) = result m c :=
  (θ_run defs _ _).mono (fun _ h c => ((h.1 c).1 4).trans (final_eq m c)) (run_quiescent m ρ)

/-- and the arguments as launched. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨h.1 c, h.2.1 c⟩) (θ_run_and (run_result m ρ) (frame m ρ))

end Cert.Kernel4Ideal.Outproj

end
-- ==== Proof.Outproj.Equation.lean ====
/-
  The output projection's equation: the reference's concatenated rows times the weights are at every index what the
  kernel's result array holds; so the two programs end with equal results.
-/
module

public import proofs.«01_k».proof.Defs
public import proofs.«01_k».proof.Proof.Outproj.Result
public import proofs.«01_k».proof.Proof.Gen.Reference4Ideal.Run

@[expose] public section

set_option maxRecDepth 16384

noncomputable section

namespace Cert.Reference4Ideal.Outproj

open Cert.Reference4Ideal Cert.Reference4Ideal.Gen Idealize.ShloMosaic Idealize.ShloMosaic.TcCoe Idealize.SL.Sem
open Cert.Kernel4Ideal.Outproj (outp latent invRms)
open scoped BigOperators

/-- The reference's normed rows. -/
abbrev normed (x : FVec Ideal S16384x2048 .bf16) (g : FVec Ideal S1x2048 .f32) : FVec Ideal S16384x2048 .f32 :=
  mulf (mulf (extf .f32 x bitsLt_bf16_f32) (broadcastInDim S16384x2048 ![0, 1] bcast_S16384x1_S16384x2048_0_1 (Host.rsqrt (addf (Host.divf (broadcastInDim S16384x1 ![0] bcast_S16384_S16384x1_0 (Host.reduceAdd (mulf (extf .f32 x bitsLt_bf16_f32) (extf .f32 x bitsLt_bf16_f32)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)

/-- A normed row at an index. -/
theorem normed_apply (x : FVec Ideal S16384x2048 .bf16) (g : FVec Ideal S1x2048 .f32) (r : Fin 16384) (e : Fin 2048) :
    normed x g (ix2 r e) = x (ix2 r e) * invRms (fun k => x (ix2 r k)) * g (ix2 (0 : Fin 1) e) := by
  pointwise [normed, invRms]

/-- The reference's two halves side by side, at an index. -/
theorem latent_apply (x y : FVec Ideal S16384x2048 .bf16) (g : FVec Ideal S1x2048 .f32) (z : FVec Ideal S16384x2048 .f32)
    (hz : ∀ r e, z (ix2 r e) = x (ix2 r e) * invRms (fun k => x (ix2 r k)) * g (ix2 (0 : Fin 1) e)) (r : Fin 16384) (e : Fin 4096) :
    (concatenate S16384x4096 1 [⟨S16384x2048, z⟩, ⟨S16384x2048, extf .f32 y bitsLt_bf16_f32⟩] concatenates_S16384x2048_S16384x2048_S16384x4096_d1
      : FVec Ideal S16384x4096 .f32) (ix2 r e) = latent x y g r e := by
  pointwise [latent]
  by_cases h : e.val < 2048
  · rw [dif_pos h, dif_pos h]; exact hz r _
  · rw [dif_neg h, dif_neg h]

/-- The product at an index. -/
theorem dot_apply (l : FVec Ideal S16384x4096 .f32) (w : FVec Ideal S4096x4096 .f32) (r : Fin 16384) (k : Fin 4096) :
    (truncf .bf16 (Host.dotGeneral (F := Ideal) dot_S16384x4096_S4096x4096_S16384x4096_1_0_0_1_n_n none l w : FVec Ideal S16384x4096 .f32) bitsLt_bf16_f32
      : FVec Ideal S16384x4096 .bf16) (ix2 r k) = ∑ e : Fin 4096, l (ix2 r e) * w (ix2 e k) := by
  pointwise

/-- The reference's result at an index. -/
theorem reference_apply (x y : FVec Ideal S16384x2048 .bf16) (g : FVec Ideal S1x2048 .f32) (w : FVec Ideal S4096x4096 .f32) (i : S16384x4096.Idx) :
    (truncf .bf16 (Host.dotGeneral (F := Ideal) dot_S16384x4096_S4096x4096_S16384x4096_1_0_0_1_n_n none
      (concatenate S16384x4096 1 [⟨S16384x2048, normed x g⟩, ⟨S16384x2048, extf .f32 y bitsLt_bf16_f32⟩] concatenates_S16384x2048_S16384x2048_S16384x4096_d1
        : FVec Ideal S16384x4096 .f32) w : FVec Ideal S16384x4096 .f32) bitsLt_bf16_f32 : FVec Ideal S16384x4096 .bf16) i = outp x y g w i := by
  idx_vars i
  refine (dot_apply _ w _ _).trans ?_
  exact Finset.sum_congr rfl fun e _ => congrArg (fun a : EReal => a * w _) (latent_apply x y g _ (normed_apply x g) _ e)

end Cert.Reference4Ideal.Outproj

namespace Cert.Outproj

open Idealize.ShloMosaic Idealize.ShloMosaic.TcCoe Idealize.SL.Sem

/-- The output projection and its reference, from equal arguments, end with equal results. -/
theorem algebraic : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => Cert.Kernel4Ideal.Outproj.result m c, Cert.Kernel4Ideal.Outproj.run m ρ, ?_⟩
  refine (θ_run Cert.Reference4Ideal.defs _ _).mono (fun r h c => ⟨(h c).1.trans ?_, (h c).2⟩) (Cert.Reference4Ideal.Value.run m' ρ')
  obtain ⟨e0, e1, e2, e3⟩ := hargs c
  rw [e0, e1, e2, e3]
  exact funext fun i => Cert.Reference4Ideal.Outproj.reference_apply _ _ _ _ i

end Cert.Outproj

end
-- ==== Proof.InprojCtx.Body.lean ====
/-
  One point of the context's input projection's body on any whole staging buffers: it leaves its input blocks as they were, the
  result tile at the product of the activations' block and the weights' tile, and — at the first column tile of a row
  block only — the tail's tile at the product of the activations' block and the padded tail weights; at the other
  points the tail's tile is not touched.
-/
module

public import proofs.«01_k».proof.Proof.Gen.Kernel5Ideal.Frame
public import proofs.«01_k».proof.Proof.Gen.Kernel5Ideal.Skeleton

@[expose] public section

set_option maxRecDepth 16384

noncomputable section

namespace Cert.Kernel5Ideal.InprojCtx

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer stored whole holds is what was stored. -/
theorem read_whole_store {sp : Space} {e : EltTy} {s : Shape} (v : View sig .tc sp s e) (f : v.ty.Contents (Elt F)) (off : Fin s.rank → ℕ)
    (hoff : ∀ a, off a = 0) (hin : ∀ a, off a + s.size a ≤ s.size a) (w : s.Idx → Elt F e) :
    v.read (Elt F) (v.writes (Elt F) f [⟨Rect.unit off s.size hin, w⟩]) = w :=
  funext fun y => View.read_writes_cons_hit_of_coords v f (Rect.unit off s.size hin) w [] y y fun a => by
    show (y a).val = off a + 1 * (y a).val
    rw [hoff a]; omega

/-- What is loaded whole from a buffer is what the buffer holds. -/
theorem readAt_whole {sp : Space} {e : EltTy} {s : Shape} {μ : Memref sig .tc sp s e} (h : μ.IsWhole) (x : s.Idx → Elt F e) (off : Fin s.rank → ℕ)
    (hoff : ∀ a, off a = 0) (hin : ∀ a, off a + s.size a ≤ s.size a) :
    View.readAt (Elt F) μ.view (Rect.unit off s.size hin).toLoadRect (h.unread x) = x := by
  rw [View.readAt_eq_ld, h.read_unread]
  funext y
  show x _ = x _
  congr 1
  funext a; apply Fin.ext
  show off a + 1 * (y a).val = (y a).val
  rw [hoff a]; omega

/-- The body at the first column tile. -/
theorem body_first (c : Dev nD) (i : grid0.Coords)
    (arg3 : Memref sig .tc .vmem S1x512x4096 .bf16) (harg3 : arg3.IsWhole) (arg4 : Memref sig .tc .vmem S4096x1536 .bf16) (harg4 : arg4.IsWhole)
    (arg5 : Memref sig .tc .vmem S4096x128 .bf16) (harg5 : arg5.IsWhole) (arg6 : Memref sig .tc .vmem S1x512x1536 .f32) (harg6 : arg6.IsWhole)
    (arg7 : Memref sig .tc .vmem S1x512x128 .f32) (harg7 : arg7.IsWhole) (hc : k0_cond1 i = 1#1)
    (x0 : Vec F S1x512x4096 .bf16) (x1 : Vec F S4096x1536 .bf16) (x2 : Vec F S4096x128 .bf16) (x3 : Vec F S1x512x1536 .f32) (x4 : Vec F S1x512x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 x0 x1) ∗ owns (c : Thread nD τ) arg7 fullShare (k0_pay1 x0 x2)) -∗ K ⟨⟩))
      ⊢ wp frame (wpE (defs₀ (F := F)) Variants.none c none) Set.univ (cc0_inproj i arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_whole_store _ _ _ (by decide), readAt_whole harg3 x0 _ (by decide), readAt_whole harg4 x1 _ (by decide)]
  · iexists _; isplitr
    swap; · iexact H4
    ipureintro
    rw [read_whole_store _ _ _ (by decide), readAt_whole harg3 x0 _ (by decide), readAt_whole harg5 x2 _ (by decide)]

/-- The body at any other column tile: the tail's tile stays as it was. -/
theorem body_rest (c : Dev nD) (i : grid0.Coords)
    (arg3 : Memref sig .tc .vmem S1x512x4096 .bf16) (harg3 : arg3.IsWhole) (arg4 : Memref sig .tc .vmem S4096x1536 .bf16) (harg4 : arg4.IsWhole)
    (arg5 : Memref sig .tc .vmem S4096x128 .bf16) (harg5 : arg5.IsWhole) (arg6 : Memref sig .tc .vmem S1x512x1536 .f32) (harg6 : arg6.IsWhole)
    (arg7 : Memref sig .tc .vmem S1x512x128 .f32) (harg7 : arg7.IsWhole) (hc : ¬k0_cond1 i = 1#1)
    (x0 : Vec F S1x512x4096 .bf16) (x1 : Vec F S4096x1536 .bf16) (x2 : Vec F S4096x128 .bf16) (x3 : Vec F S1x512x1536 .f32) (x4 : Vec F S1x512x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 x0 x1) ∗ owns (c : Thread nD τ) arg7 fullShare x4) -∗ K ⟨⟩))
      ⊢ wp frame (wpE (defs₀ (F := F)) Variants.none c none) Set.univ (cc0_inproj i arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_whole_store _ _ _ (by decide), readAt_whole harg3 x0 _ (by decide), readAt_whole harg4 x1 _ (by decide)]
  · iexists _; isplitr
    swap; · iexact H4
    ipureintro
    exact hf4

end Cert.Kernel5Ideal.InprojCtx

end
-- ==== Proof.InprojCtx.Launch.lean ====
/-
  The context's input projection's launch: what each staging buffer holds after each point, the body's obligation at every point,
  and the run over any float values. The tail's tile, stored at the first column tile, is kept through
  the other seven and written back after the last.
-/
module

public import proofs.«01_k».proof.Proof.InprojCtx.Body
public import Idealize.ShloMosaic.Lib.Claim

@[expose] public section

set_option maxRecDepth 16384

noncomputable section

namespace Cert.Kernel5Ideal.InprojCtx

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body stores the tail's tile at the first column tile only. -/
theorem hcond : ∀ t : Fin cfg0.N, k0_cond1 (grid0.coords t) = 1#1 ↔ t.val % 8 = 0 :=
  (by decide +kernel : ∀ t : Fin grid0.N, k0_cond1 (grid0.coords t) = 1#1 ↔ t.val % 8 = 0)

/-- The windows' block indices at point `t`: one block of rows, column tile `t % 8`. -/
theorem index_val : ∀ t : Fin cfg0.N, cc0_transform_0 (grid0.coords t) = ![0, 0, 0]
    ∧ cc0_transform_1 (grid0.coords t) = ![0, t.val % 8]
    ∧ cc0_transform_2 (grid0.coords t) = ![0, 0]
    ∧ cc0_transform_3 (grid0.coords t) = ![0, 0, t.val % 8]
    ∧ cc0_transform_4 (grid0.coords t) = ![0, 0, 0] :=
  (by decide +kernel : ∀ t : Fin grid0.N, _)

/-- The result tile at point `t`. -/
def tile (c : Dev nD) (t : Fin cfg0.N) : Vec F S1x512x1536 .f32 := k0_pay2 (iblk m c 0 t) (X0_1 m c t)

/-- The tail's tile, computed at any point. -/
def tail (c : Dev nD) (t : Fin cfg0.N) : Vec F S1x512x128 .f32 := k0_pay1 (iblk m c 0 t) (iblk m c 2 t)

/-- All points have one activations' block, -/
theorem iblk0_congr (c : Dev nD) (t t' : Fin cfg0.N) :
    (iblk m c 0 t : Vec F S1x512x4096 .bf16) = iblk m c 0 t' := by
  have hi : cc0_transform_0 (grid0.coords t) = cc0_transform_0 (grid0.coords t') := by
    rw [(index_val t).1, (index_val t').1]
  funext y
  unfold iblk
  rw [View.read_apply, View.read_apply]
  show V m c main_v3 _ = V m c main_v3 _
  congr 1
  funext a; apply Fin.ext
  show cc0_transform_0 (grid0.coords t) a * S1x512x4096.size a + 1 * (y a).val = cc0_transform_0 (grid0.coords t') a * S1x512x4096.size a + 1 * (y a).val
  rw [hi]

/-- and all points have one block of the tail's weights, -/
theorem iblk2_congr (c : Dev nD) (t t' : Fin cfg0.N) :
    (iblk m c 2 t : Vec F S4096x128 .bf16) = iblk m c 2 t' := by
  funext y
  unfold iblk
  rw [View.read_apply, View.read_apply]
  show V m c main_v2 _ = V m c main_v2 _
  congr 1

/-- so they have one tail's tile. -/
theorem tail_congr (c : Dev nD) (t t' : Fin cfg0.N) : tail m c t = tail m c t' := by
  unfold tail
  rw [iblk0_congr m c t t', iblk2_congr m c t t']

/-- What every staging buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => tile m c t
    | ⟨4, _⟩ => tail m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tile m c t := by dsimp only [dats]
theorem after0_4 (c : Dev nD) (t : Fin cfg0.N) : (dats m 0 c).after 4 t = tail m c t := by dsimp only [dats]

/-- What the input windows hold before each point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the tail's window is live and where idle. -/
theorem live4 (t : Fin cfg0.N) (h : t.val % 8 = 0) : cfg0.idle 4 (grid0.coords t) = false := by
  show (!(k0_cond1 (grid0.coords t) == 1#1)) = false
  rw [(hcond t).mpr h]; rfl
theorem idle4 (t : Fin cfg0.N) (h : ¬t.val % 8 = 0) : cfg0.idle 4 (grid0.coords t) = true := by
  show (!(k0_cond1 (grid0.coords t) == 1#1)) = true
  rw [beq_eq_false_iff_ne.mpr (fun e => h ((hcond t).mp e))]; rfl
theorem noFlush4 (t : Fin cfg0.N) (h : ¬t.val % 8 = 7) : (cfg0.win 4).flush t = false :=
  eq_false_of_ne_true fun e => h ((flush0_4 t).mp e)

/-- What the body left in the tail's buffer at a first column tile is the tail's tile, all of it. -/
theorem kept4 (c : Dev nD) (t : Fin cfg0.N) (d) : (dats m 0 c).kept 4 t d = tail m c t := by
  unfold Dat.kept
  rw [after0_4]
  funext j
  unfold Pipeline.Window.fill
  have hm : (cfg0.win 4).moved (cfg0.grid.coords t) j = true := ((cfg0.win 4).moved_iff _ j).mpr fun a => (j a).isLt
  rw [dif_pos hm]

/-- Before every point but the first, the tail's buffer holds the tail's tile. -/
theorem before0_4 (c : Dev nD) : ∀ (n : ℕ) (t : Fin cfg0.N), t.val % 8 = n + 1 → ∀ d, (dats m 0 c).before 4 t d = tail m c t
  | 0, t, h, d => by
    let t' : Fin cfg0.N := ⟨t.val - 1, Nat.lt_of_le_of_lt (Nat.sub_le _ _) t.isLt⟩
    have h0 : t'.val % 8 = 0 := by show (t.val - 1) % 8 = 0; omega
    rw [(dats m 0 c).before_of_pos 4 t (by omega) ((cfg0.win 4).fetch_out rfl t) d, noFlush4 t' (by omega), if_neg Bool.false_ne_true]
    unfold Dat.left
    rw [live4 t' h0]
    show (dats m 0 c).kept 4 t' d = _
    rw [kept4]
    exact tail_congr m c t' t
  | n + 1, t, h, d => by
    let t' : Fin cfg0.N := ⟨t.val - 1, Nat.lt_of_le_of_lt (Nat.sub_le _ _) t.isLt⟩
    have h0 : t'.val % 8 = n + 1 := by show (t.val - 1) % 8 = n + 1; omega
    rw [(dats m 0 c).before_of_pos 4 t (by omega) ((cfg0.win 4).fetch_out rfl t) d, noFlush4 t' (by omega), if_neg Bool.false_ne_true]
    unfold Dat.left
    rw [idle4 t' (by omega)]
    show (dats m 0 c).before 4 t' d = _
    rw [before0_4 c n t' h0 d]
    exact tail_congr m c t' t

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (st0_1 t) fullShare (X0_1 m c t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (st0_3 t) fullShare (tile m c t) := by
  unfold Dat.leavesExact; rw [show cfg0.idle 3 (cfg0.grid.coords t) = false from rfl, after0_3]
theorem leaves0_4_first (c : Dev nD) (t : Fin cfg0.N) (h : t.val % 8 = 0) :
    (dats m 0 c).leavesExact 4 t = owns (c : Thread nD τ) (st0_4 t) fullShare (tail m c t) := by
  unfold Dat.leavesExact; rw [show cfg0.idle 4 (cfg0.grid.coords t) = false from live4 t h, after0_4]
theorem leaves0_4_last (c : Dev nD) (t : Fin cfg0.N) (h : t.val % 8 = 7) :
    (dats m 0 c).leavesExact 4 t = owns (c : Thread nD τ) (st0_4 t) fullShare (tail m c t) := by
  unfold Dat.leavesExact; rw [show cfg0.idle 4 (cfg0.grid.coords t) = true from idle4 t (by omega), (flush0_4 t).mpr h, after0_4]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl,
    leaves0_0, leaves0_1, leaves0_2, leaves0_3]
  by_cases h0 : t.val % 8 = 0
  · rw [leaves0_4_first m c t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((hcond t).mpr h0) (iblk m c 0 t) (X0_1 m c t) (iblk m c 2 t)
      ((dats m 0 c).before 3 t d3) ((dats m 0 c).before 4 t d4) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · obtain ⟨n, hn⟩ : ∃ n, t.val % 8 = n + 1 := ⟨t.val % 8 - 1, by omega⟩
    simp only [before0_4 m c n t hn]
    have hpost : owns (c : Thread nD τ) (st0_4 t) fullShare (tail m c t) ⊢ (dats m 0 c).leavesExact 4 t := by
      by_cases h1 : t.val % 8 = 7
      · rw [leaves0_4_last m c t h1]
      · rw [Dat.leavesExact_idle (dats m 0 c) 4 t (idle4 t h0) (noFlush4 t h1)]
        simp only [before0_4 m c n t hn]
        iintro H
        iexists (tail m c t)
        iexact H
    iintro ⟨HΦ, Ho, ⟨%d0, H0⟩, ⟨%d1, H1⟩, ⟨%d2, H2⟩, ⟨%d3, H3⟩, ⟨%d4, H4⟩⟩
    iapply (body_rest c (grid0.coords t) _ _ _ _ _ _ _ _ _ _ (fun e => h0 ((hcond t).mp e)) (iblk m c 0 t) (X0_1 m c t) (iblk m c 2 t)
      ((dats m 0 c).before 3 t d3) (tail m c t) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply hpost
    iexact H4

/-- The body table's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the points' write-backs leave, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The arguments end unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel5Ideal.InprojCtx

end
-- ==== Proof.InprojCtx.Blocks.lean ====
/-
  The context's input projection's blocks AT AN INDEX, as entries of the arguments, over the extended reals; and the tiles its
  points leave, as sums of products of those entries.
-/
module

public import proofs.«01_k».proof.Proof.InprojCtx.Launch
public import Idealize.ShloMosaic.Lib.StableHlo.ReadAt
public import Idealize.ShloMosaic.Lib.Pointwise

@[expose] public section

set_option maxRecDepth 16384

noncomputable section

namespace Cert.Kernel5Ideal.InprojCtx

open Cert.Kernel5Ideal Cert.Kernel5Ideal.Gen Idealize.ShloMosaic Idealize.ShloMosaic.TcCoe Idealize.SL.Sem
open scoped BigOperators

variable (m : (ℓ : Loc nD τ sig) → Buf (Elt Ideal) ℓ)

/-- The tile payload at an index: a row of the activations' block times a column of the weights' tile. -/
theorem pay2_apply (h : Vec Ideal S1x512x4096 .bf16) (w : Vec Ideal S4096x1536 .bf16) (r : Fin 512) (l : Fin 1536) :
    k0_pay2 h w (ix3 (0 : Fin 1) r l) = ∑ e : Fin 4096, h (ix3 (0 : Fin 1) r e) * w (ix2 e l) := by
  pointwise [k0_pay2]

/-- The tail payload at an index. -/
theorem pay1_apply (h : Vec Ideal S1x512x4096 .bf16) (w : Vec Ideal S4096x128 .bf16) (r : Fin 512) (l : Fin 128) :
    k0_pay1 h w (ix3 (0 : Fin 1) r l) = ∑ e : Fin 4096, h (ix3 (0 : Fin 1) r e) * w (ix2 e l) := by
  pointwise [k0_pay1]

/-- The tail's weights: the last 64 columns, and 64 columns of zeros. -/
def tailW (w : S4096x12352.Idx → EReal) (e : Fin 4096) (l : Fin 128) : EReal :=
  if h : l.val < 64 then w (ix2 e ⟨12288 + l.val, by omega⟩) else 0

/-- At the region's entry the staged arrays hold the arguments (a change of format is the identity here), -/
theorem V_v3 (c : Dev nD) (j : S1x512x4096.Idx) : V m c main_v3 j = m ((c : Thread nD τ).loc main_arg0) j := by
  unfold V; after_reads_at
theorem V_v4 (c : Dev nD) (j : S4096x12352.Idx) : V m c main_v4 j = m ((c : Thread nD τ).loc main_arg1) j := by
  unfold V; after_reads_at

/-- The integer zero converts to zero. -/
theorem sitofp_zero : (FloatOps.sitofp FTy.f32 (0#32 : BitVec 32) : Ideal .f32) = (0 : EReal) := by
  show (((0#32 : BitVec 32).toInt : ℝ) : EReal) = 0
  simp

/-- and the third the tail's weights. -/
theorem V_v2 (c : Dev nD) (e : Fin 4096) (l : Fin 128) :
    V m c main_v2 (ix2 e l) = tailW (m ((c : Thread nD τ).loc main_arg1)) e l := by
  unfold V; after_reads_at
  unfold tailW
  by_cases h : l.val < 64
  · rw [dif_pos h, dif_pos h]
  · rw [dif_neg h, dif_neg h]; exact sitofp_zero

/-- The activations' block at every point: all of them. -/
theorem iblk0_apply (c : Dev nD) (t : Fin cfg0.N) (r : Fin 512) (e : Fin 4096) :
    (iblk m c 0 t : Vec Ideal S1x512x4096 .bf16) (ix3 (0 : Fin 1) r e)
      = m ((c : Thread nD τ).loc main_arg0) (ix3 (0 : Fin 1) r e) := by
  rw [← V_v3 m c]
  unfold iblk
  rw [View.read_apply]
  show V m c main_v3 _ = V m c main_v3 _
  congr 1
  funext a; apply Fin.ext
  match a with
  | ⟨0, _⟩ => show cc0_transform_0 (grid0.coords t) 0 * 1 + 1 * 0 = 0
              rw [(index_val t).1]; rfl
  | ⟨1, _⟩ => show cc0_transform_0 (grid0.coords t) 1 * 512 + 1 * r.val = r.val
              rw [(index_val t).1]; show 0 * 512 + 1 * r.val = _; omega
  | ⟨2, _⟩ => show cc0_transform_0 (grid0.coords t) 2 * 4096 + 1 * e.val = e.val
              rw [(index_val t).1]; show 0 * 4096 + 1 * e.val = _; omega

/-- The weights' tile at point `t`: columns `1536 (t % 8) + l`. -/
theorem X1_apply (c : Dev nD) (t : Fin cfg0.N) (e : Fin 4096) (l : Fin 1536) :
    (X0_1 m c t : Vec Ideal S4096x1536 .bf16) (ix2 e l)
      = m ((c : Thread nD τ).loc main_arg1) (ix2 e ⟨1536 * (t.val % 8) + l.val, by omega⟩) := by
  rw [← V_v4 m c]
  unfold X0_1 Pipeline.Window.fill
  rw [dif_pos (moved0_1 t _)]
  unfold iblk
  rw [View.read_apply]
  show V m c main_v4 _ = V m c main_v4 _
  congr 1
  funext a; apply Fin.ext
  match a with
  | ⟨0, _⟩ => show cc0_transform_1 (grid0.coords t) 0 * 4096 + 1 * e.val = e.val
              rw [(index_val t).2.1]; show 0 * 4096 + 1 * e.val = _; omega
  | ⟨1, _⟩ => show cc0_transform_1 (grid0.coords t) 1 * 1536 + 1 * l.val = 1536 * (t.val % 8) + l.val
              rw [(index_val t).2.1]; show t.val % 8 * 1536 + 1 * l.val = _; omega

/-- The tail's weights block at every point: all of them. -/
theorem iblk2_apply (c : Dev nD) (t : Fin cfg0.N) (e : Fin 4096) (l : Fin 128) :
    (iblk m c 2 t : Vec Ideal S4096x128 .bf16) (ix2 e l) = tailW (m ((c : Thread nD τ).loc main_arg1)) e l := by
  rw [← V_v2 m c]
  unfold iblk
  rw [View.read_apply]
  show V m c main_v2 _ = V m c main_v2 _
  congr 1
  funext a; apply Fin.ext
  match a with
  | ⟨0, _⟩ => show cc0_transform_2 (grid0.coords t) 0 * 4096 + 1 * e.val = e.val
              rw [(index_val t).2.2.1]; show 0 * 4096 + 1 * e.val = _; omega
  | ⟨1, _⟩ => show cc0_transform_2 (grid0.coords t) 1 * 128 + 1 * l.val = l.val
              rw [(index_val t).2.2.1]; show 0 * 128 + 1 * l.val = _; omega

/-- The projection: a row of the activations times a column of the weights, the first 12288 columns; -/
def proj (h : S1x512x4096.Idx → EReal) (w : S4096x12352.Idx → EReal) : S1x512x12288.Idx → EReal :=
  fun i => ∑ e : Fin 4096, h (ix3 (i 0) (i 1) e) * w (ix2 e ⟨(i 2).val, lt_of_lt_of_le (i 2).isLt (by decide)⟩)

/-- and its last 64 columns, then 64 of zeros. -/
def projTail (h : S1x512x4096.Idx → EReal) (w : S4096x12352.Idx → EReal) : S1x512x128.Idx → EReal :=
  fun i => if l : (i 2).val < 64 then ∑ e : Fin 4096, h (ix3 (i 0) (i 1) e) * w (ix2 e ⟨12288 + (i 2).val, by omega⟩) else 0

/-- The result tile at point `t` is a tile of the projection, -/
theorem tile_apply (c : Dev nD) (t : Fin cfg0.N) (r : Fin 512) (l : Fin 1536) :
    tile m c t (ix3 (0 : Fin 1) r l)
      = proj (m ((c : Thread nD τ).loc main_arg0)) (m ((c : Thread nD τ).loc main_arg1))
          (ix3 (0 : Fin 1) r (⟨1536 * (t.val % 8) + l.val, by omega⟩ : Fin 12288)) := by
  unfold tile
  refine (pay2_apply _ _ r l).trans ?_
  refine Finset.sum_congr rfl fun e _ => ?_
  rw [iblk0_apply m c t r e, X1_apply m c t e l]
  rfl

/-- and the tail's tile one of the projection's tail: a product with a column of zeros is zero. -/
theorem tail_apply (c : Dev nD) (t : Fin cfg0.N) (r : Fin 512) (l : Fin 128) :
    tail m c t (ix3 (0 : Fin 1) r l)
      = projTail (m ((c : Thread nD τ).loc main_arg0)) (m ((c : Thread nD τ).loc main_arg1)) (ix3 (0 : Fin 1) r l) := by
  unfold tail
  refine (pay1_apply _ _ r l).trans ?_
  refine (Finset.sum_congr rfl fun e _ => congrArg₂ (fun a b : EReal => a * b) (iblk0_apply m c t r e) (iblk2_apply m c t e l)).trans ?_
  show _ = if h : l.val < 64 then _ else (0 : EReal)
  unfold tailW
  by_cases h : l.val < 64
  · simp only [dif_pos h]; rfl
  · simp only [dif_neg h, mul_zero, Finset.sum_const_zero]

end Cert.Kernel5Ideal.InprojCtx

end
-- ==== Proof.InprojCtx.Result.lean ====
/-
  The context's input projection's run, read: its two result arrays hold at every index the projection and its padded tail, and
  the arguments are unchanged.
-/
module

public import proofs.«01_k».proof.Proof.InprojCtx.Blocks
public import Idealize.ShloMosaic.Lib.Pipeline.Value

@[expose] public section

set_option maxRecDepth 16384

noncomputable section

namespace Cert.Kernel5Ideal.InprojCtx

open Cert.Kernel5Ideal Cert.Kernel5Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The two result arrays' contents. -/
def result (c : Dev nD) : Buf (Elt Ideal) ((c : Thread nD τ).loc main_v5_0) :=
  proj (m ((c : Thread nD τ).loc main_arg0)) (m ((c : Thread nD τ).loc main_arg1))
def resultTail (c : Dev nD) : Buf (Elt Ideal) ((c : Thread nD τ).loc main_v5_1) :=
  projTail (m ((c : Thread nD τ).loc main_arg0)) (m ((c : Thread nD τ).loc main_arg1))

/-- What a point writes back of the projection is that block of `result`, -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext y
  rw [View.read_apply]
  have hy : (y 0).val = 0 := by have : (y 0).val < 1 := (y 0).isLt; omega
  have h2 : (y 2).val < 1536 := (y 2).isLt
  have ha : (cfg0.win 3).xinj (grid0.coords t) y = ix3 (0 : Fin 1) (y 1) (y 2) := by
    funext a; apply Fin.ext
    match a with
    | ⟨0, _⟩ => exact hy
    | ⟨1, _⟩ => rfl
    | ⟨2, _⟩ => rfl
  have hb : ((cfg0.win 3).blk t).view.emb y = ix3 (0 : Fin 1) (y 1) (⟨1536 * (t.val % 8) + (y 2).val, by omega⟩ : Fin 12288) := by
    funext a; apply Fin.ext
    match a with
    | ⟨0, _⟩ => show cc0_transform_3 (grid0.coords t) 0 * 1 + 1 * (y 0).val = 0
                rw [(index_val t).2.2.2.1, hy]; rfl
    | ⟨1, _⟩ => show cc0_transform_3 (grid0.coords t) 1 * 512 + 1 * (y 1).val = (y 1).val
                rw [(index_val t).2.2.2.1]; show 0 * 512 + 1 * (y 1).val = _; omega
    | ⟨2, _⟩ => show cc0_transform_3 (grid0.coords t) 2 * 1536 + 1 * (y 2).val = 1536 * (t.val % 8) + (y 2).val
                rw [(index_val t).2.2.2.1]; show t.val % 8 * 1536 + 1 * (y 2).val = _; omega
  show tile m c t ((cfg0.win 3).xinj (grid0.coords t) y) = result m c (((cfg0.win 3).blk t).view.emb y)
  rw [ha, hb]
  exact tile_apply m c t (y 1) (y 2)

/-- and what the last point writes back of the tail is that block of `resultTail`. -/
theorem flushedTail_eq (c : Dev nD) (t : Fin cfg0.N) (hf : (cfg0.win 4).flush t = true) :
    (dats m 0 c).flushed 4 t = ((cfg0.win 4).blk t).view.read (Elt Ideal) (resultTail m c) := by
  show (cfg0.win 4).cut (grid0.coords t) ((dats m 0 c).after 4 t) = _
  rw [after0_4]
  funext y
  rw [View.read_apply]
  have hy : (y 0).val = 0 := by have : (y 0).val < 1 := (y 0).isLt; omega
  have ha : (cfg0.win 4).xinj (grid0.coords t) y = ix3 (0 : Fin 1) (y 1) (y 2) := by
    funext a; apply Fin.ext
    match a with
    | ⟨0, _⟩ => exact hy
    | ⟨1, _⟩ => rfl
    | ⟨2, _⟩ => rfl
  have hb : ((cfg0.win 4).blk t).view.emb y = ix3 (0 : Fin 1) (y 1) (y 2) := by
    funext a; apply Fin.ext
    match a with
    | ⟨0, _⟩ => show cc0_transform_4 (grid0.coords t) 0 * 1 + 1 * (y 0).val = 0
                rw [(index_val t).2.2.2.2, hy]; rfl
    | ⟨1, _⟩ => show cc0_transform_4 (grid0.coords t) 1 * 512 + 1 * (y 1).val = (y 1).val
                rw [(index_val t).2.2.2.2]; show 0 * 512 + 1 * (y 1).val = _; omega
    | ⟨2, _⟩ => show cc0_transform_4 (grid0.coords t) 2 * 128 + 1 * (y 2).val = (y 2).val
                rw [(index_val t).2.2.2.2]; show 0 * 128 + 1 * (y 2).val = _; omega
  show tail m c t ((cfg0.win 4).xinj (grid0.coords t) y) = resultTail m c (((cfg0.win 4).blk t).view.emb y)
  rw [ha, hb]
  exact tail_apply m c t (y 1) (y 2)

/-- After the run the first result array holds `result`: the points' tiles cover it. -/
theorem final_eq (c : Dev nD) : (dats m 0 c).arrAt 3 cfg0.N = result m c :=
  (dats m 0 c).arrAt_eq_of_cover 3 _ (flushed_eq m c) fun i => by
    have h0 : (i 0).val < 1 := (i 0).isLt
    have h1 : (i 1).val < 512 := (i 1).isLt
    have h2 : (i 2).val < 12288 := (i 2).isLt
    let t : Fin cfg0.N := ⟨(i 2).val / 1536, by rw [show cfg0.N = 8 from N_0]; omega⟩
    have e2 : t.val % 8 = (i 2).val / 1536 := by show (i 2).val / 1536 % 8 = _; omega
    refine ⟨t, flush0_3 t, ?_⟩
    show i ∈ ((View.whole main_v5_0).slice (win0_3.rect t)).set
    rw [View.set_slice_whole, Rect.mem_set_unit]
    intro a
    match a with
    | ⟨0, _⟩ => show cc0_transform_3 (grid0.coords t) 0 * 1 ≤ (i 0).val ∧ (i 0).val < cc0_transform_3 (grid0.coords t) 0 * 1 + 1
                rw [(index_val t).2.2.2.1]; show 0 * 1 ≤ (i 0).val ∧ (i 0).val < 0 * 1 + 1
                omega
    | ⟨1, _⟩ => show cc0_transform_3 (grid0.coords t) 1 * 512 ≤ (i 1).val ∧ (i 1).val < cc0_transform_3 (grid0.coords t) 1 * 512 + 512
                rw [(index_val t).2.2.2.1]; show 0 * 512 ≤ (i 1).val ∧ (i 1).val < 0 * 512 + 512
                omega
    | ⟨2, _⟩ => show cc0_transform_3 (grid0.coords t) 2 * 1536 ≤ (i 2).val ∧ (i 2).val < cc0_transform_3 (grid0.coords t) 2 * 1536 + 1536
                rw [(index_val t).2.2.2.1]; show t.val % 8 * 1536 ≤ (i 2).val ∧ (i 2).val < t.val % 8 * 1536 + 1536
                rw [e2]; omega

/-- And the second holds `resultTail`: the last point's covers it. -/
theorem finalTail_eq (c : Dev nD) : (dats m 0 c).arrAt 4 cfg0.N = resultTail m c :=
  (dats m 0 c).arrAt_eq_of_cover 4 _ (flushedTail_eq m c) fun i => by
    have h0 : (i 0).val < 1 := (i 0).isLt
    have h1 : (i 1).val < 512 := (i 1).isLt
    have h2 : (i 2).val < 128 := (i 2).isLt
    let t : Fin cfg0.N := ⟨7, by rw [show cfg0.N = 8 from N_0]; decide⟩
    refine ⟨t, (flush0_4 t).mpr rfl, ?_⟩
    show i ∈ ((View.whole main_v5_1).slice (win0_4.rect t)).set
    rw [View.set_slice_whole, Rect.mem_set_unit]
    intro a
    match a with
    | ⟨0, _⟩ => show cc0_transform_4 (grid0.coords t) 0 * 1 ≤ (i 0).val ∧ (i 0).val < cc0_transform_4 (grid0.coords t) 0 * 1 + 1
                rw [(index_val t).2.2.2.2]; show 0 * 1 ≤ (i 0).val ∧ (i 0).val < 0 * 1 + 1
                omega
    | ⟨1, _⟩ => show cc0_transform_4 (grid0.coords t) 1 * 512 ≤ (i 1).val ∧ (i 1).val < cc0_transform_4 (grid0.coords t) 1 * 512 + 512
                rw [(index_val t).2.2.2.2]; show 0 * 512 ≤ (i 1).val ∧ (i 1).val < 0 * 512 + 512
                omega
    | ⟨2, _⟩ => show cc0_transform_4 (grid0.coords t) 2 * 128 ≤ (i 2).val ∧ (i 2).val < cc0_transform_4 (grid0.coords t) 2 * 128 + 128
                rw [(index_val t).2.2.2.2]; show 0 * 128 ≤ (i 2).val ∧ (i 2).val < 0 * 128 + 128; omega

/-- The run: the result arrays end at `result` and `resultTail`, the arguments as launched. -/
theorem run : θ_run defs (onTc (τ := τ) (main (F := Ideal))) ⟨m, fun _ => 0, ρ⟩ fun r => ∀ c : Dev nD,
      r.2.mem ((c : Thread nD τ).loc main_v5_0) = result m c
      ∧ r.2.mem ((c : Thread nD τ).loc main_v5_1) = resultTail m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 3).trans (final_eq m c), ((h.1 c).1 4).trans (finalTail_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_quiescent m ρ)

end Cert.Kernel5Ideal.InprojCtx

end
-- ==== Proof.InprojCtx.Equation.lean ====
/-
  The context's input projection's equation: the reference's product of the whole weights, cut into its first 12288 columns and its
  padded tail, is at every index what the kernel's two result arrays hold; so the two programs end with equal results.
-/
module

public import proofs.«01_k».proof.Defs
public import proofs.«01_k».proof.Proof.InprojCtx.Result
public import proofs.«01_k».proof.Proof.Gen.Reference5Ideal.Run

@[expose] public section

set_option maxRecDepth 16384

noncomputable section

namespace Cert.Reference5Ideal.InprojCtx

open Cert.Reference5Ideal Cert.Reference5Ideal.Gen Idealize.ShloMosaic Idealize.ShloMosaic.TcCoe Idealize.SL.Sem
open Cert.Kernel5Ideal.InprojCtx (proj projTail)
open scoped BigOperators

/-- The reference's first result at an index. -/
theorem reference_apply (h : FVec Ideal S1x512x4096 .f32) (w : FVec Ideal S4096x12352 .f32) (i : S1x512x12288.Idx) :
    (extractStridedSlice S1x512x12288 ![0, 0, 0] (Host.dotGeneral (F := Ideal) dot_S1x512x4096_S4096x12352_S1x512x12352_2_0_01_1_n_n none h w)
      slices_S1x512x12352_S1x512x12288_0_0_0 : FVec Ideal S1x512x12288 .f32) i = proj h w i := by
  idx_vars i
  obtain rfl : i0 = 0 := Subsingleton.elim i0 0
  pointwise [proj]

/-- The reference's second result at an index. -/
theorem referenceTail_apply (h : FVec Ideal S1x512x4096 .f32) (w : FVec Ideal S4096x12352 .f32) (i : S1x512x128.Idx) :
    (pad S1x512x128 ![0, 0, 0] ![0, 0, 64] ![0, 0, 0] (extractStridedSlice S1x512x64 ![0, 0, 12288]
        (Host.dotGeneral (F := Ideal) dot_S1x512x4096_S4096x12352_S1x512x12352_2_0_01_1_n_n none h w) slices_S1x512x12352_S1x512x64_0_0_12288)
      (sitofp .f32 (constantI S_ 32 0#32)) pads_S1x512x64_S1x512x128_000_000_0640 h_S_ : FVec Ideal S1x512x128 .f32) i = projTail h w i := by
  idx_vars i
  obtain rfl : i0 = 0 := Subsingleton.elim i0 0
  pointwise [projTail]
  by_cases l : i2.val < 64
  · rw [dif_pos l, dif_pos l]
  · rw [dif_neg l, dif_neg l]; exact Cert.Kernel5Ideal.InprojCtx.sitofp_zero

end Cert.Reference5Ideal.InprojCtx

namespace Cert.InprojCtx

open Idealize.ShloMosaic Idealize.ShloMosaic.TcCoe Idealize.SL.Sem

/-- The context's input projection and its reference, from equal arguments, end with equal results. -/
theorem algebraic : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => Cert.Kernel5Ideal.InprojCtx.result m c, fun c => Cert.Kernel5Ideal.InprojCtx.resultTail m c, Cert.Kernel5Ideal.InprojCtx.run m ρ, ?_⟩
  refine (θ_run Cert.Reference5Ideal.defs _ _).mono (fun r h c => ⟨(h c).1.trans ?_, (h c).2.1.trans ?_, (h c).2.2⟩) (Cert.Reference5Ideal.Value.run m' ρ')
  · obtain ⟨e0, e1⟩ := hargs c
    rw [e0, e1]
    exact funext fun i => Cert.Reference5Ideal.InprojCtx.reference_apply _ _ i
  · obtain ⟨e0, e1⟩ := hargs c
    rw [e0, e1]
    exact funext fun i => Cert.Reference5Ideal.InprojCtx.referenceTail_apply _ _ i

end Cert.InprojCtx

end
-- ==== Proof.Ada.Result.lean ====
/-
  The conditioning projection's run, read over the extended reals: its blocks at an index, the tile a point leaves, and
  the result array, which holds the projection of the gated conditioning rows at every index.
-/
module

public import proofs.«01_k».proof.Proof.Gen.Kernel6Ideal.Frame
public import Idealize.ShloMosaic.Lib.Pipeline.Value
public import Idealize.ShloMosaic.Lib.Pointwise

@[expose] public section

set_option maxRecDepth 16384

noncomputable section

namespace Cert.Kernel6Ideal.Ada

open Cert.Kernel6Ideal Cert.Kernel6Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The gate: a number times its logistic. -/
def silu (x : EReal) : EReal := x * Ideal.div 1 (1 + Ideal.exp (-x))

/-- The conditioning projection: a row's gated entries times a column of the weights, and the column's bias. -/
def ada (h : S8x4096.Idx → EReal) (w : S4096x24576.Idx → EReal) (b : S1x24576.Idx → EReal) : S8x24576.Idx → EReal :=
  fun i => (∑ e : Fin 4096, silu (h (ix2 (i 0) e)) * w (ix2 e (i 1))) + b (ix2 (0 : Fin 1) (i 1))

/-- The tile payload at an index. -/
theorem pay1_apply (h : Vec Ideal S8x4096 .f32) (w : Vec Ideal S4096x512 .f32) (b : Vec Ideal S1x512 .f32) (r : Fin 8) (l : Fin 512) :
    k0_pay1 h w b (ix2 r l) = (∑ e : Fin 4096, silu (h (ix2 r e)) * w (ix2 e l)) + b (ix2 (0 : Fin 1) l) := by
  pointwise [k0_pay1]
  simp only [silu, zero_sub]

/-- The windows' block indices at point `t`: column tile `t`. -/
theorem index_val : ∀ t : Fin cfg0.N, cc0_transform_0 (grid0.coords t) = ![0, 0]
    ∧ cc0_transform_1 (grid0.coords t) = ![0, t.val]
    ∧ cc0_transform_2 (grid0.coords t) = ![0, t.val]
    ∧ cc0_transform_3 (grid0.coords t) = ![0, t.val] :=
  (by decide +kernel : ∀ t : Fin grid0.N, _)

/-- The column of the result that column `l` of point `t`'s tile is. -/
def col (t : Fin cfg0.N) (l : Fin 512) : Fin 24576 :=
  ⟨512 * t.val + l.val, by have := lt_of_lt_of_eq t.isLt (show cfg0.N = 48 from N_0); omega⟩

/-- The conditioning rows' block at every point: all of them; -/
theorem iblk0_apply (c : Dev nD) (t : Fin cfg0.N) (r : Fin 8) (e : Fin 4096) :
    (iblk m c 0 t : Vec Ideal S8x4096 .f32) (ix2 r e) = m ((c : Thread nD τ).loc main_arg0) (ix2 r e) := by
  unfold iblk
  rw [View.read_apply]
  show m ((c : Thread nD τ).loc main_arg0) _ = m ((c : Thread nD τ).loc main_arg0) _
  congr 1
  funext a; apply Fin.ext
  match a with
  | ⟨0, _⟩ => show cc0_transform_0 (grid0.coords t) 0 * 8 + 1 * r.val = r.val
              rw [(index_val t).1]; show 0 * 8 + 1 * r.val = _; omega
  | ⟨1, _⟩ => show cc0_transform_0 (grid0.coords t) 1 * 4096 + 1 * e.val = e.val
              rw [(index_val t).1]; show 0 * 4096 + 1 * e.val = _; omega

/-- the weights' block: columns `512 t + l`; -/
theorem iblk1_apply (c : Dev nD) (t : Fin cfg0.N) (e : Fin 4096) (l : Fin 512) :
    (iblk m c 1 t : Vec Ideal S4096x512 .f32) (ix2 e l) = m ((c : Thread nD τ).loc main_arg1) (ix2 e (col t l)) := by
  unfold iblk
  rw [View.read_apply]
  show m ((c : Thread nD τ).loc main_arg1) _ = m ((c : Thread nD τ).loc main_arg1) _
  congr 1
  funext a; apply Fin.ext
  match a with
  | ⟨0, _⟩ => show cc0_transform_1 (grid0.coords t) 0 * 4096 + 1 * e.val = e.val
              rw [(index_val t).2.1]; show 0 * 4096 + 1 * e.val = _; omega
  | ⟨1, _⟩ => show cc0_transform_1 (grid0.coords t) 1 * 512 + 1 * l.val = 512 * t.val + l.val
              rw [(index_val t).2.1]; show t.val * 512 + 1 * l.val = _; omega

/-- and the bias's: the same columns. -/
theorem iblk2_apply (c : Dev nD) (t : Fin cfg0.N) (l : Fin 512) :
    (iblk m c 2 t : Vec Ideal S1x512 .f32) (ix2 (0 : Fin 1) l) = m ((c : Thread nD τ).loc main_arg2) (ix2 (0 : Fin 1) (col t l)) := by
  unfold iblk
  rw [View.read_apply]
  show m ((c : Thread nD τ).loc main_arg2) _ = m ((c : Thread nD τ).loc main_arg2) _
  congr 1
  funext a; apply Fin.ext
  match a with
  | ⟨0, _⟩ => show cc0_transform_2 (grid0.coords t) 0 * 1 + 1 * 0 = 0
              rw [(index_val t).2.2.1]; rfl
  | ⟨1, _⟩ => show cc0_transform_2 (grid0.coords t) 1 * 512 + 1 * l.val = 512 * t.val + l.val
              rw [(index_val t).2.2.1]; show t.val * 512 + 1 * l.val = _; omega

/-- What a point's tile of the result holds: the payload of its blocks, -/
theorem out_eq (h : Vec Ideal S8x4096 .f32) (w : Vec Ideal S4096x512 .f32) (b : Vec Ideal S1x512 .f32) (r : Fin 8) (l : Fin 512) :
    out0_3 h w b (ix2 r l) = k0_pay1 h w b (ix2 r l) := by
  have zero : (![0, 0] : Fin 2 → Nat) = fun _ => 0 := funext fun a => match a with | ⟨0, _⟩ => rfl | ⟨1, _⟩ => rfl
  unfold out0_3
  rw [View.canon_unit_zero (S := S8x512) zero, View.ld_unit_zero (S := S8x4096) zero, View.ld_unit_zero (S := S4096x512) zero,
    View.ld_unit_zero (S := S1x512) zero]

/-- which is a tile of the projection. -/
theorem out_apply (c : Dev nD) (t : Fin cfg0.N) (r : Fin 8) (l : Fin 512) :
    out0_3 (iblk m c 0 t) (iblk m c 1 t) (iblk m c 2 t) (ix2 r l)
      = ada (m ((c : Thread nD τ).loc main_arg0)) (m ((c : Thread nD τ).loc main_arg1)) (m ((c : Thread nD τ).loc main_arg2))
          (ix2 r (col t l)) := by
  refine (out_eq _ _ _ r l).trans ((pay1_apply _ _ _ r l).trans ?_)
  exact congrArg₂ (fun a b : EReal => a + b)
    (Finset.sum_congr rfl fun e _ => congrArg₂ (fun a b : EReal => silu a * b) (iblk0_apply m c t r e) (iblk1_apply m c t e l))
    (iblk2_apply m c t l)

/-- The result array's contents. -/
def result (c : Dev nD) : Buf (Elt Ideal) ((c : Thread nD τ).loc main_v0) :=
  ada (m ((c : Thread nD τ).loc main_arg0)) (m ((c : Thread nD τ).loc main_arg1)) (m ((c : Thread nD τ).loc main_arg2))

/-- What a point writes back is its block of `result`. -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext y
  rw [View.read_apply]
  have ha : (cfg0.win 3).xinj (grid0.coords t) y = ix2 (y 0) (y 1) := by
    funext a; apply Fin.ext
    match a with
    | ⟨0, _⟩ => rfl
    | ⟨1, _⟩ => rfl
  have hb : ((cfg0.win 3).blk t).view.emb y = ix2 (y 0) (col t (y 1)) := by
    funext a; apply Fin.ext
    match a with
    | ⟨0, _⟩ => show cc0_transform_3 (grid0.coords t) 0 * 8 + 1 * (y 0).val = (y 0).val
                rw [(index_val t).2.2.2]; show 0 * 8 + 1 * (y 0).val = _; omega
    | ⟨1, _⟩ => show cc0_transform_3 (grid0.coords t) 1 * 512 + 1 * (y 1).val = 512 * t.val + (y 1).val
                rw [(index_val t).2.2.2]; show t.val * 512 + 1 * (y 1).val = _; omega
  show out0_3 (iblk m c 0 t) (iblk m c 1 t) (iblk m c 2 t) ((cfg0.win 3).xinj (grid0.coords t) y) = result m c (((cfg0.win 3).blk t).view.emb y)
  rw [ha, hb]
  exact out_apply m c t (y 0) (y 1)

/-- After the run the result array holds `result`: the points' tiles cover it. -/
theorem final_eq (c : Dev nD) : (dats m 0 c).arrAt 3 cfg0.N = result m c :=
  (dats m 0 c).arrAt_eq_of_cover 3 _ (flushed_eq m c) fun i => by
    have h0 : (i 0).val < 8 := (i 0).isLt
    have h1 : (i 1).val < 24576 := (i 1).isLt
    let t : Fin cfg0.N := ⟨(i 1).val / 512, by rw [show cfg0.N = 48 from N_0]; omega⟩
    refine ⟨t, flush0_3 t, ?_⟩
    show i ∈ ((View.whole main_v0).slice (win0_3.rect t)).set
    rw [View.set_slice_whole, Rect.mem_set_unit]
    intro a
    match a with
    | ⟨0, _⟩ => show cc0_transform_3 (grid0.coords t) 0 * 8 ≤ (i 0).val ∧ (i 0).val < cc0_transform_3 (grid0.coords t) 0 * 8 + 8
                rw [(index_val t).2.2.2]; show 0 * 8 ≤ (i 0).val ∧ (i 0).val < 0 * 8 + 8
                omega
    | ⟨1, _⟩ => show cc0_transform_3 (grid0.coords t) 1 * 512 ≤ (i 1).val ∧ (i 1).val < cc0_transform_3 (grid0.coords t) 1 * 512 + 512
                rw [(index_val t).2.2.2]
                show (i 1).val / 512 * 512 ≤ (i 1).val ∧ (i 1).val < (i 1).val / 512 * 512 + 512
                omega

/-- The run: the result array ends at `result`, -/
theorem run_result : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h c).1 3).trans (final_eq m c)) (run_main m ρ)

/-- and the arguments as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨h.1 c, h.2 c⟩) (θ_run_and (run_result m ρ) (unchanged m ρ))

end Cert.Kernel6Ideal.Ada

end
-- ==== Proof.Ada.Equation.lean ====
/-
  The conditioning projection's equation: the reference's gated rows times the weights plus the bias are at every index
  what the kernel's result array holds; so the two programs end with equal results.
-/
module

public import proofs.«01_k».proof.Defs
public import proofs.«01_k».proof.Proof.Ada.Result
public import proofs.«01_k».proof.Proof.Gen.Reference6Ideal.Run

@[expose] public section

set_option maxRecDepth 16384

noncomputable section

namespace Cert.Reference6Ideal.Ada

open Cert.Reference6Ideal Cert.Reference6Ideal.Gen Idealize.ShloMosaic Idealize.ShloMosaic.TcCoe Idealize.SL.Sem
open Cert.Kernel6Ideal.Ada (ada silu)
open scoped BigOperators

/-- The reference's result at an index. -/
theorem reference_apply (h : FVec Ideal S8x4096 .f32) (w : FVec Ideal S4096x24576 .f32) (b : FVec Ideal S1x24576 .f32) (i : S8x24576.Idx) :
    (addf (Host.dotGeneral (F := Ideal) dot_S8x4096_S4096x24576_S8x24576_1_0_0_1_n_n none
        (mulf h (Host.divf (broadcastInDim S8x4096 ![] bcast_S_S8x4096 (constant S_ .f32 0x3F800000#32))
          (addf (broadcastInDim S8x4096 ![] bcast_S_S8x4096 (constant S_ .f32 0x3F800000#32)) (Host.exp (Host.negf h))))) w)
      (broadcastInDim S8x24576 ![0, 1] bcast_S1x24576_S8x24576_0_1 b) : FVec Ideal S8x24576 .f32) i = ada h w b i := by
  idx_vars i
  pointwise [ada, silu]

end Cert.Reference6Ideal.Ada

namespace Cert.Ada

open Idealize.ShloMosaic Idealize.ShloMosaic.TcCoe Idealize.SL.Sem

/-- The conditioning projection and its reference, from equal arguments, end with equal results. -/
theorem algebraic : Cert.algebraic_Kernel6Ideal_Reference6Ideal (hKernel6Ideal := Cert.Kernel6Ideal.Gen.facts)
    (hReference6Ideal := Cert.Reference6Ideal.Gen.facts) := by
  intro m ρ m' ρ' _ hargs
  refine ⟨fun c => Cert.Kernel6Ideal.Ada.result m c, Cert.Kernel6Ideal.Ada.run m ρ, ?_⟩
  refine (θ_run Cert.Reference6Ideal.defs _ _).mono (fun r h c => ⟨(h c).1.trans ?_, (h c).2⟩) (Cert.Reference6Ideal.Value.run m' ρ')
  obtain ⟨e0, e1, e2⟩ := hargs c
  rw [e0, e1, e2]
  exact funext fun i => Cert.Reference6Ideal.Ada.reference_apply _ _ _ i

end Cert.Ada

end
-- ==== Proof.Prenorm.Tile.lean ====
/-
  The pre-mix norm's tile at one point: the sixteen trips' stores, read back at an index, are the payload of the sixteen
  rows that the index is in.
-/
module

public import proofs.«01_k».proof.Proof.Gen.Kernel7Ideal.Frame
public import Idealize.ShloMosaic.Lib.Pointwise

@[expose] public section

set_option maxRecDepth 16384

noncomputable section

namespace Cert.Kernel7Ideal.Prenorm

open Cert.Kernel7Ideal Cert.Kernel7Ideal.Gen Idealize.ShloMosaic Idealize.ShloMosaic.TcCoe Idealize.SL.Sem

variable {F : FTy → Type} [FloatOps F]

variable (c : Dev nD) (i : grid0.Coords)
    (arg2 : Memref sig .tc .vmem S1x256x4096 .f32) (harg2 : arg2.IsWhole) (arg3 : Memref sig .tc .vmem S1x4096 .f32) (harg3 : arg3.IsWhole)
    (arg4 : Memref sig .tc .vmem S1x1x4096 .f32) (harg4 : arg4.IsWhole) (arg5 : Memref sig .tc .vmem S1x1x4096 .f32) (harg5 : arg5.IsWhole)
    (arg6 : Memref sig .tc .vmem S1x256x4096 .bf16) (harg6 : arg6.IsWhole)

theorem trips1 : k0_t1_loop.trips = 16 := by decide +kernel

/-- Sixteen rows of a block. -/
abbrev rows (k : Fin 16) : Rect S1x256x4096 := Rect.unit (s := S1x256x4096) ![0, 16 * k.val, 0] S1x16x4096.size (fun a => by
  have := k.isLt
  match a with
  | ⟨0, _⟩ => show 0 + 1 ≤ 1; omega
  | ⟨1, _⟩ => show 16 * k.val + 16 ≤ 256; omega
  | ⟨2, _⟩ => show 0 + 4096 ≤ 4096; omega)

/-- An entry of a point's tile: the payload of the sixteen rows it is in. -/
def tileAt (x : Vec F S1x256x4096 .f32) (g : Vec F S1x4096 .f32) (sh sc : Vec F S1x1x4096 .f32) (r : Fin 256) (e : Fin 4096) : Elt F .bf16 :=
  k0_pay1 g sc sh (View.ld x (rows ⟨r.val / 16, by omega⟩)) (ix3 (0 : Fin 1) (⟨r.val % 16, Nat.mod_lt _ (by decide)⟩ : Fin 16) e)

/-- The one piece a trip writes. -/
theorem trip_piece (g : Vec F S1x4096 .f32) (sc sh : Vec F S1x1x4096 .f32) (X : arg2.view.ty.Contents (Elt F)) (k : Fin k0_t1_loop.trips) :
    tripL_k0_t1 (F := F) Variants.none c none i arg2 harg2 arg3 harg3 arg4 harg4 arg5 harg5 arg6 harg6 g sc sh X k
      = [⟨Rect.unit (s := S1x256x4096) (k0_off1 k) S1x16x4096.size (k0_off1_inb k),
          k0_pay1 g sc sh (View.readAt (Elt F) arg2.view (Rect.unit (s := S1x256x4096) (k0_off1 k) S1x16x4096.size (k0_off1_inb k)).toLoadRect X)⟩] := by
  unfold tripL_k0_t1 trip_k0_t1
  rfl

/-- The rows a trip loads. -/
theorem trip_load (x : Vec F S1x256x4096 .f32) (k : Fin k0_t1_loop.trips) :
    View.readAt (Elt F) arg2.view (Rect.unit (s := S1x256x4096) (k0_off1 k) S1x16x4096.size (k0_off1_inb k)).toLoadRect (harg2.unread x)
      = View.ld x (rows ⟨k.val, lt_of_lt_of_eq k.isLt trips1⟩) := by
  rw [View.readAt_eq_ld, harg2.read_unread]
  funext y
  show x _ = x _
  congr 1
  funext a; apply Fin.ext
  exact congrArg (· + 1 * (y a).val) (congrFun (k0_off1_eq k) a)

/-- After `n` trips the first `16 n` rows hold the tile's entries, whatever the buffer they are read through. -/
theorem trips_read (g : Vec F S1x4096 .f32) (sc sh : Vec F S1x1x4096 .f32) (x : Vec F S1x256x4096 .f32)
    (v : View sig .tc .vmem S1x256x4096 .bf16) (f : v.ty.Contents (Elt F)) (r : Fin 256) (e : Fin 4096) :
    ∀ n : ℕ, n ≤ 16 → r.val < 16 * n →
      v.read (Elt F) (v.writes (Elt F) f
        (pb_k0_t1 (F := F) Variants.none c none i arg2 harg2 arg3 harg3 arg4 harg4 arg5 harg5 arg6 harg6 g sc sh (harg2.unread x) n)) (ix3 (0 : Fin 1) r e)
        = tileAt x g sh sc r e
  | 0, _, hr => absurd hr (by omega)
  | n + 1, hn, hr => by
    have hk : n < k0_t1_loop.trips := lt_of_lt_of_eq (by omega) trips1.symm
    rw [show n + 1 = (⟨n, hk⟩ : Fin k0_t1_loop.trips).val + 1 from rfl, pb_k0_t1_succ, trip_piece, trip_load]
    by_cases h : r.val < 16 * n
    · refine (View.read_writes_cons_miss_of_axis v f _ _ _ (1 : Fin 3) (16 * n) 16 (congrFun (k0_off1_eq ⟨n, hk⟩) 1) rfl rfl (.inl h)).trans ?_
      exact trips_read g sc sh x v f r e n (by omega) h
    · have e1 : r.val / 16 = n := by omega
      refine (View.read_writes_cons_hit_of_coords v f _ _ _ (ix3 (0 : Fin 1) (⟨r.val % 16, Nat.mod_lt _ (by decide)⟩ : Fin 16) e) _ fun a => ?_).trans ?_
      · match a with
        | ⟨0, _⟩ => exact (congrArg (· + 1 * 0) (congrFun (k0_off1_eq ⟨n, hk⟩) 0)).symm
        | ⟨1, _⟩ => refine Eq.trans ?_ (congrArg (· + 1 * (r.val % 16)) (congrFun (k0_off1_eq ⟨n, hk⟩) 1)).symm
                    show r.val = 16 * n + 1 * (r.val % 16); omega
        | ⟨2, _⟩ => refine Eq.trans ?_ (congrArg (· + 1 * e.val) (congrFun (k0_off1_eq ⟨n, hk⟩) 2)).symm
                    show e.val = 0 + 1 * e.val; omega
      · exact congrArg (fun k : Fin 16 => k0_pay1 g sc sh (View.ld x (rows k)) (ix3 (0 : Fin 1) (⟨r.val % 16, Nat.mod_lt _ (by decide)⟩ : Fin 16) e))
          (Fin.ext e1.symm)

/-- What is loaded whole from a buffer is what the buffer was given. -/
theorem load_whole {s : Shape} {e : EltTy} (a : Memref sig .tc .vmem s e) (ha : a.IsWhole) (x : s.Idx → Elt F e) (off : Fin s.rank → ℕ)
    (hoff : ∀ d, off d = 0) (hin : ∀ d, off d + s.size d ≤ s.size d) :
    View.readAt (Elt F) a.view (Rect.unit off s.size hin).toLoadRect (ha.unread x) = x := by
  rw [View.readAt_eq_ld, ha.read_unread]
  funext y
  show x _ = x y
  congr 1
  funext d; apply Fin.ext
  show off d + 1 * (y d).val = (y d).val
  rw [hoff d]; omega

/-- The body's pieces are its sixteen trips'. -/
theorem body_pieces (x : Vec F S1x256x4096 .f32) (g : Vec F S1x4096 .f32) (sh sc : Vec F S1x1x4096 .f32) :
    (kernelRun0_A c i arg2 harg2 arg3 harg3 arg4 harg4 arg5 harg5 arg6 harg6 x g sh sc).1
      = pb_k0_t1 (F := F) Variants.none c none i arg2 harg2 arg3 harg3 arg4 harg4 arg5 harg5 arg6 harg6
          (View.readAt (Elt F) arg3.view (Rect.unit (s := S1x4096) ![0, 0] S1x4096.size inb_S1x4096_S1x4096_0_0).toLoadRect (harg3.unread g))
          (View.readAt (Elt F) arg5.view (Rect.unit (s := S1x1x4096) ![0, 0, 0] S1x1x4096.size inb_S1x1x4096_S1x1x4096_0_0_0).toLoadRect (harg5.unread sc))
          (View.readAt (Elt F) arg4.view (Rect.unit (s := S1x1x4096) ![0, 0, 0] S1x1x4096.size inb_S1x1x4096_S1x1x4096_0_0_0).toLoadRect (harg4.unread sh))
          (harg2.unread x) k0_t1_loop.trips := by
  unfold kernelRun0_A
  rfl

/-- What the body leaves in the result's buffer, at an index. -/
theorem out_apply (x : Vec F S1x256x4096 .f32) (g : Vec F S1x4096 .f32) (sh sc : Vec F S1x1x4096 .f32) (r : Fin 256) (e : Fin 4096) :
    out0_A_4 c i arg2 harg2 arg3 harg3 arg4 harg4 arg5 harg5 arg6 harg6 x g sh sc (ix3 (0 : Fin 1) r e) = tileAt x g sh sc r e := by
  unfold out0_A_4
  rw [body_pieces, trips1, load_whole arg3 harg3 g _ (by decide), load_whole arg5 harg5 sc _ (by decide), load_whole arg4 harg4 sh _ (by decide)]
  exact trips_read c i arg2 harg2 arg3 harg3 arg4 harg4 arg5 harg5 arg6 harg6 g sc sh x VO0_4 _ r e 16 le_rfl (by omega)

end Cert.Kernel7Ideal.Prenorm

end
-- ==== Proof.Prenorm.Result.lean ====
/-
  The pre-mix norm's run, read over the extended reals: its blocks at an index, the tile a point leaves, and the result
  array, which holds the normed and modulated rows.
-/
module

public import proofs.«01_k».proof.Proof.Prenorm.Tile
public import Idealize.ShloMosaic.Lib.Pipeline.Value

@[expose] public section

set_option maxRecDepth 16384

noncomputable section

namespace Cert.Kernel7Ideal.Prenorm

open Cert.Kernel7Ideal Cert.Kernel7Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- One over the root of a row's mean square, the small constant added to the mean. -/
def invRms (x : Fin 4096 → EReal) : EReal :=
  Ideal.rsqrt (Ideal.div (∑ k : Fin 4096, x k * x k) (Ideal.ofBits .f32 0x45800000#32) + Ideal.ofBits .f32 0x358637BD#32)

/-- The pre-mix norm: a row normed and weighted, scaled by one plus the batch's scale and shifted by its shift. -/
def normed (x : S2x8192x4096.Idx → EReal) (g : S1x4096.Idx → EReal) (sh sc : S2x1x4096.Idx → EReal) : S2x8192x4096.Idx → EReal :=
  fun i => x i * invRms (fun k => x (ix3 (i 0) (i 1) k)) * g (ix2 (0 : Fin 1) (i 2)) * (1 + sc (ix3 (i 0) (0 : Fin 1) (i 2)))
    + sh (ix3 (i 0) (0 : Fin 1) (i 2))

/-- A trip's payload at an index. -/
theorem pay1_apply (g : Vec Ideal S1x4096 .f32) (sc sh : Vec Ideal S1x1x4096 .f32) (x : Vec Ideal S1x16x4096 .f32) (r : Fin 16) (e : Fin 4096) :
    k0_pay1 g sc sh x (ix3 (0 : Fin 1) r e) = x (ix3 (0 : Fin 1) r e) * invRms (fun k => x (ix3 (0 : Fin 1) r k)) * g (ix2 (0 : Fin 1) e)
      * (1 + sc (ix3 (0 : Fin 1) (0 : Fin 1) e)) + sh (ix3 (0 : Fin 1) (0 : Fin 1) e) := by
  pointwise [k0_pay1, invRms]
  simp only [mul_assoc]

/-- A row of a trip's rows is a row of the block. -/
theorem ld_rows (x : Vec Ideal S1x256x4096 .f32) (r : Fin 256) (e : Fin 4096) :
    View.ld x (rows ⟨r.val / 16, by omega⟩) (ix3 (0 : Fin 1) (⟨r.val % 16, Nat.mod_lt _ (by decide)⟩ : Fin 16) e) = x (ix3 (0 : Fin 1) r e) := by
  show x _ = x _
  congr 1
  funext a; apply Fin.ext
  match a with
  | ⟨0, _⟩ => rfl
  | ⟨1, _⟩ => show 16 * (r.val / 16) + 1 * (r.val % 16) = r.val; omega
  | ⟨2, _⟩ => show 0 + 1 * e.val = e.val; omega

/-- The windows' block indices at point `t`: batch `t / 32`, row block `t % 32`. -/
theorem index_val : ∀ t : Fin cfg0.N, cc0_transform_0 (grid0.coords t) = ![t.val / 32, t.val % 32, 0]
    ∧ cc0_transform_1 (grid0.coords t) = ![0, 0]
    ∧ cc0_transform_2 (grid0.coords t) = ![t.val / 32, 0, 0]
    ∧ cc0_transform_3 (grid0.coords t) = ![t.val / 32, 0, 0]
    ∧ cc0_transform_4 (grid0.coords t) = ![t.val / 32, t.val % 32, 0] :=
  (by decide +kernel : ∀ t : Fin grid0.N, _)

/-- The batch that point `t` is in, -/
def batch (t : Fin cfg0.N) : Fin 2 := ⟨t.val / 32, by have := lt_of_lt_of_eq t.isLt (show cfg0.N = 64 from N_0); omega⟩

/-- and the row `r` of its row block. -/
def row (t : Fin cfg0.N) (r : Fin 256) : Fin 8192 := ⟨256 * (t.val % 32) + r.val, by omega⟩

/-- The rows' block at point `t`; -/
theorem iblk0_apply (c : Dev nD) (t : Fin cfg0.N) (r : Fin 256) (e : Fin 4096) :
    (iblk m c 0 t : Vec Ideal S1x256x4096 .f32) (ix3 (0 : Fin 1) r e) = m ((c : Thread nD τ).loc main_arg0) (ix3 (batch t) (row t r) e) := by
  unfold iblk
  rw [View.read_apply]
  show m ((c : Thread nD τ).loc main_arg0) _ = m ((c : Thread nD τ).loc main_arg0) _
  congr 1
  funext a; apply Fin.ext
  match a with
  | ⟨0, _⟩ => show cc0_transform_0 (grid0.coords t) 0 * 1 + 1 * 0 = t.val / 32
              rw [(index_val t).1]; show t.val / 32 * 1 + 1 * 0 = _; omega
  | ⟨1, _⟩ => show cc0_transform_0 (grid0.coords t) 1 * 256 + 1 * r.val = 256 * (t.val % 32) + r.val
              rw [(index_val t).1]; show t.val % 32 * 256 + 1 * r.val = _; omega
  | ⟨2, _⟩ => show cc0_transform_0 (grid0.coords t) 2 * 4096 + 1 * e.val = e.val
              rw [(index_val t).1]; show 0 * 4096 + 1 * e.val = _; omega

/-- the norm's weights: all of them at every point; -/
theorem iblk1_apply (c : Dev nD) (t : Fin cfg0.N) (e : Fin 4096) :
    (iblk m c 1 t : Vec Ideal S1x4096 .f32) (ix2 (0 : Fin 1) e) = m ((c : Thread nD τ).loc main_arg1) (ix2 (0 : Fin 1) e) := by
  unfold iblk
  rw [View.read_apply]
  show m ((c : Thread nD τ).loc main_arg1) _ = m ((c : Thread nD τ).loc main_arg1) _
  congr 1
  funext a; apply Fin.ext
  match a with
  | ⟨0, _⟩ => show cc0_transform_1 (grid0.coords t) 0 * 1 + 1 * 0 = 0
              rw [(index_val t).2.1]; rfl
  | ⟨1, _⟩ => show cc0_transform_1 (grid0.coords t) 1 * 4096 + 1 * e.val = e.val
              rw [(index_val t).2.1]; show 0 * 4096 + 1 * e.val = _; omega

/-- the batch's shift; -/
theorem iblk2_apply (c : Dev nD) (t : Fin cfg0.N) (e : Fin 4096) :
    (iblk m c 2 t : Vec Ideal S1x1x4096 .f32) (ix3 (0 : Fin 1) (0 : Fin 1) e) = m ((c : Thread nD τ).loc main_arg2) (ix3 (batch t) (0 : Fin 1) e) := by
  unfold iblk
  rw [View.read_apply]
  show m ((c : Thread nD τ).loc main_arg2) _ = m ((c : Thread nD τ).loc main_arg2) _
  congr 1
  funext a; apply Fin.ext
  match a with
  | ⟨0, _⟩ => show cc0_transform_2 (grid0.coords t) 0 * 1 + 1 * 0 = t.val / 32
              rw [(index_val t).2.2.1]; show t.val / 32 * 1 + 1 * 0 = _; omega
  | ⟨1, _⟩ => show cc0_transform_2 (grid0.coords t) 1 * 1 + 1 * 0 = 0
              rw [(index_val t).2.2.1]; rfl
  | ⟨2, _⟩ => show cc0_transform_2 (grid0.coords t) 2 * 4096 + 1 * e.val = e.val
              rw [(index_val t).2.2.1]; show 0 * 4096 + 1 * e.val = _; omega

/-- and the batch's scale. -/
theorem iblk3_apply (c : Dev nD) (t : Fin cfg0.N) (e : Fin 4096) :
    (iblk m c 3 t : Vec Ideal S1x1x4096 .f32) (ix3 (0 : Fin 1) (0 : Fin 1) e) = m ((c : Thread nD τ).loc main_arg3) (ix3 (batch t) (0 : Fin 1) e) := by
  unfold iblk
  rw [View.read_apply]
  show m ((c : Thread nD τ).loc main_arg3) _ = m ((c : Thread nD τ).loc main_arg3) _
  congr 1
  funext a; apply Fin.ext
  match a with
  | ⟨0, _⟩ => show cc0_transform_3 (grid0.coords t) 0 * 1 + 1 * 0 = t.val / 32
              rw [(index_val t).2.2.2.1]; show t.val / 32 * 1 + 1 * 0 = _; omega
  | ⟨1, _⟩ => show cc0_transform_3 (grid0.coords t) 1 * 1 + 1 * 0 = 0
              rw [(index_val t).2.2.2.1]; rfl
  | ⟨2, _⟩ => show cc0_transform_3 (grid0.coords t) 2 * 4096 + 1 * e.val = e.val
              rw [(index_val t).2.2.2.1]; show 0 * 4096 + 1 * e.val = _; omega

/-- The result array's contents. -/
def result (c : Dev nD) : Buf (Elt Ideal) ((c : Thread nD τ).loc main_v0) :=
  normed (m ((c : Thread nD τ).loc main_arg0)) (m ((c : Thread nD τ).loc main_arg1)) (m ((c : Thread nD τ).loc main_arg2))
    (m ((c : Thread nD τ).loc main_arg3))

/-- The tile that point `t` leaves is a tile of the result. -/
theorem tile_apply (c : Dev nD) (t : Fin cfg0.N) (r : Fin 256) (e : Fin 4096) :
    outsAt0 m c t (ix3 (0 : Fin 1) r e) = result m c (ix3 (batch t) (row t r) e) := by
  unfold outsAt0
  refine (out_apply c _ _ _ _ _ _ _ _ _ _ _ _ _ _ _ r e).trans ?_
  unfold tileAt
  refine (pay1_apply _ _ _ _ _ e).trans ?_
  rw [ld_rows _ r e, show (fun k => View.ld (iblk m c 0 t : Vec Ideal S1x256x4096 .f32) (rows ⟨r.val / 16, by omega⟩)
      (ix3 (0 : Fin 1) (⟨r.val % 16, Nat.mod_lt _ (by decide)⟩ : Fin 16) k)) = fun k => m ((c : Thread nD τ).loc main_arg0) (ix3 (batch t) (row t r) k)
    from funext fun k => (ld_rows _ r k).trans (iblk0_apply m c t r k), iblk0_apply m c t r e, iblk1_apply m c t e, iblk2_apply m c t e, iblk3_apply m c t e]
  rfl

/-- What a point writes back is its block of `result`. -/
theorem flushed_eq (c : Dev nD) (t : Fin cfg0.N) (hf : (cfg0.win 4).flush t = true) :
    (dats m 0 c).flushed 4 t = ((cfg0.win 4).blk t).view.read (Elt Ideal) (result m c) := by
  show (cfg0.win 4).cut (grid0.coords t) ((dats m 0 c).after 4 t) = _
  rw [after0_4]
  funext y
  rw [View.read_apply]
  have hy : (y 0).val = 0 := by have : (y 0).val < 1 := (y 0).isLt; omega
  have ha : (cfg0.win 4).xinj (grid0.coords t) y = ix3 (0 : Fin 1) (y 1) (y 2) := by
    funext a; apply Fin.ext
    match a with
    | ⟨0, _⟩ => exact hy
    | ⟨1, _⟩ => rfl
    | ⟨2, _⟩ => rfl
  have hb : ((cfg0.win 4).blk t).view.emb y = ix3 (batch t) (row t (y 1)) (y 2) := by
    funext a; apply Fin.ext
    match a with
    | ⟨0, _⟩ => show cc0_transform_4 (grid0.coords t) 0 * 1 + 1 * (y 0).val = t.val / 32
                rw [(index_val t).2.2.2.2, hy]; show t.val / 32 * 1 + 1 * 0 = _; omega
    | ⟨1, _⟩ => show cc0_transform_4 (grid0.coords t) 1 * 256 + 1 * (y 1).val = 256 * (t.val % 32) + (y 1).val
                rw [(index_val t).2.2.2.2]; show t.val % 32 * 256 + 1 * (y 1).val = _; omega
    | ⟨2, _⟩ => show cc0_transform_4 (grid0.coords t) 2 * 4096 + 1 * (y 2).val = (y 2).val
                rw [(index_val t).2.2.2.2]; show 0 * 4096 + 1 * (y 2).val = _; omega
  show outsAt0 m c t ((cfg0.win 4).xinj (grid0.coords t) y) = result m c (((cfg0.win 4).blk t).view.emb y)
  rw [ha, hb]
  exact tile_apply m c t (y 1) (y 2)

/-- After the run the result array holds `result`: the points' tiles cover it. -/
theorem final_eq (c : Dev nD) : (dats m 0 c).arrAt 4 cfg0.N = result m c :=
  (dats m 0 c).arrAt_eq_of_cover 4 _ (flushed_eq m c) fun i => by
    have h0 : (i 0).val < 2 := (i 0).isLt
    have h1 : (i 1).val < 8192 := (i 1).isLt
    have h2 : (i 2).val < 4096 := (i 2).isLt
    let t : Fin cfg0.N := ⟨32 * (i 0).val + (i 1).val / 256, by rw [show cfg0.N = 64 from N_0]; omega⟩
    have e0 : t.val / 32 = (i 0).val := by show (32 * (i 0).val + (i 1).val / 256) / 32 = _; omega
    have e1 : t.val % 32 = (i 1).val / 256 := by show (32 * (i 0).val + (i 1).val / 256) % 32 = _; omega
    refine ⟨t, flush0_4 t, ?_⟩
    show i ∈ ((View.whole main_v0).slice (win0_4.rect t)).set
    rw [View.set_slice_whole, Rect.mem_set_unit]
    intro a
    match a with
    | ⟨0, _⟩ => show cc0_transform_4 (grid0.coords t) 0 * 1 ≤ (i 0).val ∧ (i 0).val < cc0_transform_4 (grid0.coords t) 0 * 1 + 1
                rw [(index_val t).2.2.2.2]; show t.val / 32 * 1 ≤ (i 0).val ∧ (i 0).val < t.val / 32 * 1 + 1
                rw [e0]; omega
    | ⟨1, _⟩ => show cc0_transform_4 (grid0.coords t) 1 * 256 ≤ (i 1).val ∧ (i 1).val < cc0_transform_4 (grid0.coords t) 1 * 256 + 256
                rw [(index_val t).2.2.2.2]; show t.val % 32 * 256 ≤ (i 1).val ∧ (i 1).val < t.val % 32 * 256 + 256
                rw [e1]; omega
    | ⟨2, _⟩ => show cc0_transform_4 (grid0.coords t) 2 * 4096 ≤ (i 2).val ∧ (i 2).val < cc0_transform_4 (grid0.coords t) 2 * 4096 + 4096
                rw [(index_val t).2.2.2.2]; show 0 * 4096 ≤ (i 2).val ∧ (i 2).val < 0 * 4096 + 4096
                omega

/-- The run: the result array ends at `result`, -/
theorem run_result : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h c).1 4).trans (final_eq m c)) (run_main m ρ)

/-- and the arguments as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨h.1 c, h.2 c⟩) (θ_run_and (run_result m ρ) (unchanged m ρ))

end Cert.Kernel7Ideal.Prenorm

end
-- ==== Proof.Prenorm.Equation.lean ====
/-
  The pre-mix norm's equation: the reference's normed and modulated rows are at every index what the kernel's result
  array holds; so the two programs end with equal results.
-/
module

public import proofs.«01_k».proof.Defs
public import proofs.«01_k».proof.Proof.Prenorm.Result
public import proofs.«01_k».proof.Proof.Gen.Reference7Ideal.Run

@[expose] public section

set_option maxRecDepth 16384

noncomputable section

namespace Cert.Reference7Ideal.Prenorm

open Cert.Reference7Ideal Cert.Reference7Ideal.Gen Idealize.ShloMosaic Idealize.ShloMosaic.TcCoe Idealize.SL.Sem
open Cert.Kernel7Ideal.Prenorm (normed invRms)
open scoped BigOperators

/-- The reference's result at an index. -/
theorem reference_apply (x : FVec Ideal S2x8192x4096 .f32) (g : FVec Ideal S1x4096 .f32) (sh sc : FVec Ideal S2x1x4096 .f32) (i : S2x8192x4096.Idx) :
    (truncf .bf16 (addf (mulf (mulf (mulf x (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf x x) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![1, 2] bcast_S1x4096_S1x1x4096_1_2 g))) (broadcastInDim S2x8192x4096 ![0, 1, 2] bcast_S2x1x4096_S2x8192x4096_0_1_2 (addf (broadcastInDim S2x1x4096 ![] bcast_S_S2x1x4096 (constant S_ .f32 0x3F800000#32)) sc))) (broadcastInDim S2x8192x4096 ![0, 1, 2] bcast_S2x1x4096_S2x8192x4096_0_1_2 sh)) bitsLt_bf16_f32
      : FVec Ideal S2x8192x4096 .bf16) i = normed x g sh sc i := by
  idx_vars i
  pointwise [normed, invRms]

end Cert.Reference7Ideal.Prenorm

namespace Cert.Prenorm

open Idealize.ShloMosaic Idealize.ShloMosaic.TcCoe Idealize.SL.Sem

/-- The pre-mix norm and its reference, from equal arguments, end with equal results. -/
theorem algebraic : Cert.algebraic_Kernel7Ideal_Reference7Ideal (hKernel7Ideal := Cert.Kernel7Ideal.Gen.facts)
    (hReference7Ideal := Cert.Reference7Ideal.Gen.facts) := by
  intro m ρ m' ρ' _ hargs
  refine ⟨fun c => Cert.Kernel7Ideal.Prenorm.result m c, Cert.Kernel7Ideal.Prenorm.run m ρ, ?_⟩
  refine (θ_run Cert.Reference7Ideal.defs _ _).mono (fun r h c => ⟨(h c).1.trans ?_, (h c).2⟩) (Cert.Reference7Ideal.Value.run m' ρ')
  obtain ⟨e0, e1, e2, e3⟩ := hargs c
  rw [e0, e1, e2, e3]
  exact funext fun i => Cert.Reference7Ideal.Prenorm.reference_apply _ _ _ _ i

end Cert.Prenorm

end
-- ==== Proof.PrenormCtx.Tile.lean ====
/-
  The context's pre-mix norm's tile at one point: the sixteen trips' stores, read back at an index, are the payload of the sixteen
  rows that the index is in.
-/
module

public import proofs.«01_k».proof.Proof.Gen.Kernel8Ideal.Frame
public import Idealize.ShloMosaic.Lib.Pointwise

@[expose] public section

set_option maxRecDepth 16384

noncomputable section

namespace Cert.Kernel8Ideal.PrenormCtx

open Cert.Kernel8Ideal Cert.Kernel8Ideal.Gen Idealize.ShloMosaic Idealize.ShloMosaic.TcCoe Idealize.SL.Sem

variable {F : FTy → Type} [FloatOps F]

variable (c : Dev nD) (i : grid0.Coords)
    (arg2 : Memref sig .tc .vmem S1x256x4096 .f32) (harg2 : arg2.IsWhole) (arg3 : Memref sig .tc .vmem S1x4096 .f32) (harg3 : arg3.IsWhole)
    (arg4 : Memref sig .tc .vmem S1x1x4096 .f32) (harg4 : arg4.IsWhole) (arg5 : Memref sig .tc .vmem S1x1x4096 .f32) (harg5 : arg5.IsWhole)
    (arg6 : Memref sig .tc .vmem S1x256x4096 .bf16) (harg6 : arg6.IsWhole)

theorem trips1 : k0_t1_loop.trips = 16 := by decide +kernel

/-- Sixteen rows of a block. -/
abbrev rows (k : Fin 16) : Rect S1x256x4096 := Rect.unit (s := S1x256x4096) ![0, 16 * k.val, 0] S1x16x4096.size (fun a => by
  have := k.isLt
  match a with
  | ⟨0, _⟩ => show 0 + 1 ≤ 1; omega
  | ⟨1, _⟩ => show 16 * k.val + 16 ≤ 256; omega
  | ⟨2, _⟩ => show 0 + 4096 ≤ 4096; omega)

/-- An entry of a point's tile: the payload of the sixteen rows it is in. -/
def tileAt (x : Vec F S1x256x4096 .f32) (g : Vec F S1x4096 .f32) (sh sc : Vec F S1x1x4096 .f32) (r : Fin 256) (e : Fin 4096) : Elt F .bf16 :=
  k0_pay1 g sc sh (View.ld x (rows ⟨r.val / 16, by omega⟩)) (ix3 (0 : Fin 1) (⟨r.val % 16, Nat.mod_lt _ (by decide)⟩ : Fin 16) e)

/-- The one piece a trip writes. -/
theorem trip_piece (g : Vec F S1x4096 .f32) (sc sh : Vec F S1x1x4096 .f32) (X : arg2.view.ty.Contents (Elt F)) (k : Fin k0_t1_loop.trips) :
    tripL_k0_t1 (F := F) Variants.none c none i arg2 harg2 arg3 harg3 arg4 harg4 arg5 harg5 arg6 harg6 g sc sh X k
      = [⟨Rect.unit (s := S1x256x4096) (k0_off1 k) S1x16x4096.size (k0_off1_inb k),
          k0_pay1 g sc sh (View.readAt (Elt F) arg2.view (Rect.unit (s := S1x256x4096) (k0_off1 k) S1x16x4096.size (k0_off1_inb k)).toLoadRect X)⟩] := by
  unfold tripL_k0_t1 trip_k0_t1
  rfl

/-- The rows a trip loads. -/
theorem trip_load (x : Vec F S1x256x4096 .f32) (k : Fin k0_t1_loop.trips) :
    View.readAt (Elt F) arg2.view (Rect.unit (s := S1x256x4096) (k0_off1 k) S1x16x4096.size (k0_off1_inb k)).toLoadRect (harg2.unread x)
      = View.ld x (rows ⟨k.val, lt_of_lt_of_eq k.isLt trips1⟩) := by
  rw [View.readAt_eq_ld, harg2.read_unread]
  funext y
  show x _ = x _
  congr 1
  funext a; apply Fin.ext
  exact congrArg (· + 1 * (y a).val) (congrFun (k0_off1_eq k) a)

/-- After `n` trips the first `16 n` rows hold the tile's entries, whatever the buffer they are read through. -/
theorem trips_read (g : Vec F S1x4096 .f32) (sc sh : Vec F S1x1x4096 .f32) (x : Vec F S1x256x4096 .f32)
    (v : View sig .tc .vmem S1x256x4096 .bf16) (f : v.ty.Contents (Elt F)) (r : Fin 256) (e : Fin 4096) :
    ∀ n : ℕ, n ≤ 16 → r.val < 16 * n →
      v.read (Elt F) (v.writes (Elt F) f
        (pb_k0_t1 (F := F) Variants.none c none i arg2 harg2 arg3 harg3 arg4 harg4 arg5 harg5 arg6 harg6 g sc sh (harg2.unread x) n)) (ix3 (0 : Fin 1) r e)
        = tileAt x g sh sc r e
  | 0, _, hr => absurd hr (by omega)
  | n + 1, hn, hr => by
    have hk : n < k0_t1_loop.trips := lt_of_lt_of_eq (by omega) trips1.symm
    rw [show n + 1 = (⟨n, hk⟩ : Fin k0_t1_loop.trips).val + 1 from rfl, pb_k0_t1_succ, trip_piece, trip_load]
    by_cases h : r.val < 16 * n
    · refine (View.read_writes_cons_miss_of_axis v f _ _ _ (1 : Fin 3) (16 * n) 16 (congrFun (k0_off1_eq ⟨n, hk⟩) 1) rfl rfl (.inl h)).trans ?_
      exact trips_read g sc sh x v f r e n (by omega) h
    · have e1 : r.val / 16 = n := by omega
      refine (View.read_writes_cons_hit_of_coords v f _ _ _ (ix3 (0 : Fin 1) (⟨r.val % 16, Nat.mod_lt _ (by decide)⟩ : Fin 16) e) _ fun a => ?_).trans ?_
      · match a with
        | ⟨0, _⟩ => exact (congrArg (· + 1 * 0) (congrFun (k0_off1_eq ⟨n, hk⟩) 0)).symm
        | ⟨1, _⟩ => refine Eq.trans ?_ (congrArg (· + 1 * (r.val % 16)) (congrFun (k0_off1_eq ⟨n, hk⟩) 1)).symm
                    show r.val = 16 * n + 1 * (r.val % 16); omega
        | ⟨2, _⟩ => refine Eq.trans ?_ (congrArg (· + 1 * e.val) (congrFun (k0_off1_eq ⟨n, hk⟩) 2)).symm
                    show e.val = 0 + 1 * e.val; omega
      · exact congrArg (fun k : Fin 16 => k0_pay1 g sc sh (View.ld x (rows k)) (ix3 (0 : Fin 1) (⟨r.val % 16, Nat.mod_lt _ (by decide)⟩ : Fin 16) e))
          (Fin.ext e1.symm)

/-- What is loaded whole from a buffer is what the buffer was given. -/
theorem load_whole {s : Shape} {e : EltTy} (a : Memref sig .tc .vmem s e) (ha : a.IsWhole) (x : s.Idx → Elt F e) (off : Fin s.rank → ℕ)
    (hoff : ∀ d, off d = 0) (hin : ∀ d, off d + s.size d ≤ s.size d) :
    View.readAt (Elt F) a.view (Rect.unit off s.size hin).toLoadRect (ha.unread x) = x := by
  rw [View.readAt_eq_ld, ha.read_unread]
  funext y
  show x _ = x y
  congr 1
  funext d; apply Fin.ext
  show off d + 1 * (y d).val = (y d).val
  rw [hoff d]; omega

/-- The body's pieces are its sixteen trips'. -/
theorem body_pieces (x : Vec F S1x256x4096 .f32) (g : Vec F S1x4096 .f32) (sh sc : Vec F S1x1x4096 .f32) :
    (kernelRun0_A c i arg2 harg2 arg3 harg3 arg4 harg4 arg5 harg5 arg6 harg6 x g sh sc).1
      = pb_k0_t1 (F := F) Variants.none c none i arg2 harg2 arg3 harg3 arg4 harg4 arg5 harg5 arg6 harg6
          (View.readAt (Elt F) arg3.view (Rect.unit (s := S1x4096) ![0, 0] S1x4096.size inb_S1x4096_S1x4096_0_0).toLoadRect (harg3.unread g))
          (View.readAt (Elt F) arg5.view (Rect.unit (s := S1x1x4096) ![0, 0, 0] S1x1x4096.size inb_S1x1x4096_S1x1x4096_0_0_0).toLoadRect (harg5.unread sc))
          (View.readAt (Elt F) arg4.view (Rect.unit (s := S1x1x4096) ![0, 0, 0] S1x1x4096.size inb_S1x1x4096_S1x1x4096_0_0_0).toLoadRect (harg4.unread sh))
          (harg2.unread x) k0_t1_loop.trips := by
  unfold kernelRun0_A
  rfl

/-- What the body leaves in the result's buffer, at an index. -/
theorem out_apply (x : Vec F S1x256x4096 .f32) (g : Vec F S1x4096 .f32) (sh sc : Vec F S1x1x4096 .f32) (r : Fin 256) (e : Fin 4096) :
    out0_A_4 c i arg2 harg2 arg3 harg3 arg4 harg4 arg5 harg5 arg6 harg6 x g sh sc (ix3 (0 : Fin 1) r e) = tileAt x g sh sc r e := by
  unfold out0_A_4
  rw [body_pieces, trips1, load_whole arg3 harg3 g _ (by decide), load_whole arg5 harg5 sc _ (by decide), load_whole arg4 harg4 sh _ (by decide)]
  exact trips_read c i arg2 harg2 arg3 harg3 arg4 harg4 arg5 harg5 arg6 harg6 g sc sh x VO0_4 _ r e 16 le_rfl (by omega)

end Cert.Kernel8Ideal.PrenormCtx

end
-- ==== Proof.PrenormCtx.Result.lean ====
/-
  The context's pre-mix norm's run, read over the extended reals: its blocks at an index, the tile a point leaves, and the result
  array, which holds the normed and modulated rows.
-/
module

public import proofs.«01_k».proof.Proof.PrenormCtx.Tile
public import Idealize.ShloMosaic.Lib.Pipeline.Value

@[expose] public section

set_option maxRecDepth 16384

noncomputable section

namespace Cert.Kernel8Ideal.PrenormCtx

open Cert.Kernel8Ideal Cert.Kernel8Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- One over the root of a row's mean square, the small constant added to the mean. -/
def invRms (x : Fin 4096 → EReal) : EReal :=
  Ideal.rsqrt (Ideal.div (∑ k : Fin 4096, x k * x k) (Ideal.ofBits .f32 0x45800000#32) + Ideal.ofBits .f32 0x358637BD#32)

/-- The context's pre-mix norm: a row normed and weighted, scaled by one plus the context's scale and shifted by its shift. -/
def normed (x : S2x256x4096.Idx → EReal) (g : S1x4096.Idx → EReal) (sh sc : S1x1x4096.Idx → EReal) : S2x256x4096.Idx → EReal :=
  fun i => x i * invRms (fun k => x (ix3 (i 0) (i 1) k)) * g (ix2 (0 : Fin 1) (i 2)) * (1 + sc (ix3 (0 : Fin 1) (0 : Fin 1) (i 2)))
    + sh (ix3 (0 : Fin 1) (0 : Fin 1) (i 2))

/-- A trip's payload at an index. -/
theorem pay1_apply (g : Vec Ideal S1x4096 .f32) (sc sh : Vec Ideal S1x1x4096 .f32) (x : Vec Ideal S1x16x4096 .f32) (r : Fin 16) (e : Fin 4096) :
    k0_pay1 g sc sh x (ix3 (0 : Fin 1) r e) = x (ix3 (0 : Fin 1) r e) * invRms (fun k => x (ix3 (0 : Fin 1) r k)) * g (ix2 (0 : Fin 1) e)
      * (1 + sc (ix3 (0 : Fin 1) (0 : Fin 1) e)) + sh (ix3 (0 : Fin 1) (0 : Fin 1) e) := by
  pointwise [k0_pay1, invRms]
  simp only [mul_assoc]

/-- A row of a trip's rows is a row of the block. -/
theorem ld_rows (x : Vec Ideal S1x256x4096 .f32) (r : Fin 256) (e : Fin 4096) :
    View.ld x (rows ⟨r.val / 16, by omega⟩) (ix3 (0 : Fin 1) (⟨r.val % 16, Nat.mod_lt _ (by decide)⟩ : Fin 16) e) = x (ix3 (0 : Fin 1) r e) := by
  show x _ = x _
  congr 1
  funext a; apply Fin.ext
  match a with
  | ⟨0, _⟩ => rfl
  | ⟨1, _⟩ => show 16 * (r.val / 16) + 1 * (r.val % 16) = r.val; omega
  | ⟨2, _⟩ => show 0 + 1 * e.val = e.val; omega

/-- The windows' block indices at point `t`: batch `t`. -/
theorem index_val : ∀ t : Fin cfg0.N, cc0_transform_0 (grid0.coords t) = ![t.val, 0, 0]
    ∧ cc0_transform_1 (grid0.coords t) = ![0, 0]
    ∧ cc0_transform_2 (grid0.coords t) = ![0, 0, 0]
    ∧ cc0_transform_3 (grid0.coords t) = ![0, 0, 0]
    ∧ cc0_transform_4 (grid0.coords t) = ![t.val, 0, 0] :=
  (by decide +kernel : ∀ t : Fin grid0.N, _)

/-- The batch that point `t` is. -/
def batch (t : Fin cfg0.N) : Fin 2 := ⟨t.val, lt_of_lt_of_eq t.isLt (show cfg0.N = 2 from N_0)⟩

/-- The rows' block at point `t`; -/
theorem iblk0_apply (c : Dev nD) (t : Fin cfg0.N) (r : Fin 256) (e : Fin 4096) :
    (iblk m c 0 t : Vec Ideal S1x256x4096 .f32) (ix3 (0 : Fin 1) r e) = m ((c : Thread nD τ).loc main_arg0) (ix3 (batch t) r e) := by
  unfold iblk
  rw [View.read_apply]
  show m ((c : Thread nD τ).loc main_arg0) _ = m ((c : Thread nD τ).loc main_arg0) _
  congr 1
  funext a; apply Fin.ext
  match a with
  | ⟨0, _⟩ => show cc0_transform_0 (grid0.coords t) 0 * 1 + 1 * 0 = t.val
              rw [(index_val t).1]; show t.val * 1 + 1 * 0 = _; omega
  | ⟨1, _⟩ => show cc0_transform_0 (grid0.coords t) 1 * 256 + 1 * r.val = r.val
              rw [(index_val t).1]; show 0 * 256 + 1 * r.val = _; omega
  | ⟨2, _⟩ => show cc0_transform_0 (grid0.coords t) 2 * 4096 + 1 * e.val = e.val
              rw [(index_val t).1]; show 0 * 4096 + 1 * e.val = _; omega

/-- the norm's weights: all of them at every point; -/
theorem iblk1_apply (c : Dev nD) (t : Fin cfg0.N) (e : Fin 4096) :
    (iblk m c 1 t : Vec Ideal S1x4096 .f32) (ix2 (0 : Fin 1) e) = m ((c : Thread nD τ).loc main_arg1) (ix2 (0 : Fin 1) e) := by
  unfold iblk
  rw [View.read_apply]
  show m ((c : Thread nD τ).loc main_arg1) _ = m ((c : Thread nD τ).loc main_arg1) _
  congr 1
  funext a; apply Fin.ext
  match a with
  | ⟨0, _⟩ => show cc0_transform_1 (grid0.coords t) 0 * 1 + 1 * 0 = 0
              rw [(index_val t).2.1]; rfl
  | ⟨1, _⟩ => show cc0_transform_1 (grid0.coords t) 1 * 4096 + 1 * e.val = e.val
              rw [(index_val t).2.1]; show 0 * 4096 + 1 * e.val = _; omega

/-- the shift: the same at every point; -/
theorem iblk2_apply (c : Dev nD) (t : Fin cfg0.N) (e : Fin 4096) :
    (iblk m c 2 t : Vec Ideal S1x1x4096 .f32) (ix3 (0 : Fin 1) (0 : Fin 1) e) = m ((c : Thread nD τ).loc main_arg2) (ix3 (0 : Fin 1) (0 : Fin 1) e) := by
  unfold iblk
  rw [View.read_apply]
  show m ((c : Thread nD τ).loc main_arg2) _ = m ((c : Thread nD τ).loc main_arg2) _
  congr 1
  funext a; apply Fin.ext
  match a with
  | ⟨0, _⟩ => show cc0_transform_2 (grid0.coords t) 0 * 1 + 1 * 0 = 0
              rw [(index_val t).2.2.1]; rfl
  | ⟨1, _⟩ => show cc0_transform_2 (grid0.coords t) 1 * 1 + 1 * 0 = 0
              rw [(index_val t).2.2.1]; rfl
  | ⟨2, _⟩ => show cc0_transform_2 (grid0.coords t) 2 * 4096 + 1 * e.val = e.val
              rw [(index_val t).2.2.1]; show 0 * 4096 + 1 * e.val = _; omega

/-- and the scale, the same too. -/
theorem iblk3_apply (c : Dev nD) (t : Fin cfg0.N) (e : Fin 4096) :
    (iblk m c 3 t : Vec Ideal S1x1x4096 .f32) (ix3 (0 : Fin 1) (0 : Fin 1) e) = m ((c : Thread nD τ).loc main_arg3) (ix3 (0 : Fin 1) (0 : Fin 1) e) := by
  unfold iblk
  rw [View.read_apply]
  show m ((c : Thread nD τ).loc main_arg3) _ = m ((c : Thread nD τ).loc main_arg3) _
  congr 1
  funext a; apply Fin.ext
  match a with
  | ⟨0, _⟩ => show cc0_transform_3 (grid0.coords t) 0 * 1 + 1 * 0 = 0
              rw [(index_val t).2.2.2.1]; rfl
  | ⟨1, _⟩ => show cc0_transform_3 (grid0.coords t) 1 * 1 + 1 * 0 = 0
              rw [(index_val t).2.2.2.1]; rfl
  | ⟨2, _⟩ => show cc0_transform_3 (grid0.coords t) 2 * 4096 + 1 * e.val = e.val
              rw [(index_val t).2.2.2.1]; show 0 * 4096 + 1 * e.val = _; omega

/-- The result array's contents. -/
def result (c : Dev nD) : Buf (Elt Ideal) ((c : Thread nD τ).loc main_v0) :=
  normed (m ((c : Thread nD τ).loc main_arg0)) (m ((c : Thread nD τ).loc main_arg1)) (m ((c : Thread nD τ).loc main_arg2))
    (m ((c : Thread nD τ).loc main_arg3))

/-- The tile that point `t` leaves is a tile of the result. -/
theorem tile_apply (c : Dev nD) (t : Fin cfg0.N) (r : Fin 256) (e : Fin 4096) :
    outsAt0 m c t (ix3 (0 : Fin 1) r e) = result m c (ix3 (batch t) r e) := by
  unfold outsAt0
  refine (out_apply c _ _ _ _ _ _ _ _ _ _ _ _ _ _ _ r e).trans ?_
  unfold tileAt
  refine (pay1_apply _ _ _ _ _ e).trans ?_
  rw [ld_rows _ r e, show (fun k => View.ld (iblk m c 0 t : Vec Ideal S1x256x4096 .f32) (rows ⟨r.val / 16, by omega⟩)
      (ix3 (0 : Fin 1) (⟨r.val % 16, Nat.mod_lt _ (by decide)⟩ : Fin 16) k)) = fun k => m ((c : Thread nD τ).loc main_arg0) (ix3 (batch t) r k)
    from funext fun k => (ld_rows _ r k).trans (iblk0_apply m c t r k), iblk0_apply m c t r e, iblk1_apply m c t e, iblk2_apply m c t e, iblk3_apply m c t e]
  rfl

/-- What a point writes back is its block of `result`. -/
theorem flushed_eq (c : Dev nD) (t : Fin cfg0.N) (hf : (cfg0.win 4).flush t = true) :
    (dats m 0 c).flushed 4 t = ((cfg0.win 4).blk t).view.read (Elt Ideal) (result m c) := by
  show (cfg0.win 4).cut (grid0.coords t) ((dats m 0 c).after 4 t) = _
  rw [after0_4]
  funext y
  rw [View.read_apply]
  have hy : (y 0).val = 0 := by have : (y 0).val < 1 := (y 0).isLt; omega
  have ha : (cfg0.win 4).xinj (grid0.coords t) y = ix3 (0 : Fin 1) (y 1) (y 2) := by
    funext a; apply Fin.ext
    match a with
    | ⟨0, _⟩ => exact hy
    | ⟨1, _⟩ => rfl
    | ⟨2, _⟩ => rfl
  have hb : ((cfg0.win 4).blk t).view.emb y = ix3 (batch t) (y 1) (y 2) := by
    funext a; apply Fin.ext
    match a with
    | ⟨0, _⟩ => show cc0_transform_4 (grid0.coords t) 0 * 1 + 1 * (y 0).val = t.val
                rw [(index_val t).2.2.2.2, hy]; show t.val * 1 + 1 * 0 = _; omega
    | ⟨1, _⟩ => show cc0_transform_4 (grid0.coords t) 1 * 256 + 1 * (y 1).val = (y 1).val
                rw [(index_val t).2.2.2.2]; show 0 * 256 + 1 * (y 1).val = _; omega
    | ⟨2, _⟩ => show cc0_transform_4 (grid0.coords t) 2 * 4096 + 1 * (y 2).val = (y 2).val
                rw [(index_val t).2.2.2.2]; show 0 * 4096 + 1 * (y 2).val = _; omega
  show outsAt0 m c t ((cfg0.win 4).xinj (grid0.coords t) y) = result m c (((cfg0.win 4).blk t).view.emb y)
  rw [ha, hb]
  exact tile_apply m c t (y 1) (y 2)

/-- After the run the result array holds `result`: the points' tiles cover it. -/
theorem final_eq (c : Dev nD) : (dats m 0 c).arrAt 4 cfg0.N = result m c :=
  (dats m 0 c).arrAt_eq_of_cover 4 _ (flushed_eq m c) fun i => by
    have h0 : (i 0).val < 2 := (i 0).isLt
    have h1 : (i 1).val < 256 := (i 1).isLt
    have h2 : (i 2).val < 4096 := (i 2).isLt
    let t : Fin cfg0.N := ⟨(i 0).val, by rw [show cfg0.N = 2 from N_0]; omega⟩
    have e0 : t.val = (i 0).val := rfl
    refine ⟨t, flush0_4 t, ?_⟩
    show i ∈ ((View.whole main_v0).slice (win0_4.rect t)).set
    rw [View.set_slice_whole, Rect.mem_set_unit]
    intro a
    match a with
    | ⟨0, _⟩ => show cc0_transform_4 (grid0.coords t) 0 * 1 ≤ (i 0).val ∧ (i 0).val < cc0_transform_4 (grid0.coords t) 0 * 1 + 1
                rw [(index_val t).2.2.2.2]; show t.val * 1 ≤ (i 0).val ∧ (i 0).val < t.val * 1 + 1
                rw [e0]; omega
    | ⟨1, _⟩ => show cc0_transform_4 (grid0.coords t) 1 * 256 ≤ (i 1).val ∧ (i 1).val < cc0_transform_4 (grid0.coords t) 1 * 256 + 256
                rw [(index_val t).2.2.2.2]; show 0 * 256 ≤ (i 1).val ∧ (i 1).val < 0 * 256 + 256
                omega
    | ⟨2, _⟩ => show cc0_transform_4 (grid0.coords t) 2 * 4096 ≤ (i 2).val ∧ (i 2).val < cc0_transform_4 (grid0.coords t) 2 * 4096 + 4096
                rw [(index_val t).2.2.2.2]; show 0 * 4096 ≤ (i 2).val ∧ (i 2).val < 0 * 4096 + 4096
                omega

/-- The run: the result array ends at `result`, -/
theorem run_result : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h c).1 4).trans (final_eq m c)) (run_main m ρ)

/-- and the arguments as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨h.1 c, h.2 c⟩) (θ_run_and (run_result m ρ) (unchanged m ρ))

end Cert.Kernel8Ideal.PrenormCtx

end
-- ==== Proof.PrenormCtx.Equation.lean ====
/-
  The context's pre-mix norm's equation: the reference's normed and modulated rows are at every index what the kernel's result
  array holds; so the two programs end with equal results.
-/
module

public import proofs.«01_k».proof.Defs
public import proofs.«01_k».proof.Proof.PrenormCtx.Result
public import proofs.«01_k».proof.Proof.Gen.Reference8Ideal.Run

@[expose] public section

set_option maxRecDepth 16384

noncomputable section

namespace Cert.Reference8Ideal.PrenormCtx

open Cert.Reference8Ideal Cert.Reference8Ideal.Gen Idealize.ShloMosaic Idealize.ShloMosaic.TcCoe Idealize.SL.Sem
open Cert.Kernel8Ideal.PrenormCtx (normed invRms)
open scoped BigOperators

/-- The reference's result at an index. -/
theorem reference_apply (x : FVec Ideal S2x256x4096 .f32) (g : FVec Ideal S1x4096 .f32) (sh sc : FVec Ideal S1x1x4096 .f32) (i : S2x256x4096.Idx) :
    (truncf .bf16 (addf (mulf (mulf (mulf x (broadcastInDim S2x256x4096 ![0, 1, 2] bcast_S2x256x1_S2x256x4096_0_1_2 (Host.rsqrt (addf (Host.divf (broadcastInDim S2x256x1 ![0, 1] bcast_S2x256_S2x256x1_0_1 (Host.reduceAdd (mulf x x) (constant S_ .f32 0x00000000#32) reducesTo_S2x256x4096_S2x256_d2 h_S_)) (broadcastInDim S2x256x1 ![] bcast_S_S2x256x1 (constant S_ .f32 0x45800000#32))) (broadcastInDim S2x256x1 ![] bcast_S_S2x256x1 (constant S_ .f32 0x358637BD#32)))))) (broadcastInDim S2x256x4096 ![0, 1, 2] bcast_S1x1x4096_S2x256x4096_0_1_2 (broadcastInDim S1x1x4096 ![1, 2] bcast_S1x4096_S1x1x4096_1_2 g))) (broadcastInDim S2x256x4096 ![0, 1, 2] bcast_S1x1x4096_S2x256x4096_0_1_2 (addf (broadcastInDim S1x1x4096 ![] bcast_S_S1x1x4096 (constant S_ .f32 0x3F800000#32)) sc))) (broadcastInDim S2x256x4096 ![0, 1, 2] bcast_S1x1x4096_S2x256x4096_0_1_2 sh)) bitsLt_bf16_f32
      : FVec Ideal S2x256x4096 .bf16) i = normed x g sh sc i := by
  idx_vars i
  pointwise [normed, invRms]

end Cert.Reference8Ideal.PrenormCtx

namespace Cert.PrenormCtx

open Idealize.ShloMosaic Idealize.ShloMosaic.TcCoe Idealize.SL.Sem

/-- The context's pre-mix norm and its reference, from equal arguments, end with equal results. -/
theorem algebraic : Cert.algebraic_Kernel8Ideal_Reference8Ideal (hKernel8Ideal := Cert.Kernel8Ideal.Gen.facts)
    (hReference8Ideal := Cert.Reference8Ideal.Gen.facts) := by
  intro m ρ m' ρ' _ hargs
  refine ⟨fun c => Cert.Kernel8Ideal.PrenormCtx.result m c, Cert.Kernel8Ideal.PrenormCtx.run m ρ, ?_⟩
  refine (θ_run Cert.Reference8Ideal.defs _ _).mono (fun r h c => ⟨(h c).1.trans ?_, (h c).2⟩) (Cert.Reference8Ideal.Value.run m' ρ')
  obtain ⟨e0, e1, e2, e3⟩ := hargs c
  rw [e0, e1, e2, e3]
  exact funext fun i => Cert.Reference8Ideal.PrenormCtx.reference_apply _ _ _ _ i

end Cert.PrenormCtx

end
-- ==== Proof.ToVisit.Tile.lean ====
/-
  The row permutation's block at one point: the sixty-four trips' stores, read back at an index, are the rows that the
  strided loads took.
-/
module

public import proofs.«01_k».proof.Proof.Gen.Kernel9Ideal.Frame
public import Idealize.ShloMosaic.Lib.Pointwise

@[expose] public section

set_option maxRecDepth 16384

noncomputable section

namespace Cert.Kernel9Ideal.ToVisit

open Cert.Kernel9Ideal Cert.Kernel9Ideal.Gen Idealize.ShloMosaic Idealize.ShloMosaic.TcCoe Idealize.SL.Sem

variable {F : FTy → Type} [FloatOps F]

variable (c : Dev nD) (i : grid0.Coords)
    (arg1 : Memref sig .tc .vmem S1x8192x128 .f32) (harg1 : arg1.IsWhole) (arg2 : Memref sig .tc .vmem S1x8192x128 .f32) (harg2 : arg2.IsWhole)

theorem trips1 : k0_t1_loop.trips = 64 := by decide +kernel

/-- The row of the picture's row-by-row order that the column-by-column order has at place `r`: column `r / 128`, row `r % 128`
    of a picture sixty-four wide. -/
def visited (r : Fin 8192) : Fin 8192 := ⟨64 * (r.val % 128) + r.val / 128, by omega⟩

/-- The payload only recasts the shape and back. -/
theorem pay1_eq (v : Vec F S1x128x128 .f32) : k0_pay1 v = v := by
  funext y
  show v _ = v y
  congr 1
  exact Equiv.apply_symm_apply _ y

/-- The one piece a trip writes. -/
theorem trip_piece (X : arg1.view.ty.Contents (Elt F)) (k : Fin k0_t1_loop.trips) :
    tripL_k0_t1 (F := F) Variants.none c none i arg1 harg1 arg2 harg2 X k
      = [⟨Rect.unit (s := S1x8192x128) (k0_off2 k) S1x128x128.size (k0_off2_inb k),
          k0_pay1 (View.readAt (Elt F) arg1.view (⟨k0_off1 k, S1x128x128.size, ![1, 64, 1], k0_off1_inb k⟩ : LoadRect S1x8192x128) X)⟩] := by
  unfold tripL_k0_t1 trip_k0_t1
  rfl

/-- The rows a trip loads: every sixty-fourth, from the trip's own on. -/
theorem trip_load (x : Vec F S1x8192x128 .f32) (k : Fin k0_t1_loop.trips) (r : Fin 128) (e : Fin 128) (q : Fin 8192) (hq : q.val = 64 * r.val + k.val) :
    View.readAt (Elt F) arg1.view (⟨k0_off1 k, S1x128x128.size, ![1, 64, 1], k0_off1_inb k⟩ : LoadRect S1x8192x128) (harg1.unread x)
        (ix3 (0 : Fin 1) r e) = x (ix3 (0 : Fin 1) q e) := by
  rw [View.readAt_apply, harg1.read_unread]
  congr 1
  funext a; apply Fin.ext
  match a with
  | ⟨0, _⟩ => exact congrArg (· + 1 * 0) (congrFun (k0_off1_eq k) 0)
  | ⟨1, _⟩ => refine (congrArg (· + 64 * r.val) (congrFun (k0_off1_eq k) 1)).trans ?_
              show k.val + 64 * r.val = q.val; omega
  | ⟨2, _⟩ => refine (congrArg (· + 1 * e.val) (congrFun (k0_off1_eq k) 2)).trans ?_
              show 0 + 1 * e.val = e.val; omega

/-- After `n` trips the first `128 n` rows hold the rows they are to hold, whatever the buffer they are read through. -/
theorem trips_read (x : Vec F S1x8192x128 .f32) (v : View sig .tc .vmem S1x8192x128 .f32) (f : v.ty.Contents (Elt F)) (r : Fin 8192) (e : Fin 128) :
    ∀ n : ℕ, n ≤ 64 → r.val < 128 * n →
      v.read (Elt F) (v.writes (Elt F) f (pb_k0_t1 (F := F) Variants.none c none i arg1 harg1 arg2 harg2 (harg1.unread x) n)) (ix3 (0 : Fin 1) r e)
        = x (ix3 (0 : Fin 1) (visited r) e)
  | 0, _, hr => absurd hr (by omega)
  | n + 1, hn, hr => by
    have hk : n < k0_t1_loop.trips := lt_of_lt_of_eq (by omega) trips1.symm
    rw [show n + 1 = (⟨n, hk⟩ : Fin k0_t1_loop.trips).val + 1 from rfl, pb_k0_t1_succ, trip_piece, pay1_eq]
    by_cases h : r.val < 128 * n
    · refine (View.read_writes_cons_miss_of_axis v f _ _ _ (1 : Fin 3) (128 * n) 128 (congrFun (k0_off2_eq ⟨n, hk⟩) 1) rfl rfl (.inl h)).trans ?_
      exact trips_read x v f r e n (by omega) h
    · refine (View.read_writes_cons_hit_of_coords v f _ _ _ (ix3 (0 : Fin 1) (⟨r.val % 128, Nat.mod_lt _ (by decide)⟩ : Fin 128) e) _ fun a => ?_).trans ?_
      · match a with
        | ⟨0, _⟩ => exact (congrArg (· + 1 * 0) (congrFun (k0_off2_eq ⟨n, hk⟩) 0)).symm
        | ⟨1, _⟩ => refine Eq.trans ?_ (congrArg (· + 1 * (r.val % 128)) (congrFun (k0_off2_eq ⟨n, hk⟩) 1)).symm
                    show r.val = 128 * n + 1 * (r.val % 128); omega
        | ⟨2, _⟩ => refine Eq.trans ?_ (congrArg (· + 1 * e.val) (congrFun (k0_off2_eq ⟨n, hk⟩) 2)).symm
                    show e.val = 0 + 1 * e.val; omega
      · exact trip_load arg1 harg1 x ⟨n, hk⟩ ⟨r.val % 128, Nat.mod_lt _ (by decide)⟩ e (visited r)
          (by show 64 * (r.val % 128) + r.val / 128 = 64 * (r.val % 128) + n; omega)

/-- The body's pieces are its sixty-four trips'. -/
theorem body_pieces (x : Vec F S1x8192x128 .f32) :
    (kernelRun0_A c i arg1 harg1 arg2 harg2 x).1
      = pb_k0_t1 (F := F) Variants.none c none i arg1 harg1 arg2 harg2 (harg1.unread x) k0_t1_loop.trips := by
  unfold kernelRun0_A
  rfl

/-- What the body leaves in the result's buffer, at an index. -/
theorem out_apply (x : Vec F S1x8192x128 .f32) (r : Fin 8192) (e : Fin 128) :
    out0_A_1 c i arg1 harg1 arg2 harg2 x (ix3 (0 : Fin 1) r e) = x (ix3 (0 : Fin 1) (visited r) e) := by
  unfold out0_A_1
  rw [body_pieces, trips1]
  exact trips_read c i arg1 harg1 arg2 harg2 x VO0_1 _ r e 64 le_rfl (by omega)

end Cert.Kernel9Ideal.ToVisit

end
-- ==== Proof.ToVisit.Result.lean ====
/-
  The row permutation's run: its block at an index, what a point leaves, and the result array, which holds the rows
  column by column.
-/
module

public import proofs.«01_k».proof.Proof.ToVisit.Tile
public import Idealize.ShloMosaic.Lib.Pipeline.Value

@[expose] public section

set_option maxRecDepth 16384

noncomputable section

namespace Cert.Kernel9Ideal.ToVisit

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The rows of each batch in the order column by column. -/
def permuted (x : S2x8192x128.Idx → EReal) : S2x8192x128.Idx → EReal := fun i => x (ix3 (i 0) (visited (i 1)) (i 2))

/-- The windows' block indices at point `t`: batch `t`. -/
theorem index_val : ∀ t : Fin cfg0.N, cc0_transform_0 (grid0.coords t) = ![t.val, 0, 0]
    ∧ cc0_transform_1 (grid0.coords t) = ![t.val, 0, 0] :=
  (by decide +kernel : ∀ t : Fin grid0.N, _)

/-- The batch that point `t` is in. -/
def batch (t : Fin cfg0.N) : Fin 2 := ⟨t.val, lt_of_lt_of_eq t.isLt (show cfg0.N = 2 from N_0)⟩

/-- The block at point `t` is the batch's rows. -/
theorem iblk0_apply (c : Dev nD) (t : Fin cfg0.N) (r : Fin 8192) (e : Fin 128) :
    (iblk m c 0 t : Vec Ideal S1x8192x128 .f32) (ix3 (0 : Fin 1) r e) = m ((c : Thread nD τ).loc main_arg0) (ix3 (batch t) r e) := by
  unfold iblk
  rw [View.read_apply]
  show m ((c : Thread nD τ).loc main_arg0) _ = m ((c : Thread nD τ).loc main_arg0) _
  congr 1
  funext a; apply Fin.ext
  match a with
  | ⟨0, _⟩ => show cc0_transform_0 (grid0.coords t) 0 * 1 + 1 * 0 = t.val
              rw [(index_val t).1]; show t.val * 1 + 1 * 0 = _; omega
  | ⟨1, _⟩ => show cc0_transform_0 (grid0.coords t) 1 * 8192 + 1 * r.val = r.val
              rw [(index_val t).1]; show 0 * 8192 + 1 * r.val = _; omega
  | ⟨2, _⟩ => show cc0_transform_0 (grid0.coords t) 2 * 128 + 1 * e.val = e.val
              rw [(index_val t).1]; show 0 * 128 + 1 * e.val = _; omega

/-- The result array's contents. -/
def result (c : Dev nD) : Buf (Elt Ideal) ((c : Thread nD τ).loc main_v0) := permuted (m ((c : Thread nD τ).loc main_arg0))

/-- The block that point `t` leaves is a block of the result. -/
theorem tile_apply (c : Dev nD) (t : Fin cfg0.N) (r : Fin 8192) (e : Fin 128) :
    outsAt0 m c t (ix3 (0 : Fin 1) r e) = result m c (ix3 (batch t) r e) := by
  unfold outsAt0
  refine (out_apply c _ _ _ _ _ _ r e).trans ?_
  exact iblk0_apply m c t (visited r) e

/-- What a point writes back is its block of `result`. -/
theorem flushed_eq (c : Dev nD) (t : Fin cfg0.N) (hf : (cfg0.win 1).flush t = true) :
    (dats m 0 c).flushed 1 t = ((cfg0.win 1).blk t).view.read (Elt Ideal) (result m c) := by
  show (cfg0.win 1).cut (grid0.coords t) ((dats m 0 c).after 1 t) = _
  rw [after0_1]
  funext y
  rw [View.read_apply]
  have hy : (y 0).val = 0 := by have : (y 0).val < 1 := (y 0).isLt; omega
  have ha : (cfg0.win 1).xinj (grid0.coords t) y = ix3 (0 : Fin 1) (y 1) (y 2) := by
    funext a; apply Fin.ext
    match a with
    | ⟨0, _⟩ => exact hy
    | ⟨1, _⟩ => rfl
    | ⟨2, _⟩ => rfl
  have hb : ((cfg0.win 1).blk t).view.emb y = ix3 (batch t) (y 1) (y 2) := by
    funext a; apply Fin.ext
    match a with
    | ⟨0, _⟩ => show cc0_transform_1 (grid0.coords t) 0 * 1 + 1 * (y 0).val = t.val
                rw [(index_val t).2, hy]; show t.val * 1 + 1 * 0 = _; omega
    | ⟨1, _⟩ => show cc0_transform_1 (grid0.coords t) 1 * 8192 + 1 * (y 1).val = (y 1).val
                rw [(index_val t).2]; show 0 * 8192 + 1 * (y 1).val = _; omega
    | ⟨2, _⟩ => show cc0_transform_1 (grid0.coords t) 2 * 128 + 1 * (y 2).val = (y 2).val
                rw [(index_val t).2]; show 0 * 128 + 1 * (y 2).val = _; omega
  show outsAt0 m c t ((cfg0.win 1).xinj (grid0.coords t) y) = result m c (((cfg0.win 1).blk t).view.emb y)
  rw [ha, hb]
  exact tile_apply m c t (y 1) (y 2)

/-- After the run the result array holds `result`: the two points' blocks cover it. -/
theorem final_eq (c : Dev nD) : (dats m 0 c).arrAt 1 cfg0.N = result m c :=
  (dats m 0 c).arrAt_eq_of_cover 1 _ (flushed_eq m c) fun i => by
    have h0 : (i 0).val < 2 := (i 0).isLt
    have h1 : (i 1).val < 8192 := (i 1).isLt
    have h2 : (i 2).val < 128 := (i 2).isLt
    let t : Fin cfg0.N := ⟨(i 0).val, by rw [show cfg0.N = 2 from N_0]; omega⟩
    refine ⟨t, flush0_1 t, ?_⟩
    show i ∈ ((View.whole main_v0).slice (win0_1.rect t)).set
    rw [View.set_slice_whole, Rect.mem_set_unit]
    intro a
    match a with
    | ⟨0, _⟩ => show cc0_transform_1 (grid0.coords t) 0 * 1 ≤ (i 0).val ∧ (i 0).val < cc0_transform_1 (grid0.coords t) 0 * 1 + 1
                rw [(index_val t).2]; show (i 0).val * 1 ≤ (i 0).val ∧ (i 0).val < (i 0).val * 1 + 1
                omega
    | ⟨1, _⟩ => show cc0_transform_1 (grid0.coords t) 1 * 8192 ≤ (i 1).val ∧ (i 1).val < cc0_transform_1 (grid0.coords t) 1 * 8192 + 8192
                rw [(index_val t).2]; show 0 * 8192 ≤ (i 1).val ∧ (i 1).val < 0 * 8192 + 8192
                omega
    | ⟨2, _⟩ => show cc0_transform_1 (grid0.coords t) 2 * 128 ≤ (i 2).val ∧ (i 2).val < cc0_transform_1 (grid0.coords t) 2 * 128 + 128
                rw [(index_val t).2]; show 0 * 128 ≤ (i 2).val ∧ (i 2).val < 0 * 128 + 128
                omega

/-- The run: the result array ends at `result`, -/
theorem run_result : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h c).1 1).trans (final_eq m c)) (run_main m ρ)

/-- and the argument as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨h.1 c, h.2 c⟩) (θ_run_and (run_result m ρ) (unchanged m ρ))

end Cert.Kernel9Ideal.ToVisit

end
-- ==== Proof.ToVisit.Equation.lean ====
/-
  The row permutation's equation: the reference's reshape, exchange of the two axes and reshape back take at every index
  the entry that the kernel's result array holds; so the two programs end with equal results.
-/
module

public import proofs.«01_k».proof.Defs
public import proofs.«01_k».proof.Proof.ToVisit.Result
public import proofs.«01_k».proof.Proof.Gen.Reference9Ideal.Run

@[expose] public section

set_option maxRecDepth 16384

noncomputable section

namespace Cert.Reference9Ideal.ToVisit

open Cert.Reference9Ideal Cert.Reference9Ideal.Gen Idealize.ShloMosaic Idealize.ShloMosaic.TcCoe Idealize.SL.Sem
open Cert.Kernel9Ideal.ToVisit (permuted visited)

/-- The reference's result at an index. -/
theorem reference_apply (x : FVec Ideal S2x8192x128 .f32) (i : S2x8192x128.Idx) :
    (shapeCast S2x8192x128 (transpose S2x64x128x128 [0, 2, 1, 3] (shapeCast S2x128x64x128 x shapeCasts_S2x8192x128_S2x128x64x128) transposes_S2x128x64x128_S2x64x128x128_0_2_1_3) shapeCasts_S2x64x128x128_S2x8192x128
      : FVec Ideal S2x8192x128 .f32) i = permuted x i := by
  idx_vars i
  pointwise [permuted, visited]
  simp only [Nat.mul_comm]

end Cert.Reference9Ideal.ToVisit

namespace Cert.ToVisit

open Idealize.ShloMosaic Idealize.ShloMosaic.TcCoe Idealize.SL.Sem

/-- The row permutation and its reference, from equal arguments, end with equal results. -/
theorem algebraic : Cert.algebraic_Kernel9Ideal_Reference9Ideal (hKernel9Ideal := Cert.Kernel9Ideal.Gen.facts)
    (hReference9Ideal := Cert.Reference9Ideal.Gen.facts) := by
  intro m ρ m' ρ' _ hargs
  refine ⟨fun c => Cert.Kernel9Ideal.ToVisit.result m c, Cert.Kernel9Ideal.ToVisit.run m ρ, ?_⟩
  refine (θ_run Cert.Reference9Ideal.defs _ _).mono (fun r h c => ⟨(h c).1.trans ?_, (h c).2⟩) (Cert.Reference9Ideal.Value.run m' ρ')
  have e0 := hargs c
  rw [e0]
  exact funext fun i => Cert.Reference9Ideal.ToVisit.reference_apply _ i

end Cert.ToVisit

end
-- ==== Proof.Gdnpost.Body.lean ====
/-
  One point of the DeltaNet's norm and gate on any whole staging buffers. A loop of sixty-four trips scatters the head's
  rows, 128 at a time and seventy-two rows apart, into the scratch, so that the rows lie in raster order; a loop of sixteen
  trips then takes eight runs of sixty-four rows, norms and gates them, and stores 512 rows of the result.
-/
module

public import proofs.«01_k».proof.Proof.Gen.Kernel10Ideal.Frame
public import proofs.«01_k».proof.Proof.Gen.Kernel10Ideal.Skeleton
public import Idealize.ShloMosaic.Lib.Pointwise

@[expose] public section

set_option maxRecDepth 16384

noncomputable section

namespace Cert.Kernel10Ideal.Gdnpost

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips1 : k0_t1_loop.trips = 64 := by decide +kernel
theorem trips2 : k0_t2_loop.trips = 16 := by decide +kernel

/-- What is loaded whole from a buffer is what the buffer holds. -/
theorem readAt_whole {sp : Space} {e : EltTy} {s : Shape} (v : View sig .tc sp s e) (f : v.ty.Contents (Elt F)) (off : Fin s.rank → ℕ)
    (hoff : ∀ a, off a = 0) (hin : ∀ a, off a + s.size a ≤ s.size a) :
    View.readAt (Elt F) v (Rect.unit off s.size hin).toLoadRect f = v.read (Elt F) f := by
  rw [View.readAt_eq_ld]
  funext y
  show v.read (Elt F) f _ = v.read (Elt F) f _
  congr 1
  funext a; apply Fin.ext
  show off a + 1 * (y a).val = (y a).val
  rw [hoff a]; omega

/-- The row that the head's column-by-column order has for column `w` and row `r` of the picture, -/
def colRow (r : Fin 128) (w : Fin 64) : Fin 8192 := ⟨128 * w.val + r.val, by omega⟩

/-- and the row where the scratch has it. -/
def scrRow (r : Fin 128) (w : Fin 64) : Fin 9216 := ⟨72 * r.val + w.val, by omega⟩

/-- A row of the picture: sixty-four rows of the head. -/
def strip (x0 : Vec F S1x8192x128 .f32) (r : Fin 128) : Vec F S64x128 .f32 := fun y => x0 (ix3 (0 : Fin 1) (colRow r (y 0)) (y 1))

/-- The rows of a strip in a trip's eight. -/
def nth (k : Fin 16) (j : Fin 8) : Fin 128 := ⟨8 * k.val + j.val, by omega⟩

/-- The gate's 512 rows of a trip. -/
abbrev rows (k : Fin 16) : Rect S1x8192x128 := Rect.unit (s := S1x8192x128) ![0, 512 * k.val, 0] S1x512x128.size (fun a => by
  have := k.isLt
  match a with
  | ⟨0, _⟩ => show 0 + 1 ≤ 1; omega
  | ⟨1, _⟩ => show 512 * k.val + 512 ≤ 8192; omega
  | ⟨2, _⟩ => show 0 + 128 ≤ 128; omega)

/-- What a trip of the second loop stores. -/
def stored (x0 x1 : Vec F S1x8192x128 .f32) (g : Vec F S1x128 .f32) (k : Fin 16) : Vec F S1x512x128 .bf16 :=
  k0_pay2 (k0_pay3 g (strip x0 (nth k 0)) (strip x0 (nth k 1)) (strip x0 (nth k 2)) (strip x0 (nth k 3)) (strip x0 (nth k 4))
    (strip x0 (nth k 5)) (strip x0 (nth k 6)) (strip x0 (nth k 7)) (View.ld x1 (rows k)))

/-- An entry of what a point leaves. -/
def tileAt (x0 x1 : Vec F S1x8192x128 .f32) (g : Vec F S1x128 .f32) (r : Fin 8192) (e : Fin 128) : Elt F .bf16 :=
  stored x0 x1 g ⟨r.val / 512, by omega⟩ (ix3 (0 : Fin 1) (⟨r.val % 512, Nat.mod_lt _ (by decide)⟩ : Fin 512) e)

/-- What a point leaves. -/
def tileOf (x0 x1 : Vec F S1x8192x128 .f32) (g : Vec F S1x128 .f32) : Vec F S1x8192x128 .bf16 := fun i => tileAt x0 x1 g (i 1) (i 2)

/-- After `n` trips the scratch has the columns before `n`. -/
def Scattered (x0 : Vec F S1x8192x128 .f32) (n : ℕ) (s : Vec F S9216x128 .f32) : Prop :=
  ∀ (r : Fin 128) (w : Fin 64) (e : Fin 128), w.val < n → s (ix2 (scrRow r w) e) = x0 (ix3 (0 : Fin 1) (colRow r w) e)

/-- After `n` trips the first `512 n` rows of the result are written. -/
def Written (x0 x1 : Vec F S1x8192x128 .f32) (g : Vec F S1x128 .f32) (n : ℕ) (y : Vec F S1x8192x128 .bf16) : Prop :=
  ∀ (r : Fin 8192) (e : Fin 128), r.val < 512 * n → y (ix3 (0 : Fin 1) r e) = tileAt x0 x1 g r e

/-- What is held before trip `n` of the first loop, -/
def inv1 (c : Dev nD) (arg2 : Memref sig .tc .vmem S1x8192x128 .f32) (arg6 : Memref sig .tc .vmem S9216x128 .f32)
    (x0 : Vec F S1x8192x128 .f32) (n : ℕ) : sProp 𝕄 :=
  iprop((∃ s, ⌜Scattered x0 n s⌝ ∗ owns (c : Thread nD τ) arg6 fullShare s) ∗ owns (c : Thread nD τ) arg2 fullShare x0)

/-- and before trip `n` of the second. -/
def inv2 (c : Dev nD) (arg3 : Memref sig .tc .vmem S1x8192x128 .f32) (arg5 : Memref sig .tc .vmem S1x8192x128 .bf16)
    (arg6 : Memref sig .tc .vmem S9216x128 .f32) (x0 x1 : Vec F S1x8192x128 .f32) (g : Vec F S1x128 .f32) (n : ℕ) : sProp 𝕄 :=
  iprop((∃ s, ⌜Scattered x0 64 s⌝ ∗ owns (c : Thread nD τ) arg6 fullShare s) ∗ owns (c : Thread nD τ) arg3 fullShare x1
    ∗ (∃ y, ⌜Written x0 x1 g n y⌝ ∗ owns (c : Thread nD τ) arg5 fullShare y))

variable (c : Dev nD) (i : grid0.Coords)
    (arg2 : Memref sig .tc .vmem S1x8192x128 .f32) (harg2 : arg2.IsWhole) (arg3 : Memref sig .tc .vmem S1x8192x128 .f32) (harg3 : arg3.IsWhole)
    (arg4 : Memref sig .tc .vmem S1x128 .f32) (harg4 : arg4.IsWhole) (arg5 : Memref sig .tc .vmem S1x8192x128 .bf16) (harg5 : arg5.IsWhole)
    (arg6 : Memref sig .tc .vmem S9216x128 .f32) (harg6 : arg6.IsWhole)
    (x0 x1 : Vec F S1x8192x128 .f32) (g : Vec F S1x128 .f32)

/-- The payload of a scattering trip at an index: the column's row. -/
theorem pay1_apply (t : Fin k0_t1_loop.trips) (r e : Fin 128) (w : Fin 64) (hw : w.val = t.val) :
    k0_pay1 (View.readAt (Elt F) arg2.view (Rect.unit (s := S1x8192x128) (k0_off1 t) S1x128x128.size (k0_off1_inb t)).toLoadRect (harg2.unread x0))
      (ix2 r e) = x0 (ix3 (0 : Fin 1) (colRow r w) e) := by
  rw [View.readAt_eq_ld, harg2.read_unread]
  pointwise [k0_pay1]
  show x0 _ = x0 _
  congr 1
  funext a; apply Fin.ext
  match a with
  | ⟨0, _⟩ => exact congrFun (k0_off1_eq t) 0
  | ⟨1, _⟩ => refine (congrArg (· + r.val) (congrFun (k0_off1_eq t) 1)).trans ?_
              show 128 * t.val + r.val = 128 * w.val + r.val; omega
  | ⟨2, _⟩ => refine (congrArg (· + e.val) (congrFun (k0_off1_eq t) 2)).trans ?_
              show 0 + e.val = e.val; omega

/-- A scattering trip's store writes its column and leaves the others. -/
theorem trip1_store (t : Fin k0_t1_loop.trips) (f : arg6.view.ty.Contents (Elt F)) (hf : Scattered x0 t.val (arg6.view.read (Elt F) f)) :
    Scattered x0 (t.val + 1) (arg6.view.read (Elt F) (arg6.view.writes (Elt F) f
      [⟨⟨(⟨k0_off2 t, S128x128.size, ![72, 1], k0_off2_inb t⟩ : LoadRect S9216x128), spos_72_1⟩,
        k0_pay1 (View.readAt (Elt F) arg2.view (Rect.unit (s := S1x8192x128) (k0_off1 t) S1x128x128.size (k0_off1_inb t)).toLoadRect (harg2.unread x0))⟩])) := by
  intro r w e hw
  have ht : t.val < 64 := lt_of_lt_of_eq t.isLt trips1
  by_cases h : w.val < t.val
  · rw [← hf r w e h]
    refine View.read_writes_cons_miss arg6.view f _ [] _ fun hm => ?_
    obtain ⟨j, hj, hy⟩ := (LoadRect.mem_set _).mp hm (0 : Fin 2)
    have hy' : 72 * r.val + w.val = k0_off2 t 0 + 72 * j := hy
    rw [congrFun (k0_off2_eq t) 0] at hy'
    have hy2 : 72 * r.val + w.val = t.val + 72 * j := hy'
    omega
  · have hwt : w.val = t.val := by omega
    refine (View.read_writes_cons_hit_of_coords arg6.view f _ _ [] (ix2 r e) _ fun a => ?_).trans ?_
    · match a with
      | ⟨0, _⟩ => refine Eq.trans ?_ (congrArg (· + 72 * r.val) (congrFun (k0_off2_eq t) 0)).symm
                  show 72 * r.val + w.val = t.val + 72 * r.val; omega
      | ⟨1, _⟩ => refine Eq.trans ?_ (congrArg (· + 1 * e.val) (congrFun (k0_off2_eq t) 1)).symm
                  show e.val = 0 + 1 * e.val; omega
    · exact pay1_apply arg2 harg2 x0 t r e w hwt

set_option maxHeartbeats 1600000 in
/-- One scattering trip. -/
theorem trip1 (t : Fin k0_t1_loop.trips) (acc : Unit) :
    inv1 c arg2 arg6 x0 t.val ⊢ wp frame (wpE (defs₀ (F := F)) Variants.none c none) Set.univ
      (k0_t1_body i arg2 harg2 arg3 harg3 arg4 harg4 arg5 harg5 arg6 harg6 t acc) (fun _ => inv1 c arg2 arg6 x0 (t.val + 1)) := by
  unfold k0_t1_body inv1 owns
  iintro ⟨⟨%s, %hs, ⟨%f, %hf, H6⟩⟩, ⟨%f2, %hf2, H2⟩⟩
  obtain rfl := harg2.eq_unread hf2
  subst hf
  sl_exec
  sl_step
  isplitl [H6]
  · iexists _; isplitr
    swap
    · iexists _; isplitr
      swap; · iexact H6
      ipureintro; rfl
    ipureintro
    exact trip1_store arg2 harg2 arg6 x0 t f hs
  · iexists _; isplitr; · ipureintro; exact harg2.read_unread _
    iexact H2

/-- A strip loaded from the scratch once all columns are there. -/
theorem load_strip (t : Fin k0_t2_loop.trips) (j : Fin 8) (f : arg6.view.ty.Contents (Elt F)) (hf : Scattered x0 64 (arg6.view.read (Elt F) f)) :
    View.readAt (Elt F) arg6.view (Rect.unit (s := S9216x128) (k0_off3 t (BitVec.ofNat 32 j.val)) S64x128.size (k0_off3_inb t j)).toLoadRect f
      = strip x0 (nth ⟨t.val, lt_of_lt_of_eq t.isLt trips2⟩ j) := by
  rw [View.readAt_eq_ld]
  funext y
  unfold strip
  refine Eq.trans ?_ (hf (nth ⟨t.val, lt_of_lt_of_eq t.isLt trips2⟩ j) (y 0) (y 1) (y 0).isLt)
  show arg6.view.read (Elt F) f _ = arg6.view.read (Elt F) f _
  congr 1
  funext a; apply Fin.ext
  match a with
  | ⟨0, _⟩ => refine (congrArg (· + 1 * (y 0).val) (congrFun (k0_off3_eq t j) 0)).trans ?_
              show 576 * t.val + 72 * j.val + 1 * (y 0).val = 72 * (8 * t.val + j.val) + (y 0).val; omega
  | ⟨1, _⟩ => refine (congrArg (· + 1 * (y 1).val) (congrFun (k0_off3_eq t j) 1)).trans ?_
              show 0 + 1 * (y 1).val = (y 1).val; omega

/-- The gate's rows that a trip loads. -/
theorem load_rows (t : Fin k0_t2_loop.trips) :
    View.readAt (Elt F) arg3.view (Rect.unit (s := S1x8192x128) (k0_off4 t) S1x512x128.size (k0_off4_inb t)).toLoadRect (harg3.unread x1)
      = View.ld x1 (rows ⟨t.val, lt_of_lt_of_eq t.isLt trips2⟩) := by
  rw [View.readAt_eq_ld, harg3.read_unread]
  funext y
  show x1 _ = x1 _
  congr 1
  funext a; apply Fin.ext
  exact congrArg (· + 1 * (y a).val) (congrFun (k0_off4_eq t) a)

/-- A trip's store writes its 512 rows and leaves the others. -/
theorem trip2_store (t : Fin k0_t2_loop.trips) (f : arg5.view.ty.Contents (Elt F)) (hf : Written x0 x1 g t.val (arg5.view.read (Elt F) f)) :
    Written x0 x1 g (t.val + 1) (arg5.view.read (Elt F) (arg5.view.writes (Elt F) f
      [⟨Rect.unit (s := S1x8192x128) (k0_off4 t) S1x512x128.size (k0_off4_inb t), stored x0 x1 g ⟨t.val, lt_of_lt_of_eq t.isLt trips2⟩⟩])) := by
  intro r e hr
  by_cases h : r.val < 512 * t.val
  · rw [← hf r e h]
    exact View.read_writes_cons_miss_of_axis arg5.view f _ [] _ (1 : Fin 3) (512 * t.val) 512 (congrFun (k0_off4_eq t) 1) rfl rfl (.inl h)
  · have e1 : r.val / 512 = t.val := by omega
    refine (View.read_writes_cons_hit_of_coords arg5.view f _ _ [] (ix3 (0 : Fin 1) (⟨r.val % 512, Nat.mod_lt _ (by decide)⟩ : Fin 512) e) _ fun a => ?_).trans ?_
    · match a with
      | ⟨0, _⟩ => exact (congrArg (· + 1 * 0) (congrFun (k0_off4_eq t) 0)).symm
      | ⟨1, _⟩ => refine Eq.trans ?_ (congrArg (· + 1 * (r.val % 512)) (congrFun (k0_off4_eq t) 1)).symm
                  show r.val = 512 * t.val + 1 * (r.val % 512); omega
      | ⟨2, _⟩ => refine Eq.trans ?_ (congrArg (· + 1 * e.val) (congrFun (k0_off4_eq t) 2)).symm
                  show e.val = 0 + 1 * e.val; omega
    · exact congrArg (fun k : Fin 16 => stored x0 x1 g k (ix3 (0 : Fin 1) (⟨r.val % 512, Nat.mod_lt _ (by decide)⟩ : Fin 512) e)) (Fin.ext e1.symm)

set_option maxHeartbeats 3200000 in
/-- One trip of the second loop. -/
theorem trip2 (t : Fin k0_t2_loop.trips) (acc : Unit) :
    inv2 c arg3 arg5 arg6 x0 x1 g t.val ⊢ wp frame (wpE (defs₀ (F := F)) Variants.none c none) Set.univ
      (k0_t2_body i arg2 harg2 arg3 harg3 arg4 harg4 arg5 harg5 arg6 harg6 g t acc) (fun _ => inv2 c arg3 arg5 arg6 x0 x1 g (t.val + 1)) := by
  unfold k0_t2_body
  rw [k0_part1_eq_skeleton, k0_part2_eq_skeleton]; unfold k0_part1_skel k0_part2_skel
  unfold inv2 owns
  iintro ⟨⟨%s, %hs, ⟨%f6, %hf6, H6⟩⟩, ⟨%f3, %hf3, H3⟩, ⟨%y, %hy, ⟨%f5, %hf5, H5⟩⟩⟩
  obtain rfl := harg3.eq_unread hf3
  subst hf6 hf5
  sl_exec
  sl_step
  isplitl [H6]
  · iexists _; isplitr
    swap
    · iexists _; isplitr
      swap; · iexact H6
      ipureintro; rfl
    ipureintro
    exact hs
  isplitl [H3]
  · iexists _; isplitr; · ipureintro; exact harg3.read_unread _
    iexact H3
  · iexists _; isplitr
    swap
    · iexists _; isplitr
      swap; · iexact H5
      ipureintro; rfl
    ipureintro
    have e := trip2_store arg5 x0 x1 g t f5 hy
    unfold stored at e
    rw [← load_strip arg6 x0 t 0 f6 hs, ← load_strip arg6 x0 t 1 f6 hs, ← load_strip arg6 x0 t 2 f6 hs, ← load_strip arg6 x0 t 3 f6 hs,
      ← load_strip arg6 x0 t 4 f6 hs, ← load_strip arg6 x0 t 5 f6 hs, ← load_strip arg6 x0 t 6 f6 hs, ← load_strip arg6 x0 t 7 f6 hs,
      ← load_rows arg3 harg3 x1 t] at e
    exact e

/-- What all sixteen trips leave. -/
theorem written_all (y : Vec F S1x8192x128 .bf16) (h : Written x0 x1 g 16 y) : y = tileOf x0 x1 g := by
  funext j
  have h0 : (j 0).val = 0 := by have : (j 0).val < 1 := (j 0).isLt; omega
  have h1 : (j 1).val < 8192 := (j 1).isLt
  refine Eq.trans ?_ (h (j 1) (j 2) (by omega))
  congr 1
  funext a; apply Fin.ext
  match a with
  | ⟨0, _⟩ => exact h0
  | ⟨1, _⟩ => rfl
  | ⟨2, _⟩ => rfl

set_option maxHeartbeats 3200000 in
/-- The body, whatever the scratch and the result's buffer held. -/
theorem body (x5 : Vec F S1x8192x128 .bf16) (K : PUnit → sProp 𝕄) :
    iprop(owns (c : Thread nD τ) arg2 fullShare x0 ∗ owns (c : Thread nD τ) arg3 fullShare x1 ∗ owns (c : Thread nD τ) arg4 fullShare g
        ∗ owns (c : Thread nD τ) arg5 fullShare x5 ∗ (∃ s, owns (Val := Elt F) (c : Thread nD τ) arg6 fullShare s)
        ∗ (iprop(owns (c : Thread nD τ) arg2 fullShare x0 ∗ owns (c : Thread nD τ) arg3 fullShare x1 ∗ owns (c : Thread nD τ) arg4 fullShare g
            ∗ owns (c : Thread nD τ) arg5 fullShare (tileOf x0 x1 g) ∗ (∃ s, owns (Val := Elt F) (c : Thread nD τ) arg6 fullShare s)) -∗ K ⟨⟩))
      ⊢ wp frame (wpE (defs₀ (F := F)) Variants.none c none) Set.univ
          (cc0_gdnpost i arg2 harg2 arg3 harg3 arg4 harg4 arg5 harg5 arg6 harg6) K := by
  simp only [cc0_gdnpost_eq_skeleton]; unfold cc0_gdnpost_skel
  iintro ⟨H2, H3, H4, H5, ⟨%s, H6⟩, HK⟩
  iapply (Scf.wp_for_bind frame (wpE (defs₀ (F := F)) Variants.none (c : Thread nD τ) none) Set.univ k0_t1_loop.lb k0_t1_loop.ub k0_t1_loop.st
    k0_t1_ok _ _ (fun n _ => inv1 c arg2 arg6 x0 n)
    (fun t acc => trip1 c i arg2 harg2 arg3 harg3 arg4 harg4 arg5 harg5 arg6 harg6 x0 t acc)) $$ [H2 H6]
  · unfold inv1
    isplitl [H6]
    · iexists s
      isplitr
      · ipureintro
        intro r w e hw
        exact absurd hw (by omega)
      · iexact H6
    · iexact H2
  iintro %acc HI
  rw [show Scf.trips k0_t1_loop.lb k0_t1_loop.ub k0_t1_loop.st = 64 from trips1]
  unfold inv1
  icases HI with ⟨⟨%s', %hs, H6⟩, H2⟩
  ihave H4' := (Entails.of_eq (show owns (c : Thread nD τ) arg4 fullShare g = iprop(∃ f, ⌜arg4.view.read (Elt F) f = g⌝ ∗ _) from by unfold owns; rfl)) $$ H4
  icases H4' with ⟨%f4, %hf4, H4⟩
  rw [wp_bind]
  iapply wp_load Variants.none (c : Thread nD τ) none Set.univ (S := arg4.view.set) (f := f4) (View.setOn_subset_set _ _) $$ H4
  iintro H4
  rw [wp_ret]; imodintro
  rw [readAt_whole _ _ _ (by decide), hf4]
  iapply (Scf.wp_for_bind frame (wpE (defs₀ (F := F)) Variants.none (c : Thread nD τ) none) Set.univ k0_t2_loop.lb k0_t2_loop.ub k0_t2_loop.st
    k0_t2_ok _ _ (fun n _ => inv2 c arg3 arg5 arg6 x0 x1 g n)
    (fun t acc => trip2 c i arg2 harg2 arg3 harg3 arg4 harg4 arg5 harg5 arg6 harg6 x0 x1 g t acc)) $$ [H3 H5 H6]
  · unfold inv2
    isplitl [H6]
    · iexists s'
      isplitr
      · ipureintro; exact hs
      · iexact H6
    isplitl [H3]; · iexact H3
    iexists x5
    isplitr
    · ipureintro
      intro r e hr
      exact absurd hr (by omega)
    · iexact H5
  iintro %acc2 HI
  rw [show Scf.trips k0_t2_loop.lb k0_t2_loop.ub k0_t2_loop.st = 16 from trips2]
  unfold inv2
  icases HI with ⟨⟨%s'', %hs'', H6⟩, H3, ⟨%y, %hy, H5⟩⟩
  obtain rfl := written_all x0 x1 g y hy
  sl_step
  iapply HK
  isplitl [H2]; · iexact H2
  isplitl [H3]; · iexact H3
  isplitl [H4]
  · unfold owns
    iexists _; isplitr; · ipureintro; exact hf4
    iexact H4
  isplitl [H5]; · iexact H5
  iexists _
  iexact H6

end Cert.Kernel10Ideal.Gdnpost

end
-- ==== Proof.Gdnpost.Launch.lean ====
/-
  The launch of the DeltaNet's norm and gate: what each staging buffer holds after each point, the body's obligation at
  every point, and the run over any float values. The scratch is filled anew at every point.
-/
module

public import proofs.«01_k».proof.Proof.Gdnpost.Body
public import Idealize.ShloMosaic.Lib.Claim

@[expose] public section

set_option maxRecDepth 16384

noncomputable section

namespace Cert.Kernel10Ideal.Gdnpost

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result tile at point `t`. -/
def tile (c : Dev nD) (t : Fin cfg0.N) : Vec F S1x8192x128 .bf16 := tileOf (iblk m c 0 t) (iblk m c 1 t) (iblk m c 2 t)

/-- The scratch, whole. -/
abbrev scM : Memref sig .tc .vmem S9216x128 .f32 := Memref.whole cc0_scratch0

/-- What the launch hands over beside the windows: the scratch at some contents and the generator's register. -/
theorem PhiA_eq (c : Dev nD) : (Pipeline.ΦA spec0 c : sProp 𝕄)
    = iprop((∃ d, owns (Val := Elt F) (c : Thread nD τ) scM fullShare d) ∗ (∃ r, prngReg c r)) := by
  unfold Pipeline.ΦA; rw [scopedRest0_eq]; simp only [scM, owns_whole]; rfl

/-- What every staging buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tile m c t := by dsimp only [dats]

/-- What the input windows hold before each point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (st0_3 t) fullShare (tile m c t) := by
  unfold Dat.leavesExact; rw [show cfg0.idle 3 (cfg0.grid.coords t) = false from rfl, after0_3]

/-- What is held before and after a point is the same. -/
theorem Phi_castSucc (c : Dev nD) (t : Fin cfg0.N) : (dats m 0 c).Φ t.castSucc
    = iprop((∃ d, owns (Val := Elt F) (c : Thread nD τ) scM fullShare d) ∗ (∃ r, prngReg c r)) := PhiA_eq c
theorem Phi_succ (c : Dev nD) (t : Fin cfg0.N) : (dats m 0 c).Φ t.succ
    = iprop((∃ d, owns (Val := Elt F) (c : Thread nD τ) scM fullShare d) ∗ (∃ r, prngReg c r)) := PhiA_eq c

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    Phi_castSucc, Phi_succ, leaves0_0, leaves0_1, leaves0_2, leaves0_3]
  iintro ⟨⟨HS, Hg⟩, Ho, ⟨%d0, H0⟩, ⟨%d1, H1⟩, ⟨%d2, H2⟩, ⟨%d3, H3⟩⟩
  iapply (body c (grid0.coords t) _ _ _ _ _ _ _ _ _ _ (iblk m c 0 t) (iblk m c 1 t) (iblk m c 2 t) ((dats m 0 c).before 3 t d3) _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

/-- The body table's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the points' write-backs leave, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel10Ideal.Gdnpost

end
-- ==== Proof.Gdnpost.Result.lean ====
/-
  The DeltaNet's norm and gate, read over the extended reals: a trip's payload and the blocks at an index, the tile a point
  leaves, and the result array, which holds the normed and gated rows in raster order.
-/
module

public import proofs.«01_k».proof.Proof.Gdnpost.Launch
public import Idealize.ShloMosaic.Lib.Pipeline.Value

@[expose] public section

set_option maxRecDepth 16384

noncomputable section

namespace Cert.Kernel10Ideal.Gdnpost

open Cert.Kernel10Ideal Cert.Kernel10Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- One over the root of a head row's mean square, the small constant added to the mean. -/
def invRms (x : Fin 128 → EReal) : EReal :=
  Ideal.rsqrt (Ideal.div (∑ k : Fin 128, x k * x k) (Ideal.ofBits .f32 0x43000000#32) + Ideal.ofBits .f32 0x358637BD#32)

/-- A number times its logistic. -/
def silu (x : EReal) : EReal := x * Ideal.div 1 (1 + Ideal.exp (-x))

/-- The row that the column-by-column order has for row `q` of the raster order: picture row `q / 64`, column `q % 64`. -/
def colOf (q : Fin 8192) : Fin 8192 := ⟨128 * (q.val % 64) + q.val / 64, by omega⟩

/-- The column `k` of the head that column `c` is in. -/
def headCol (c : Fin 2048) (k : Fin 128) : Fin 2048 := ⟨128 * (c.val / 128) + k.val, by omega⟩

/-- The gate's column for column `c`. -/
def gateCol (c : Fin 2048) : Fin 12288 := ⟨10240 + c.val, by omega⟩

/-- The gated head norm at row `q` and column `c` of a batch: the rows in raster order, each head's row normed and weighted,
    times its gate. -/
def gatedAt (o : S2x8192x2048.Idx → EReal) (p : S2x8192x12288.Idx → EReal) (g : S1x128.Idx → EReal) (b : Fin 2) (q : Fin 8192) (c : Fin 2048) : EReal :=
  o (ix3 b (colOf q) c) * invRms (fun k => o (ix3 b (colOf q) (headCol c k))) * g (ix2 (0 : Fin 1) (⟨c.val % 128, Nat.mod_lt _ (by decide)⟩ : Fin 128))
    * silu (p (ix3 b q (gateCol c)))

/-- The gated head norm. -/
def gated (o : S2x8192x2048.Idx → EReal) (p : S2x8192x12288.Idx → EReal) (g : S1x128.Idx → EReal) : S2x8192x2048.Idx → EReal :=
  fun i => gatedAt o p g (i 0) (i 1) (i 2)

/-- Eight runs of sixty-four rows, one below the other, at an index. -/
theorem eight_apply (f : Fin 8 → Vec Ideal S64x128 .f32) (q : Fin 512) (e : Fin 128) :
    (concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
      concatenates_S64x128_S64x128_S64x128_S64x128_S64x128_S64x128_S64x128_S64x128_S512x128_d0 : FVec Ideal S512x128 .f32) (ix2 q e)
      = f ⟨q.val / 64, by omega⟩ (ix2 (⟨q.val % 64, Nat.mod_lt _ (by decide)⟩ : Fin 64) e) := by
  have key : ∀ (a : Fin 8) (w : Fin 64), q.val / 64 = a.val → q.val % 64 = w.val →
      f a (ix2 w e) = f ⟨q.val / 64, by omega⟩ (ix2 (⟨q.val % 64, Nat.mod_lt _ (by decide)⟩ : Fin 64) e) := by
    intro a w ha hw
    rw [show a = (⟨q.val / 64, by omega⟩ : Fin 8) from Fin.ext ha.symm, show w = (⟨q.val % 64, Nat.mod_lt _ (by decide)⟩ : Fin 64) from Fin.ext hw.symm]
  pointwise
  repeat' split
  all_goals exact key _ _ (by simp; omega) (by simp; omega)

/-- A trip's payload at an index, from the rows one below the other. -/
theorem pay_apply (g : Vec Ideal S1x128 .f32) (f : Fin 8 → Vec Ideal S64x128 .f32) (z : Vec Ideal S1x512x128 .f32) (x : Fin 512 → Fin 128 → EReal)
    (hx : ∀ q e, x q e = f ⟨q.val / 64, by omega⟩ (ix2 (⟨q.val % 64, Nat.mod_lt _ (by decide)⟩ : Fin 64) e)) (q : Fin 512) (e : Fin 128) :
    k0_pay2 (k0_pay3 g (f 0) (f 1) (f 2) (f 3) (f 4) (f 5) (f 6) (f 7) z) (ix3 (0 : Fin 1) q e)
      = x q e * invRms (x q) * g (ix2 (0 : Fin 1) e) * silu (z (ix3 (0 : Fin 1) q e)) := by
  have hv := fun q e => (eight_apply f q e).trans (hx q e).symm
  unfold k0_pay3
  generalize (concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
      concatenates_S64x128_S64x128_S64x128_S64x128_S64x128_S64x128_S64x128_S64x128_S512x128_d0 : FVec Ideal S512x128 .f32) = v at hv ⊢
  simp only [← hv, invRms, silu]
  pointwise [k0_pay2]
  simp only [zero_sub, mul_assoc]

/-- A row of the gate's rows of a trip is a row of the block. -/
theorem ld_rows (x : Vec Ideal S1x8192x128 .f32) (r : Fin 8192) (e : Fin 128) :
    View.ld x (rows ⟨r.val / 512, by omega⟩) (ix3 (0 : Fin 1) (⟨r.val % 512, Nat.mod_lt _ (by decide)⟩ : Fin 512) e) = x (ix3 (0 : Fin 1) r e) := by
  show x _ = x _
  congr 1
  funext a; apply Fin.ext
  match a with
  | ⟨0, _⟩ => rfl
  | ⟨1, _⟩ => show 512 * (r.val / 512) + 1 * (r.val % 512) = r.val; omega
  | ⟨2, _⟩ => show 0 + 1 * e.val = e.val; omega

/-- An entry of what a point leaves. -/
theorem tileAt_apply (x0 x1 : Vec Ideal S1x8192x128 .f32) (g : Vec Ideal S1x128 .f32) (r : Fin 8192) (e : Fin 128) :
    tileAt x0 x1 g r e = x0 (ix3 (0 : Fin 1) (colOf r) e) * invRms (fun k => x0 (ix3 (0 : Fin 1) (colOf r) k)) * g (ix2 (0 : Fin 1) e)
      * silu (x1 (ix3 (0 : Fin 1) r e)) := by
  unfold tileAt stored
  refine (pay_apply g (fun j => strip x0 (nth ⟨r.val / 512, by omega⟩ j)) _
    (fun q e => x0 (ix3 (0 : Fin 1) (colOf (⟨512 * (r.val / 512) + q.val, by omega⟩ : Fin 8192)) e)) (fun q e => ?_) _ e).trans ?_
  · show x0 _ = x0 (ix3 (0 : Fin 1) (colRow _ _) e)
    congr 1
    rw [show colOf (⟨512 * (r.val / 512) + q.val, by omega⟩ : Fin 8192) = colRow (nth ⟨r.val / 512, by omega⟩ ⟨q.val / 64, by omega⟩) (⟨q.val % 64, Nat.mod_lt _ (by decide)⟩ : Fin 64) from
      Fin.ext (by show 128 * ((512 * (r.val / 512) + q.val) % 64) + (512 * (r.val / 512) + q.val) / 64 = 128 * (q.val % 64) + (8 * (r.val / 512) + q.val / 64); omega)]
    rfl
  · rw [ld_rows x1 r e]
    dsimp only
    rw [show (⟨512 * (r.val / 512) + r.val % 512, by omega⟩ : Fin 8192) = r from Fin.ext (Nat.div_add_mod _ _)]

/-- The windows' block indices at point `t`: batch `t / 16`, head `t % 16`. -/
theorem index_val : ∀ t : Fin cfg0.N, cc0_transform_0 (grid0.coords t) = ![t.val / 16, 0, t.val % 16]
    ∧ cc0_transform_1 (grid0.coords t) = ![t.val / 16, 0, 80 + t.val % 16]
    ∧ cc0_transform_2 (grid0.coords t) = ![0, 0]
    ∧ cc0_transform_3 (grid0.coords t) = ![t.val / 16, 0, t.val % 16] :=
  (by decide +kernel : ∀ t : Fin grid0.N, _)

/-- The batch that point `t` is in, -/
def batch (t : Fin cfg0.N) : Fin 2 := ⟨t.val / 16, by have := lt_of_lt_of_eq t.isLt (show cfg0.N = 32 from N_0); omega⟩

/-- and the column `e` of its head. -/
def col (t : Fin cfg0.N) (e : Fin 128) : Fin 2048 := ⟨128 * (t.val % 16) + e.val, by omega⟩

/-- The head's block at point `t`; -/
theorem iblk0_apply (c : Dev nD) (t : Fin cfg0.N) (r : Fin 8192) (e : Fin 128) :
    (iblk m c 0 t : Vec Ideal S1x8192x128 .f32) (ix3 (0 : Fin 1) r e) = m ((c : Thread nD τ).loc main_arg0) (ix3 (batch t) r (col t e)) := by
  unfold iblk
  rw [View.read_apply]
  show m ((c : Thread nD τ).loc main_arg0) _ = m ((c : Thread nD τ).loc main_arg0) _
  congr 1
  funext a; apply Fin.ext
  match a with
  | ⟨0, _⟩ => show cc0_transform_0 (grid0.coords t) 0 * 1 + 1 * 0 = t.val / 16
              rw [(index_val t).1]; show t.val / 16 * 1 + 1 * 0 = _; omega
  | ⟨1, _⟩ => show cc0_transform_0 (grid0.coords t) 1 * 8192 + 1 * r.val = r.val
              rw [(index_val t).1]; show 0 * 8192 + 1 * r.val = _; omega
  | ⟨2, _⟩ => show cc0_transform_0 (grid0.coords t) 2 * 128 + 1 * e.val = 128 * (t.val % 16) + e.val
              rw [(index_val t).1]; show t.val % 16 * 128 + 1 * e.val = _; omega

/-- the gate's block; -/
theorem iblk1_apply (c : Dev nD) (t : Fin cfg0.N) (r : Fin 8192) (e : Fin 128) :
    (iblk m c 1 t : Vec Ideal S1x8192x128 .f32) (ix3 (0 : Fin 1) r e) = m ((c : Thread nD τ).loc main_arg1) (ix3 (batch t) r (gateCol (col t e))) := by
  unfold iblk
  rw [View.read_apply]
  show m ((c : Thread nD τ).loc main_arg1) _ = m ((c : Thread nD τ).loc main_arg1) _
  congr 1
  funext a; apply Fin.ext
  match a with
  | ⟨0, _⟩ => show cc0_transform_1 (grid0.coords t) 0 * 1 + 1 * 0 = t.val / 16
              rw [(index_val t).2.1]; show t.val / 16 * 1 + 1 * 0 = _; omega
  | ⟨1, _⟩ => show cc0_transform_1 (grid0.coords t) 1 * 8192 + 1 * r.val = r.val
              rw [(index_val t).2.1]; show 0 * 8192 + 1 * r.val = _; omega
  | ⟨2, _⟩ => show cc0_transform_1 (grid0.coords t) 2 * 128 + 1 * e.val = 10240 + (128 * (t.val % 16) + e.val)
              rw [(index_val t).2.1]; show (80 + t.val % 16) * 128 + 1 * e.val = _; omega

/-- and the norm's weights: all of them at every point. -/
theorem iblk2_apply (c : Dev nD) (t : Fin cfg0.N) (e : Fin 128) :
    (iblk m c 2 t : Vec Ideal S1x128 .f32) (ix2 (0 : Fin 1) e) = m ((c : Thread nD τ).loc main_arg2) (ix2 (0 : Fin 1) e) := by
  unfold iblk
  rw [View.read_apply]
  show m ((c : Thread nD τ).loc main_arg2) _ = m ((c : Thread nD τ).loc main_arg2) _
  congr 1
  funext a; apply Fin.ext
  match a with
  | ⟨0, _⟩ => show cc0_transform_2 (grid0.coords t) 0 * 1 + 1 * 0 = 0
              rw [(index_val t).2.2.1]; rfl
  | ⟨1, _⟩ => show cc0_transform_2 (grid0.coords t) 1 * 128 + 1 * e.val = e.val
              rw [(index_val t).2.2.1]; show 0 * 128 + 1 * e.val = _; omega

/-- The result array's contents. -/
def result (c : Dev nD) : Buf (Elt Ideal) ((c : Thread nD τ).loc main_v0) :=
  gated (m ((c : Thread nD τ).loc main_arg0)) (m ((c : Thread nD τ).loc main_arg1)) (m ((c : Thread nD τ).loc main_arg2))

/-- The tile that point `t` leaves is a tile of the result. -/
theorem tile_apply (c : Dev nD) (t : Fin cfg0.N) (r : Fin 8192) (e : Fin 128) :
    tile m c t (ix3 (0 : Fin 1) r e) = result m c (ix3 (batch t) r (col t e)) := by
  show tileAt (iblk m c 0 t) (iblk m c 1 t) (iblk m c 2 t) r e = _
  refine (tileAt_apply _ _ _ r e).trans ?_
  rw [iblk0_apply m c t (colOf r) e, show (fun k => (iblk m c 0 t : Vec Ideal S1x8192x128 .f32) (ix3 (0 : Fin 1) (colOf r) k))
    = fun k => m ((c : Thread nD τ).loc main_arg0) (ix3 (batch t) (colOf r) (col t k)) from funext (iblk0_apply m c t (colOf r)),
    iblk1_apply m c t r e, iblk2_apply m c t e]
  show _ = gatedAt _ _ _ (batch t) r (col t e)
  unfold gatedAt
  rw [show (⟨(col t e).val % 128, Nat.mod_lt _ (by decide)⟩ : Fin 128) = e from Fin.ext (by show (128 * (t.val % 16) + e.val) % 128 = e.val; omega)]
  have hk : ∀ k, headCol (col t e) k = col t k := fun k => Fin.ext (by
    show 128 * ((128 * (t.val % 16) + e.val) / 128) + k.val = 128 * (t.val % 16) + k.val; omega)
  simp only [hk]

/-- What a point writes back is its block of `result`. -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext y
  rw [View.read_apply]
  have h0 : (y 0).val < 1 := (y 0).isLt
  have ha : (cfg0.win 3).xinj (grid0.coords t) y = ix3 (0 : Fin 1) (y 1) (y 2) := by
    funext a; apply Fin.ext
    match a with
    | ⟨0, _⟩ => show (y 0).val = 0; omega
    | ⟨1, _⟩ => rfl
    | ⟨2, _⟩ => rfl
  have hb : ((cfg0.win 3).blk t).view.emb y = ix3 (batch t) (y 1) (col t (y 2)) := by
    funext a; apply Fin.ext
    match a with
    | ⟨0, _⟩ => show cc0_transform_3 (grid0.coords t) 0 * 1 + 1 * (y 0).val = t.val / 16
                rw [(index_val t).2.2.2]; show t.val / 16 * 1 + 1 * (y 0).val = _; omega
    | ⟨1, _⟩ => show cc0_transform_3 (grid0.coords t) 1 * 8192 + 1 * (y 1).val = (y 1).val
                rw [(index_val t).2.2.2]; show 0 * 8192 + 1 * (y 1).val = _; omega
    | ⟨2, _⟩ => show cc0_transform_3 (grid0.coords t) 2 * 128 + 1 * (y 2).val = 128 * (t.val % 16) + (y 2).val
                rw [(index_val t).2.2.2]; show t.val % 16 * 128 + 1 * (y 2).val = _; omega
  show tile m c t ((cfg0.win 3).xinj (grid0.coords t) y) = result m c (((cfg0.win 3).blk t).view.emb y)
  rw [ha, hb]
  exact tile_apply m c t (y 1) (y 2)

/-- After the run the result array holds `result`: the points' tiles cover it. -/
theorem final_eq (c : Dev nD) : (dats m 0 c).arrAt 3 cfg0.N = result m c :=
  (dats m 0 c).arrAt_eq_of_cover 3 _ (flushed_eq m c) fun i => by
    have h0 : (i 0).val < 2 := (i 0).isLt
    have h1 : (i 1).val < 8192 := (i 1).isLt
    have h2 : (i 2).val < 2048 := (i 2).isLt
    let t : Fin cfg0.N := ⟨16 * (i 0).val + (i 2).val / 128, by rw [show cfg0.N = 32 from N_0]; omega⟩
    have e0 : t.val / 16 = (i 0).val := by show (16 * (i 0).val + (i 2).val / 128) / 16 = _; omega
    have e1 : t.val % 16 = (i 2).val / 128 := by show (16 * (i 0).val + (i 2).val / 128) % 16 = _; omega
    refine ⟨t, flush0_3 t, ?_⟩
    show i ∈ ((View.whole main_v0).slice (win0_3.rect t)).set
    rw [View.set_slice_whole, Rect.mem_set_unit]
    intro a
    match a with
    | ⟨0, _⟩ => show cc0_transform_3 (grid0.coords t) 0 * 1 ≤ (i 0).val ∧ (i 0).val < cc0_transform_3 (grid0.coords t) 0 * 1 + 1
                rw [(index_val t).2.2.2]; show t.val / 16 * 1 ≤ (i 0).val ∧ (i 0).val < t.val / 16 * 1 + 1
                rw [e0]; omega
    | ⟨1, _⟩ => show cc0_transform_3 (grid0.coords t) 1 * 8192 ≤ (i 1).val ∧ (i 1).val < cc0_transform_3 (grid0.coords t) 1 * 8192 + 8192
                rw [(index_val t).2.2.2]; show 0 * 8192 ≤ (i 1).val ∧ (i 1).val < 0 * 8192 + 8192
                omega
    | ⟨2, _⟩ => show cc0_transform_3 (grid0.coords t) 2 * 128 ≤ (i 2).val ∧ (i 2).val < cc0_transform_3 (grid0.coords t) 2 * 128 + 128
                rw [(index_val t).2.2.2]; show t.val % 16 * 128 ≤ (i 2).val ∧ (i 2).val < t.val % 16 * 128 + 128
                rw [e1]; omega

/-- The run: the result array ends at `result`, -/
theorem run_result : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h.1 c).1 3).trans (final_eq m c)) (run_quiescent m ρ)

/-- and the arguments as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨h.1 c, h.2.1 c⟩) (θ_run_and (run_result m ρ) (frame m ρ))

end Cert.Kernel10Ideal.Gdnpost

end
-- ==== Proof.Gdnpost.Equation.lean ====
/-
  The norm and gate's equation: the reference's rows, put in raster order, normed head by head and gated, are at every
  index what the kernel's result array holds; so the two programs end with equal results.
-/
module

public import proofs.«01_k».proof.Defs
public import proofs.«01_k».proof.Proof.Gdnpost.Result
public import proofs.«01_k».proof.Proof.Gen.Reference10Ideal.Run

@[expose] public section

set_option maxRecDepth 16384

noncomputable section

namespace Cert.Reference10Ideal.Gdnpost

open Cert.Reference10Ideal Cert.Reference10Ideal.Gen Idealize.ShloMosaic Idealize.ShloMosaic.TcCoe Idealize.SL.Sem
open Cert.Kernel10Ideal.Gdnpost (gated gatedAt invRms silu colOf headCol gateCol)
open scoped BigOperators

/-- The reference's rows in raster order, head by head, -/
abbrev heads (o : FVec Ideal S2x8192x2048 .f32) : FVec Ideal S2x8192x16x128 .f32 :=
  shapeCast S2x8192x16x128 (shapeCast S2x8192x2048 (transpose S2x128x64x2048 [0, 2, 1, 3] (shapeCast S2x64x128x2048 o shapeCasts_S2x8192x2048_S2x64x128x2048) transposes_S2x64x128x2048_S2x128x64x2048_0_2_1_3) shapeCasts_S2x128x64x2048_S2x8192x2048) shapeCasts_S2x8192x2048_S2x8192x16x128

/-- and its gate. -/
abbrev gates (p : FVec Ideal S2x8192x12288 .f32) : FVec Ideal S2x8192x16x128 .f32 :=
  shapeCast S2x8192x16x128 (extractStridedSlice S2x8192x2048 ![0, 0, 10240] p slices_S2x8192x12288_S2x8192x2048_0_0_10240) shapeCasts_S2x8192x2048_S2x8192x16x128

/-- The column of a head's entry. -/
def colAt (h : Fin 16) (e : Fin 128) : Fin 2048 := ⟨128 * h.val + e.val, by omega⟩

/-- The rows at an index; -/
theorem heads_apply (o : FVec Ideal S2x8192x2048 .f32) (b : Fin 2) (q : Fin 8192) (h : Fin 16) (e : Fin 128) :
    heads o (ix4 b q h e) = o (ix3 b (colOf q) (colAt h e)) := by
  pointwise [heads]
  simp only [colOf, colAt, Nat.mul_comm]

/-- the gate at an index; -/
theorem gates_apply (p : FVec Ideal S2x8192x12288 .f32) (b : Fin 2) (q : Fin 8192) (h : Fin 16) (e : Fin 128) :
    gates p (ix4 b q h e) = p (ix3 b q (gateCol (colAt h e))) := by
  pointwise [gates]
  simp only [gateCol, colAt, Nat.mul_comm]

/-- and the norm and gate of any rows at an index. -/
theorem norm_apply (x z : FVec Ideal S2x8192x16x128 .f32) (g : FVec Ideal S1x128 .f32) (b : Fin 2) (q : Fin 8192) (c : Fin 2048) :
    (truncf .bf16 (shapeCast S2x8192x2048 (mulf (mulf (mulf x (broadcastInDim S2x8192x16x128 ![0, 1, 2, 3] bcast_S2x8192x16x1_S2x8192x16x128_0_1_2_3 (Host.rsqrt (addf (Host.divf (broadcastInDim S2x8192x16x1 ![0, 1, 2] bcast_S2x8192x16_S2x8192x16x1_0_1_2 (Host.reduceAdd (mulf x x) (constant S_ .f32 0x00000000#32) reducesTo_S2x8192x16x128_S2x8192x16_d3 h_S_)) (broadcastInDim S2x8192x16x1 ![] bcast_S_S2x8192x16x1 (constant S_ .f32 0x43000000#32))) (broadcastInDim S2x8192x16x1 ![] bcast_S_S2x8192x16x1 (constant S_ .f32 0x358637BD#32)))))) (broadcastInDim S2x8192x16x128 ![0, 1, 2, 3] bcast_S1x1x1x128_S2x8192x16x128_0_1_2_3 (broadcastInDim S1x1x1x128 ![2, 3] bcast_S1x128_S1x1x1x128_2_3 g))) (mulf z (Host.divf (broadcastInDim S2x8192x16x128 ![] bcast_S_S2x8192x16x128 (constant S_ .f32 0x3F800000#32)) (addf (broadcastInDim S2x8192x16x128 ![] bcast_S_S2x8192x16x128 (constant S_ .f32 0x3F800000#32)) (Host.exp (Host.negf z)))))) shapeCasts_S2x8192x16x128_S2x8192x2048) bitsLt_bf16_f32 : FVec Ideal S2x8192x2048 .bf16) (ix3 b q c)
      = x (ix4 b q (⟨c.val / 128, by omega⟩ : Fin 16) (⟨c.val % 128, Nat.mod_lt _ (by decide)⟩ : Fin 128))
        * invRms (fun k => x (ix4 b q (⟨c.val / 128, by omega⟩ : Fin 16) k)) * g (ix2 (0 : Fin 1) (⟨c.val % 128, Nat.mod_lt _ (by decide)⟩ : Fin 128))
        * silu (z (ix4 b q (⟨c.val / 128, by omega⟩ : Fin 16) (⟨c.val % 128, Nat.mod_lt _ (by decide)⟩ : Fin 128))) := by
  pointwise [invRms, silu]

/-- The reference's result at an index. -/
theorem reference_apply (o : FVec Ideal S2x8192x2048 .f32) (p : FVec Ideal S2x8192x12288 .f32) (g : FVec Ideal S1x128 .f32) (i : S2x8192x2048.Idx) :
    (truncf .bf16 (shapeCast S2x8192x2048 (mulf (mulf (mulf (heads o) (broadcastInDim S2x8192x16x128 ![0, 1, 2, 3] bcast_S2x8192x16x1_S2x8192x16x128_0_1_2_3 (Host.rsqrt (addf (Host.divf (broadcastInDim S2x8192x16x1 ![0, 1, 2] bcast_S2x8192x16_S2x8192x16x1_0_1_2 (Host.reduceAdd (mulf (heads o) (heads o)) (constant S_ .f32 0x00000000#32) reducesTo_S2x8192x16x128_S2x8192x16_d3 h_S_)) (broadcastInDim S2x8192x16x1 ![] bcast_S_S2x8192x16x1 (constant S_ .f32 0x43000000#32))) (broadcastInDim S2x8192x16x1 ![] bcast_S_S2x8192x16x1 (constant S_ .f32 0x358637BD#32)))))) (broadcastInDim S2x8192x16x128 ![0, 1, 2, 3] bcast_S1x1x1x128_S2x8192x16x128_0_1_2_3 (broadcastInDim S1x1x1x128 ![2, 3] bcast_S1x128_S1x1x1x128_2_3 g))) (mulf (gates p) (Host.divf (broadcastInDim S2x8192x16x128 ![] bcast_S_S2x8192x16x128 (constant S_ .f32 0x3F800000#32)) (addf (broadcastInDim S2x8192x16x128 ![] bcast_S_S2x8192x16x128 (constant S_ .f32 0x3F800000#32)) (Host.exp (Host.negf (gates p))))))) shapeCasts_S2x8192x16x128_S2x8192x2048) bitsLt_bf16_f32 : FVec Ideal S2x8192x2048 .bf16) i = gated o p g i := by
  idx_vars i
  refine (norm_apply (heads o) (gates p) g i0 i1 i2).trans ?_
  show _ = gatedAt o p g i0 i1 i2
  unfold gatedAt
  rw [heads_apply, gates_apply, show (fun k => heads o (ix4 i0 i1 (⟨i2.val / 128, by omega⟩ : Fin 16) k))
    = fun k => o (ix3 i0 (colOf i1) (headCol i2 k)) from funext fun k => heads_apply o i0 i1 _ k,
    show colAt (⟨i2.val / 128, by omega⟩ : Fin 16) (⟨i2.val % 128, Nat.mod_lt _ (by decide)⟩ : Fin 128) = i2 from Fin.ext (Nat.div_add_mod _ _)]

end Cert.Reference10Ideal.Gdnpost

namespace Cert.Gdnpost

open Idealize.ShloMosaic Idealize.ShloMosaic.TcCoe Idealize.SL.Sem

/-- The norm and gate and its reference, from equal arguments, end with equal results. -/
theorem algebraic : Cert.algebraic_Kernel10Ideal_Reference10Ideal (hKernel10Ideal := Cert.Kernel10Ideal.Gen.facts)
    (hReference10Ideal := Cert.Reference10Ideal.Gen.facts) := by
  intro m ρ m' ρ' _ hargs
  refine ⟨fun c => Cert.Kernel10Ideal.Gdnpost.result m c, Cert.Kernel10Ideal.Gdnpost.run m ρ, ?_⟩
  refine (θ_run Cert.Reference10Ideal.defs _ _).mono (fun r h c => ⟨(h c).1.trans ?_, (h c).2⟩) (Cert.Reference10Ideal.Value.run m' ρ')
  obtain ⟨e0, e1, e2⟩ := hargs c
  rw [e0, e1, e2]
  exact funext fun i => Cert.Reference10Ideal.Gdnpost.reference_apply _ _ _ i

end Cert.Gdnpost

end
-- ==== Proof.Gdnpre.Body.lean ====
/-
  One point of the DeltaNet's convolution over the context, on any whole staging buffers: the column block is copied into
  the scratch between eight rows of zeros and eight rows of zeros, four rows of the scratch are weighted and added for each
  row, and what comes out is gated by its logistic, and by the column block normed, and scaled, or stored as it is.
-/
module

public import proofs.«01_k».proof.Proof.Gen.Kernel11Ideal.Frame
public import proofs.«01_k».proof.Proof.Gen.Kernel11Ideal.Skeleton
public import Idealize.ShloMosaic.Lib.Pointwise

@[expose] public section

set_option maxRecDepth 16384

noncomputable section

namespace Cert.Kernel11Ideal.Gdnpre

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What is loaded whole from a buffer is what the buffer holds. -/
theorem readAt_whole {sp : Space} {e : EltTy} {s : Shape} (v : View sig .tc sp s e) (f : v.ty.Contents (Elt F)) (off : Fin s.rank → ℕ)
    (hoff : ∀ a, off a = 0) (hin : ∀ a, off a + s.size a ≤ s.size a) :
    View.readAt (Elt F) v (Rect.unit off s.size hin).toLoadRect f = v.read (Elt F) f := by
  rw [View.readAt_eq_ld]
  funext y
  show v.read (Elt F) f _ = v.read (Elt F) f _
  congr 1
  funext a; apply Fin.ext
  show off a + 1 * (y a).val = (y a).val
  rw [hoff a]; omega

/-- What is stored whole is what the buffer then holds. -/
theorem read_whole_store {sp : Space} {e : EltTy} {s : Shape} (v : View sig .tc sp s e) (f : v.ty.Contents (Elt F)) (off : Fin s.rank → ℕ)
    (hoff : ∀ a, off a = 0) (hin : ∀ a, off a + s.size a ≤ s.size a) (w : s.Idx → Elt F e) :
    v.read (Elt F) (v.writes (Elt F) f [⟨Rect.unit off s.size hin, w⟩]) = w :=
  funext fun y => View.read_writes_cons_hit_of_coords v f (Rect.unit off s.size hin) w [] y y fun a => by
    show (y a).val = off a + 1 * (y a).val
    rw [hoff a]; omega

/-- The column block between eight rows of zeros and eight rows of zeros. -/
def padded (x0 : Vec F S1x256x128 .f32) : Vec F S272x128 .f32 := fun y =>
  if h : 8 ≤ (y 0).val ∧ (y 0).val < 264 then x0 (ix3 (0 : Fin 1) (⟨(y 0).val - 8, by omega⟩ : Fin 256) (y 1)) else k0_pay5 (ix2 (0 : Fin 8) (y 1))

/-- The rows that the convolution's tap `j` weights. -/
def shifted (x0 : Vec F S1x256x128 .f32) (j : Fin 4) : Vec F S256x128 .f32 := fun y =>
  padded x0 (ix2 (⟨6 + j.val + (y 0).val, by have := (y 0).isLt; have : (y 0).val < 256 := this; omega⟩ : Fin 272) (y 1))

/-- The weights of tap `j`. -/
def tap (x1 : Vec F S4x128 .f32) (j : Fin 4) : Vec F S1x128 .f32 := fun y => x1 (ix2 j (y 1))

/-- The four taps weighted and added. -/
def conv (x0 : Vec F S1x256x128 .f32) (x1 : Vec F S4x128 .f32) : Vec F S256x128 .f32 :=
  k0_pay1 (k0_pay9 (tap x1 0) (shifted x0 0)) (shifted x0 1) (k0_pay10 (tap x1 1)) (tap x1 2) (shifted x0 2) (tap x1 3) (shifted x0 3)

/-- The tile the body stores at point `i`. -/
def tileOf (i : grid0.Coords) (x0 : Vec F S1x256x128 .f32) (x1 : Vec F S4x128 .f32) : Vec F S1x256x128 .bf16 :=
  if k0_cond1 i = 1#1 then k0_pay2 (conv x0 x1) else if k0_cond2 i = 1#1 then k0_pay3 (conv x0 x1) else k0_pay4 (conv x0 x1)

/-- What holds of the three conditions at a point: exactly one. -/
theorem conds : ∀ n : Fin 48, ∀ i : grid0.Coords, (i 1).val = n.val →
    (k0_cond1 i = 1#1 ↔ n.val < 16) ∧ (k0_cond2 i = 1#1 ↔ 16 ≤ n.val ∧ n.val < 32) ∧ (k0_cond3 i = 1#1 ↔ 32 ≤ n.val) := by
  intro n i h
  unfold k0_cond1 k0_cond2 k0_cond3
  rw [h]
  clear h i
  revert n
  decide +kernel

variable (c : Dev nD) (i : grid0.Coords)
  (arg2 : Memref sig .tc .vmem S1x256x128 .f32) (harg2 : arg2.IsWhole) (arg3 : Memref sig .tc .vmem S4x128 .f32) (harg3 : arg3.IsWhole)
  (arg4 : Memref sig .tc .vmem S1x256x128 .bf16) (harg4 : arg4.IsWhole) (arg5 : Memref sig .tc .vmem S272x128 .f32) (harg5 : arg5.IsWhole)
  (arg6 : Memref sig .tc .vmem S256x128 .f32) (harg6 : arg6.IsWhole)
  (x0 : Vec F S1x256x128 .f32) (x1 : Vec F S4x128 .f32)

/-- What the scratch holds after the three stores, whatever it held before. -/
theorem padded_store (f : arg5.view.ty.Contents (Elt F)) :
    arg5.view.read (Elt F) (arg5.view.writes (Elt F) f
      [⟨Rect.unit (s := S272x128) k0_off2 S256x128.size k0_off2_inb,
          k0_pay8 (View.readAt (Elt F) arg2.view (Rect.unit (s := S1x256x128) k0_off1 S1x256x128.size k0_off1_inb).toLoadRect (harg2.unread x0))⟩,
        ⟨Rect.unit (s := S272x128) ![264, 0] S8x128.size inb_S272x128_S8x128_264_0, k0_pay7 (F := F)⟩,
        ⟨Rect.unit (s := S272x128) ![0, 0] S8x128.size inb_S272x128_S8x128_0_0, k0_pay6 (F := F)⟩]) = padded x0 := by
  funext y
  have h0 : (y 0).val < 272 := (y 0).isLt
  unfold padded
  by_cases h : 8 ≤ (y 0).val ∧ (y 0).val < 264
  · rw [dif_pos h]
    refine (View.read_writes_cons_hit_of_coords arg5.view f _ _ _ (ix2 (⟨(y 0).val - 8, by omega⟩ : Fin 256) (y 1)) _ fun a => ?_).trans ?_
    · match a with
      | ⟨0, _⟩ => show (y 0).val = 8 + 1 * ((y 0).val - 8); omega
      | ⟨1, _⟩ => show (y 1).val = 0 + 1 * (y 1).val; omega
    · rw [readAt_whole arg2.view _ _ (by decide), harg2.read_unread]
      pointwise [k0_pay8]
  · rw [dif_neg h]
    refine (View.read_writes_cons_miss_of_axis arg5.view f _ _ _ (0 : Fin 2) 8 256 rfl rfl rfl (by omega)).trans ?_
    by_cases h2 : 264 ≤ (y 0).val
    · refine (View.read_writes_cons_hit_of_coords arg5.view f _ _ _ (ix2 (⟨(y 0).val - 264, by omega⟩ : Fin 8) (y 1)) _ fun a => ?_).trans ?_
      · match a with
        | ⟨0, _⟩ => show (y 0).val = 264 + 1 * ((y 0).val - 264); omega
        | ⟨1, _⟩ => show (y 1).val = 0 + 1 * (y 1).val; omega
      · pointwise [k0_pay7, k0_pay5]
    · refine (View.read_writes_cons_miss_of_axis arg5.view f _ _ _ (0 : Fin 2) 264 8 rfl rfl rfl (by omega)).trans ?_
      refine (View.read_writes_cons_hit_of_coords arg5.view f _ _ _ (ix2 (⟨(y 0).val, by omega⟩ : Fin 8) (y 1)) _ fun a => ?_).trans ?_
      · match a with
        | ⟨0, _⟩ => show (y 0).val = 0 + 1 * (y 0).val; omega
        | ⟨1, _⟩ => show (y 1).val = 0 + 1 * (y 1).val; omega
      · pointwise [k0_pay6, k0_pay5]

/-- The rows that a tap loads from the scratch after the three stores. -/
theorem load_shifted (j : Fin 4) (off : Fin 2 → ℕ) (h0 : off 0 = 6 + j.val) (h1 : off 1 = 0) (hin : ∀ a, off a + S256x128.size a ≤ S272x128.size a) :
    arg5.view.readCov
      [⟨Rect.unit (s := S272x128) k0_off2 S256x128.size k0_off2_inb,
          k0_pay8 (View.readAt (Elt F) arg2.view (Rect.unit (s := S1x256x128) k0_off1 S1x256x128.size k0_off1_inb).toLoadRect (harg2.unread x0))⟩,
        ⟨Rect.unit (s := S272x128) ![264, 0] S8x128.size inb_S272x128_S8x128_264_0, k0_pay7 (F := F)⟩,
        ⟨Rect.unit (s := S272x128) ![0, 0] S8x128.size inb_S272x128_S8x128_0_0, k0_pay6 (F := F)⟩]
      (Rect.unit (s := S272x128) off S256x128.size hin).toLoadRect = shifted x0 j := by
  unfold View.readCov
  rw [View.readAt_eq_ld, padded_store]
  funext y
  unfold shifted
  show padded x0 _ = padded x0 _
  congr 1
  funext a; apply Fin.ext
  match a with
  | ⟨0, _⟩ => show off 0 + 1 * (y 0).val = 6 + j.val + (y 0).val; omega
  | ⟨1, _⟩ => show off 1 + 1 * (y 1).val = (y 1).val; omega

/-- The weights that a tap loads. -/
theorem load_tap (j : Fin 4) (off : Fin 2 → ℕ) (h0 : off 0 = j.val) (h1 : off 1 = 0) (hin : ∀ a, off a + S1x128.size a ≤ S4x128.size a) :
    View.readAt (Elt F) arg3.view (Rect.unit (s := S4x128) off S1x128.size hin).toLoadRect (harg3.unread x1) = tap x1 j := by
  rw [View.readAt_eq_ld, harg3.read_unread]
  funext y
  have hy : (y 0).val < 1 := (y 0).isLt
  show x1 _ = x1 _
  congr 1
  funext a; apply Fin.ext
  match a with
  | ⟨0, _⟩ => show off 0 + 1 * (y 0).val = j.val; omega
  | ⟨1, _⟩ => show off 1 + 1 * (y 1).val = (y 1).val; omega

/-- Four taps' weights and rows, weighted and added. -/
theorem conv_of {a0 a1 a2 a3 : Vec F S1x128 .f32} {b0 b1 b2 b3 : Vec F S256x128 .f32} (h0 : a0 = tap x1 0) (h1 : a1 = tap x1 1) (h2 : a2 = tap x1 2)
    (h3 : a3 = tap x1 3) (g0 : b0 = shifted x0 0) (g1 : b1 = shifted x0 1) (g2 : b2 = shifted x0 2) (g3 : b3 = shifted x0 3) :
    k0_pay1 (k0_pay9 a0 b0) b1 (k0_pay10 a1) a2 b2 a3 b3 = conv x0 x1 := by
  subst h0 h1 h2 h3 g0 g1 g2 g3; rfl

/-- What the second scratch holds, loaded after its store. -/
theorem load_conv (off off' : Fin 2 → ℕ) (h : ∀ a, off a = 0) (h' : ∀ a, off' a = 0) (hin : ∀ a, off a + S256x128.size a ≤ S256x128.size a)
    (hin' : ∀ a, off' a + S256x128.size a ≤ S256x128.size a) (w : Vec F S256x128 .f32) :
    arg6.view.readCov [⟨Rect.unit (s := S256x128) off S256x128.size hin, w⟩] (Rect.unit (s := S256x128) off' S256x128.size hin').toLoadRect = w := by
  unfold View.readCov
  rw [readAt_whole _ _ _ h', read_whole_store _ _ _ h]

set_option maxHeartbeats 3200000 in
/-- The body at a point of the first sixteen column blocks. -/
theorem body1 (h1 : k0_cond1 i = 1#1) (h2 : ¬k0_cond2 i = 1#1) (h3 : ¬k0_cond3 i = 1#1) (x4 : Vec F S1x256x128 .bf16) (K : PUnit → sProp 𝕄) :
    iprop(owns (c : Thread nD τ) arg2 fullShare x0 ∗ owns (c : Thread nD τ) arg3 fullShare x1 ∗ owns (c : Thread nD τ) arg4 fullShare x4
        ∗ (∃ s, owns (Val := Elt F) (c : Thread nD τ) arg5 fullShare s) ∗ (∃ s, owns (Val := Elt F) (c : Thread nD τ) arg6 fullShare s)
        ∗ (iprop(owns (c : Thread nD τ) arg2 fullShare x0 ∗ owns (c : Thread nD τ) arg3 fullShare x1 ∗ owns (c : Thread nD τ) arg4 fullShare (tileOf i x0 x1)
            ∗ (∃ s, owns (Val := Elt F) (c : Thread nD τ) arg5 fullShare s) ∗ (∃ s, owns (Val := Elt F) (c : Thread nD τ) arg6 fullShare s)) -∗ K ⟨⟩))
      ⊢ wp frame (wpE (defs₀ (F := F)) Variants.none c none) Set.univ
          (cc0_gdnpre i arg2 harg2 arg3 harg3 arg4 harg4 arg5 harg5 arg6 harg6) K := by
  simp only [cc0_gdnpre_eq_skeleton]; unfold cc0_gdnpre_skel
  rw [k0_part1_eq_skeleton]; unfold k0_part1_skel
  simp only [dif_pos h1, dif_neg h2, dif_neg h3]
  unfold owns
  iintro ⟨⟨%f2, %hf2, H2⟩, ⟨%f3, %hf3, H3⟩, ⟨%f4, %hf4, H4⟩, ⟨%s5, ⟨%f5, %hf5, H5⟩⟩, ⟨%s6, ⟨%f6, %hf6, H6⟩⟩, HK⟩
  obtain rfl := harg2.eq_unread hf2; obtain rfl := harg3.eq_unread hf3; obtain rfl := harg4.eq_unread hf4
  sl_exec
  sl_step
  iapply HK
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_whole_store _ _ _ (by decide) _ _).trans ?_
    unfold body1.sl.v66 body1.sl.H6_1 body1.sl.v24 body1.sl.v30 body1.sl.v37 body1.sl.v44
    dsimp only
    unfold body1.sl.H5_3
    unfold tileOf
    rw [if_pos h1]
    refine congrArg k0_pay2 ?_
    refine (load_conv arg6 _ _ (by decide) (by decide) _ _ _).trans ?_
    exact conv_of x0 x1 (load_tap arg3 harg3 x1 0 ![0, 0] rfl rfl _) (load_tap arg3 harg3 x1 1 ![1, 0] rfl rfl _) (load_tap arg3 harg3 x1 2 ![2, 0] rfl rfl _)
      (load_tap arg3 harg3 x1 3 ![3, 0] rfl rfl _) (load_shifted arg2 harg2 arg5 x0 0 ![6, 0] rfl rfl _) (load_shifted arg2 harg2 arg5 x0 1 ![7, 0] rfl rfl _)
      (load_shifted arg2 harg2 arg5 x0 2 ![8, 0] rfl rfl _) (load_shifted arg2 harg2 arg5 x0 3 ![9, 0] rfl rfl _)
  isplitl [H5]
  · iexists _, _; isplitr
    swap; · iexact H5
    ipureintro; rfl
  · iexists _, _; isplitr
    swap; · iexact H6
    ipureintro; rfl

set_option maxHeartbeats 3200000 in
/-- The body at a point of the second sixteen column blocks. -/
theorem body2 (h1 : ¬k0_cond1 i = 1#1) (h2 : k0_cond2 i = 1#1) (h3 : ¬k0_cond3 i = 1#1) (x4 : Vec F S1x256x128 .bf16) (K : PUnit → sProp 𝕄) :
    iprop(owns (c : Thread nD τ) arg2 fullShare x0 ∗ owns (c : Thread nD τ) arg3 fullShare x1 ∗ owns (c : Thread nD τ) arg4 fullShare x4
        ∗ (∃ s, owns (Val := Elt F) (c : Thread nD τ) arg5 fullShare s) ∗ (∃ s, owns (Val := Elt F) (c : Thread nD τ) arg6 fullShare s)
        ∗ (iprop(owns (c : Thread nD τ) arg2 fullShare x0 ∗ owns (c : Thread nD τ) arg3 fullShare x1 ∗ owns (c : Thread nD τ) arg4 fullShare (tileOf i x0 x1)
            ∗ (∃ s, owns (Val := Elt F) (c : Thread nD τ) arg5 fullShare s) ∗ (∃ s, owns (Val := Elt F) (c : Thread nD τ) arg6 fullShare s)) -∗ K ⟨⟩))
      ⊢ wp frame (wpE (defs₀ (F := F)) Variants.none c none) Set.univ
          (cc0_gdnpre i arg2 harg2 arg3 harg3 arg4 harg4 arg5 harg5 arg6 harg6) K := by
  simp only [cc0_gdnpre_eq_skeleton]; unfold cc0_gdnpre_skel
  rw [k0_part1_eq_skeleton]; unfold k0_part1_skel
  simp only [dif_neg h1, dif_pos h2, dif_neg h3]
  unfold owns
  iintro ⟨⟨%f2, %hf2, H2⟩, ⟨%f3, %hf3, H3⟩, ⟨%f4, %hf4, H4⟩, ⟨%s5, ⟨%f5, %hf5, H5⟩⟩, ⟨%s6, ⟨%f6, %hf6, H6⟩⟩, HK⟩
  obtain rfl := harg2.eq_unread hf2; obtain rfl := harg3.eq_unread hf3; obtain rfl := harg4.eq_unread hf4
  sl_exec
  sl_step
  iapply HK
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_whole_store _ _ _ (by decide) _ _).trans ?_
    unfold body2.sl.v66 body2.sl.H6_1 body2.sl.v24 body2.sl.v30 body2.sl.v37 body2.sl.v44
    dsimp only
    unfold body2.sl.H5_3
    unfold tileOf
    rw [if_neg h1, if_pos h2]
    refine congrArg k0_pay3 ?_
    refine (load_conv arg6 _ _ (by decide) (by decide) _ _ _).trans ?_
    exact conv_of x0 x1 (load_tap arg3 harg3 x1 0 ![0, 0] rfl rfl _) (load_tap arg3 harg3 x1 1 ![1, 0] rfl rfl _) (load_tap arg3 harg3 x1 2 ![2, 0] rfl rfl _)
      (load_tap arg3 harg3 x1 3 ![3, 0] rfl rfl _) (load_shifted arg2 harg2 arg5 x0 0 ![6, 0] rfl rfl _) (load_shifted arg2 harg2 arg5 x0 1 ![7, 0] rfl rfl _)
      (load_shifted arg2 harg2 arg5 x0 2 ![8, 0] rfl rfl _) (load_shifted arg2 harg2 arg5 x0 3 ![9, 0] rfl rfl _)
  isplitl [H5]
  · iexists _, _; isplitr
    swap; · iexact H5
    ipureintro; rfl
  · iexists _, _; isplitr
    swap; · iexact H6
    ipureintro; rfl

set_option maxHeartbeats 3200000 in
/-- The body at a point of the last sixteen column blocks. -/
theorem body3 (h1 : ¬k0_cond1 i = 1#1) (h2 : ¬k0_cond2 i = 1#1) (h3 : k0_cond3 i = 1#1) (x4 : Vec F S1x256x128 .bf16) (K : PUnit → sProp 𝕄) :
    iprop(owns (c : Thread nD τ) arg2 fullShare x0 ∗ owns (c : Thread nD τ) arg3 fullShare x1 ∗ owns (c : Thread nD τ) arg4 fullShare x4
        ∗ (∃ s, owns (Val := Elt F) (c : Thread nD τ) arg5 fullShare s) ∗ (∃ s, owns (Val := Elt F) (c : Thread nD τ) arg6 fullShare s)
        ∗ (iprop(owns (c : Thread nD τ) arg2 fullShare x0 ∗ owns (c : Thread nD τ) arg3 fullShare x1 ∗ owns (c : Thread nD τ) arg4 fullShare (tileOf i x0 x1)
            ∗ (∃ s, owns (Val := Elt F) (c : Thread nD τ) arg5 fullShare s) ∗ (∃ s, owns (Val := Elt F) (c : Thread nD τ) arg6 fullShare s)) -∗ K ⟨⟩))
      ⊢ wp frame (wpE (defs₀ (F := F)) Variants.none c none) Set.univ
          (cc0_gdnpre i arg2 harg2 arg3 harg3 arg4 harg4 arg5 harg5 arg6 harg6) K := by
  simp only [cc0_gdnpre_eq_skeleton]; unfold cc0_gdnpre_skel
  rw [k0_part1_eq_skeleton]; unfold k0_part1_skel
  simp only [dif_neg h1, dif_neg h2, dif_pos h3]
  unfold owns
  iintro ⟨⟨%f2, %hf2, H2⟩, ⟨%f3, %hf3, H3⟩, ⟨%f4, %hf4, H4⟩, ⟨%s5, ⟨%f5, %hf5, H5⟩⟩, ⟨%s6, ⟨%f6, %hf6, H6⟩⟩, HK⟩
  obtain rfl := harg2.eq_unread hf2; obtain rfl := harg3.eq_unread hf3; obtain rfl := harg4.eq_unread hf4
  sl_exec
  sl_step
  iapply HK
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_whole_store _ _ _ (by decide) _ _).trans ?_
    unfold body3.sl.v66 body3.sl.H6_1 body3.sl.v24 body3.sl.v30 body3.sl.v37 body3.sl.v44
    dsimp only
    unfold body3.sl.H5_3
    unfold tileOf
    rw [if_neg h1, if_neg h2]
    refine congrArg k0_pay4 ?_
    refine (load_conv arg6 _ _ (by decide) (by decide) _ _ _).trans ?_
    exact conv_of x0 x1 (load_tap arg3 harg3 x1 0 ![0, 0] rfl rfl _) (load_tap arg3 harg3 x1 1 ![1, 0] rfl rfl _) (load_tap arg3 harg3 x1 2 ![2, 0] rfl rfl _)
      (load_tap arg3 harg3 x1 3 ![3, 0] rfl rfl _) (load_shifted arg2 harg2 arg5 x0 0 ![6, 0] rfl rfl _) (load_shifted arg2 harg2 arg5 x0 1 ![7, 0] rfl rfl _)
      (load_shifted arg2 harg2 arg5 x0 2 ![8, 0] rfl rfl _) (load_shifted arg2 harg2 arg5 x0 3 ![9, 0] rfl rfl _)
  isplitl [H5]
  · iexists _, _; isplitr
    swap; · iexact H5
    ipureintro; rfl
  · iexists _, _; isplitr
    swap; · iexact H6
    ipureintro; rfl

/-- The body at any point: it stores the point's tile, whatever the buffers that it fills held. -/
theorem body (x4 : Vec F S1x256x128 .bf16) (K : PUnit → sProp 𝕄) :
    iprop(owns (c : Thread nD τ) arg2 fullShare x0 ∗ owns (c : Thread nD τ) arg3 fullShare x1 ∗ owns (c : Thread nD τ) arg4 fullShare x4
        ∗ (∃ s, owns (Val := Elt F) (c : Thread nD τ) arg5 fullShare s) ∗ (∃ s, owns (Val := Elt F) (c : Thread nD τ) arg6 fullShare s)
        ∗ (iprop(owns (c : Thread nD τ) arg2 fullShare x0 ∗ owns (c : Thread nD τ) arg3 fullShare x1 ∗ owns (c : Thread nD τ) arg4 fullShare (tileOf i x0 x1)
            ∗ (∃ s, owns (Val := Elt F) (c : Thread nD τ) arg5 fullShare s) ∗ (∃ s, owns (Val := Elt F) (c : Thread nD τ) arg6 fullShare s)) -∗ K ⟨⟩))
      ⊢ wp frame (wpE (defs₀ (F := F)) Variants.none c none) Set.univ
          (cc0_gdnpre i arg2 harg2 arg3 harg3 arg4 harg4 arg5 harg5 arg6 harg6) K := by
  obtain ⟨e1, e2, e3⟩ := conds ⟨(i 1).val, (i 1).isLt⟩ i rfl
  have hlt : (i 1).val < 48 := (i 1).isLt
  by_cases a : (i 1).val < 16
  · exact body1 c i arg2 harg2 arg3 harg3 arg4 harg4 arg5 harg5 arg6 harg6 x0 x1 (e1.mpr a) (fun h => absurd (e2.mp h).1 (by show ¬16 ≤ (i 1).val; omega))
      (fun h => absurd (e3.mp h) (by show ¬32 ≤ (i 1).val; omega)) x4 K
  · by_cases b : (i 1).val < 32
    · exact body2 c i arg2 harg2 arg3 harg3 arg4 harg4 arg5 harg5 arg6 harg6 x0 x1 (fun h => a (e1.mp h)) (e2.mpr ⟨by show 16 ≤ (i 1).val; omega, b⟩)
        (fun h => absurd (e3.mp h) (by show ¬32 ≤ (i 1).val; omega)) x4 K
    · exact body3 c i arg2 harg2 arg3 harg3 arg4 harg4 arg5 harg5 arg6 harg6 x0 x1 (fun h => a (e1.mp h)) (fun h => b (e2.mp h).2)
        (e3.mpr (by show 32 ≤ (i 1).val; omega)) x4 K

end Cert.Kernel11Ideal.Gdnpre

end
-- ==== Proof.Gdnpre.Launch.lean ====
/-
  The launch of the DeltaNet's convolution over the context: what each staging buffer holds after each point, the body's
  obligation at every point, and the run over any float values. Both scratches are filled anew at every point.
-/
module

public import proofs.«01_k».proof.Proof.Gdnpre.Body
public import Idealize.ShloMosaic.Lib.Claim

@[expose] public section

set_option maxRecDepth 16384

noncomputable section

namespace Cert.Kernel11Ideal.Gdnpre

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result tile at point `t`. -/
def tile (c : Dev nD) (t : Fin cfg0.N) : Vec F S1x256x128 .bf16 := tileOf (grid0.coords t) (iblk m c 0 t) (iblk m c 1 t)

/-- The padded scratch, whole, -/
abbrev padM : Memref sig .tc .vmem S272x128 .f32 := Memref.whole cc0_scratch0

/-- and the sums' scratch, whole. -/
abbrev sumM : Memref sig .tc .vmem S256x128 .f32 := Memref.whole cc0_scratch1

/-- What the launch hands over beside the windows: the scratches at some contents and the generator's register. -/
theorem PhiA_eq (c : Dev nD) : (Pipeline.ΦA spec0 c : sProp 𝕄)
    = iprop(((∃ d, owns (Val := Elt F) (c : Thread nD τ) padM fullShare d) ∗ (∃ d, owns (Val := Elt F) (c : Thread nD τ) sumM fullShare d)) ∗ (∃ r, prngReg c r)) := by
  unfold Pipeline.ΦA; rw [scopedRest0_eq]; simp only [padM, sumM, owns_whole]; rfl

/-- What every staging buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile m c t := by dsimp only [dats]

/-- What the input windows hold before each point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- At every point one of the three conditions holds, so the result's buffer is stored into. -/
theorem not_idle (t : Fin cfg0.N) : cfg0.idle 2 (cfg0.grid.coords t) = false := by
  have h := conds ⟨(grid0.coords t 1).val, (grid0.coords t 1).isLt⟩ (grid0.coords t) rfl
  obtain ⟨e1, e2, e3⟩ := h
  show (!(k0_cond1 (grid0.coords t) == 1#1) && !(k0_cond2 (grid0.coords t) == 1#1) && !(k0_cond3 (grid0.coords t) == 1#1)) = false
  by_cases a : (grid0.coords t 1).val < 16
  · rw [e1.mpr a]; rfl
  · by_cases b : (grid0.coords t 1).val < 32
    · rw [e2.mpr ⟨by show 16 ≤ (grid0.coords t 1).val; omega, b⟩]; simp
    · rw [e3.mpr (by show 32 ≤ (grid0.coords t 1).val; omega)]; simp

theorem leaves0_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (st0_2 t) fullShare (tile m c t) := by
  unfold Dat.leavesExact; rw [not_idle t, after0_2]

/-- What is held before and after a point is the same. -/
theorem Phi_castSucc (c : Dev nD) (t : Fin cfg0.N) : (dats m 0 c).Φ t.castSucc
    = iprop(((∃ d, owns (Val := Elt F) (c : Thread nD τ) padM fullShare d) ∗ (∃ d, owns (Val := Elt F) (c : Thread nD τ) sumM fullShare d)) ∗ (∃ r, prngReg c r)) := PhiA_eq c
theorem Phi_succ (c : Dev nD) (t : Fin cfg0.N) : (dats m 0 c).Φ t.succ
    = iprop(((∃ d, owns (Val := Elt F) (c : Thread nD τ) padM fullShare d) ∗ (∃ d, owns (Val := Elt F) (c : Thread nD τ) sumM fullShare d)) ∗ (∃ r, prngReg c r)) := PhiA_eq c

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    Phi_castSucc, Phi_succ, leaves0_0, leaves0_1, leaves0_2]
  iintro ⟨⟨⟨HS, HT⟩, Hg⟩, Ho, ⟨%d0, H0⟩, ⟨%d1, H1⟩, ⟨%d2, H2⟩⟩
  iapply (body c (grid0.coords t) _ _ _ _ _ _ _ _ _ _ (iblk m c 0 t) (iblk m c 1 t) ((dats m 0 c).before 2 t d2) _)
  isplitl [H0]; · iexact H0
  isplitl [H1]; · iexact H1
  isplitl [H2]; · iexact H2
  isplitl [HS]; · iexact HS
  isplitl [HT]; · iexact HT
  iintro ⟨H0, H1, H2, HS, HT⟩
  isplitl [HS HT Hg]
  · isplitl [HS HT]
    · isplitl [HS]; · iexact HS
      iexact HT
    iexact Hg
  isplitl [Ho]; · iexact Ho
  isplitl [H0]; · iexact H0
  isplitl [H1]; · iexact H1
  iexact H2

/-- The body table's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the points' write-backs leave, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel11Ideal.Gdnpre

end
-- ==== Proof.Gdnpre.Result.lean ====
/-
  The DeltaNet's convolution over the context, read over the extended reals: the convolved block, its gating by a hyperbolic
  tangent, the tile a point leaves, and the result array.
-/
module

public import proofs.«01_k».proof.Proof.Gdnpre.Launch
public import Idealize.ShloMosaic.Lib.Pipeline.Value

@[expose] public section

set_option maxRecDepth 16384

noncomputable section

namespace Cert.Kernel11Ideal.Gdnpre

open Cert.Kernel11Ideal Cert.Kernel11Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- A number times its logistic. -/
def silu (x : EReal) : EReal := x * Ideal.div 1 (1 + Ideal.exp (-x))

theorem half_val : Ideal.ofBits .f32 0x3F000000#32 = ((1 / 2 : ℝ) : EReal) := by
  simp [Ideal.ofBits, Ideal.ieee, -EReal.coe_mul]; norm_num

/-- Half a number times one more than the half's hyperbolic tangent is the number times its logistic, at the infinities too. -/
theorem half_tanh (y : EReal) :
    Ideal.ofBits .f32 0x3F000000#32 * y * (1 + Ideal.tanh (Ideal.ofBits .f32 0x3F000000#32 * y)) = silu y := by
  have hl : silu y = y * Ideal.logistic y := rfl
  rw [hl, half_val]
  induction y with
  | bot =>
    rw [EReal.coe_mul_bot_of_pos (by norm_num : (0 : ℝ) < 1 / 2)]
    simp
    rw [← EReal.coe_one, ← EReal.coe_neg, ← EReal.coe_add]; norm_num
  | top =>
    rw [EReal.coe_mul_top_of_pos (by norm_num : (0 : ℝ) < 1 / 2)]
    simp
    rw [← EReal.coe_one, ← EReal.coe_add]; exact EReal.top_mul_coe_of_pos (by norm_num)
  | coe r =>
    rw [Ideal.logistic_coe, ← EReal.coe_mul]
    show ((1 / 2 * r : ℝ) : EReal) * (1 + ((Real.tanh (1 / 2 * r) : ℝ) : EReal)) = _
    rw [← EReal.coe_one, ← EReal.coe_add, ← EReal.coe_mul, ← EReal.coe_mul]
    congr 1
    have e1 : Real.exp (1 / 2 * r) ≠ 0 := (Real.exp_pos _).ne'
    have e2 : Real.exp (-r) = (Real.exp (1 / 2 * r))⁻¹ * (Real.exp (1 / 2 * r))⁻¹ := by
      rw [← Real.exp_neg, ← Real.exp_add]; congr 1; ring
    have e3 : (0 : ℝ) < Real.exp (1 / 2 * r) := Real.exp_pos _
    rw [Real.tanh_eq_sinh_div_cosh, Real.sinh_eq, Real.cosh_eq, e2, Real.exp_neg]
    have e4 : Real.exp (1 / 2 * r) + (Real.exp (1 / 2 * r))⁻¹ ≠ 0 := by positivity
    have e5 : 1 + (Real.exp (1 / 2 * r))⁻¹ * (Real.exp (1 / 2 * r))⁻¹ ≠ 0 := by positivity
    field_simp
    ring

/-- The projections' column for the convolution's column `c`. -/
def xCol (c : Fin 6144) : Fin 12288 := ⟨4096 + c.val, by omega⟩

/-- The column `k` of the head that column `c` is in. -/
def headCol (c : Fin 6144) (k : Fin 128) : Fin 6144 := ⟨128 * (c.val / 128) + k.val, by omega⟩

/-- The row that tap `j` weights for row `r`: two rows up and `j` down, zero outside the context. -/
def rowAt (p : S2x256x12288.Idx → EReal) (b : Fin 2) (r : Fin 256) (c : Fin 6144) (j : Fin 4) : EReal :=
  if h : 2 ≤ r.val + j.val ∧ r.val + j.val < 258 then p (ix3 b (⟨r.val + j.val - 2, by omega⟩ : Fin 256) (xCol c)) else 0

/-- The convolution, gated by its logistic, at row `r` and column `c` of a batch. -/
def gatedAt (p : S2x256x12288.Idx → EReal) (w : S4x6144.Idx → EReal) (b : Fin 2) (r : Fin 256) (c : Fin 6144) : EReal :=
  silu (w (ix2 (0 : Fin 4) c) * rowAt p b r c 0 + w (ix2 (1 : Fin 4) c) * rowAt p b r c 1 + w (ix2 (2 : Fin 4) c) * rowAt p b r c 2
    + w (ix2 (3 : Fin 4) c) * rowAt p b r c 3)

/-- One over the root of a head row's sum of squares, the small constant added to the sum. -/
def invNorm (x : Fin 128 → EReal) : EReal := Ideal.rsqrt (∑ k : Fin 128, x k * x k + Ideal.ofBits .f32 0x358637BD#32)

/-- The queries, normed head by head and scaled; the keys, normed head by head; and the values. -/
def qkvAt (p : S2x256x12288.Idx → EReal) (w : S4x6144.Idx → EReal) (b : Fin 2) (r : Fin 256) (c : Fin 6144) : EReal :=
  if c.val < 2048 then gatedAt p w b r c * (invNorm (fun k => gatedAt p w b r (headCol c k)) * Ideal.ofBits .f32 0x3DB504F3#32)
  else if c.val < 4096 then gatedAt p w b r c * invNorm (fun k => gatedAt p w b r (headCol c k))
  else gatedAt p w b r c

/-- The queries, keys and values, side by side. -/
def qkv (p : S2x256x12288.Idx → EReal) (w : S4x6144.Idx → EReal) : S2x256x6144.Idx → EReal := fun i => qkvAt p w (i 0) (i 1) (i 2)

/-- The padded block at an index: row `q` is the block's row `q - 8`, or zero. -/
theorem shifted_apply (x0 : Vec Ideal S1x256x128 .f32) (j : Fin 4) (r : Fin 256) (e : Fin 128) :
    shifted x0 j (ix2 r e) = if h : 2 ≤ r.val + j.val ∧ r.val + j.val < 258 then x0 (ix3 (0 : Fin 1) (⟨r.val + j.val - 2, by omega⟩ : Fin 256) e) else 0 := by
  show (if h : 8 ≤ 6 + j.val + r.val ∧ 6 + j.val + r.val < 264 then x0 (ix3 (0 : Fin 1) (⟨6 + j.val + r.val - 8, by omega⟩ : Fin 256) e) else k0_pay5 (F := Ideal) (ix2 (0 : Fin 8) e)) = _
  by_cases h : 2 ≤ r.val + j.val ∧ r.val + j.val < 258
  · rw [dif_pos h, dif_pos (by omega)]
    congr 2
    exact Fin.ext (by show 6 + j.val + r.val - 8 = r.val + j.val - 2; omega)
  · rw [dif_neg h, dif_neg (by omega)]
    pointwise [k0_pay5]

/-- The convolved block at an index. -/
theorem conv_apply (x0 : Vec Ideal S1x256x128 .f32) (x1 : Vec Ideal S4x128 .f32) (r : Fin 256) (e : Fin 128) :
    conv x0 x1 (ix2 r e) = x1 (ix2 (0 : Fin 4) e) * shifted x0 0 (ix2 r e) + x1 (ix2 (1 : Fin 4) e) * shifted x0 1 (ix2 r e)
      + x1 (ix2 (2 : Fin 4) e) * shifted x0 2 (ix2 r e) + x1 (ix2 (3 : Fin 4) e) * shifted x0 3 (ix2 r e) := by
  unfold conv
  generalize (shifted x0 0 : FVec Ideal S256x128 .f32) = a0
  generalize (shifted x0 1 : FVec Ideal S256x128 .f32) = a1
  generalize (shifted x0 2 : FVec Ideal S256x128 .f32) = a2
  generalize (shifted x0 3 : FVec Ideal S256x128 .f32) = a3
  pointwise [k0_pay1, k0_pay9, k0_pay10, tap]

/-- The three forms of the stored tile at an index: normed and scaled, -/
theorem pay2_apply (y : Vec Ideal S256x128 .f32) (r : Fin 256) (e : Fin 128) :
    k0_pay2 y (ix3 (0 : Fin 1) r e) = silu (y (ix2 r e)) * (invNorm (fun k => silu (y (ix2 r k)))
      * Ideal.ofBits .f32 0x3DB504F3#32) := by
  simp only [invNorm, ← half_tanh]
  pointwise [k0_pay2]

/-- normed, -/
theorem pay3_apply (y : Vec Ideal S256x128 .f32) (r : Fin 256) (e : Fin 128) :
    k0_pay3 y (ix3 (0 : Fin 1) r e) = silu (y (ix2 r e)) * invNorm (fun k => silu (y (ix2 r k))) := by
  simp only [invNorm, ← half_tanh]
  pointwise [k0_pay3]

/-- or as it is. -/
theorem pay4_apply (y : Vec Ideal S256x128 .f32) (r : Fin 256) (e : Fin 128) :
    k0_pay4 y (ix3 (0 : Fin 1) r e) = silu (y (ix2 r e)) := by
  simp only [← half_tanh]
  pointwise [k0_pay4]

/-- The block index of each window, and the column block, at point `t`. -/
theorem index_val : ∀ t : Fin cfg0.N, cc0_transform_0 (grid0.coords t) = ![t.val / 48, 0, 32 + t.val % 48]
    ∧ cc0_transform_1 (grid0.coords t) = ![0, t.val % 48]
    ∧ cc0_transform_2 (grid0.coords t) = ![t.val / 48, 0, t.val % 48]
    ∧ (grid0.coords t 1).val = t.val % 48 :=
  (by decide +kernel : ∀ t : Fin grid0.N, _)

/-- The batch that point `t` is in, -/
def batch (t : Fin cfg0.N) : Fin 2 := ⟨t.val / 48, by have := lt_of_lt_of_eq t.isLt (show cfg0.N = 96 from N_0); omega⟩

/-- and the column `e` of its block. -/
def col (t : Fin cfg0.N) (e : Fin 128) : Fin 6144 := ⟨128 * (t.val % 48) + e.val, by omega⟩

/-- The projections' block at point `t`; -/
theorem iblk0_apply (c : Dev nD) (t : Fin cfg0.N) (r : Fin 256) (e : Fin 128) :
    (iblk m c 0 t : Vec Ideal S1x256x128 .f32) (ix3 (0 : Fin 1) r e) = m ((c : Thread nD τ).loc main_arg0) (ix3 (batch t) r (xCol (col t e))) := by
  unfold iblk
  rw [View.read_apply]
  show m ((c : Thread nD τ).loc main_arg0) _ = m ((c : Thread nD τ).loc main_arg0) _
  congr 1
  funext a; apply Fin.ext
  match a with
  | ⟨0, _⟩ => show cc0_transform_0 (grid0.coords t) 0 * 1 + 1 * 0 = t.val / 48
              rw [(index_val t).1]; show t.val / 48 * 1 + 1 * 0 = _; omega
  | ⟨1, _⟩ => show cc0_transform_0 (grid0.coords t) 1 * 256 + 1 * r.val = r.val
              rw [(index_val t).1]; show 0 * 256 + 1 * r.val = _; omega
  | ⟨2, _⟩ => show cc0_transform_0 (grid0.coords t) 2 * 128 + 1 * e.val = 4096 + (128 * (t.val % 48) + e.val)
              rw [(index_val t).1]; show (32 + t.val % 48) * 128 + 1 * e.val = _; omega

/-- and the weights' block. -/
theorem iblk1_apply (c : Dev nD) (t : Fin cfg0.N) (j : Fin 4) (e : Fin 128) :
    (iblk m c 1 t : Vec Ideal S4x128 .f32) (ix2 j e) = m ((c : Thread nD τ).loc main_arg1) (ix2 j (col t e)) := by
  unfold iblk
  rw [View.read_apply]
  show m ((c : Thread nD τ).loc main_arg1) _ = m ((c : Thread nD τ).loc main_arg1) _
  congr 1
  funext a; apply Fin.ext
  match a with
  | ⟨0, _⟩ => show cc0_transform_1 (grid0.coords t) 0 * 4 + 1 * j.val = j.val
              rw [(index_val t).2.1]; show 0 * 4 + 1 * j.val = _; omega
  | ⟨1, _⟩ => show cc0_transform_1 (grid0.coords t) 1 * 128 + 1 * e.val = 128 * (t.val % 48) + e.val
              rw [(index_val t).2.1]; show t.val % 48 * 128 + 1 * e.val = _; omega

/-- The convolved and gated block at point `t`. -/
theorem silu_conv_apply (c : Dev nD) (t : Fin cfg0.N) (r : Fin 256) (e : Fin 128) :
    silu (conv (iblk m c 0 t : Vec Ideal S1x256x128 .f32) (iblk m c 1 t : Vec Ideal S4x128 .f32) (ix2 r e))
      = gatedAt (m ((c : Thread nD τ).loc main_arg0)) (m ((c : Thread nD τ).loc main_arg1)) (batch t) r (col t e) := by
  have hs : ∀ j : Fin 4, shifted (iblk m c 0 t : Vec Ideal S1x256x128 .f32) j (ix2 r e) = rowAt (m ((c : Thread nD τ).loc main_arg0)) (batch t) r (col t e) j := by
    intro j
    refine (shifted_apply _ j r e).trans ?_
    unfold rowAt
    by_cases h : 2 ≤ r.val + j.val ∧ r.val + j.val < 258
    · rw [dif_pos h, dif_pos h]
      exact iblk0_apply m c t _ e
    · rw [dif_neg h, dif_neg h]
  unfold gatedAt
  refine congrArg silu ((conv_apply _ _ r e).trans ?_)
  rw [hs 0, hs 1, hs 2, hs 3, iblk1_apply m c t 0 e, iblk1_apply m c t 1 e, iblk1_apply m c t 2 e, iblk1_apply m c t 3 e]

/-- The result array's contents. -/
def result (c : Dev nD) : Buf (Elt Ideal) ((c : Thread nD τ).loc main_v0) :=
  qkv (m ((c : Thread nD τ).loc main_arg0)) (m ((c : Thread nD τ).loc main_arg1))

/-- The tile that point `t` leaves is a tile of the result. -/
theorem tile_apply (c : Dev nD) (t : Fin cfg0.N) (r : Fin 256) (e : Fin 128) :
    tile m c t (ix3 (0 : Fin 1) r e) = result m c (ix3 (batch t) r (col t e)) := by
  obtain ⟨e1, e2, e3⟩ := conds ⟨(grid0.coords t 1).val, (grid0.coords t 1).isLt⟩ (grid0.coords t) rfl
  have e1' : k0_cond1 (grid0.coords t) = 1#1 ↔ t.val % 48 < 16 := by rw [← (index_val t).2.2.2]; exact e1
  have e2' : k0_cond2 (grid0.coords t) = 1#1 ↔ 16 ≤ t.val % 48 ∧ t.val % 48 < 32 := by rw [← (index_val t).2.2.2]; exact e2
  have he : e.val < 128 := e.isLt
  have hk : ∀ k, headCol (col t e) k = col t k := fun k => Fin.ext (by
    show 128 * ((128 * (t.val % 48) + e.val) / 128) + k.val = 128 * (t.val % 48) + k.val; omega)
  show _ = qkvAt _ _ (batch t) r (col t e)
  unfold tile tileOf qkvAt
  simp only [hk, ← silu_conv_apply m c t r]
  by_cases a : t.val % 48 < 16
  · rw [if_pos (e1'.mpr a), if_pos (show (col t e).val < 2048 by show 128 * (t.val % 48) + e.val < 2048; omega)]
    exact pay2_apply _ r e
  · rw [if_neg (fun h => a (e1'.mp h)), if_neg (show ¬(col t e).val < 2048 by show ¬128 * (t.val % 48) + e.val < 2048; omega)]
    by_cases b : t.val % 48 < 32
    · rw [if_pos (e2'.mpr ⟨by omega, b⟩), if_pos (show (col t e).val < 4096 by show 128 * (t.val % 48) + e.val < 4096; omega)]
      exact pay3_apply _ r e
    · rw [if_neg (fun h => b (e2'.mp h).2), if_neg (show ¬(col t e).val < 4096 by show ¬128 * (t.val % 48) + e.val < 4096; omega)]
      exact pay4_apply _ r e

/-- What a point writes back is its block of `result`. -/
theorem flushed_eq (c : Dev nD) (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  rw [View.read_apply]
  have h0 : (y 0).val < 1 := (y 0).isLt
  have ha : (cfg0.win 2).xinj (grid0.coords t) y = ix3 (0 : Fin 1) (y 1) (y 2) := by
    funext a; apply Fin.ext
    match a with
    | ⟨0, _⟩ => show (y 0).val = 0; omega
    | ⟨1, _⟩ => rfl
    | ⟨2, _⟩ => rfl
  have hb : ((cfg0.win 2).blk t).view.emb y = ix3 (batch t) (y 1) (col t (y 2)) := by
    funext a; apply Fin.ext
    match a with
    | ⟨0, _⟩ => show cc0_transform_2 (grid0.coords t) 0 * 1 + 1 * (y 0).val = t.val / 48
                rw [(index_val t).2.2.1]; show t.val / 48 * 1 + 1 * (y 0).val = _; omega
    | ⟨1, _⟩ => show cc0_transform_2 (grid0.coords t) 1 * 256 + 1 * (y 1).val = (y 1).val
                rw [(index_val t).2.2.1]; show 0 * 256 + 1 * (y 1).val = _; omega
    | ⟨2, _⟩ => show cc0_transform_2 (grid0.coords t) 2 * 128 + 1 * (y 2).val = 128 * (t.val % 48) + (y 2).val
                rw [(index_val t).2.2.1]; show t.val % 48 * 128 + 1 * (y 2).val = _; omega
  show tile m c t ((cfg0.win 2).xinj (grid0.coords t) y) = result m c (((cfg0.win 2).blk t).view.emb y)
  rw [ha, hb]
  exact tile_apply m c t (y 1) (y 2)

/-- After the run the result array holds `result`: the points' tiles cover it. -/
theorem final_eq (c : Dev nD) : (dats m 0 c).arrAt 2 cfg0.N = result m c :=
  (dats m 0 c).arrAt_eq_of_cover 2 _ (flushed_eq m c) fun i => by
    have h0 : (i 0).val < 2 := (i 0).isLt
    have h1 : (i 1).val < 256 := (i 1).isLt
    have h2 : (i 2).val < 6144 := (i 2).isLt
    let t : Fin cfg0.N := ⟨48 * (i 0).val + (i 2).val / 128, by rw [show cfg0.N = 96 from N_0]; omega⟩
    have e0 : t.val / 48 = (i 0).val := by show (48 * (i 0).val + (i 2).val / 128) / 48 = _; omega
    have e1 : t.val % 48 = (i 2).val / 128 := by show (48 * (i 0).val + (i 2).val / 128) % 48 = _; omega
    refine ⟨t, flush0_2 t, ?_⟩
    show i ∈ ((View.whole main_v0).slice (win0_2.rect t)).set
    rw [View.set_slice_whole, Rect.mem_set_unit]
    intro a
    match a with
    | ⟨0, _⟩ => show cc0_transform_2 (grid0.coords t) 0 * 1 ≤ (i 0).val ∧ (i 0).val < cc0_transform_2 (grid0.coords t) 0 * 1 + 1
                rw [(index_val t).2.2.1]; show t.val / 48 * 1 ≤ (i 0).val ∧ (i 0).val < t.val / 48 * 1 + 1
                rw [e0]; omega
    | ⟨1, _⟩ => show cc0_transform_2 (grid0.coords t) 1 * 256 ≤ (i 1).val ∧ (i 1).val < cc0_transform_2 (grid0.coords t) 1 * 256 + 256
                rw [(index_val t).2.2.1]; show 0 * 256 ≤ (i 1).val ∧ (i 1).val < 0 * 256 + 256
                omega
    | ⟨2, _⟩ => show cc0_transform_2 (grid0.coords t) 2 * 128 ≤ (i 2).val ∧ (i 2).val < cc0_transform_2 (grid0.coords t) 2 * 128 + 128
                rw [(index_val t).2.2.1]; show t.val % 48 * 128 ≤ (i 2).val ∧ (i 2).val < t.val % 48 * 128 + 128
                rw [e1]; omega

/-- The run: the result array ends at `result`, -/
theorem run_result : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h.1 c).1 2).trans (final_eq m c)) (run_quiescent m ρ)

/-- and the arguments as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨h.1 c, h.2.1 c⟩) (θ_run_and (run_result m ρ) (frame m ρ))

end Cert.Kernel11Ideal.Gdnpre

end
-- ==== Proof.Gdnpre.Equation.lean ====
/-
  The convolution's equation: the reference's context rows, padded, weighted, gated, and by the third of the columns normed
  head by head and scaled, are at every index what the kernel's result array holds; so the two programs end with equal
  results.
-/
module

public import proofs.«01_k».proof.Defs
public import proofs.«01_k».proof.Proof.Gdnpre.Result
public import proofs.«01_k».proof.Proof.Gen.Reference11Ideal.Run

@[expose] public section

set_option maxRecDepth 16384

noncomputable section

namespace Cert.Reference11Ideal.Gdnpre

open Cert.Reference11Ideal Cert.Reference11Ideal.Gen Idealize.ShloMosaic Idealize.ShloMosaic.TcCoe Idealize.SL.Sem
open Cert.Kernel11Ideal.Gdnpre (silu xCol headCol rowAt gatedAt invNorm qkvAt qkv)
open scoped BigOperators

/-- The reference's context rows between two rows of zeros and one, -/
abbrev padRows (p : FVec Ideal S2x256x12288 .f32) : FVec Ideal S2x259x6144 .f32 :=
  pad S2x259x6144 ![0, 2, 0] ![0, 1, 0] ![0, 0, 0] (extractStridedSlice S2x256x6144 ![0, 0, 4096] p slices_S2x256x12288_S2x256x6144_0_0_4096) (sitofp .f32 (constantI S_ 32 0#32)) pads_S2x256x6144_S2x259x6144_000_210_000 h_S_

/-- four runs of any such rows, weighted and added, -/
abbrev taps (x : FVec Ideal S2x259x6144 .f32) (w : FVec Ideal S4x6144 .f32) : FVec Ideal S2x256x6144 .f32 :=
  addf (addf (addf (mulf (extractStridedSlice S2x256x6144 ![0, 0, 0] x slices_S2x259x6144_S2x256x6144_0_0_0) (broadcastInDim S2x256x6144 ![0, 1, 2] bcast_S1x1x6144_S2x256x6144_0_1_2 (broadcastInDim S1x1x6144 ![2] bcast_S6144_S1x1x6144_2 (shapeCast _ (extractStridedSlice S1x6144 ![0, 0] w slices_S4x6144_S1x6144_0_0) shapeCasts_S1x6144_S6144))))
    (mulf (extractStridedSlice S2x256x6144 ![0, 1, 0] x slices_S2x259x6144_S2x256x6144_0_1_0) (broadcastInDim S2x256x6144 ![0, 1, 2] bcast_S1x1x6144_S2x256x6144_0_1_2 (broadcastInDim S1x1x6144 ![2] bcast_S6144_S1x1x6144_2 (shapeCast _ (extractStridedSlice S1x6144 ![1, 0] w slices_S4x6144_S1x6144_1_0) shapeCasts_S1x6144_S6144)))))
    (mulf (extractStridedSlice S2x256x6144 ![0, 2, 0] x slices_S2x259x6144_S2x256x6144_0_2_0) (broadcastInDim S2x256x6144 ![0, 1, 2] bcast_S1x1x6144_S2x256x6144_0_1_2 (broadcastInDim S1x1x6144 ![2] bcast_S6144_S1x1x6144_2 (shapeCast _ (extractStridedSlice S1x6144 ![2, 0] w slices_S4x6144_S1x6144_2_0) shapeCasts_S1x6144_S6144)))))
    (mulf (extractStridedSlice S2x256x6144 ![0, 3, 0] x slices_S2x259x6144_S2x256x6144_0_3_0) (broadcastInDim S2x256x6144 ![0, 1, 2] bcast_S1x1x6144_S2x256x6144_0_1_2 (broadcastInDim S1x1x6144 ![2] bcast_S6144_S1x1x6144_2 (shapeCast _ (extractStridedSlice S1x6144 ![3, 0] w slices_S4x6144_S1x6144_3_0) shapeCasts_S1x6144_S6144))))

/-- gated by their logistics, -/
abbrev gates (x : FVec Ideal S2x256x6144 .f32) : FVec Ideal S2x256x6144 .f32 :=
  mulf x (Host.divf (broadcastInDim S2x256x6144 ![] bcast_S_S2x256x6144 (constant S_ .f32 0x3F800000#32)) (addf (broadcastInDim S2x256x6144 ![] bcast_S_S2x256x6144 (constant S_ .f32 0x3F800000#32)) (Host.exp (Host.negf x))))

/-- a third of their columns head by head, -/
abbrev qHeads (x : FVec Ideal S2x256x6144 .f32) : FVec Ideal S2x256x16x128 .f32 :=
  shapeCast S2x256x16x128 (extractStridedSlice S2x256x2048 ![0, 0, 0] x slices_S2x256x6144_S2x256x2048_0_0_0) shapeCasts_S2x256x2048_S2x256x16x128

/-- another, -/
abbrev kHeads (x : FVec Ideal S2x256x6144 .f32) : FVec Ideal S2x256x16x128 .f32 :=
  shapeCast S2x256x16x128 (extractStridedSlice S2x256x2048 ![0, 0, 2048] x slices_S2x256x6144_S2x256x2048_0_0_2048) shapeCasts_S2x256x2048_S2x256x16x128

/-- the last, -/
abbrev vHeads (x : FVec Ideal S2x256x6144 .f32) : FVec Ideal S2x256x16x128 .f32 :=
  shapeCast S2x256x16x128 (extractStridedSlice S2x256x2048 ![0, 0, 4096] x slices_S2x256x6144_S2x256x2048_0_0_4096) shapeCasts_S2x256x2048_S2x256x16x128

/-- and the norm of a head's row. -/
abbrev normed (x : FVec Ideal S2x256x16x128 .f32) : FVec Ideal S2x256x16x128 .f32 :=
  mulf x (broadcastInDim S2x256x16x128 ![0, 1, 2, 3] bcast_S2x256x16x1_S2x256x16x128_0_1_2_3 (Host.rsqrt (addf (broadcastInDim S2x256x16x1 ![0, 1, 2] bcast_S2x256x16_S2x256x16x1_0_1_2 (Host.reduceAdd (mulf x x) (constant S_ .f32 0x00000000#32) reducesTo_S2x256x16x128_S2x256x16_d3 h_S_)) (broadcastInDim S2x256x16x1 ![] bcast_S_S2x256x16x1 (constant S_ .f32 0x358637BD#32)))))

/-- The padded rows at an index. -/
theorem padRows_apply (p : FVec Ideal S2x256x12288 .f32) (b : Fin 2) (q : Fin 259) (c : Fin 6144) :
    padRows p (ix3 b q c) = if h : 2 ≤ q.val ∧ q.val < 258 then p (ix3 b (⟨q.val - 2, by omega⟩ : Fin 256) (xCol c)) else 0 := by
  pointwise [padRows]
  by_cases h : 2 ≤ q.val ∧ q.val < 258
  · rw [dif_pos h, dif_pos (by omega)]; rfl
  · rw [dif_neg h, dif_neg (by omega)]
    show (((0#32).toInt : ℝ) : EReal) = 0
    simp

/-- The weighted sum at an index. -/
theorem taps_apply (x : FVec Ideal S2x259x6144 .f32) (w : FVec Ideal S4x6144 .f32) (b : Fin 2) (r : Fin 256) (c : Fin 6144) :
    taps x w (ix3 b r c) = x (ix3 b (⟨r.val, by omega⟩ : Fin 259) c) * w (ix2 (0 : Fin 4) c) + x (ix3 b (⟨r.val + 1, by omega⟩ : Fin 259) c) * w (ix2 (1 : Fin 4) c)
      + x (ix3 b (⟨r.val + 2, by omega⟩ : Fin 259) c) * w (ix2 (2 : Fin 4) c) + x (ix3 b (⟨r.val + 3, by omega⟩ : Fin 259) c) * w (ix2 (3 : Fin 4) c) := by
  pointwise [taps]
  simp only [Nat.add_comm]

/-- The gated rows at an index. -/
theorem gates_apply (p : FVec Ideal S2x256x12288 .f32) (w : FVec Ideal S4x6144 .f32) (b : Fin 2) (r : Fin 256) (c : Fin 6144) :
    gates (taps (padRows p) w) (ix3 b r c) = gatedAt p w b r c := by
  have ht := taps_apply (padRows p) w b r c
  simp only [padRows_apply] at ht
  have hg : ∀ x : FVec Ideal S2x256x6144 .f32, gates x (ix3 b r c) = silu (x (ix3 b r c)) := by
    intro x
    pointwise [gates, silu]
  refine (hg _).trans ?_
  unfold gatedAt
  refine congrArg silu (ht.trans ?_)
  simp only [mul_comm (w _)]
  rfl

/-- The normed head's row at an index. -/
theorem normed_apply (x : FVec Ideal S2x256x16x128 .f32) (b : Fin 2) (r : Fin 256) (h : Fin 16) (e : Fin 128) :
    normed x (ix4 b r h e) = x (ix4 b r h e) * invNorm (fun k => x (ix4 b r h k)) := by
  pointwise [normed, invNorm]

/-- The column of a head's entry in a third of the columns. -/
def colAt (o : Fin 3) (h : Fin 16) (e : Fin 128) : Fin 6144 := ⟨2048 * o.val + 128 * h.val + e.val, by omega⟩

/-- The queries head by head at an index. -/
theorem qHeads_apply (x : FVec Ideal S2x256x6144 .f32) (b : Fin 2) (r : Fin 256) (h : Fin 16) (e : Fin 128) :
    qHeads x (ix4 b r h e) = x (ix3 b r (colAt 0 h e)) := by
  pointwise [qHeads]
  congr 2
  exact Fin.ext (by show h.val * 128 + e.val = 2048 * 0 + 128 * h.val + e.val; omega)

/-- The keys head by head at an index. -/
theorem kHeads_apply (x : FVec Ideal S2x256x6144 .f32) (b : Fin 2) (r : Fin 256) (h : Fin 16) (e : Fin 128) :
    kHeads x (ix4 b r h e) = x (ix3 b r (colAt 1 h e)) := by
  pointwise [kHeads]
  congr 2
  exact Fin.ext (by show 2048 + (h.val * 128 + e.val) = 2048 * 1 + 128 * h.val + e.val; omega)

/-- The values head by head at an index. -/
theorem vHeads_apply (x : FVec Ideal S2x256x6144 .f32) (b : Fin 2) (r : Fin 256) (h : Fin 16) (e : Fin 128) :
    vHeads x (ix4 b r h e) = x (ix3 b r (colAt 2 h e)) := by
  pointwise [vHeads]
  congr 2
  exact Fin.ext (by show 4096 + (h.val * 128 + e.val) = 2048 * 2 + 128 * h.val + e.val; omega)

/-- Three arrays of heads, the first scaled, side by side, at an index. -/
theorem side_apply (q k v : FVec Ideal S2x256x16x128 .f32) (b : Fin 2) (r : Fin 256) (c : Fin 6144) :
    (truncf .bf16 ((concatenate S2x256x6144 2 [⟨S2x256x2048, ((shapeCast _ (mulf q (broadcastInDim S2x256x16x128 ![] bcast_S_S2x256x16x128 (constant S_ .f32 0x3DB504F3#32))) shapeCasts_S2x256x16x128_S2x256x2048) : FVec Ideal S2x256x2048 .f32)⟩, ⟨S2x256x2048, ((shapeCast _ k shapeCasts_S2x256x16x128_S2x256x2048) : FVec Ideal S2x256x2048 .f32)⟩, ⟨S2x256x2048, ((shapeCast _ v shapeCasts_S2x256x16x128_S2x256x2048) : FVec Ideal S2x256x2048 .f32)⟩] concatenates_S2x256x2048_S2x256x2048_S2x256x2048_S2x256x6144_d2 : FVec Ideal S2x256x6144 .f32)) bitsLt_bf16_f32 : FVec Ideal S2x256x6144 .bf16) (ix3 b r c)
      = if c.val < 2048 then q (ix4 b r (⟨c.val / 128 % 16, Nat.mod_lt _ (by decide)⟩ : Fin 16) (⟨c.val % 128, Nat.mod_lt _ (by decide)⟩ : Fin 128)) * Ideal.ofBits .f32 0x3DB504F3#32
        else if c.val < 4096 then k (ix4 b r (⟨c.val / 128 % 16, Nat.mod_lt _ (by decide)⟩ : Fin 16) (⟨c.val % 128, Nat.mod_lt _ (by decide)⟩ : Fin 128))
        else v (ix4 b r (⟨c.val / 128 % 16, Nat.mod_lt _ (by decide)⟩ : Fin 16) (⟨c.val % 128, Nat.mod_lt _ (by decide)⟩ : Fin 128)) := by
  pointwise
  have hc : c.val < 6144 := c.isLt
  have key : ∀ (f : FVec Ideal S2x256x16x128 .f32) (a : Fin 16) (e : Fin 128), a.val = c.val / 128 % 16 → e.val = c.val % 128 →
      f (ix4 b r a e) = f (ix4 b r (⟨c.val / 128 % 16, Nat.mod_lt _ (by decide)⟩ : Fin 16) (⟨c.val % 128, Nat.mod_lt _ (by decide)⟩ : Fin 128)) := by
    intro f a e ha he
    rw [show a = ⟨c.val / 128 % 16, Nat.mod_lt _ (by decide)⟩ from Fin.ext ha, show e = ⟨c.val % 128, Nat.mod_lt _ (by decide)⟩ from Fin.ext he]
  by_cases h1 : c.val < 2048
  · rw [dif_pos h1, if_pos h1]
    simp only [Nat.mod_eq_of_lt (show c.val / 128 < 16 by omega)]
  · rw [dif_neg h1, if_neg h1]
    by_cases h2 : c.val < 4096
    · rw [dif_pos (by omega), if_pos h2]
      exact key _ _ _ (by dsimp only; omega) (by dsimp only; omega)
    · rw [dif_neg (by omega), if_neg h2]
      exact key _ _ _ (by dsimp only; omega) (by dsimp only; omega)

/-- The reference's result at an index. -/
theorem reference_apply (p : FVec Ideal S2x256x12288 .f32) (w : FVec Ideal S4x6144 .f32) (i : S2x256x6144.Idx) :
    (truncf .bf16 ((concatenate S2x256x6144 2 [⟨S2x256x2048, ((shapeCast _ (mulf (normed (qHeads (gates (taps (padRows p) w)))) (broadcastInDim S2x256x16x128 ![] bcast_S_S2x256x16x128 (constant S_ .f32 0x3DB504F3#32))) shapeCasts_S2x256x16x128_S2x256x2048) : FVec Ideal S2x256x2048 .f32)⟩, ⟨S2x256x2048, ((shapeCast _ (normed (kHeads (gates (taps (padRows p) w)))) shapeCasts_S2x256x16x128_S2x256x2048) : FVec Ideal S2x256x2048 .f32)⟩, ⟨S2x256x2048, ((shapeCast _ (vHeads (gates (taps (padRows p) w))) shapeCasts_S2x256x16x128_S2x256x2048) : FVec Ideal S2x256x2048 .f32)⟩] concatenates_S2x256x2048_S2x256x2048_S2x256x2048_S2x256x6144_d2 : FVec Ideal S2x256x6144 .f32)) bitsLt_bf16_f32 : FVec Ideal S2x256x6144 .bf16) i
      = qkv p w i := by
  idx_vars i
  refine (side_apply _ _ _ i0 i1 i2).trans ?_
  show _ = qkvAt p w i0 i1 i2
  simp only [normed_apply, qHeads_apply, kHeads_apply, vHeads_apply, gates_apply]
  unfold qkvAt
  have h2 : i2.val < 6144 := i2.isLt
  by_cases a : i2.val < 2048
  · rw [if_pos a, if_pos a, ← mul_assoc]
    have hk : ∀ k, colAt 0 (⟨i2.val / 128 % 16, Nat.mod_lt _ (by decide)⟩ : Fin 16) k = headCol i2 k := fun k => Fin.ext (by
      show 2048 * 0 + 128 * (i2.val / 128 % 16) + k.val = 128 * (i2.val / 128) + k.val; omega)
    have he : headCol i2 (⟨i2.val % 128, Nat.mod_lt _ (by decide)⟩ : Fin 128) = i2 := Fin.ext (Nat.div_add_mod _ _)
    simp only [hk, he]
  · rw [if_neg a, if_neg a]
    by_cases b : i2.val < 4096
    · rw [if_pos b, if_pos b]
      have hk : ∀ k, colAt 1 (⟨i2.val / 128 % 16, Nat.mod_lt _ (by decide)⟩ : Fin 16) k = headCol i2 k := fun k => Fin.ext (by
        show 2048 * 1 + 128 * (i2.val / 128 % 16) + k.val = 128 * (i2.val / 128) + k.val; omega)
      have he : headCol i2 (⟨i2.val % 128, Nat.mod_lt _ (by decide)⟩ : Fin 128) = i2 := Fin.ext (Nat.div_add_mod _ _)
      simp only [hk, he]
    · rw [if_neg b, if_neg b]
      congr 1
      exact Fin.ext (by show 2048 * 2 + 128 * (i2.val / 128 % 16) + i2.val % 128 = i2.val; omega)

end Cert.Reference11Ideal.Gdnpre

namespace Cert.Gdnpre

open Idealize.ShloMosaic Idealize.ShloMosaic.TcCoe Idealize.SL.Sem

set_option maxHeartbeats 1600000 in
/-- The convolution and its reference, from equal arguments, end with equal results. -/
theorem algebraic : Cert.algebraic_Kernel11Ideal_Reference11Ideal (hKernel11Ideal := Cert.Kernel11Ideal.Gen.facts)
    (hReference11Ideal := Cert.Reference11Ideal.Gen.facts) := by
  intro m ρ m' ρ' _ hargs
  refine ⟨fun c => Cert.Kernel11Ideal.Gdnpre.result m c, Cert.Kernel11Ideal.Gdnpre.run m ρ, ?_⟩
  refine (θ_run Cert.Reference11Ideal.defs _ _).mono (fun r h c => ⟨(h c).1.trans ?_, (h c).2⟩) (Cert.Reference11Ideal.Value.run m' ρ')
  obtain ⟨e0, e1⟩ := hargs c
  unfold Cert.Reference11Ideal.Value.res_main_v58
  rw [e0, e1]
  exact funext fun i => Cert.Reference11Ideal.Gdnpre.reference_apply _ _ i

end Cert.Gdnpre

end
-- ==== Proof.lean ====
/-
  The certificate: for the feed-forward kernel, for the layer's last kernel, for the input projections of the latent and of
  the context, for the output projection, for the conditioning projection, for the two pre-mix norms, for the row-order call, for the
  DeltaNet's norm and gate and for its convolution over the context, the frames, the references' frames, and the equation of
  the results.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Reference2Ideal.Run
public import proofs.«01_k».proof.Proof.Gen.Kernel2
public import proofs.«01_k».proof.Proof.Gen.Kernel3.Launch
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Frame
public import proofs.«01_k».proof.Proof.Gen.Reference3Ideal.Run
public import proofs.«01_k».proof.Proof.Gen.Kernel4.Launch
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Frame
public import proofs.«01_k».proof.Proof.Gen.Reference4Ideal.Run
public import proofs.«01_k».proof.Proof.Gen.Kernel5.Launch
public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Frame
public import proofs.«01_k».proof.Proof.Gen.Reference5Ideal.Run
public import proofs.«01_k».proof.Proof.Gen.Kernel6.Launch
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Frame
public import proofs.«01_k».proof.Proof.Gen.Reference6Ideal.Run
public import proofs.«01_k».proof.Proof.Gen.Kernel7.Launch
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Frame
public import proofs.«01_k».proof.Proof.Gen.Reference7Ideal.Run
public import proofs.«01_k».proof.Proof.Gen.Kernel8.Launch
public import proofs.«01_k».proof.Proof.Gen.Kernel8Ideal.Launch
public import proofs.«01_k».proof.Proof.Gen.Kernel8Ideal.Points
public import proofs.«01_k».proof.Proof.Gen.Kernel8Ideal.Skeleton
public import proofs.«01_k».proof.Proof.Gen.Kernel8Ideal.Frame
public import proofs.«01_k».proof.Proof.Gen.Reference8Ideal.Run
public import proofs.«01_k».proof.Proof.Gen.Kernel9.Launch
public import proofs.«01_k».proof.Proof.Gen.Kernel9Ideal.Launch
public import proofs.«01_k».proof.Proof.Gen.Kernel9Ideal.Points
public import proofs.«01_k».proof.Proof.Gen.Kernel9Ideal.Skeleton
public import proofs.«01_k».proof.Proof.Gen.Kernel9Ideal.Frame
public import proofs.«01_k».proof.Proof.Gen.Reference9Ideal.Run
public import proofs.«01_k».proof.Proof.Gen.Kernel10.Launch
public import proofs.«01_k».proof.Proof.Gen.Kernel10Ideal.Launch
public import proofs.«01_k».proof.Proof.Gen.Kernel10Ideal.Points
public import proofs.«01_k».proof.Proof.Gen.Kernel10Ideal.Skeleton
public import proofs.«01_k».proof.Proof.Gen.Kernel10Ideal.Frame
public import proofs.«01_k».proof.Proof.Gen.Reference10Ideal.Run
public import proofs.«01_k».proof.Proof.Gen.Kernel11.Launch
public import proofs.«01_k».proof.Proof.Gen.Kernel11Ideal.Launch
public import proofs.«01_k».proof.Proof.Gen.Kernel11Ideal.Points
public import proofs.«01_k».proof.Proof.Gen.Kernel11Ideal.Skeleton
public import proofs.«01_k».proof.Proof.Gen.Kernel11Ideal.Frame
public import proofs.«01_k».proof.Proof.Gen.Reference11Ideal.Run
public import proofs.«01_k».proof.Proof.Ffn.Equation
public import proofs.«01_k».proof.Proof.Post.Equation
public import proofs.«01_k».proof.Proof.Inproj.Equation
public import proofs.«01_k».proof.Proof.Outproj.Equation
public import proofs.«01_k».proof.Proof.InprojCtx.Equation
public import proofs.«01_k».proof.Proof.Ada.Equation
public import proofs.«01_k».proof.Proof.Prenorm.Equation
public import proofs.«01_k».proof.Proof.PrenormCtx.Equation
public import proofs.«01_k».proof.Proof.ToVisit.Equation
public import proofs.«01_k».proof.Proof.Gdnpost.Equation
public import proofs.«01_k».proof.Proof.Gdnpre.Equation
public import Idealize.ShloMosaic.Lib.StableHlo.Run

@[expose] public section

noncomputable section

namespace Cert.Proof

open Idealize.ShloMosaic Idealize.ShloMosaic.TcCoe Idealize.SL.Sem

/-- The feed-forward reference runs from any memory, ends with zero counters and leaves its arguments unchanged. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

set_option maxHeartbeats 4000000 in
/-- The last kernel runs from any memory, ends with zero counters and leaves its arguments unchanged. -/
theorem frame_kernel2 : Cert.quiescent_Kernel2 (hKernel2 := Cert.Kernel2.Gen.facts) := fun m ρ _ =>
  (θ_run Cert.Kernel2Ideal.defs _ _).mono (fun _ h => ⟨fun c => (h.1 c).2, h.2⟩) (Cert.Kernel2Ideal.Post.run (F := Bits) m ρ)

/-- So does its text over the extended reals. -/
theorem frame_kernel2_ideal : Cert.quiescent_Kernel2Ideal (hKernel2Ideal := Cert.Kernel2Ideal.Gen.facts) := fun m ρ _ =>
  (θ_run Cert.Kernel2Ideal.defs _ _).mono (fun _ h => ⟨fun c => (h.1 c).2, h.2⟩) (Cert.Kernel2Ideal.Post.run (F := Ideal) m ρ)

/-- And so does its reference. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The input projection's body table is one for both of its texts. -/
theorem defs₀_eq : @Cert.Kernel3.defs₀ Bits _ _ = @Cert.Kernel3Ideal.defs₀ Bits _ _ := by
  unfold Cert.Kernel3.defs₀ Cert.Kernel3Ideal.defs₀
  congr 1
  funext l a
  match l, a with
  | 0, (t, s) => rfl

set_option maxHeartbeats 4000000 in
/-- The input projection runs from any memory, ends with zero counters and leaves its arguments unchanged; -/
theorem frame_kernel3 : Cert.quiescent_Kernel3 (hKernel3 := Cert.Kernel3.Gen.facts) := fun m ρ _ => by
  unfold Cert.Kernel3.defs
  rw [defs₀_eq]
  exact Cert.Kernel3Ideal.Inproj.frame (F := Bits) m ρ

/-- so does its text over the extended reals, -/
theorem frame_kernel3_ideal : Cert.quiescent_Kernel3Ideal (hKernel3Ideal := Cert.Kernel3Ideal.Gen.facts) := fun m ρ _ =>
  Cert.Kernel3Ideal.Inproj.frame (F := Ideal) m ρ

/-- and its reference. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run m ρ)

/-- The output projection's body table is one for both of its texts. -/
theorem defs₀_eq_outproj : @Cert.Kernel4.defs₀ Bits _ _ = @Cert.Kernel4Ideal.defs₀ Bits _ _ := by
  unfold Cert.Kernel4.defs₀ Cert.Kernel4Ideal.defs₀
  congr 1
  funext l a
  match l, a with
  | 0, (t, s) => rfl

set_option maxHeartbeats 4000000 in
/-- The output projection runs from any memory, ends with zero counters and leaves its arguments unchanged; -/
theorem frame_kernel4 : Cert.quiescent_Kernel4 (hKernel4 := Cert.Kernel4.Gen.facts) := fun m ρ _ => by
  unfold Cert.Kernel4.defs
  rw [defs₀_eq_outproj]
  exact Cert.Kernel4Ideal.Outproj.frame (F := Bits) m ρ

/-- so does its text over the extended reals, -/
theorem frame_kernel4_ideal : Cert.quiescent_Kernel4Ideal (hKernel4Ideal := Cert.Kernel4Ideal.Gen.facts) := fun m ρ _ =>
  Cert.Kernel4Ideal.Outproj.frame (F := Ideal) m ρ

/-- and its reference. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- The context's input projection's body table is one for both of its texts. -/
theorem defs₀_eq_inproj_ctx : @Cert.Kernel5.defs₀ Bits _ _ = @Cert.Kernel5Ideal.defs₀ Bits _ _ := by
  unfold Cert.Kernel5.defs₀ Cert.Kernel5Ideal.defs₀
  congr 1
  funext l a
  match l, a with
  | 0, (t, s) => rfl

set_option maxHeartbeats 4000000 in
/-- The context's input projection runs from any memory, ends with zero counters and leaves its arguments unchanged; -/
theorem frame_kernel5 : Cert.quiescent_Kernel5 (hKernel5 := Cert.Kernel5.Gen.facts) := fun m ρ _ => by
  unfold Cert.Kernel5.defs
  rw [defs₀_eq_inproj_ctx]
  exact Cert.Kernel5Ideal.InprojCtx.frame (F := Bits) m ρ

/-- so does its text over the extended reals, -/
theorem frame_kernel5_ideal : Cert.quiescent_Kernel5Ideal (hKernel5Ideal := Cert.Kernel5Ideal.Gen.facts) := fun m ρ _ =>
  Cert.Kernel5Ideal.InprojCtx.frame (F := Ideal) m ρ

/-- and its reference. -/
theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run m ρ)

/-- The conditioning projection's body table is one for both of its texts. -/
theorem defs₀_eq_ada : @Cert.Kernel6.defs₀ Bits _ _ = @Cert.Kernel6Ideal.defs₀ Bits _ _ := by
  unfold Cert.Kernel6.defs₀ Cert.Kernel6Ideal.defs₀
  congr 1
  funext l a
  match l, a with
  | 0, (t, s) => rfl

set_option maxHeartbeats 4000000 in
/-- The conditioning projection runs from any memory, ends with zero counters and leaves its arguments unchanged; -/
theorem frame_kernel6 : Cert.quiescent_Kernel6 (hKernel6 := Cert.Kernel6.Gen.facts) := fun m ρ _ => by
  unfold Cert.Kernel6.defs
  rw [defs₀_eq_ada]
  exact Cert.Kernel6Ideal.Gen.frame (F := Bits) m ρ

/-- so does its text over the extended reals, -/
theorem frame_kernel6_ideal : Cert.quiescent_Kernel6Ideal (hKernel6Ideal := Cert.Kernel6Ideal.Gen.facts) := fun m ρ _ =>
  Cert.Kernel6Ideal.Gen.frame (F := Ideal) m ρ

/-- and its reference. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- The pre-mix norm's body table is one for both of its texts. -/
theorem defs₀_eq_prenorm : @Cert.Kernel7.defs₀ Bits _ _ = @Cert.Kernel7Ideal.defs₀ Bits _ _ := by
  unfold Cert.Kernel7.defs₀ Cert.Kernel7Ideal.defs₀
  congr 1
  funext l a
  match l, a with
  | 0, (t, s) => rfl

set_option maxHeartbeats 4000000 in
/-- The pre-mix norm runs from any memory, ends with zero counters and leaves its arguments unchanged; -/
theorem frame_kernel7 : Cert.quiescent_Kernel7 (hKernel7 := Cert.Kernel7.Gen.facts) := fun m ρ _ => by
  unfold Cert.Kernel7.defs
  rw [defs₀_eq_prenorm]
  exact Cert.Kernel7Ideal.Gen.frame (F := Bits) m ρ

/-- so does its text over the extended reals, -/
theorem frame_kernel7_ideal : Cert.quiescent_Kernel7Ideal (hKernel7Ideal := Cert.Kernel7Ideal.Gen.facts) := fun m ρ _ =>
  Cert.Kernel7Ideal.Gen.frame (F := Ideal) m ρ

/-- and its reference. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

/-- The context's pre-mix norm's body table is one for both of its texts. -/
theorem defs₀_eq_prenorm_ctx : @Cert.Kernel8.defs₀ Bits _ _ = @Cert.Kernel8Ideal.defs₀ Bits _ _ := by
  unfold Cert.Kernel8.defs₀ Cert.Kernel8Ideal.defs₀
  congr 1
  funext l a
  match l, a with
  | 0, (t, s) => rfl

set_option maxHeartbeats 4000000 in
/-- The context's pre-mix norm runs from any memory, ends with zero counters and leaves its arguments unchanged; -/
theorem frame_kernel8 : Cert.quiescent_Kernel8 (hKernel8 := Cert.Kernel8.Gen.facts) := fun m ρ _ => by
  unfold Cert.Kernel8.defs
  rw [defs₀_eq_prenorm_ctx]
  exact Cert.Kernel8Ideal.Gen.frame (F := Bits) m ρ

/-- so does its text over the extended reals, -/
theorem frame_kernel8_ideal : Cert.quiescent_Kernel8Ideal (hKernel8Ideal := Cert.Kernel8Ideal.Gen.facts) := fun m ρ _ =>
  Cert.Kernel8Ideal.Gen.frame (F := Ideal) m ρ

/-- and its reference. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

/-- The row permutation's body table is one for both of its texts. -/
theorem defs₀_eq_to_visit : @Cert.Kernel9.defs₀ Bits _ = @Cert.Kernel9Ideal.defs₀ Bits _ := by
  unfold Cert.Kernel9.defs₀ Cert.Kernel9Ideal.defs₀
  congr 1
  funext l a
  match l, a with
  | 0, (t, s) => rfl

set_option maxHeartbeats 4000000 in
/-- The row permutation runs from any memory, ends with zero counters and leaves its argument unchanged; -/
theorem frame_kernel9 : Cert.quiescent_Kernel9 (hKernel9 := Cert.Kernel9.Gen.facts) := fun m ρ _ => by
  unfold Cert.Kernel9.defs
  rw [defs₀_eq_to_visit]
  exact Cert.Kernel9Ideal.Gen.frame (F := Bits) m ρ

/-- so does its text over the extended reals, -/
theorem frame_kernel9_ideal : Cert.quiescent_Kernel9Ideal (hKernel9Ideal := Cert.Kernel9Ideal.Gen.facts) := fun m ρ _ =>
  Cert.Kernel9Ideal.Gen.frame (F := Ideal) m ρ

/-- and its reference. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

/-- The norm and gate's body table is one for both of its texts. -/
theorem defs₀_eq_gdnpost : @Cert.Kernel10.defs₀ Bits _ _ = @Cert.Kernel10Ideal.defs₀ Bits _ _ := by
  unfold Cert.Kernel10.defs₀ Cert.Kernel10Ideal.defs₀
  congr 1
  funext l a
  match l, a with
  | 0, (t, s) => rfl

set_option maxHeartbeats 4000000 in
/-- The norm and gate runs from any memory, ends with zero counters and leaves its arguments unchanged; -/
theorem frame_kernel10 : Cert.quiescent_Kernel10 (hKernel10 := Cert.Kernel10.Gen.facts) := fun m ρ _ => by
  unfold Cert.Kernel10.defs
  rw [defs₀_eq_gdnpost]
  exact Cert.Kernel10Ideal.Gdnpost.frame (F := Bits) m ρ

/-- so does its text over the extended reals, -/
theorem frame_kernel10_ideal : Cert.quiescent_Kernel10Ideal (hKernel10Ideal := Cert.Kernel10Ideal.Gen.facts) := fun m ρ _ =>
  Cert.Kernel10Ideal.Gdnpost.frame (F := Ideal) m ρ

/-- and its reference. -/
theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run m ρ)

/-- The convolution over the context's body table is one for both of its texts. -/
theorem defs₀_eq_gdnpre : @Cert.Kernel11.defs₀ Bits _ _ = @Cert.Kernel11Ideal.defs₀ Bits _ _ := by
  unfold Cert.Kernel11.defs₀ Cert.Kernel11Ideal.defs₀
  congr 1
  funext l a
  match l, a with
  | 0, (t, s) => rfl

set_option maxHeartbeats 4000000 in
/-- The convolution over the context runs from any memory, ends with zero counters and leaves its arguments unchanged; -/
theorem frame_kernel11 : Cert.quiescent_Kernel11 (hKernel11 := Cert.Kernel11.Gen.facts) := fun m ρ _ => by
  unfold Cert.Kernel11.defs
  rw [defs₀_eq_gdnpre]
  exact Cert.Kernel11Ideal.Gdnpre.frame (F := Bits) m ρ

/-- so does its text over the extended reals, -/
theorem frame_kernel11_ideal : Cert.quiescent_Kernel11Ideal (hKernel11Ideal := Cert.Kernel11Ideal.Gen.facts) := fun m ρ _ =>
  Cert.Kernel11Ideal.Gdnpre.frame (F := Ideal) m ρ

/-- and its reference. -/
theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  fun m ρ _ => Cert.Kernel.Gen.frame m ρ, fun m ρ _ => Cert.KernelIdeal.Gen.frame m ρ, frame_reference,
  frame_kernel2, frame_kernel2_ideal, frame_reference2, frame_kernel3, frame_kernel3_ideal, frame_reference3,
  frame_kernel4, frame_kernel4_ideal, frame_reference4,
  frame_kernel5, frame_kernel5_ideal, frame_reference5,
  frame_kernel6, frame_kernel6_ideal, frame_reference6,
  frame_kernel7, frame_kernel7_ideal, frame_reference7,
  frame_kernel8, frame_kernel8_ideal, frame_reference8,
  frame_kernel9, frame_kernel9_ideal, frame_reference9,
  frame_kernel10, frame_kernel10_ideal, frame_reference10,
  frame_kernel11, frame_kernel11_ideal, frame_reference11,
  trivial, Ffn.algebraic, trivial, Cert.Post.algebraic, trivial, Cert.Inproj.algebraic,
  trivial, Cert.Outproj.algebraic, trivial, Cert.InprojCtx.algebraic, trivial, Cert.Ada.algebraic,
  trivial, Cert.Prenorm.algebraic, trivial, Cert.PrenormCtx.algebraic, trivial, Cert.ToVisit.algebraic, trivial, Cert.Gdnpost.algebraic,
  trivial, Cert.Gdnpre.algebraic⟩

end Cert.Proof

end
